-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_qk_finite [hPre_qk_finite : Cert.Pre_qk_finite.Facts] (m : (ℓ : Loc Cert.KernelIdeal.nD Cert.KernelIdeal.τ Cert.KernelIdeal.sig) → Buf (Elt Ideal) ℓ) : Prop :=
  ∀ c : Dev Cert.KernelIdeal.nD,
    (Cert.Pre_qk_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_qk_finite [hPre_qk_finite : Cert.Pre_qk_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_qk_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def Pre_ResGateUp (m : (ℓ : Loc Cert.ResGateUp.nD Cert.ResGateUp.τ Cert.ResGateUp.sig) → Buf (Elt Bits) ℓ) : Prop :=
  True

def Pre_ResGateUpIdeal (m : (ℓ : Loc Cert.ResGateUpIdeal.nD Cert.ResGateUpIdeal.τ Cert.ResGateUpIdeal.sig) → Buf (Elt Ideal) ℓ) : Prop :=
  True

def Pre_ResGateUpReferenceIdeal (m : (ℓ : Loc Cert.ResGateUpReferenceIdeal.nD Cert.ResGateUpReferenceIdeal.τ Cert.ResGateUpReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_Residual (m : (ℓ : Loc Cert.Residual.nD Cert.Residual.τ Cert.Residual.sig) → Buf (Elt Bits) ℓ) : Prop :=
  True

def Pre_ResidualIdeal (m : (ℓ : Loc Cert.ResidualIdeal.nD Cert.ResidualIdeal.τ Cert.ResidualIdeal.sig) → Buf (Elt Ideal) ℓ) : Prop :=
  True

def Pre_ResidualReferenceIdeal (m : (ℓ : Loc Cert.ResidualReferenceIdeal.nD Cert.ResidualReferenceIdeal.τ Cert.ResidualReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_qk_finite [hKernelIdeal : Cert.KernelIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_qk_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_qk_finite [hReferenceIdeal : Cert.ReferenceIdeal.Facts] [hPre_qk_finite : Cert.Pre_qk_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_qk_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
      ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3)
      ∧ r.2.mem ((c.tc : Thread Cert.GateUpReferenceIdeal.nD Cert.GateUpReferenceIdeal.τ).loc Cert.GateUpReferenceIdeal.main_arg4) = m ((c.tc : Thread Cert.GateUpReferenceIdeal.nD Cert.GateUpReferenceIdeal.τ).loc Cert.GateUpReferenceIdeal.main_arg4))
      ∧ r.2.sem = fun _ => 0)

def quiescent_ResGateUp [hResGateUp : Cert.ResGateUp.Facts] : Prop :=
  ∀ (m : (ℓ : Loc Cert.ResGateUp.nD Cert.ResGateUp.τ Cert.ResGateUp.sig) → Buf (Elt Bits) ℓ) (g : Dev Cert.ResGateUp.nD → PrngReg), Pre_ResGateUp m →
    θ_run (Cert.ResGateUp.defs (F := Bits)) (onTc (τ := Cert.ResGateUp.τ) (Cert.ResGateUp.main (F := Bits))) ⟨m, fun _ => 0, g⟩ (fun r => (∀ c : Dev Cert.ResGateUp.nD,
      r.2.mem ((c.tc : Thread Cert.ResGateUp.nD Cert.ResGateUp.τ).loc Cert.ResGateUp.main_arg0) = m ((c.tc : Thread Cert.ResGateUp.nD Cert.ResGateUp.τ).loc Cert.ResGateUp.main_arg0)
      ∧ r.2.mem ((c.tc : Thread Cert.ResGateUp.nD Cert.ResGateUp.τ).loc Cert.ResGateUp.main_arg1) = m ((c.tc : Thread Cert.ResGateUp.nD Cert.ResGateUp.τ).loc Cert.ResGateUp.main_arg1)
      ∧ r.2.mem ((c.tc : Thread Cert.ResGateUp.nD Cert.ResGateUp.τ).loc Cert.ResGateUp.main_arg2) = m ((c.tc : Thread Cert.ResGateUp.nD Cert.ResGateUp.τ).loc Cert.ResGateUp.main_arg2)
      ∧ r.2.mem ((c.tc : Thread Cert.ResGateUp.nD Cert.ResGateUp.τ).loc Cert.ResGateUp.main_arg3) = m ((c.tc : Thread Cert.ResGateUp.nD Cert.ResGateUp.τ).loc Cert.ResGateUp.main_arg3)
      ∧ r.2.mem ((c.tc : Thread Cert.ResGateUp.nD Cert.ResGateUp.τ).loc Cert.ResGateUp.main_arg4) = m ((c.tc : Thread Cert.ResGateUp.nD Cert.ResGateUp.τ).loc Cert.ResGateUp.main_arg4)
      ∧ r.2.mem ((c.tc : Thread Cert.ResGateUp.nD Cert.ResGateUp.τ).loc Cert.ResGateUp.main_arg5) = m ((c.tc : Thread Cert.ResGateUp.nD Cert.ResGateUp.τ).loc Cert.ResGateUp.main_arg5)
      ∧ r.2.mem ((c.tc : Thread Cert.ResGateUp.nD Cert.ResGateUp.τ).loc Cert.ResGateUp.main_arg6) = m ((c.tc : Thread Cert.ResGateUp.nD Cert.ResGateUp.τ).loc Cert.ResGateUp.main_arg6))
      ∧ r.2.sem = fun _ => 0)

def quiescent_ResGateUpIdeal [hResGateUpIdeal : Cert.ResGateUpIdeal.Facts] : Prop :=
  ∀ (m : (ℓ : Loc Cert.ResGateUpIdeal.nD Cert.ResGateUpIdeal.τ Cert.ResGateUpIdeal.sig) → Buf (Elt Ideal) ℓ) (g : Dev Cert.ResGateUpIdeal.nD → PrngReg), Pre_ResGateUpIdeal m →
    θ_run (Cert.ResGateUpIdeal.defs (F := Ideal)) (onTc (τ := Cert.ResGateUpIdeal.τ) (Cert.ResGateUpIdeal.main (F := Ideal))) ⟨m, fun _ => 0, g⟩ (fun r => (∀ c : Dev Cert.ResGateUpIdeal.nD,
      r.2.mem ((c.tc : Thread Cert.ResGateUpIdeal.nD Cert.ResGateUpIdeal.τ).loc Cert.ResGateUpIdeal.main_arg0) = m ((c.tc : Thread Cert.ResGateUpIdeal.nD Cert.ResGateUpIdeal.τ).loc Cert.ResGateUpIdeal.main_arg0)
      ∧ r.2.mem ((c.tc : Thread Cert.ResGateUpIdeal.nD Cert.ResGateUpIdeal.τ).loc Cert.ResGateUpIdeal.main_arg1) = m ((c.tc : Thread Cert.ResGateUpIdeal.nD Cert.ResGateUpIdeal.τ).loc Cert.ResGateUpIdeal.main_arg1)
      ∧ r.2.mem ((c.tc : Thread Cert.ResGateUpIdeal.nD Cert.ResGateUpIdeal.τ).loc Cert.ResGateUpIdeal.main_arg2) = m ((c.tc : Thread Cert.ResGateUpIdeal.nD Cert.ResGateUpIdeal.τ).loc Cert.ResGateUpIdeal.main_arg2)
      ∧ r.2.mem ((c.tc : Thread Cert.ResGateUpIdeal.nD Cert.ResGateUpIdeal.τ).loc Cert.ResGateUpIdeal.main_arg3) = m ((c.tc : Thread Cert.ResGateUpIdeal.nD Cert.ResGateUpIdeal.τ).loc Cert.ResGateUpIdeal.main_arg3)
      ∧ r.2.mem ((c.tc : Thread Cert.ResGateUpIdeal.nD Cert.ResGateUpIdeal.τ).loc Cert.ResGateUpIdeal.main_arg4) = m ((c.tc : Thread Cert.ResGateUpIdeal.nD Cert.ResGateUpIdeal.τ).loc Cert.ResGateUpIdeal.main_arg4)
      ∧ r.2.mem ((c.tc : Thread Cert.ResGateUpIdeal.nD Cert.ResGateUpIdeal.τ).loc Cert.ResGateUpIdeal.main_arg5) = m ((c.tc : Thread Cert.ResGateUpIdeal.nD Cert.ResGateUpIdeal.τ).loc Cert.ResGateUpIdeal.main_arg5)
      ∧ r.2.mem ((c.tc : Thread Cert.ResGateUpIdeal.nD Cert.ResGateUpIdeal.τ).loc Cert.ResGateUpIdeal.main_arg6) = m ((c.tc : Thread Cert.ResGateUpIdeal.nD Cert.ResGateUpIdeal.τ).loc Cert.ResGateUpIdeal.main_arg6))
      ∧ r.2.sem = fun _ => 0)

def quiescent_ResGateUpReferenceIdeal [hResGateUpReferenceIdeal : Cert.ResGateUpReferenceIdeal.Facts] : Prop :=
  ∀ (m : (ℓ : Loc Cert.ResGateUpReferenceIdeal.nD Cert.ResGateUpReferenceIdeal.τ Cert.ResGateUpReferenceIdeal.sig) → Buf (Elt Ideal) ℓ) (g : Dev Cert.ResGateUpReferenceIdeal.nD → PrngReg), Pre_ResGateUpReferenceIdeal m →
    θ_run (Cert.ResGateUpReferenceIdeal.defs (F := Ideal)) (onTc (τ := Cert.ResGateUpReferenceIdeal.τ) (Cert.ResGateUpReferenceIdeal.main (F := Ideal))) ⟨m, fun _ => 0, g⟩ (fun r => (∀ c : Dev Cert.ResGateUpReferenceIdeal.nD,
      r.2.mem ((c.tc : Thread Cert.ResGateUpReferenceIdeal.nD Cert.ResGateUpReferenceIdeal.τ).loc Cert.ResGateUpReferenceIdeal.main_arg0) = m ((c.tc : Thread Cert.ResGateUpReferenceIdeal.nD Cert.ResGateUpReferenceIdeal.τ).loc Cert.ResGateUpReferenceIdeal.main_arg0)
      ∧ r.2.mem ((c.tc : Thread Cert.ResGateUpReferenceIdeal.nD Cert.ResGateUpReferenceIdeal.τ).loc Cert.ResGateUpReferenceIdeal.main_arg1) = m ((c.tc : Thread Cert.ResGateUpReferenceIdeal.nD Cert.ResGateUpReferenceIdeal.τ).loc Cert.ResGateUpReferenceIdeal.main_arg1)
      ∧ r.2.mem ((c.tc : Thread Cert.ResGateUpReferenceIdeal.nD Cert.ResGateUpReferenceIdeal.τ).loc Cert.ResGateUpReferenceIdeal.main_arg2) = m ((c.tc : Thread Cert.ResGateUpReferenceIdeal.nD Cert.ResGateUpReferenceIdeal.τ).loc Cert.ResGateUpReferenceIdeal.main_arg2)
      ∧ r.2.mem ((c.tc : Thread Cert.ResGateUpReferenceIdeal.nD Cert.ResGateUpReferenceIdeal.τ).loc Cert.ResGateUpReferenceIdeal.main_arg3) = m ((c.tc : Thread Cert.ResGateUpReferenceIdeal.nD Cert.ResGateUpReferenceIdeal.τ).loc Cert.ResGateUpReferenceIdeal.main_arg3)
      ∧ r.2.mem ((c.tc : Thread Cert.ResGateUpReferenceIdeal.nD Cert.ResGateUpReferenceIdeal.τ).loc Cert.ResGateUpReferenceIdeal.main_arg4) = m ((c.tc : Thread Cert.ResGateUpReferenceIdeal.nD Cert.ResGateUpReferenceIdeal.τ).loc Cert.ResGateUpReferenceIdeal.main_arg4)
      ∧ r.2.mem ((c.tc : Thread Cert.ResGateUpReferenceIdeal.nD Cert.ResGateUpReferenceIdeal.τ).loc Cert.ResGateUpReferenceIdeal.main_arg5) = m ((c.tc : Thread Cert.ResGateUpReferenceIdeal.nD Cert.ResGateUpReferenceIdeal.τ).loc Cert.ResGateUpReferenceIdeal.main_arg5)
      ∧ r.2.mem ((c.tc : Thread Cert.ResGateUpReferenceIdeal.nD Cert.ResGateUpReferenceIdeal.τ).loc Cert.ResGateUpReferenceIdeal.main_arg6) = m ((c.tc : Thread Cert.ResGateUpReferenceIdeal.nD Cert.ResGateUpReferenceIdeal.τ).loc Cert.ResGateUpReferenceIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5))
      ∧ r.2.sem = fun _ => 0)

def quiescent_Residual [hResidual : Cert.Residual.Facts] : Prop :=
  ∀ (m : (ℓ : Loc Cert.Residual.nD Cert.Residual.τ Cert.Residual.sig) → Buf (Elt Bits) ℓ) (g : Dev Cert.Residual.nD → PrngReg), Pre_Residual m →
    θ_run (Cert.Residual.defs (F := Bits)) (onTc (τ := Cert.Residual.τ) (Cert.Residual.main (F := Bits))) ⟨m, fun _ => 0, g⟩ (fun r => (∀ c : Dev Cert.Residual.nD,
      r.2.mem ((c.tc : Thread Cert.Residual.nD Cert.Residual.τ).loc Cert.Residual.main_arg0) = m ((c.tc : Thread Cert.Residual.nD Cert.Residual.τ).loc Cert.Residual.main_arg0)
      ∧ r.2.mem ((c.tc : Thread Cert.Residual.nD Cert.Residual.τ).loc Cert.Residual.main_arg1) = m ((c.tc : Thread Cert.Residual.nD Cert.Residual.τ).loc Cert.Residual.main_arg1)
      ∧ r.2.mem ((c.tc : Thread Cert.Residual.nD Cert.Residual.τ).loc Cert.Residual.main_arg2) = m ((c.tc : Thread Cert.Residual.nD Cert.Residual.τ).loc Cert.Residual.main_arg2))
      ∧ r.2.sem = fun _ => 0)

def quiescent_ResidualIdeal [hResidualIdeal : Cert.ResidualIdeal.Facts] : Prop :=
  ∀ (m : (ℓ : Loc Cert.ResidualIdeal.nD Cert.ResidualIdeal.τ Cert.ResidualIdeal.sig) → Buf (Elt Ideal) ℓ) (g : Dev Cert.ResidualIdeal.nD → PrngReg), Pre_ResidualIdeal m →
    θ_run (Cert.ResidualIdeal.defs (F := Ideal)) (onTc (τ := Cert.ResidualIdeal.τ) (Cert.ResidualIdeal.main (F := Ideal))) ⟨m, fun _ => 0, g⟩ (fun r => (∀ c : Dev Cert.ResidualIdeal.nD,
      r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
      ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
      ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2))
      ∧ r.2.sem = fun _ => 0)

def quiescent_ResidualReferenceIdeal [hResidualReferenceIdeal : Cert.ResidualReferenceIdeal.Facts] : Prop :=
  ∀ (m : (ℓ : Loc Cert.ResidualReferenceIdeal.nD Cert.ResidualReferenceIdeal.τ Cert.ResidualReferenceIdeal.sig) → Buf (Elt Ideal) ℓ) (g : Dev Cert.ResidualReferenceIdeal.nD → PrngReg), Pre_ResidualReferenceIdeal m →
    θ_run (Cert.ResidualReferenceIdeal.defs (F := Ideal)) (onTc (τ := Cert.ResidualReferenceIdeal.τ) (Cert.ResidualReferenceIdeal.main (F := Ideal))) ⟨m, fun _ => 0, g⟩ (fun r => (∀ c : Dev Cert.ResidualReferenceIdeal.nD,
      r.2.mem ((c.tc : Thread Cert.ResidualReferenceIdeal.nD Cert.ResidualReferenceIdeal.τ).loc Cert.ResidualReferenceIdeal.main_arg0) = m ((c.tc : Thread Cert.ResidualReferenceIdeal.nD Cert.ResidualReferenceIdeal.τ).loc Cert.ResidualReferenceIdeal.main_arg0)
      ∧ r.2.mem ((c.tc : Thread Cert.ResidualReferenceIdeal.nD Cert.ResidualReferenceIdeal.τ).loc Cert.ResidualReferenceIdeal.main_arg1) = m ((c.tc : Thread Cert.ResidualReferenceIdeal.nD Cert.ResidualReferenceIdeal.τ).loc Cert.ResidualReferenceIdeal.main_arg1)
      ∧ r.2.mem ((c.tc : Thread Cert.ResidualReferenceIdeal.nD Cert.ResidualReferenceIdeal.τ).loc Cert.ResidualReferenceIdeal.main_arg2) = m ((c.tc : Thread Cert.ResidualReferenceIdeal.nD Cert.ResidualReferenceIdeal.τ).loc Cert.ResidualReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "scale" .f32 0x3E0293EE#32 (((Real.sqrt 128)⁻¹ * (Real.log 2)⁻¹ : ℝ) : EReal)

def algebraic_KernelIdeal_ReferenceIdeal_pre_qk_finite [hKernelIdeal : Cert.KernelIdeal.Facts] [hReferenceIdeal : Cert.ReferenceIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_qk_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)
      ∧ m' ((c.tc : Thread Cert.GateUpReferenceIdeal.nD Cert.GateUpReferenceIdeal.τ).loc Cert.GateUpReferenceIdeal.main_arg3) = m ((c.tc : Thread Cert.GateUpIdeal.nD Cert.GateUpIdeal.τ).loc Cert.GateUpIdeal.main_arg3)
      ∧ m' ((c.tc : Thread Cert.GateUpReferenceIdeal.nD Cert.GateUpReferenceIdeal.τ).loc Cert.GateUpReferenceIdeal.main_arg4) = m ((c.tc : Thread Cert.GateUpIdeal.nD Cert.GateUpIdeal.τ).loc Cert.GateUpIdeal.main_arg4)) →
    ∃ (v0 : (c : Dev Cert.GateUpIdeal.nD) → Buf (Elt Ideal) ((c.tc : Thread Cert.GateUpIdeal.nD Cert.GateUpIdeal.τ).loc Cert.GateUpIdeal.main_v1_0)) (v1 : (c : Dev Cert.GateUpIdeal.nD) → Buf (Elt Ideal) ((c.tc : Thread Cert.GateUpIdeal.nD Cert.GateUpIdeal.τ).loc Cert.GateUpIdeal.main_v1_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v1_0) = v0 c
          ∧ r.2.mem ((c.tc : Thread Cert.GateUpIdeal.nD Cert.GateUpIdeal.τ).loc Cert.GateUpIdeal.main_v1_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v18) = v0 c
          ∧ r.2.mem ((c.tc : Thread Cert.GateUpReferenceIdeal.nD Cert.GateUpReferenceIdeal.τ).loc Cert.GateUpReferenceIdeal.main_v19) = v1 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2)
          ∧ r.2.mem ((c.tc : Thread Cert.GateUpReferenceIdeal.nD Cert.GateUpReferenceIdeal.τ).loc Cert.GateUpReferenceIdeal.main_arg3) = m' ((c.tc : Thread Cert.GateUpReferenceIdeal.nD Cert.GateUpReferenceIdeal.τ).loc Cert.GateUpReferenceIdeal.main_arg3)
          ∧ r.2.mem ((c.tc : Thread Cert.GateUpReferenceIdeal.nD Cert.GateUpReferenceIdeal.τ).loc Cert.GateUpReferenceIdeal.main_arg4) = m' ((c.tc : Thread Cert.GateUpReferenceIdeal.nD Cert.GateUpReferenceIdeal.τ).loc Cert.GateUpReferenceIdeal.main_arg4))

def preserves_ResGateUp_ResGateUpIdeal : Prop :=
  True

def algebraic_ResGateUpIdeal_ResGateUpReferenceIdeal [hResGateUpIdeal : Cert.ResGateUpIdeal.Facts] [hResGateUpReferenceIdeal : Cert.ResGateUpReferenceIdeal.Facts] : Prop :=
  ∀ (m : (ℓ : Loc Cert.ResGateUpIdeal.nD Cert.ResGateUpIdeal.τ Cert.ResGateUpIdeal.sig) → Buf (Elt Ideal) ℓ) (g : Dev Cert.ResGateUpIdeal.nD → PrngReg)
    (m' : (ℓ : Loc Cert.ResGateUpReferenceIdeal.nD Cert.ResGateUpReferenceIdeal.τ Cert.ResGateUpReferenceIdeal.sig) → Buf (Elt Ideal) ℓ) (g' : Dev Cert.ResGateUpReferenceIdeal.nD → PrngReg), Pre_ResGateUpIdeal m →
    (∀ c : Dev Cert.ResGateUpIdeal.nD,
      m' ((c.tc : Thread Cert.ResGateUpReferenceIdeal.nD Cert.ResGateUpReferenceIdeal.τ).loc Cert.ResGateUpReferenceIdeal.main_arg0) = m ((c.tc : Thread Cert.ResGateUpIdeal.nD Cert.ResGateUpIdeal.τ).loc Cert.ResGateUpIdeal.main_arg0)
      ∧ m' ((c.tc : Thread Cert.ResGateUpReferenceIdeal.nD Cert.ResGateUpReferenceIdeal.τ).loc Cert.ResGateUpReferenceIdeal.main_arg1) = m ((c.tc : Thread Cert.ResGateUpIdeal.nD Cert.ResGateUpIdeal.τ).loc Cert.ResGateUpIdeal.main_arg1)
      ∧ m' ((c.tc : Thread Cert.ResGateUpReferenceIdeal.nD Cert.ResGateUpReferenceIdeal.τ).loc Cert.ResGateUpReferenceIdeal.main_arg2) = m ((c.tc : Thread Cert.ResGateUpIdeal.nD Cert.ResGateUpIdeal.τ).loc Cert.ResGateUpIdeal.main_arg2)
      ∧ m' ((c.tc : Thread Cert.ResGateUpReferenceIdeal.nD Cert.ResGateUpReferenceIdeal.τ).loc Cert.ResGateUpReferenceIdeal.main_arg3) = m ((c.tc : Thread Cert.ResGateUpIdeal.nD Cert.ResGateUpIdeal.τ).loc Cert.ResGateUpIdeal.main_arg3)
      ∧ m' ((c.tc : Thread Cert.ResGateUpReferenceIdeal.nD Cert.ResGateUpReferenceIdeal.τ).loc Cert.ResGateUpReferenceIdeal.main_arg4) = m ((c.tc : Thread Cert.ResGateUpIdeal.nD Cert.ResGateUpIdeal.τ).loc Cert.ResGateUpIdeal.main_arg4)
      ∧ m' ((c.tc : Thread Cert.ResGateUpReferenceIdeal.nD Cert.ResGateUpReferenceIdeal.τ).loc Cert.ResGateUpReferenceIdeal.main_arg5) = m ((c.tc : Thread Cert.ResGateUpIdeal.nD Cert.ResGateUpIdeal.τ).loc Cert.ResGateUpIdeal.main_arg5)
      ∧ m' ((c.tc : Thread Cert.ResGateUpReferenceIdeal.nD Cert.ResGateUpReferenceIdeal.τ).loc Cert.ResGateUpReferenceIdeal.main_arg6) = m ((c.tc : Thread Cert.ResGateUpIdeal.nD Cert.ResGateUpIdeal.τ).loc Cert.ResGateUpIdeal.main_arg6)) →
    ∃ (v0 : (c : Dev Cert.ResGateUpIdeal.nD) → Buf (Elt Ideal) ((c.tc : Thread Cert.ResGateUpIdeal.nD Cert.ResGateUpIdeal.τ).loc Cert.ResGateUpIdeal.main_v2_0)) (v1 : (c : Dev Cert.ResGateUpIdeal.nD) → Buf (Elt Ideal) ((c.tc : Thread Cert.ResGateUpIdeal.nD Cert.ResGateUpIdeal.τ).loc Cert.ResGateUpIdeal.main_v2_1)) (v2 : (c : Dev Cert.ResGateUpIdeal.nD) → Buf (Elt Ideal) ((c.tc : Thread Cert.ResGateUpIdeal.nD Cert.ResGateUpIdeal.τ).loc Cert.ResGateUpIdeal.main_v2_2)),
      θ_run (Cert.ResGateUpIdeal.defs (F := Ideal)) (onTc (τ := Cert.ResGateUpIdeal.τ) (Cert.ResGateUpIdeal.main (F := Ideal))) ⟨m, fun _ => 0, g⟩ (fun r => ∀ c : Dev Cert.ResGateUpIdeal.nD,
          r.2.mem ((c.tc : Thread Cert.ResGateUpIdeal.nD Cert.ResGateUpIdeal.τ).loc Cert.ResGateUpIdeal.main_v2_0) = v0 c
          ∧ r.2.mem ((c.tc : Thread Cert.ResGateUpIdeal.nD Cert.ResGateUpIdeal.τ).loc Cert.ResGateUpIdeal.main_v2_1) = v1 c
          ∧ r.2.mem ((c.tc : Thread Cert.ResGateUpIdeal.nD Cert.ResGateUpIdeal.τ).loc Cert.ResGateUpIdeal.main_v2_2) = v2 c
          ∧ r.2.mem ((c.tc : Thread Cert.ResGateUpIdeal.nD Cert.ResGateUpIdeal.τ).loc Cert.ResGateUpIdeal.main_arg0) = m ((c.tc : Thread Cert.ResGateUpIdeal.nD Cert.ResGateUpIdeal.τ).loc Cert.ResGateUpIdeal.main_arg0)
          ∧ r.2.mem ((c.tc : Thread Cert.ResGateUpIdeal.nD Cert.ResGateUpIdeal.τ).loc Cert.ResGateUpIdeal.main_arg1) = m ((c.tc : Thread Cert.ResGateUpIdeal.nD Cert.ResGateUpIdeal.τ).loc Cert.ResGateUpIdeal.main_arg1)
          ∧ r.2.mem ((c.tc : Thread Cert.ResGateUpIdeal.nD Cert.ResGateUpIdeal.τ).loc Cert.ResGateUpIdeal.main_arg2) = m ((c.tc : Thread Cert.ResGateUpIdeal.nD Cert.ResGateUpIdeal.τ).loc Cert.ResGateUpIdeal.main_arg2)
          ∧ r.2.mem ((c.tc : Thread Cert.ResGateUpIdeal.nD Cert.ResGateUpIdeal.τ).loc Cert.ResGateUpIdeal.main_arg3) = m ((c.tc : Thread Cert.ResGateUpIdeal.nD Cert.ResGateUpIdeal.τ).loc Cert.ResGateUpIdeal.main_arg3)
          ∧ r.2.mem ((c.tc : Thread Cert.ResGateUpIdeal.nD Cert.ResGateUpIdeal.τ).loc Cert.ResGateUpIdeal.main_arg4) = m ((c.tc : Thread Cert.ResGateUpIdeal.nD Cert.ResGateUpIdeal.τ).loc Cert.ResGateUpIdeal.main_arg4)
          ∧ r.2.mem ((c.tc : Thread Cert.ResGateUpIdeal.nD Cert.ResGateUpIdeal.τ).loc Cert.ResGateUpIdeal.main_arg5) = m ((c.tc : Thread Cert.ResGateUpIdeal.nD Cert.ResGateUpIdeal.τ).loc Cert.ResGateUpIdeal.main_arg5)
          ∧ r.2.mem ((c.tc : Thread Cert.ResGateUpIdeal.nD Cert.ResGateUpIdeal.τ).loc Cert.ResGateUpIdeal.main_arg6) = m ((c.tc : Thread Cert.ResGateUpIdeal.nD Cert.ResGateUpIdeal.τ).loc Cert.ResGateUpIdeal.main_arg6))
      ∧ θ_run (Cert.ResGateUpReferenceIdeal.defs (F := Ideal)) (onTc (τ := Cert.ResGateUpReferenceIdeal.τ) (Cert.ResGateUpReferenceIdeal.main (F := Ideal))) ⟨m', fun _ => 0, g'⟩ (fun r => ∀ c : Dev Cert.ResGateUpReferenceIdeal.nD,
          r.2.mem ((c.tc : Thread Cert.ResGateUpReferenceIdeal.nD Cert.ResGateUpReferenceIdeal.τ).loc Cert.ResGateUpReferenceIdeal.main_v15) = v0 c
          ∧ r.2.mem ((c.tc : Thread Cert.ResGateUpReferenceIdeal.nD Cert.ResGateUpReferenceIdeal.τ).loc Cert.ResGateUpReferenceIdeal.main_v34) = v1 c
          ∧ r.2.mem ((c.tc : Thread Cert.ResGateUpReferenceIdeal.nD Cert.ResGateUpReferenceIdeal.τ).loc Cert.ResGateUpReferenceIdeal.main_v35) = v2 c
          ∧ r.2.mem ((c.tc : Thread Cert.ResGateUpReferenceIdeal.nD Cert.ResGateUpReferenceIdeal.τ).loc Cert.ResGateUpReferenceIdeal.main_arg0) = m' ((c.tc : Thread Cert.ResGateUpReferenceIdeal.nD Cert.ResGateUpReferenceIdeal.τ).loc Cert.ResGateUpReferenceIdeal.main_arg0)
          ∧ r.2.mem ((c.tc : Thread Cert.ResGateUpReferenceIdeal.nD Cert.ResGateUpReferenceIdeal.τ).loc Cert.ResGateUpReferenceIdeal.main_arg1) = m' ((c.tc : Thread Cert.ResGateUpReferenceIdeal.nD Cert.ResGateUpReferenceIdeal.τ).loc Cert.ResGateUpReferenceIdeal.main_arg1)
          ∧ r.2.mem ((c.tc : Thread Cert.ResGateUpReferenceIdeal.nD Cert.ResGateUpReferenceIdeal.τ).loc Cert.ResGateUpReferenceIdeal.main_arg2) = m' ((c.tc : Thread Cert.ResGateUpReferenceIdeal.nD Cert.ResGateUpReferenceIdeal.τ).loc Cert.ResGateUpReferenceIdeal.main_arg2)
          ∧ r.2.mem ((c.tc : Thread Cert.ResGateUpReferenceIdeal.nD Cert.ResGateUpReferenceIdeal.τ).loc Cert.ResGateUpReferenceIdeal.main_arg3) = m' ((c.tc : Thread Cert.ResGateUpReferenceIdeal.nD Cert.ResGateUpReferenceIdeal.τ).loc Cert.ResGateUpReferenceIdeal.main_arg3)
          ∧ r.2.mem ((c.tc : Thread Cert.ResGateUpReferenceIdeal.nD Cert.ResGateUpReferenceIdeal.τ).loc Cert.ResGateUpReferenceIdeal.main_arg4) = m' ((c.tc : Thread Cert.ResGateUpReferenceIdeal.nD Cert.ResGateUpReferenceIdeal.τ).loc Cert.ResGateUpReferenceIdeal.main_arg4)
          ∧ r.2.mem ((c.tc : Thread Cert.ResGateUpReferenceIdeal.nD Cert.ResGateUpReferenceIdeal.τ).loc Cert.ResGateUpReferenceIdeal.main_arg5) = m' ((c.tc : Thread Cert.ResGateUpReferenceIdeal.nD Cert.ResGateUpReferenceIdeal.τ).loc Cert.ResGateUpReferenceIdeal.main_arg5)
          ∧ r.2.mem ((c.tc : Thread Cert.ResGateUpReferenceIdeal.nD Cert.ResGateUpReferenceIdeal.τ).loc Cert.ResGateUpReferenceIdeal.main_arg6) = m' ((c.tc : Thread Cert.ResGateUpReferenceIdeal.nD Cert.ResGateUpReferenceIdeal.τ).loc Cert.ResGateUpReferenceIdeal.main_arg6))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v2_0)) (v1 : (c : Dev Cert.InProjIdeal.nD) → Buf (Elt Ideal) ((c.tc : Thread Cert.InProjIdeal.nD Cert.InProjIdeal.τ).loc Cert.InProjIdeal.main_v2_1)) (v2 : (c : Dev Cert.InProjIdeal.nD) → Buf (Elt Ideal) ((c.tc : Thread Cert.InProjIdeal.nD Cert.InProjIdeal.τ).loc Cert.InProjIdeal.main_v2_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2_0) = v0 c
          ∧ r.2.mem ((c.tc : Thread Cert.InProjIdeal.nD Cert.InProjIdeal.τ).loc Cert.InProjIdeal.main_v2_1) = v1 c
          ∧ r.2.mem ((c.tc : Thread Cert.InProjIdeal.nD Cert.InProjIdeal.τ).loc Cert.InProjIdeal.main_v2_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v16) = v0 c
          ∧ r.2.mem ((c.tc : Thread Cert.InProjReferenceIdeal.nD Cert.InProjReferenceIdeal.τ).loc Cert.InProjReferenceIdeal.main_v33) = v1 c
          ∧ r.2.mem ((c.tc : Thread Cert.InProjReferenceIdeal.nD Cert.InProjReferenceIdeal.τ).loc Cert.InProjReferenceIdeal.main_v34) = v2 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4))

def preserves_Ple_PleIdeal : Prop :=
  True

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)
      ∧ m' ((c.tc : Thread Cert.PleReferenceIdeal.nD Cert.PleReferenceIdeal.τ).loc Cert.PleReferenceIdeal.main_arg2) = m ((c.tc : Thread Cert.PleIdeal.nD Cert.PleIdeal.τ).loc Cert.PleIdeal.main_arg2)
      ∧ m' ((c.tc : Thread Cert.PleReferenceIdeal.nD Cert.PleReferenceIdeal.τ).loc Cert.PleReferenceIdeal.main_arg3) = m ((c.tc : Thread Cert.PleIdeal.nD Cert.PleIdeal.τ).loc Cert.PleIdeal.main_arg3)
      ∧ m' ((c.tc : Thread Cert.PleReferenceIdeal.nD Cert.PleReferenceIdeal.τ).loc Cert.PleReferenceIdeal.main_arg4) = m ((c.tc : Thread Cert.PleIdeal.nD Cert.PleIdeal.τ).loc Cert.PleIdeal.main_arg4)
      ∧ m' ((c.tc : Thread Cert.PleReferenceIdeal.nD Cert.PleReferenceIdeal.τ).loc Cert.PleReferenceIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v1_0)) (v1 : (c : Dev Cert.PleIdeal.nD) → Buf (Elt Ideal) ((c.tc : Thread Cert.PleIdeal.nD Cert.PleIdeal.τ).loc Cert.PleIdeal.main_v1_1)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v1_0) = v0 c
          ∧ r.2.mem ((c.tc : Thread Cert.PleIdeal.nD Cert.PleIdeal.τ).loc Cert.PleIdeal.main_v1_1) = v1 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v16) = v0 c
          ∧ r.2.mem ((c.tc : Thread Cert.PleReferenceIdeal.nD Cert.PleReferenceIdeal.τ).loc Cert.PleReferenceIdeal.main_v27) = v1 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4)
          ∧ r.2.mem ((c.tc : Thread Cert.PleReferenceIdeal.nD Cert.PleReferenceIdeal.τ).loc Cert.PleReferenceIdeal.main_arg5) = m' ((c.tc : Thread Cert.PleReferenceIdeal.nD Cert.PleReferenceIdeal.τ).loc Cert.PleReferenceIdeal.main_arg5))

def preserves_Residual_ResidualIdeal : Prop :=
  True

def algebraic_ResidualIdeal_ResidualReferenceIdeal [hResidualIdeal : Cert.ResidualIdeal.Facts] [hResidualReferenceIdeal : Cert.ResidualReferenceIdeal.Facts] : Prop :=
  ∀ (m : (ℓ : Loc Cert.ResidualIdeal.nD Cert.ResidualIdeal.τ Cert.ResidualIdeal.sig) → Buf (Elt Ideal) ℓ) (g : Dev Cert.ResidualIdeal.nD → PrngReg)
    (m' : (ℓ : Loc Cert.ResidualReferenceIdeal.nD Cert.ResidualReferenceIdeal.τ Cert.ResidualReferenceIdeal.sig) → Buf (Elt Ideal) ℓ) (g' : Dev Cert.ResidualReferenceIdeal.nD → PrngReg), Pre_ResidualIdeal m →
    (∀ c : Dev Cert.ResidualIdeal.nD,
      m' ((c.tc : Thread Cert.ResidualReferenceIdeal.nD Cert.ResidualReferenceIdeal.τ).loc Cert.ResidualReferenceIdeal.main_arg0) = m ((c.tc : Thread Cert.ResidualIdeal.nD Cert.ResidualIdeal.τ).loc Cert.ResidualIdeal.main_arg0)
      ∧ m' ((c.tc : Thread Cert.ResidualReferenceIdeal.nD Cert.ResidualReferenceIdeal.τ).loc Cert.ResidualReferenceIdeal.main_arg1) = m ((c.tc : Thread Cert.ResidualIdeal.nD Cert.ResidualIdeal.τ).loc Cert.ResidualIdeal.main_arg1)
      ∧ m' ((c.tc : Thread Cert.ResidualReferenceIdeal.nD Cert.ResidualReferenceIdeal.τ).loc Cert.ResidualReferenceIdeal.main_arg2) = m ((c.tc : Thread Cert.ResidualIdeal.nD Cert.ResidualIdeal.τ).loc Cert.ResidualIdeal.main_arg2)) →
    ∃ (v0 : (c : Dev Cert.ResidualIdeal.nD) → Buf (Elt Ideal) ((c.tc : Thread Cert.ResidualIdeal.nD Cert.ResidualIdeal.τ).loc Cert.ResidualIdeal.main_v1)),
      θ_run (Cert.ResidualIdeal.defs (F := Ideal)) (onTc (τ := Cert.ResidualIdeal.τ) (Cert.ResidualIdeal.main (F := Ideal))) ⟨m, fun _ => 0, g⟩ (fun r => ∀ c : Dev Cert.ResidualIdeal.nD,
          r.2.mem ((c.tc : Thread Cert.ResidualIdeal.nD Cert.ResidualIdeal.τ).loc Cert.ResidualIdeal.main_v1) = v0 c
          ∧ r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
          ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
          ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2))
      ∧ θ_run (Cert.ResidualReferenceIdeal.defs (F := Ideal)) (onTc (τ := Cert.ResidualReferenceIdeal.τ) (Cert.ResidualReferenceIdeal.main (F := Ideal))) ⟨m', fun _ => 0, g'⟩ (fun r => ∀ c : Dev Cert.ResidualReferenceIdeal.nD,
          r.2.mem ((c.tc : Thread Cert.ResidualReferenceIdeal.nD Cert.ResidualReferenceIdeal.τ).loc Cert.ResidualReferenceIdeal.main_v15) = v0 c
          ∧ r.2.mem ((c.tc : Thread Cert.ResidualReferenceIdeal.nD Cert.ResidualReferenceIdeal.τ).loc Cert.ResidualReferenceIdeal.main_arg0) = m' ((c.tc : Thread Cert.ResidualReferenceIdeal.nD Cert.ResidualReferenceIdeal.τ).loc Cert.ResidualReferenceIdeal.main_arg0)
          ∧ r.2.mem ((c.tc : Thread Cert.ResidualReferenceIdeal.nD Cert.ResidualReferenceIdeal.τ).loc Cert.ResidualReferenceIdeal.main_arg1) = m' ((c.tc : Thread Cert.ResidualReferenceIdeal.nD Cert.ResidualReferenceIdeal.τ).loc Cert.ResidualReferenceIdeal.main_arg1)
          ∧ r.2.mem ((c.tc : Thread Cert.ResidualReferenceIdeal.nD Cert.ResidualReferenceIdeal.τ).loc Cert.ResidualReferenceIdeal.main_arg2) = m' ((c.tc : Thread Cert.ResidualReferenceIdeal.nD Cert.ResidualReferenceIdeal.τ).loc Cert.ResidualReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v4) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def Claim : Prop :=
  ∃ (hKernel : Cert.Kernel.Facts) (hKernelIdeal : Cert.KernelIdeal.Facts) (hReferenceIdeal : Cert.ReferenceIdeal.Facts) (hGateUp : Cert.GateUp.Facts) (hGateUpIdeal : Cert.GateUpIdeal.Facts) (hGateUpReferenceIdeal : Cert.GateUpReferenceIdeal.Facts) (hResGateUp : Cert.ResGateUp.Facts) (hResGateUpIdeal : Cert.ResGateUpIdeal.Facts) (hResGateUpReferenceIdeal : Cert.ResGateUpReferenceIdeal.Facts) (hInProj : Cert.InProj.Facts) (hInProjIdeal : Cert.InProjIdeal.Facts) (hInProjReferenceIdeal : Cert.InProjReferenceIdeal.Facts) (hPle : Cert.Ple.Facts) (hPleIdeal : Cert.PleIdeal.Facts) (hPleReferenceIdeal : Cert.PleReferenceIdeal.Facts) (hResidual : Cert.Residual.Facts) (hResidualIdeal : Cert.ResidualIdeal.Facts) (hResidualReferenceIdeal : Cert.ResidualReferenceIdeal.Facts) (hDown : Cert.Down.Facts) (hDownIdeal : Cert.DownIdeal.Facts) (hDownReferenceIdeal : Cert.DownReferenceIdeal.Facts) (hPre_qk_finite : Cert.Pre_qk_finite.Facts),
    quiescent_Kernel (hKernel := hKernel)
    ∧ quiescent_KernelIdeal (hKernelIdeal := hKernelIdeal)
    ∧ quiescent_KernelIdeal_pre_qk_finite (hKernelIdeal := hKernelIdeal) (hPre_qk_finite := hPre_qk_finite)
    ∧ quiescent_ReferenceIdeal (hReferenceIdeal := hReferenceIdeal)
    ∧ quiescent_ReferenceIdeal_pre_qk_finite (hReferenceIdeal := hReferenceIdeal) (hPre_qk_finite := hPre_qk_finite)
    ∧ quiescent_GateUp (hGateUp := hGateUp)
    ∧ quiescent_GateUpIdeal (hGateUpIdeal := hGateUpIdeal)
    ∧ quiescent_GateUpReferenceIdeal (hGateUpReferenceIdeal := hGateUpReferenceIdeal)
    ∧ quiescent_ResGateUp (hResGateUp := hResGateUp)
    ∧ quiescent_ResGateUpIdeal (hResGateUpIdeal := hResGateUpIdeal)
    ∧ quiescent_ResGateUpReferenceIdeal (hResGateUpReferenceIdeal := hResGateUpReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_Ple (hPle := hPle)
    ∧ quiescent_PleIdeal (hPleIdeal := hPleIdeal)
    ∧ quiescent_PleReferenceIdeal (hPleReferenceIdeal := hPleReferenceIdeal)
    ∧ quiescent_Residual (hResidual := hResidual)
    ∧ quiescent_ResidualIdeal (hResidualIdeal := hResidualIdeal)
    ∧ quiescent_ResidualReferenceIdeal (hResidualReferenceIdeal := hResidualReferenceIdeal)
    ∧ quiescent_Down (hDown := hDown)
    ∧ quiescent_DownIdeal (hDownIdeal := hDownIdeal)
    ∧ quiescent_DownReferenceIdeal (hDownReferenceIdeal := hDownReferenceIdeal)
    ∧ preserves_Kernel_KernelIdeal
    ∧ algebraic_KernelIdeal_ReferenceIdeal_pre_qk_finite (hKernelIdeal := hKernelIdeal) (hReferenceIdeal := hReferenceIdeal) (hPre_qk_finite := hPre_qk_finite)
    ∧ preserves_GateUp_GateUpIdeal
    ∧ algebraic_GateUpIdeal_GateUpReferenceIdeal (hGateUpIdeal := hGateUpIdeal) (hGateUpReferenceIdeal := hGateUpReferenceIdeal)
    ∧ preserves_ResGateUp_ResGateUpIdeal
    ∧ algebraic_ResGateUpIdeal_ResGateUpReferenceIdeal (hResGateUpIdeal := hResGateUpIdeal) (hResGateUpReferenceIdeal := hResGateUpReferenceIdeal)
    ∧ preserves_InProj_InProjIdeal
    ∧ algebraic_InProjIdeal_InProjReferenceIdeal (hInProjIdeal := hInProjIdeal) (hInProjReferenceIdeal := hInProjReferenceIdeal)
    ∧ preserves_Ple_PleIdeal
    ∧ algebraic_PleIdeal_PleReferenceIdeal (hPleIdeal := hPleIdeal) (hPleReferenceIdeal := hPleReferenceIdeal)
    ∧ preserves_Residual_ResidualIdeal
    ∧ algebraic_ResidualIdeal_ResidualReferenceIdeal (hResidualIdeal := hResidualIdeal) (hResidualReferenceIdeal := hResidualReferenceIdeal)
    ∧ preserves_Down_DownIdeal
    ∧ algebraic_DownIdeal_DownReferenceIdeal (hDownIdeal := hDownIdeal) (hDownReferenceIdeal := hDownReferenceIdeal)
-- ==== Pre_qk_finite.lean ====
abbrev S9216x6144 : Shape := ⟨2, ![9216, 6144]⟩
abbrev S16x257 : Shape := ⟨2, ![16, 257]⟩
abbrev S8192x4096 : Shape := ⟨2, ![8192, 4096]⟩
abbrev S_ : Shape := ⟨0, ![]⟩

class Facts : Prop where
  slices_S9216x6144_S8192x4096_0_0 : S9216x6144.Slices ![0, 0] S8192x4096
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16x257 : S_.BroadcastsInDim S16x257 (![] : Fin 0 → Fin S16x257.rank)
  reducesTo_S16x257_S_d0_1 : S16x257.ReducesTo [0, 1] S_

variable [Facts]

def fn {F : FTy → Type} [FloatOps F] (main_arg0 : FVec F S9216x6144 .bf16) (main_arg1 : FVec F S16x257 .f32) : IVec S_ 1 :=
  let main_v0 : FVec F S8192x4096 .bf16 := (extractStridedSlice S8192x4096 ![0, 0] · slices_S9216x6144_S8192x4096_0_0) main_arg0
  let main_v1 : FVec F S8192x4096 .f32 := (extf .f32 · bitsLt_bf16_f32) main_v0
  let main_v2 : FVec F S8192x4096 .f32 := Host.absf main_v1
  let main_cst : FVec F S_ .f32 := constant S_ .f32 0x7F800000#32
  let main_v3 : FVec F S8192x4096 .f32 := broadcastInDim S8192x4096 ![] bcast_S_S8192x4096 main_cst
  let main_v4 : IVec S8192x4096 1 := cmpf .olt main_v2 main_v3
  let main_c : IVec S_ 1 := constantI S_ 1 1#1
  let main_v5 : IVec S_ 1 := (fun x v => Host.reduce IntOp.andi x v reducesTo_S8192x4096_S_d0_1 h_S_) main_v4 main_c
  let main_v6 : FVec F S16x257 .f32 := Host.absf main_arg1
  let main_cst_0 : FVec F S_ .f32 := constant S_ .f32 0x7F800000#32
  let main_v7 : FVec F S16x257 .f32 := broadcastInDim S16x257 ![] bcast_S_S16x257 main_cst_0
  let main_v8 : IVec S16x257 1 := cmpf .olt main_v6 main_v7
  let main_c_1 : IVec S_ 1 := constantI S_ 1 1#1
  let main_v9 : IVec S_ 1 := (fun x v => Host.reduce IntOp.andi x v reducesTo_S16x257_S_d0_1 h_S_) main_v8 main_c_1
  let main_v10 : IVec S_ 1 := andi main_v5 main_v9
  main_v10
-- ==== Kernel.lean ====
abbrev S9216x6144 : Shape := ⟨2, ![9216, 6144]⟩
abbrev S16x257 : Shape := ⟨2, ![16, 257]⟩
abbrev S1024 : Shape := ⟨1, ![1024]⟩
abbrev S_ : Shape := ⟨0, ![]⟩
abbrev S1024x1 : Shape := ⟨2, ![1024, 1]⟩
abbrev S16x1024 : Shape := ⟨2, ![16, 1024]⟩
abbrev S16x1x1024 : Shape := ⟨3, ![16, 1, 1024]⟩
abbrev S8192x2048 : Shape := ⟨2, ![8192, 2048]⟩
abbrev S4096x128 : Shape := ⟨2, ![4096, 128]⟩
abbrev S1x1x1024 : Shape := ⟨3, ![1, 1, 1024]⟩
abbrev S4608x128 : Shape := ⟨2, ![4608, 128]⟩
abbrev S256x768 : Shape := ⟨2, ![256, 768]⟩
abbrev S512x128 : Shape := ⟨2, ![512, 128]⟩
abbrev S1x1024 : Shape := ⟨2, ![1, 1024]⟩
abbrev S256x1024 : Shape := ⟨2, ![256, 1024]⟩
abbrev S256x128 : Shape := ⟨2, ![256, 128]⟩
abbrev S768x128 : Shape := ⟨2, ![768, 128]⟩
abbrev S256 : Shape := ⟨1, ![256]⟩
abbrev S256x1 : Shape := ⟨2, ![256, 1]⟩

abbrev nBuf : Space → Nat
  | .hbm => 12
  | .vmem => 13
  | .smem => 0
  | _ => 0

abbrev bufTy : (tb : Table) → Fin (tcTables nBuf tb) → BufTy
  | .hbm, ⟨0, _⟩ => ⟨S9216x6144, .bf16⟩
  | .hbm, ⟨1, _⟩ => ⟨S16x257, .f32⟩
  | .hbm, ⟨2, _⟩ => ⟨S1024, .i32⟩
  | .hbm, ⟨3, _⟩ => ⟨S1024, .i1⟩
  | .hbm, ⟨4, _⟩ => ⟨S_, .i32⟩
  | .hbm, ⟨5, _⟩ => ⟨S1024, .i32⟩
  | .hbm, ⟨6, _⟩ => ⟨S1024, .i32⟩
  | .hbm, ⟨7, _⟩ => ⟨S1024, .i32⟩
  | .hbm, ⟨8, _⟩ => ⟨S1024x1, .i32⟩
  | .hbm, ⟨9, _⟩ => ⟨S16x1024, .f32⟩
  | .hbm, ⟨10, _⟩ => ⟨S16x1x1024, .f32⟩
  | .hbm, ⟨11, _⟩ => ⟨S8192x2048, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x1x1024, .f32⟩
  | .local _ .vmem, ⟨7, _⟩ => ⟨S1x1x1024, .f32⟩
  | .local _ .vmem, ⟨8, _⟩ => ⟨S4096x128, .bf16⟩
  | .local _ .vmem, ⟨9, _⟩ => ⟨S4096x128, .bf16⟩
  | .local _ .vmem, ⟨10, _⟩ => ⟨S4608x128, .bf16⟩
  | .local _ .vmem, ⟨11, _⟩ => ⟨S4608x128, .bf16⟩
  | .local _ .vmem, ⟨12, _⟩ => ⟨S256x768, .f32⟩
  | _, _ => ⟨S9216x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def k0_mult1 : BitVec 32 :=
  let c2_i32 : BitVec 32 := 2#32
  let c256_i32_48 : BitVec 32 := 256#32
  let v87 : BitVec 32 := Scalar.muli c2_i32 c256_i32_48
  v87
def k0_off1 (c2_i32 : BitVec 32) : Fin 2 → Nat :=
  let c256_i32_48 : BitVec 32 := 256#32
  let v87 : BitVec 32 := Scalar.muli c2_i32 c256_i32_48
  let v88 : BitVec 32 := v87
  let v89 : Index := Scalar.indexCast v88
  let c0_49 : Index := 0#32
  ![v89.toNat, 0]
def k0_off2 (c2_i32 : BitVec 32) : Fin 2 → Nat :=
  let c256_i32_48 : BitVec 32 := 256#32
  let v87 : BitVec 32 := Scalar.muli c2_i32 c256_i32_48
  let v88 : BitVec 32 := v87
  let v91 : Index := Scalar.indexCast v88
  let c0_50 : Index := 0#32
  ![v91.toNat, 0]
def k0_mult2 : BitVec 32 :=
  let c3_i32 : BitVec 32 := 3#32
  let c256_i32_60 : BitVec 32 := 256#32
  let v114 : BitVec 32 := Scalar.muli c3_i32 c256_i32_60
  v114
def k0_mult3 : BitVec 32 :=
  let c4_i32 : BitVec 32 := 4#32
  let c256_i32_72 : BitVec 32 := 256#32
  let v141 : BitVec 32 := Scalar.muli c4_i32 c256_i32_72
  v141
def k0_mult4 : BitVec 32 :=
  let c5_i32 : BitVec 32 := 5#32
  let c256_i32_84 : BitVec 32 := 256#32
  let v168 : BitVec 32 := Scalar.muli c5_i32 c256_i32_84
  v168
def k0_mult5 : BitVec 32 :=
  let c6_i32 : BitVec 32 := 6#32
  let c256_i32_96 : BitVec 32 := 256#32
  let v195 : BitVec 32 := Scalar.muli c6_i32 c256_i32_96
  v195
def k0_mult6 : BitVec 32 :=
  let c7_i32 : BitVec 32 := 7#32
  let c256_i32_108 : BitVec 32 := 256#32
  let v222 : BitVec 32 := Scalar.muli c7_i32 c256_i32_108
  v222
def k0_mult7 : BitVec 32 :=
  let c8_i32 : BitVec 32 := 8#32
  let c256_i32_120 : BitVec 32 := 256#32
  let v249 : BitVec 32 := Scalar.muli c8_i32 c256_i32_120
  v249
def k0_mult8 : BitVec 32 :=
  let c9_i32 : BitVec 32 := 9#32
  let c256_i32_132 : BitVec 32 := 256#32
  let v276 : BitVec 32 := Scalar.muli c9_i32 c256_i32_132
  v276
def k0_mult9 : BitVec 32 :=
  let c10_i32 : BitVec 32 := 10#32
  let c256_i32_144 : BitVec 32 := 256#32
  let v303 : BitVec 32 := Scalar.muli c10_i32 c256_i32_144
  v303
def k0_mult10 : BitVec 32 :=
  let c11_i32 : BitVec 32 := 11#32
  let c256_i32_156 : BitVec 32 := 256#32
  let v330 : BitVec 32 := Scalar.muli c11_i32 c256_i32_156
  v330
def k0_mult11 : BitVec 32 :=
  let c12_i32 : BitVec 32 := 12#32
  let c256_i32_168 : BitVec 32 := 256#32
  let v357 : BitVec 32 := Scalar.muli c12_i32 c256_i32_168
  v357
def k0_mult12 : BitVec 32 :=
  let c13_i32 : BitVec 32 := 13#32
  let c256_i32_180 : BitVec 32 := 256#32
  let v384 : BitVec 32 := Scalar.muli c13_i32 c256_i32_180
  v384
def k0_mult13 : BitVec 32 :=
  let c14_i32 : BitVec 32 := 14#32
  let c256_i32_192 : BitVec 32 := 256#32
  let v411 : BitVec 32 := Scalar.muli c14_i32 c256_i32_192
  v411
def k0_mult14 : BitVec 32 :=
  let c15_i32 : BitVec 32 := 15#32
  let c256_i32_204 : BitVec 32 := 256#32
  let v438 : BitVec 32 := Scalar.muli c15_i32 c256_i32_204
  v438
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale" => some (((Real.sqrt 128)⁻¹ * (Real.log 2)⁻¹ : ℝ) : EReal)
  | _ => none
-- ==== ReferenceIdeal.lean ====
abbrev S9216x6144 : Shape := ⟨2, ![9216, 6144]⟩
abbrev S16x257 : Shape := ⟨2, ![16, 257]⟩
abbrev S8192x6144 : Shape := ⟨2, ![8192, 6144]⟩
abbrev S8192x2048 : Shape := ⟨2, ![8192, 2048]⟩
abbrev S2x4096x16x128 : Shape := ⟨4, ![2, 4096, 16, 128]⟩
abbrev S_ : Shape := ⟨0, ![]⟩
abbrev S2x4608x16x128 : Shape := ⟨4, ![2, 4608, 16, 128]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S64x4 : Shape := ⟨2, ![64, 4]⟩
abbrev S64x2x64x16x128 : Shape := ⟨5, ![64, 2, 64, 16, 128]⟩
abbrev S64x2x576x16x128 : Shape := ⟨5, ![64, 2, 576, 16, 128]⟩
abbrev S64x2x16x64x576 : Shape := ⟨5, ![64, 2, 16, 64, 576]⟩
abbrev S1x16x64x576 : Shape := ⟨4, ![1, 16, 64, 576]⟩
abbrev S1x1x16x64x576 : Shape := ⟨5, ![1, 1, 16, 64, 576]⟩
abbrev S1x1x576 : Shape := ⟨3, ![1, 1, 576]⟩
abbrev S64x1x1 : Shape := ⟨3, ![64, 1, 1]⟩
abbrev S64x1x576 : Shape := ⟨3, ![64, 1, 576]⟩
abbrev S64x1x1x1x576 : Shape := ⟨5, ![64, 1, 1, 1, 576]⟩
abbrev S2x16x64x576 : Shape := ⟨4, ![2, 16, 64, 576]⟩
abbrev S64x2x16x64 : Shape := ⟨4, ![64, 2, 16, 64]⟩
abbrev S64x2x16x64x1 : Shape := ⟨5, ![64, 2, 16, 64, 1]⟩
abbrev S64x2x16x128x64 : Shape := ⟨5, ![64, 2, 16, 128, 64]⟩
abbrev S2x64x64x16x128 : Shape := ⟨5, ![2, 64, 64, 16, 128]⟩
abbrev S2x4096x2048 : Shape := ⟨3, ![2, 4096, 2048]⟩

abbrev nBuf : Space → Nat
  | .hbm => 144
  | .vmem => 0
  | .smem => 0
  | _ => 0

abbrev hbmTy0_0 (i : Nat) : BufTy := match i % 128 with
  | 0 => ⟨S9216x6144, .bf16⟩
  | 1 => ⟨S16x257, .f32⟩
  | 2 => ⟨S8192x6144, .bf16⟩
  | 3 => ⟨S8192x6144, .f32⟩
  | 4 => ⟨S8192x2048, .f32⟩
  | 5 => ⟨S8192x2048, .f32⟩
  | 6 => ⟨S8192x2048, .f32⟩
  | 7 => ⟨S2x4096x16x128, .f32⟩
  | 8 => ⟨S2x4096x16x128, .f32⟩
  | 9 => ⟨S2x4096x16x128, .f32⟩
  | 10 => ⟨S_, .i32⟩
  | 11 => ⟨S_, .f32⟩
  | 12 => ⟨S2x4608x16x128, .f32⟩
  | 13 => ⟨S_, .i32⟩
  | 14 => ⟨S_, .f32⟩
  | 15 => ⟨S2x4608x16x128, .f32⟩
  | 16 => ⟨S64, .i32⟩
  | 17 => ⟨S64x1, .i32⟩
  | 18 => ⟨S576, .i32⟩
  | 19 => ⟨S1x576, .i32⟩
  | 20 => ⟨S_, .i32⟩
  | 21 => ⟨S1x576, .i32⟩
  | 22 => ⟨S1x576, .i32⟩
  | 23 => ⟨S64x576, .i32⟩
  | 24 => ⟨S64x576, .i32⟩
  | 25 => ⟨S64x576, .i32⟩
  | 26 => ⟨S_, .i32⟩
  | 27 => ⟨S_, .i32⟩
  | 28 => ⟨S_, .i32⟩
  | 29 => ⟨S64x576, .i32⟩
  | 30 => ⟨S64x576, .i32⟩
  | 31 => ⟨S_, .i32⟩
  | 32 => ⟨S64x576, .i32⟩
  | 33 => ⟨S64x576, .i32⟩
  | 34 => ⟨S_, .i32⟩
  | 35 => ⟨S64x576, .i32⟩
  | 36 => ⟨S64x576, .i32⟩
  | 37 => ⟨S_, .i32⟩
  | 38 => ⟨S64x576, .i32⟩
  | 39 => ⟨S64x576, .i1⟩
  | 40 => ⟨S_, .i32⟩
  | 41 => ⟨S64x576, .i32⟩
  | 42 => ⟨S64x576, .i32⟩
  | 43 => ⟨S64x576, .i32⟩
  | 44 => ⟨S64x576x1, .i32⟩
  | 45 => ⟨S16x64x576, .f32⟩
  | 46 => ⟨S_, .f32⟩
  | 47 => ⟨S_, .f32⟩
  | 48 => ⟨S_, .f32⟩
  | 49 => ⟨S_, .f32⟩
  | 50 => ⟨S64, .i32⟩
  | 51 => ⟨S_, .i32⟩
  | 52 => ⟨S64, .i32⟩
  | 53 => ⟨S64, .i32⟩
  | 54 => ⟨S_, .i32⟩
  | 55 => ⟨S64, .i32⟩
  | 56 => ⟨S64, .i1⟩
  | 57 => ⟨S_, .i32⟩
  | 58 => ⟨S64, .i32⟩
  | 59 => ⟨S64, .i32⟩
  | 60 => ⟨S64, .i32⟩
  | 61 => ⟨S_, .i32⟩
  | 62 => ⟨S64x1, .i32⟩
  | 63 => ⟨S64x1, .i32⟩
  | 64 => ⟨S_, .i32⟩
  | 65 => ⟨S64x1, .i32⟩
  | 66 => ⟨S_, .i32⟩
  | 67 => ⟨S64x1, .i32⟩
  | 68 => ⟨S64x4, .i32⟩
  | 69 => ⟨S64x2x64x16x128, .f32⟩
  | 70 => ⟨S_, .i32⟩
  | 71 => ⟨S64, .i32⟩
  | 72 => ⟨S64, .i1⟩
  | 73 => ⟨S_, .i32⟩
  | 74 => ⟨S64, .i32⟩
  | 75 => ⟨S64, .i32⟩
  | 76 => ⟨S64, .i32⟩
  | 77 => ⟨S_, .i32⟩
  | 78 => ⟨S64x1, .i32⟩
  | 79 => ⟨S64x1, .i32⟩
  | 80 => ⟨S_, .i32⟩
  | 81 => ⟨S64x1, .i32⟩
  | 82 => ⟨S_, .i32⟩
  | 83 => ⟨S64x1, .i32⟩
  | 84 => ⟨S64x4, .i32⟩
  | 85 => ⟨S64x2x576x16x128, .f32⟩
  | 86 => ⟨S_, .i32⟩
  | 87 => ⟨S64, .i32⟩
  | 88 => ⟨S64, .i1⟩
  | 89 => ⟨S_, .i32⟩
  | 90 => ⟨S64, .i32⟩
  | 91 => ⟨S64, .i32⟩
  | 92 => ⟨S64, .i32⟩
  | 93 => ⟨S_, .i32⟩
  | 94 => ⟨S64x1, .i32⟩
  | 95 => ⟨S64x1, .i32⟩
  | 96 => ⟨S_, .i32⟩
  | 97 => ⟨S64x1, .i32⟩
  | 98 => ⟨S_, .i32⟩
  | 99 => ⟨S64x1, .i32⟩
  | 100 => ⟨S64x4, .i32⟩
  | 101 => ⟨S64x2x576x16x128, .f32⟩
  | 102 => ⟨S64x2x16x64x576, .f32⟩
  | 103 => ⟨S64x2x16x64x576, .f32⟩
  | 104 => ⟨S64x2x16x64x576, .f32⟩
  | 105 => ⟨S1x16x64x576, .f32⟩
  | 106 => ⟨S1x1x16x64x576, .f32⟩
  | 107 => ⟨S64x2x16x64x576, .f32⟩
  | 108 => ⟨S64x2x16x64x576, .f32⟩
  | 109 => ⟨S1x1x576, .i32⟩
  | 110 => ⟨S64x1x1, .i32⟩
  | 111 => ⟨S64x1x576, .i32⟩
  | 112 => ⟨S64x1x576, .i32⟩
  | 113 => ⟨S64x1x576, .i32⟩
  | 114 => ⟨S_, .i32⟩
  | 115 => ⟨S64x1x576, .i32⟩
  | 116 => ⟨S64x1x576, .i1⟩
  | 117 => ⟨S64x1x1x1x576, .i1⟩
  | 118 => ⟨S_, .f32⟩
  | 119 => ⟨S_, .f32⟩
  | 120 => ⟨S64x2x16x64x576, .i1⟩
  | 121 => ⟨S2x16x64x576, .f32⟩
  | 122 => ⟨S64x2x16x64x576, .f32⟩
  | 123 => ⟨S64x2x16x64x576, .f32⟩
  | 124 => ⟨S_, .f32⟩
  | 125 => ⟨S64x2x16x64, .f32⟩
  | 126 => ⟨S_, .f32⟩
  | 127 => ⟨S64x2x16x64, .f32⟩
  | _ => ⟨S9216x6144, .bf16⟩

abbrev hbmTy0_1 (i : Nat) : BufTy := match i % 128 with
  | 0 => ⟨S64x2x16x64, .f32⟩
  | 1 => ⟨S64x2x16x64x1, .f32⟩
  | 2 => ⟨S64x2x16x64x576, .f32⟩
  | 3 => ⟨S64x2x16x64x576, .f32⟩
  | 4 => ⟨S64x2x16x64x576, .f32⟩
  | 5 => ⟨S_, .f32⟩
  | 6 => ⟨S64x2x16x64, .f32⟩
  | 7 => ⟨S64x2x16x64x1, .f32⟩
  | 8 => ⟨S64x2x16x64x576, .f32⟩
  | 9 => ⟨S64x2x16x64x576, .f32⟩
  | 10 => ⟨S64x2x16x128x64, .f32⟩
  | 11 => ⟨S64x2x64x16x128, .f32⟩
  | 12 => ⟨S2x64x64x16x128, .f32⟩
  | 13 => ⟨S2x4096x2048, .f32⟩
  | 14 => ⟨S8192x2048, .f32⟩
  | 15 => ⟨S8192x2048, .bf16⟩
  | _ => ⟨S9216x6144, .bf16⟩

abbrev hbmTy (i : Nat) : BufTy := match i / 128 with
  | 0 => hbmTy0_0 i
  | 1 => hbmTy0_1 i
  | _ => ⟨S9216x6144, .bf16⟩

abbrev bufTy : (tb : Table) → Fin (tcTables nBuf tb) → BufTy
  | .hbm, ⟨i, _⟩ => hbmTy i
  | _, _ => ⟨S9216x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_c_0 : Ref sig .tc := ⟨.hbm, 13, rfl⟩
abbrev main_call1_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_c_3 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_c_9 : Ref sig .tc := ⟨.hbm, 54, rfl⟩
abbrev main_v34 : Ref sig .tc := ⟨.hbm, 55, rfl⟩
abbrev main_v35 : Ref sig .tc := ⟨.hbm, 56, rfl⟩
abbrev main_c_10 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_11 : Ref sig .tc := ⟨.hbm, 61, rfl⟩
abbrev main_v39 : Ref sig .tc := ⟨.hbm, 62, rfl⟩
abbrev main_v40 : Ref sig .tc := ⟨.hbm, 63, rfl⟩
abbrev main_c_12 : Ref sig .tc := ⟨.hbm, 64, rfl⟩
abbrev main_v41 : Ref sig .tc := ⟨.hbm, 65, rfl⟩
abbrev main_c_13 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_14 : Ref sig .tc := ⟨.hbm, 70, rfl⟩
abbrev main_v45 : Ref sig .tc := ⟨.hbm, 71, rfl⟩
abbrev main_v46 : Ref sig .tc := ⟨.hbm, 72, rfl⟩
abbrev main_c_15 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_16 : Ref sig .tc := ⟨.hbm, 77, rfl⟩
abbrev main_v50 : Ref sig .tc := ⟨.hbm, 78, rfl⟩
abbrev main_v51 : Ref sig .tc := ⟨.hbm, 79, rfl⟩
abbrev main_c_17 : Ref sig .tc := ⟨.hbm, 80, rfl⟩
abbrev main_v52 : Ref sig .tc := ⟨.hbm, 81, rfl⟩
abbrev main_c_18 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_19 : Ref sig .tc := ⟨.hbm, 86, rfl⟩
abbrev main_v56 : Ref sig .tc := ⟨.hbm, 87, rfl⟩
abbrev main_v57 : Ref sig .tc := ⟨.hbm, 88, rfl⟩
abbrev main_c_20 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_21 : Ref sig .tc := ⟨.hbm, 93, rfl⟩
abbrev main_v61 : Ref sig .tc := ⟨.hbm, 94, rfl⟩
abbrev main_v62 : Ref sig .tc := ⟨.hbm, 95, rfl⟩
abbrev main_c_22 : Ref sig .tc := ⟨.hbm, 96, rfl⟩
abbrev main_v63 : Ref sig .tc := ⟨.hbm, 97, rfl⟩
abbrev main_c_23 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_24 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_25 : Ref sig .tc := ⟨.hbm, 118, rfl⟩
abbrev main_call3_v0 : Ref sig .tc := ⟨.hbm, 119, rfl⟩
abbrev main_call3_v1 : Ref sig .tc := ⟨.hbm, 120, rfl⟩
abbrev main_call3_v2 : Ref sig .tc := ⟨.hbm, 121, rfl⟩
abbrev main_call3_v3 : Ref sig .tc := ⟨.hbm, 122, rfl⟩
abbrev main_v82 : Ref sig .tc := ⟨.hbm, 123, rfl⟩
abbrev main_cst_26 : Ref sig .tc := ⟨.hbm, 124, rfl⟩
abbrev main_v83 : Ref sig .tc := ⟨.hbm, 125, rfl⟩
abbrev main_cst_27 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_28 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩

abbrev nD : Nat := 1
abbrev τ : Topo := Topo.v7x

variable {F : FTy → Type} [FloatOps F]
-- ==== GateUp.lean ====
abbrev S8192x4096 : Shape := ⟨2, ![8192, 4096]⟩
abbrev S4096 : Shape := ⟨1, ![4096]⟩
abbrev S4096x11008 : Shape := ⟨2, ![4096, 11008]⟩
abbrev S11008x4096 : Shape := ⟨2, ![11008, 4096]⟩
abbrev S1x4096 : Shape := ⟨2, ![1, 4096]⟩
abbrev S9216x11008 : Shape := ⟨2, ![9216, 11008]⟩
abbrev S32x4096 : Shape := ⟨2, ![32, 4096]⟩
abbrev S4096x256 : Shape := ⟨2, ![4096, 256]⟩
abbrev S1024x256 : Shape := ⟨2, ![1024, 256]⟩
abbrev S1024x4096 : Shape := ⟨2, ![1024, 4096]⟩
abbrev S32 : Shape := ⟨1, ![32]⟩
abbrev S32x1 : Shape := ⟨2, ![32, 1]⟩

abbrev nBuf : Space → Nat
  | .hbm => 8
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x11008, .f32⟩
  | .hbm, ⟨3, _⟩ => ⟨S4096x11008, .f32⟩
  | .hbm, ⟨4, _⟩ => ⟨S11008x4096, .f32⟩
  | .hbm, ⟨5, _⟩ => ⟨S1x4096, .f32⟩
  | .hbm, ⟨6, _⟩ => ⟨S9216x11008, .bf16⟩
  | .hbm, ⟨7, _⟩ => ⟨S11008x4096, .bf16⟩
  | .local _ .vmem, ⟨0, _⟩ => ⟨S32x4096, .f32⟩
  | .local _ .vmem, ⟨1, _⟩ => ⟨S32x4096, .f32⟩
  | .local _ .vmem, ⟨2, _⟩ => ⟨S1x4096, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S32x4096, .f32⟩
  | .local _ .vmem, ⟨8, _⟩ => ⟨S32x4096, .f32⟩
  | .local _ .vmem, ⟨9, _⟩ => ⟨S1024x256, .bf16⟩
  | .local _ .vmem, ⟨10, _⟩ => ⟨S1024x256, .bf16⟩
  | .local _ .vmem, ⟨11, _⟩ => ⟨S32x4096, .bf16⟩
  | .local _ .vmem, ⟨12, _⟩ => ⟨S32x4096, .bf16⟩
  | .local _ .vmem, ⟨13, _⟩ => ⟨S1024x4096, .bf16⟩
  | .local _ .vmem, ⟨14, _⟩ => ⟨S1024x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![9, 43], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c32_i32_41 : BitVec 32 := 32#32
  let v78 : BitVec 1 := Scalar.cmpi .slt arg1 c32_i32_41
  let v79 : BitVec 32 := Scalar.extui v78
  let c0_i32_42 : BitVec 32 := 0#32
  let v80 : BitVec 1 := Scalar.cmpi .ne v79 c0_i32_42
  v80

def k0_mult1 (i : grid0.Coords) : BitVec 32 :=
  let arg1 : BitVec 32 := BitVec.ofNat 32 (i 1).val
  let c31_i32 : BitVec 32 := 31#32
  let v102 : BitVec 32 := Scalar.minsi arg1 c31_i32
  let c32_i32_55 : BitVec 32 := 32#32
  let v103 : BitVec 32 := Scalar.muli v102 c32_i32_55
  v103
def k0_off1 (i : grid0.Coords) : Fin 2 → Nat :=
  let arg1 : BitVec 32 := BitVec.ofNat 32 (i 1).val
  let c31_i32 : BitVec 32 := 31#32
  let v102 : BitVec 32 := Scalar.minsi arg1 c31_i32
  let c32_i32_55 : BitVec 32 := 32#32
  let v103 : BitVec 32 := Scalar.muli v102 c32_i32_55
  let v104 : BitVec 32 := v103
  let v105 : Index := Scalar.indexCast v104
  let c0_56 : Index := 0#32
  ![v105.toNat, 0]
def k0_cond3 (i : grid0.Coords) : BitVec 1 :=
  let arg0 : BitVec 32 := BitVec.ofNat 32 (i 0).val
  let c0_i32_1 : BitVec 32 := 0#32
  let v6 : BitVec 1 := Scalar.cmpi .sgt arg0 c0_i32_1
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_6 : BitVec 32 := 0#32
  let v17 : BitVec 1 := Scalar.cmpi .eq v16 c0_i32_6
  let v18 : BitVec 1 := Scalar.andi v6 v17
  let arg1 : BitVec 32 := BitVec.ofNat 32 (i 1).val
  let c32_i32 : BitVec 32 := 32#32
  let v3 : BitVec 1 := Scalar.cmpi .slt arg1 c32_i32
  let c8_i32 : BitVec 32 := 8#32
  let v4 : BitVec 1 := Scalar.cmpi .slt arg0 c8_i32
  let v5 : BitVec 1 := Scalar.andi v3 v4
  let v_true : BitVec 1 := 1#1
  let v19 : BitVec 1 := Scalar.xori v5 v_true
  let true_7 : BitVec 1 := 1#1
  let v20 : BitVec 1 := Scalar.xori v19 true_7
  let v21 : BitVec 1 := Scalar.andi v18 v20
  let v22 : BitVec 32 := Scalar.extui v21
  let c0_i32_8 : BitVec 32 := 0#32
  let v23 : BitVec 1 := Scalar.cmpi .ne v22 c0_i32_8
  v23

def k0_mult2 (i : grid0.Coords) : BitVec 32 :=
  let arg1 : BitVec 32 := BitVec.ofNat 32 (i 1).val
  let c31_i32 : BitVec 32 := 31#32
  let v94 : BitVec 32 := Scalar.minsi arg1 c31_i32
  let c32_i32_46 : BitVec 32 := 32#32
  let v95 : BitVec 32 := Scalar.muli v94 c32_i32_46
  v95
def k0_off2 (i : grid0.Coords) : Fin 2 → Nat :=
  let arg1 : BitVec 32 := BitVec.ofNat 32 (i 1).val
  let c31_i32 : BitVec 32 := 31#32
  let v94 : BitVec 32 := Scalar.minsi arg1 c31_i32
  let c32_i32_46 : BitVec 32 := 32#32
  let v95 : BitVec 32 := Scalar.muli v94 c32_i32_46
  let v96 : BitVec 32 := v95
  let v97 : Index := Scalar.indexCast v96
  let c0_47 : Index := 0#32
  ![v97.toNat, 0]
def k0_cond5 (i : grid0.Coords) : BitVec 1 :=
  let arg0 : BitVec 32 := BitVec.ofNat 32 (i 0).val
  let c0_i32_19 : BitVec 32 := 0#32
  let v42 : BitVec 1 := Scalar.cmpi .sgt arg0 c0_i32_19
  let c2_i32_20 : BitVec 32 := 2#32
  let c0_i32_21 : BitVec 32 := 0#32
  let v43 : BitVec 1 := Scalar.cmpi .eq c2_i32_20 c0_i32_21
  let c1_i32_22 : BitVec 32 := 1#32
  let v44 : BitVec 32 := Scalar.select v43 c1_i32_22 c2_i32_20
  let v45 : BitVec 32 := Scalar.remsi arg0 v44
  let c0_i32_24 : BitVec 32 := 0#32
  let v47 : BitVec 1 := Scalar.cmpi .slt v45 c0_i32_24
  let c0_i32_25 : BitVec 32 := 0#32
  let v48 : BitVec 1 := Scalar.cmpi .slt v44 c0_i32_25
  let v49 : BitVec 1 := Scalar.xori v47 v48
  let c0_i32_23 : BitVec 32 := 0#32
  let v46 : BitVec 1 := Scalar.cmpi .ne v45 c0_i32_23
  let v50 : BitVec 1 := Scalar.andi v49 v46
  let v51 : BitVec 32 := Scalar.addi v45 v44
  let v52 : BitVec 32 := Scalar.select v50 v51 v45
  let c1_i32_26 : BitVec 32 := 1#32
  let v53 : BitVec 1 := Scalar.cmpi .eq v52 c1_i32_26
  let v54 : BitVec 1 := Scalar.andi v42 v53
  let arg1 : BitVec 32 := BitVec.ofNat 32 (i 1).val
  let c32_i32 : BitVec 32 := 32#32
  let v3 : BitVec 1 := Scalar.cmpi .slt arg1 c32_i32
  let c8_i32 : BitVec 32 := 8#32
  let v4 : BitVec 1 := Scalar.cmpi .slt arg0 c8_i32
  let v5 : BitVec 1 := Scalar.andi v3 v4
  let true_27 : BitVec 1 := 1#1
  let v55 : BitVec 1 := Scalar.xori v5 true_27
  let true_28 : BitVec 1 := 1#1
  let v56 : BitVec 1 := Scalar.xori v55 true_28
  let v57 : BitVec 1 := Scalar.andi v54 v56
  let v58 : BitVec 32 := Scalar.extui v57
  let c0_i32_29 : BitVec 32 := 0#32
  let v59 : BitVec 1 := Scalar.cmpi .ne v58 c0_i32_29
  v59

def k0_mult3 (i : grid0.Coords) : BitVec 32 :=
  let arg1 : BitVec 32 := BitVec.ofNat 32 (i 1).val
  let c31_i32 : BitVec 32 := 31#32
  let v94 : BitVec 32 := Scalar.minsi arg1 c31_i32
  let c32_i32_46 : BitVec 32 := 32#32
  let v95 : BitVec 32 := Scalar.muli v94 c32_i32_46
  v95
def k0_off3 (i : grid0.Coords) : Fin 2 → Nat :=
  let arg1 : BitVec 32 := BitVec.ofNat 32 (i 1).val
  let c31_i32 : BitVec 32 := 31#32
  let v94 : BitVec 32 := Scalar.minsi arg1 c31_i32
  let c32_i32_46 : BitVec 32 := 32#32
  let v95 : BitVec 32 := Scalar.muli v94 c32_i32_46
  let v96 : BitVec 32 := v95
  let v97 : Index := Scalar.indexCast v96
  let c0_47 : Index := 0#32
  ![v97.toNat, 0]
def k0_cond4 (i : grid0.Coords) : BitVec 1 :=
  let arg0 : BitVec 32 := BitVec.ofNat 32 (i 0).val
  let c0_i32_9 : BitVec 32 := 0#32
  let v24 : BitVec 1 := Scalar.cmpi .sgt arg0 c0_i32_9
  let c2_i32_10 : BitVec 32 := 2#32
  let c0_i32_11 : BitVec 32 := 0#32
  let v25 : BitVec 1 := Scalar.cmpi .eq c2_i32_10 c0_i32_11
  let c1_i32_12 : BitVec 32 := 1#32
  let v26 : BitVec 32 := Scalar.select v25 c1_i32_12 c2_i32_10
  let v27 : BitVec 32 := Scalar.remsi arg0 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_16 : BitVec 32 := 0#32
  let v35 : BitVec 1 := Scalar.cmpi .eq v34 c0_i32_16
  let v36 : BitVec 1 := Scalar.andi v24 v35
  let arg1 : BitVec 32 := BitVec.ofNat 32 (i 1).val
  let c32_i32 : BitVec 32 := 32#32
  let v3 : BitVec 1 := Scalar.cmpi .slt arg1 c32_i32
  let c8_i32 : BitVec 32 := 8#32
  let v4 : BitVec 1 := Scalar.cmpi .slt arg0 c8_i32
  let v5 : BitVec 1 := Scalar.andi v3 v4
  let v_false : BitVec 1 := 0#1
  let v37 : BitVec 1 := Scalar.xori v5 v_false
  let true_17 : BitVec 1 := 1#1
  let v38 : BitVec 1 := Scalar.xori v37 true_17
  let v39 : BitVec 1 := Scalar.andi v36 v38
  let v40 : BitVec 32 := Scalar.extui v39
  let c0_i32_18 : BitVec 32 := 0#32
  let v41 : BitVec 1 := Scalar.cmpi .ne v40 c0_i32_18
  v41

def k0_cond6 (i : grid0.Coords) : BitVec 1 :=
  let arg0 : BitVec 32 := BitVec.ofNat 32 (i 0).val
  let c0_i32_30 : BitVec 32 := 0#32
  let v60 : BitVec 1 := Scalar.cmpi .sgt arg0 c0_i32_30
  let c2_i32_31 : BitVec 32 := 2#32
  let c0_i32_32 : BitVec 32 := 0#32
  let v61 : BitVec 1 := Scalar.cmpi .eq c2_i32_31 c0_i32_32
  let c1_i32_33 : BitVec 32 := 1#32
  let v62 : BitVec 32 := Scalar.select v61 c1_i32_33 c2_i32_31
  let v63 : BitVec 32 := Scalar.remsi arg0 v62
  let c0_i32_35 : BitVec 32 := 0#32
  let v65 : BitVec 1 := Scalar.cmpi .slt v63 c0_i32_35
  let c0_i32_36 : BitVec 32 := 0#32
  let v66 : BitVec 1 := Scalar.cmpi .slt v62 c0_i32_36
  let v67 : BitVec 1 := Scalar.xori v65 v66
  let c0_i32_34 : BitVec 32 := 0#32
  let v64 : BitVec 1 := Scalar.cmpi .ne v63 c0_i32_34
  let v68 : BitVec 1 := Scalar.andi v67 v64
  let v69 : BitVec 32 := Scalar.addi v63 v62
  let v70 : BitVec 32 := Scalar.select v68 v69 v63
  let c1_i32_37 : BitVec 32 := 1#32
  let v71 : BitVec 1 := Scalar.cmpi .eq v70 c1_i32_37
  let v72 : BitVec 1 := Scalar.andi v60 v71
  let arg1 : BitVec 32 := BitVec.ofNat 32 (i 1).val
  let c32_i32 : BitVec 32 := 32#32
  let v3 : BitVec 1 := Scalar.cmpi .slt arg1 c32_i32
  let c8_i32 : BitVec 32 := 8#32
  let v4 : BitVec 1 := Scalar.cmpi .slt arg0 c8_i32
  let v5 : BitVec 1 := Scalar.andi v3 v4
  let false_38 : BitVec 1 := 0#1
  let v73 : BitVec 1 := Scalar.xori v5 false_38
  let true_39 : BitVec 1 := 1#1
  let v74 : BitVec 1 := Scalar.xori v73 true_39
  let v75 : BitVec 1 := Scalar.andi v72 v74
  let v76 : BitVec 32 := Scalar.extui v75
  let c0_i32_40 : BitVec 32 := 0#32
  let v77 : BitVec 1 := Scalar.cmpi .ne v76 c0_i32_40
  v77

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c32_i32 : BitVec 32 := 32#32
  let v1 : BitVec 32 := Scalar.muli arg0 c32_i32
  let c31_i32 : BitVec 32 := 31#32
  let v2 : BitVec 32 := Scalar.minsi arg1 c31_i32
  let v3 : BitVec 32 := Scalar.addi v1 v2
  let c255_i32 : BitVec 32 := 255#32
  let v4 : BitVec 32 := Scalar.select v0 v3 c255_i32
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_4 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c343_i32 : BitVec 32 := 343#32
  let v2 : BitVec 32 := Scalar.minsi v1 c343_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c1_i32 : BitVec 32 := 1#32
  let v1 : BitVec 32 := Scalar.subi arg0 c1_i32
  let c8_i32 : BitVec 32 := 8#32
  let v2 : BitVec 32 := Scalar.select v0 v1 c8_i32
  let c0_i32_0 : BitVec 32 := 0#32
  ![v2.toNat, arg1.toNat]

def cc0_transform_6 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c343_i32 : BitVec 32 := 343#32
  let v2 : BitVec 32 := Scalar.minsi v1 c343_i32
  let c0_i32 : BitVec 32 := 0#32
  let c0_i32_0 : BitVec 32 := 0#32
  ![v2.toNat, c0_i32.toNat]

abbrev stage0_0 : Fin 2 → Memref sig .tc .vmem S32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GateUpReferenceIdeal.lean ====
abbrev S8192x4096 : Shape := ⟨2, ![8192, 4096]⟩
abbrev S4096 : Shape := ⟨1, ![4096]⟩
abbrev S4096x11008 : Shape := ⟨2, ![4096, 11008]⟩
abbrev S11008x4096 : Shape := ⟨2, ![11008, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x11008 : Shape := ⟨2, ![8192, 11008]⟩
abbrev S9216x11008 : Shape := ⟨2, ![9216, 11008]⟩

abbrev nBuf : Space → Nat
  | .hbm => 38
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x11008, .f32⟩
  | .hbm, ⟨3, _⟩ => ⟨S4096x11008, .f32⟩
  | .hbm, ⟨4, _⟩ => ⟨S11008x4096, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S8192x11008, .f32⟩
  | .hbm, ⟨22, _⟩ => ⟨S8192x11008, .f32⟩
  | .hbm, ⟨23, _⟩ => ⟨S8192x11008, .f32⟩
  | .hbm, ⟨24, _⟩ => ⟨S_, .f32⟩
  | .hbm, ⟨25, _⟩ => ⟨S8192x11008, .f32⟩
  | .hbm, ⟨26, _⟩ => ⟨S8192x11008, .f32⟩
  | .hbm, ⟨27, _⟩ => ⟨S_, .f32⟩
  | .hbm, ⟨28, _⟩ => ⟨S8192x11008, .f32⟩
  | .hbm, ⟨29, _⟩ => ⟨S8192x11008, .f32⟩
  | .hbm, ⟨30, _⟩ => ⟨S8192x11008, .f32⟩
  | .hbm, ⟨31, _⟩ => ⟨S8192x11008, .f32⟩
  | .hbm, ⟨32, _⟩ => ⟨S8192x11008, .f32⟩
  | .hbm, ⟨33, _⟩ => ⟨S_, .i32⟩
  | .hbm, ⟨34, _⟩ => ⟨S_, .f32⟩
  | .hbm, ⟨35, _⟩ => ⟨S9216x11008, .f32⟩
  | .hbm, ⟨36, _⟩ => ⟨S9216x11008, .bf16⟩
  | .hbm, ⟨37, _⟩ => ⟨S11008x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_call1_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩

abbrev nD : Nat := 1
abbrev τ : Topo := Topo.v7x

variable {F : FTy → Type} [FloatOps F]
-- ==== ResGateUp.lean ====
abbrev S8192x4096 : Shape := ⟨2, ![8192, 4096]⟩
abbrev S9216x4096 : Shape := ⟨2, ![9216, 4096]⟩
abbrev S4096 : Shape := ⟨1, ![4096]⟩
abbrev S4096x11008 : Shape := ⟨2, ![4096, 11008]⟩
abbrev S11008x4096 : Shape := ⟨2, ![11008, 4096]⟩
abbrev S1x4096 : Shape := ⟨2, ![1, 4096]⟩
abbrev S9216x11008 : Shape := ⟨2, ![9216, 11008]⟩
abbrev S32x4096 : Shape := ⟨2, ![32, 4096]⟩
abbrev S4096x256 : Shape := ⟨2, ![4096, 256]⟩
abbrev S1024x256 : Shape := ⟨2, ![1024, 256]⟩
abbrev S1024x4096 : Shape := ⟨2, ![1024, 4096]⟩
abbrev S32 : Shape := ⟨1, ![32]⟩
abbrev S32x1 : Shape := ⟨2, ![32, 1]⟩

abbrev nBuf : Space → Nat
  | .hbm => 12
  | .vmem => 20
  | .smem => 0
  | _ => 0

abbrev bufTy : (tb : Table) → Fin (tcTables nBuf tb) → BufTy
  | .hbm, ⟨0, _⟩ => ⟨S8192x4096, .f32⟩
  | .hbm, ⟨1, _⟩ => ⟨S9216x4096, .bf16⟩
  | .hbm, ⟨2, _⟩ => ⟨S4096, .f32⟩
  | .hbm, ⟨3, _⟩ => ⟨S4096, .f32⟩
  | .hbm, ⟨4, _⟩ => ⟨S4096x11008, .f32⟩
  | .hbm, ⟨5, _⟩ => ⟨S4096x11008, .f32⟩
  | .hbm, ⟨6, _⟩ => ⟨S11008x4096, .f32⟩
  | .hbm, ⟨7, _⟩ => ⟨S1x4096, .f32⟩
  | .hbm, ⟨8, _⟩ => ⟨S1x4096, .f32⟩
  | .hbm, ⟨9, _⟩ => ⟨S8192x4096, .f32⟩
  | .hbm, ⟨10, _⟩ => ⟨S9216x11008, .bf16⟩
  | .hbm, ⟨11, _⟩ => ⟨S11008x4096, .bf16⟩
  | .local _ .vmem, ⟨0, _⟩ => ⟨S32x4096, .f32⟩
  | .local _ .vmem, ⟨1, _⟩ => ⟨S32x4096, .f32⟩
  | .local _ .vmem, ⟨2, _⟩ => ⟨S32x4096, .bf16⟩
  | .local _ .vmem, ⟨3, _⟩ => ⟨S32x4096, .bf16⟩
  | .local _ .vmem, ⟨4, _⟩ => ⟨S1x4096, .f32⟩
  | .local _ .vmem, ⟨5, _⟩ => ⟨S1x4096, .f32⟩
  | .local _ .vmem, ⟨6, _⟩ => ⟨S4096x256, .f32⟩
  | .local _ .vmem, ⟨7, _⟩ => ⟨S4096x256, .f32⟩
  | .local _ .vmem, ⟨8, _⟩ => ⟨S4096x256, .f32⟩
  | .local _ .vmem, ⟨9, _⟩ => ⟨S4096x256, .f32⟩
  | .local _ .vmem, ⟨10, _⟩ => ⟨S32x4096, .f32⟩
  | .local _ .vmem, ⟨11, _⟩ => ⟨S32x4096, .f32⟩
  | .local _ .vmem, ⟨12, _⟩ => ⟨S32x4096, .f32⟩
  | .local _ .vmem, ⟨13, _⟩ => ⟨S32x4096, .f32⟩
  | .local _ .vmem, ⟨14, _⟩ => ⟨S1024x256, .bf16⟩
  | .local _ .vmem, ⟨15, _⟩ => ⟨S1024x256, .bf16⟩
  | .local _ .vmem, ⟨16, _⟩ => ⟨S32x4096, .bf16⟩
  | .local _ .vmem, ⟨17, _⟩ => ⟨S32x4096, .bf16⟩
  | .local _ .vmem, ⟨18, _⟩ => ⟨S1024x4096, .bf16⟩
  | .local _ .vmem, ⟨19, _⟩ => ⟨S1024x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![9, 43], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c32_i32_41 : BitVec 32 := 32#32
  let v78 : BitVec 1 := Scalar.cmpi .slt arg1 c32_i32_41
  let v79 : BitVec 32 := Scalar.extui v78
  let c0_i32_42 : BitVec 32 := 0#32
  let v80 : BitVec 1 := Scalar.cmpi .ne v79 c0_i32_42
  v80

def k0_mult1 (i : grid0.Coords) : BitVec 32 :=
  let arg1 : BitVec 32 := BitVec.ofNat 32 (i 1).val
  let c31_i32 : BitVec 32 := 31#32
  let v122 : BitVec 32 := Scalar.minsi arg1 c31_i32
  let c32_i32_65 : BitVec 32 := 32#32
  let v123 : BitVec 32 := Scalar.muli v122 c32_i32_65
  v123
def k0_off1 (i : grid0.Coords) : Fin 2 → Nat :=
  let arg1 : BitVec 32 := BitVec.ofNat 32 (i 1).val
  let c31_i32 : BitVec 32 := 31#32
  let v122 : BitVec 32 := Scalar.minsi arg1 c31_i32
  let c32_i32_65 : BitVec 32 := 32#32
  let v123 : BitVec 32 := Scalar.muli v122 c32_i32_65
  let v124 : BitVec 32 := v123
  let v125 : Index := Scalar.indexCast v124
  let c0_66 : Index := 0#32
  ![v125.toNat, 0]
def k0_cond3 (i : grid0.Coords) : BitVec 1 :=
  let arg0 : BitVec 32 := BitVec.ofNat 32 (i 0).val
  let c0_i32_1 : BitVec 32 := 0#32
  let v6 : BitVec 1 := Scalar.cmpi .sgt arg0 c0_i32_1
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_6 : BitVec 32 := 0#32
  let v17 : BitVec 1 := Scalar.cmpi .eq v16 c0_i32_6
  let v18 : BitVec 1 := Scalar.andi v6 v17
  let arg1 : BitVec 32 := BitVec.ofNat 32 (i 1).val
  let c32_i32 : BitVec 32 := 32#32
  let v3 : BitVec 1 := Scalar.cmpi .slt arg1 c32_i32
  let c8_i32 : BitVec 32 := 8#32
  let v4 : BitVec 1 := Scalar.cmpi .slt arg0 c8_i32
  let v5 : BitVec 1 := Scalar.andi v3 v4
  let v_true : BitVec 1 := 1#1
  let v19 : BitVec 1 := Scalar.xori v5 v_true
  let true_7 : BitVec 1 := 1#1
  let v20 : BitVec 1 := Scalar.xori v19 true_7
  let v21 : BitVec 1 := Scalar.andi v18 v20
  let v22 : BitVec 32 := Scalar.extui v21
  let c0_i32_8 : BitVec 32 := 0#32
  let v23 : BitVec 1 := Scalar.cmpi .ne v22 c0_i32_8
  v23

def k0_mult2 (i : grid0.Coords) : BitVec 32 :=
  let arg1 : BitVec 32 := BitVec.ofNat 32 (i 1).val
  let c31_i32 : BitVec 32 := 31#32
  let v114 : BitVec 32 := Scalar.minsi arg1 c31_i32
  let c32_i32_56 : BitVec 32 := 32#32
  let v115 : BitVec 32 := Scalar.muli v114 c32_i32_56
  v115
def k0_off2 (i : grid0.Coords) : Fin 2 → Nat :=
  let arg1 : BitVec 32 := BitVec.ofNat 32 (i 1).val
  let c31_i32 : BitVec 32 := 31#32
  let v114 : BitVec 32 := Scalar.minsi arg1 c31_i32
  let c32_i32_56 : BitVec 32 := 32#32
  let v115 : BitVec 32 := Scalar.muli v114 c32_i32_56
  let v116 : BitVec 32 := v115
  let v117 : Index := Scalar.indexCast v116
  let c0_57 : Index := 0#32
  ![v117.toNat, 0]
def k0_cond5 (i : grid0.Coords) : BitVec 1 :=
  let arg0 : BitVec 32 := BitVec.ofNat 32 (i 0).val
  let c0_i32_19 : BitVec 32 := 0#32
  let v42 : BitVec 1 := Scalar.cmpi .sgt arg0 c0_i32_19
  let c2_i32_20 : BitVec 32 := 2#32
  let c0_i32_21 : BitVec 32 := 0#32
  let v43 : BitVec 1 := Scalar.cmpi .eq c2_i32_20 c0_i32_21
  let c1_i32_22 : BitVec 32 := 1#32
  let v44 : BitVec 32 := Scalar.select v43 c1_i32_22 c2_i32_20
  let v45 : BitVec 32 := Scalar.remsi arg0 v44
  let c0_i32_24 : BitVec 32 := 0#32
  let v47 : BitVec 1 := Scalar.cmpi .slt v45 c0_i32_24
  let c0_i32_25 : BitVec 32 := 0#32
  let v48 : BitVec 1 := Scalar.cmpi .slt v44 c0_i32_25
  let v49 : BitVec 1 := Scalar.xori v47 v48
  let c0_i32_23 : BitVec 32 := 0#32
  let v46 : BitVec 1 := Scalar.cmpi .ne v45 c0_i32_23
  let v50 : BitVec 1 := Scalar.andi v49 v46
  let v51 : BitVec 32 := Scalar.addi v45 v44
  let v52 : BitVec 32 := Scalar.select v50 v51 v45
  let c1_i32_26 : BitVec 32 := 1#32
  let v53 : BitVec 1 := Scalar.cmpi .eq v52 c1_i32_26
  let v54 : BitVec 1 := Scalar.andi v42 v53
  let arg1 : BitVec 32 := BitVec.ofNat 32 (i 1).val
  let c32_i32 : BitVec 32 := 32#32
  let v3 : BitVec 1 := Scalar.cmpi .slt arg1 c32_i32
  let c8_i32 : BitVec 32 := 8#32
  let v4 : BitVec 1 := Scalar.cmpi .slt arg0 c8_i32
  let v5 : BitVec 1 := Scalar.andi v3 v4
  let true_27 : BitVec 1 := 1#1
  let v55 : BitVec 1 := Scalar.xori v5 true_27
  let true_28 : BitVec 1 := 1#1
  let v56 : BitVec 1 := Scalar.xori v55 true_28
  let v57 : BitVec 1 := Scalar.andi v54 v56
  let v58 : BitVec 32 := Scalar.extui v57
  let c0_i32_29 : BitVec 32 := 0#32
  let v59 : BitVec 1 := Scalar.cmpi .ne v58 c0_i32_29
  v59

def k0_mult3 (i : grid0.Coords) : BitVec 32 :=
  let arg1 : BitVec 32 := BitVec.ofNat 32 (i 1).val
  let c31_i32 : BitVec 32 := 31#32
  let v114 : BitVec 32 := Scalar.minsi arg1 c31_i32
  let c32_i32_56 : BitVec 32 := 32#32
  let v115 : BitVec 32 := Scalar.muli v114 c32_i32_56
  v115
def k0_off3 (i : grid0.Coords) : Fin 2 → Nat :=
  let arg1 : BitVec 32 := BitVec.ofNat 32 (i 1).val
  let c31_i32 : BitVec 32 := 31#32
  let v114 : BitVec 32 := Scalar.minsi arg1 c31_i32
  let c32_i32_56 : BitVec 32 := 32#32
  let v115 : BitVec 32 := Scalar.muli v114 c32_i32_56
  let v116 : BitVec 32 := v115
  let v117 : Index := Scalar.indexCast v116
  let c0_57 : Index := 0#32
  ![v117.toNat, 0]
def k0_cond4 (i : grid0.Coords) : BitVec 1 :=
  let arg0 : BitVec 32 := BitVec.ofNat 32 (i 0).val
  let c0_i32_9 : BitVec 32 := 0#32
  let v24 : BitVec 1 := Scalar.cmpi .sgt arg0 c0_i32_9
  let c2_i32_10 : BitVec 32 := 2#32
  let c0_i32_11 : BitVec 32 := 0#32
  let v25 : BitVec 1 := Scalar.cmpi .eq c2_i32_10 c0_i32_11
  let c1_i32_12 : BitVec 32 := 1#32
  let v26 : BitVec 32 := Scalar.select v25 c1_i32_12 c2_i32_10
  let v27 : BitVec 32 := Scalar.remsi arg0 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_16 : BitVec 32 := 0#32
  let v35 : BitVec 1 := Scalar.cmpi .eq v34 c0_i32_16
  let v36 : BitVec 1 := Scalar.andi v24 v35
  let arg1 : BitVec 32 := BitVec.ofNat 32 (i 1).val
  let c32_i32 : BitVec 32 := 32#32
  let v3 : BitVec 1 := Scalar.cmpi .slt arg1 c32_i32
  let c8_i32 : BitVec 32 := 8#32
  let v4 : BitVec 1 := Scalar.cmpi .slt arg0 c8_i32
  let v5 : BitVec 1 := Scalar.andi v3 v4
  let v_false : BitVec 1 := 0#1
  let v37 : BitVec 1 := Scalar.xori v5 v_false
  let true_17 : BitVec 1 := 1#1
  let v38 : BitVec 1 := Scalar.xori v37 true_17
  let v39 : BitVec 1 := Scalar.andi v36 v38
  let v40 : BitVec 32 := Scalar.extui v39
  let c0_i32_18 : BitVec 32 := 0#32
  let v41 : BitVec 1 := Scalar.cmpi .ne v40 c0_i32_18
  v41

def k0_cond6 (i : grid0.Coords) : BitVec 1 :=
  let arg0 : BitVec 32 := BitVec.ofNat 32 (i 0).val
  let c0_i32_30 : BitVec 32 := 0#32
  let v60 : BitVec 1 := Scalar.cmpi .sgt arg0 c0_i32_30
  let c2_i32_31 : BitVec 32 := 2#32
  let c0_i32_32 : BitVec 32 := 0#32
  let v61 : BitVec 1 := Scalar.cmpi .eq c2_i32_31 c0_i32_32
  let c1_i32_33 : BitVec 32 := 1#32
  let v62 : BitVec 32 := Scalar.select v61 c1_i32_33 c2_i32_31
  let v63 : BitVec 32 := Scalar.remsi arg0 v62
  let c0_i32_35 : BitVec 32 := 0#32
  let v65 : BitVec 1 := Scalar.cmpi .slt v63 c0_i32_35
  let c0_i32_36 : BitVec 32 := 0#32
  let v66 : BitVec 1 := Scalar.cmpi .slt v62 c0_i32_36
  let v67 : BitVec 1 := Scalar.xori v65 v66
  let c0_i32_34 : BitVec 32 := 0#32
  let v64 : BitVec 1 := Scalar.cmpi .ne v63 c0_i32_34
  let v68 : BitVec 1 := Scalar.andi v67 v64
  let v69 : BitVec 32 := Scalar.addi v63 v62
  let v70 : BitVec 32 := Scalar.select v68 v69 v63
  let c1_i32_37 : BitVec 32 := 1#32
  let v71 : BitVec 1 := Scalar.cmpi .eq v70 c1_i32_37
  let v72 : BitVec 1 := Scalar.andi v60 v71
  let arg1 : BitVec 32 := BitVec.ofNat 32 (i 1).val
  let c32_i32 : BitVec 32 := 32#32
  let v3 : BitVec 1 := Scalar.cmpi .slt arg1 c32_i32
  let c8_i32 : BitVec 32 := 8#32
  let v4 : BitVec 1 := Scalar.cmpi .slt arg0 c8_i32
  let v5 : BitVec 1 := Scalar.andi v3 v4
  let false_38 : BitVec 1 := 0#1
  let v73 : BitVec 1 := Scalar.xori v5 false_38
  let true_39 : BitVec 1 := 1#1
  let v74 : BitVec 1 := Scalar.xori v73 true_39
  let v75 : BitVec 1 := Scalar.andi v72 v74
  let v76 : BitVec 32 := Scalar.extui v75
  let c0_i32_40 : BitVec 32 := 0#32
  let v77 : BitVec 1 := Scalar.cmpi .ne v76 c0_i32_40
  v77

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c32_i32 : BitVec 32 := 32#32
  let v1 : BitVec 32 := Scalar.muli arg0 c32_i32
  let c31_i32 : BitVec 32 := 31#32
  let v2 : BitVec 32 := Scalar.minsi arg1 c31_i32
  let v3 : BitVec 32 := Scalar.addi v1 v2
  let c255_i32 : BitVec 32 := 255#32
  let v4 : BitVec 32 := Scalar.select v0 v3 c255_i32
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c32_i32 : BitVec 32 := 32#32
  let v1 : BitVec 32 := Scalar.muli arg0 c32_i32
  let c31_i32 : BitVec 32 := 31#32
  let v2 : BitVec 32 := Scalar.minsi arg1 c31_i32
  let v3 : BitVec 32 := Scalar.addi v1 v2
  let c255_i32 : BitVec 32 := 255#32
  let v4 : BitVec 32 := Scalar.select v0 v3 c255_i32
  let c0_i32 : BitVec 32 := 0#32
  let c0_i32_0 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_6 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c343_i32 : BitVec 32 := 343#32
  let v2 : BitVec 32 := Scalar.minsi v1 c343_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c32_i32 : BitVec 32 := 32#32
  let v1 : BitVec 32 := Scalar.muli arg0 c32_i32
  let c31_i32 : BitVec 32 := 31#32
  let v2 : BitVec 32 := Scalar.minsi arg1 c31_i32
  let v3 : BitVec 32 := Scalar.addi v1 v2
  let c255_i32 : BitVec 32 := 255#32
  let v4 : BitVec 32 := Scalar.select v0 v3 c255_i32
  let c0_i32 : BitVec 32 := 0#32
  let c0_i32_0 : BitVec 32 := 0#32
  ![v4.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c1_i32 : BitVec 32 := 1#32
  let v1 : BitVec 32 := Scalar.subi arg0 c1_i32
  let c8_i32 : BitVec 32 := 8#32
  let v2 : BitVec 32 := Scalar.select v0 v1 c8_i32
  let c0_i32_0 : BitVec 32 := 0#32
  ![v2.toNat, arg1.toNat]

def cc0_transform_9 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c343_i32 : BitVec 32 := 343#32
  let v2 : BitVec 32 := Scalar.minsi v1 c343_i32
  let c0_i32 : BitVec 32 := 0#32
  let c0_i32_0 : BitVec 32 := 0#32
  ![v2.toNat, c0_i32.toNat]

abbrev stage0_0 : Fin 2 → Memref sig .tc .vmem S32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ResGateUpReferenceIdeal.lean ====
abbrev S8192x4096 : Shape := ⟨2, ![8192, 4096]⟩
abbrev S9216x4096 : Shape := ⟨2, ![9216, 4096]⟩
abbrev S4096 : Shape := ⟨1, ![4096]⟩
abbrev S4096x11008 : Shape := ⟨2, ![4096, 11008]⟩
abbrev S11008x4096 : Shape := ⟨2, ![11008, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x11008 : Shape := ⟨2, ![8192, 11008]⟩
abbrev S9216x11008 : Shape := ⟨2, ![9216, 11008]⟩

abbrev nBuf : Space → Nat
  | .hbm => 59
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S9216x4096, .bf16⟩
  | .hbm, ⟨2, _⟩ => ⟨S4096, .f32⟩
  | .hbm, ⟨3, _⟩ => ⟨S4096, .f32⟩
  | .hbm, ⟨4, _⟩ => ⟨S4096x11008, .f32⟩
  | .hbm, ⟨5, _⟩ => ⟨S4096x11008, .f32⟩
  | .hbm, ⟨6, _⟩ => ⟨S11008x4096, .f32⟩
  | .hbm, ⟨7, _⟩ => ⟨S8192x4096, .bf16⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x4096, .f32⟩
  | .hbm, ⟨21, _⟩ => ⟨S8192x4096, .f32⟩
  | .hbm, ⟨22, _⟩ => ⟨S1x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x4096, .f32⟩
  | .hbm, ⟨38, _⟩ => ⟨S8192x4096, .f32⟩
  | .hbm, ⟨39, _⟩ => ⟨S1x4096, .f32⟩
  | .hbm, ⟨40, _⟩ => ⟨S8192x4096, .f32⟩
  | .hbm, ⟨41, _⟩ => ⟨S8192x4096, .f32⟩
  | .hbm, ⟨42, _⟩ => ⟨S8192x11008, .f32⟩
  | .hbm, ⟨43, _⟩ => ⟨S8192x11008, .f32⟩
  | .hbm, ⟨44, _⟩ => ⟨S8192x11008, .f32⟩
  | .hbm, ⟨45, _⟩ => ⟨S_, .f32⟩
  | .hbm, ⟨46, _⟩ => ⟨S8192x11008, .f32⟩
  | .hbm, ⟨47, _⟩ => ⟨S8192x11008, .f32⟩
  | .hbm, ⟨48, _⟩ => ⟨S_, .f32⟩
  | .hbm, ⟨49, _⟩ => ⟨S8192x11008, .f32⟩
  | .hbm, ⟨50, _⟩ => ⟨S8192x11008, .f32⟩
  | .hbm, ⟨51, _⟩ => ⟨S8192x11008, .f32⟩
  | .hbm, ⟨52, _⟩ => ⟨S8192x11008, .f32⟩
  | .hbm, ⟨53, _⟩ => ⟨S8192x11008, .f32⟩
  | .hbm, ⟨54, _⟩ => ⟨S_, .i32⟩
  | .hbm, ⟨55, _⟩ => ⟨S_, .f32⟩
  | .hbm, ⟨56, _⟩ => ⟨S9216x11008, .f32⟩
  | .hbm, ⟨57, _⟩ => ⟨S9216x11008, .bf16⟩
  | .hbm, ⟨58, _⟩ => ⟨S11008x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c : Ref sig .tc := ⟨.hbm, 54, rfl⟩
abbrev main_call1_v0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩

abbrev nD : Nat := 1
abbrev τ : Topo := Topo.v7x

variable {F : FTy → Type} [FloatOps F]
-- ==== InProj.lean ====
abbrev S8192x4096 : Shape := ⟨2, ![8192, 4096]⟩
abbrev S4096 : Shape := ⟨1, ![4096]⟩
abbrev S4096x10240 : Shape := ⟨2, ![4096, 10240]⟩
abbrev S1x4096 : Shape := ⟨2, ![1, 4096]⟩
abbrev S9216x6144 : Shape := ⟨2, ![9216, 6144]⟩
abbrev S9216x4096 : Shape := ⟨2, ![9216, 4096]⟩
abbrev S64x4096 : Shape := ⟨2, ![64, 4096]⟩
abbrev S4096x512 : Shape := ⟨2, ![4096, 512]⟩
abbrev S1024x512 : Shape := ⟨2, ![1024, 512]⟩
abbrev S1024x4096 : Shape := ⟨2, ![1024, 4096]⟩
abbrev S64 : Shape := ⟨1, ![64]⟩
abbrev S64x1 : Shape := ⟨2, ![64, 1]⟩

abbrev nBuf : Space → Nat
  | .hbm => 10
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S4096, .f32⟩
  | .hbm, ⟨3, _⟩ => ⟨S4096, .f32⟩
  | .hbm, ⟨4, _⟩ => ⟨S4096x10240, .f32⟩
  | .hbm, ⟨5, _⟩ => ⟨S1x4096, .f32⟩
  | .hbm, ⟨6, _⟩ => ⟨S1x4096, .f32⟩
  | .hbm, ⟨7, _⟩ => ⟨S8192x4096, .f32⟩
  | .hbm, ⟨8, _⟩ => ⟨S9216x6144, .bf16⟩
  | .hbm, ⟨9, _⟩ => ⟨S9216x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .bf16⟩
  | .local _ .vmem, ⟨3, _⟩ => ⟨S64x4096, .bf16⟩
  | .local _ .vmem, ⟨4, _⟩ => ⟨S1x4096, .f32⟩
  | .local _ .vmem, ⟨5, _⟩ => ⟨S1x4096, .f32⟩
  | .local _ .vmem, ⟨6, _⟩ => ⟨S4096x512, .f32⟩
  | .local _ .vmem, ⟨7, _⟩ => ⟨S4096x512, .f32⟩
  | .local _ .vmem, ⟨8, _⟩ => ⟨S64x4096, .f32⟩
  | .local _ .vmem, ⟨9, _⟩ => ⟨S64x4096, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | .local _ .vmem, ⟨13, _⟩ => ⟨S1024x512, .f32⟩
  | .local _ .vmem, ⟨14, _⟩ => ⟨S1024x4096, .bf16⟩
  | .local _ .vmem, ⟨15, _⟩ => ⟨S1024x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![9, 20], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c16_i32_41 : BitVec 32 := 16#32
  let v78 : BitVec 1 := Scalar.cmpi .slt arg1 c16_i32_41
  let v79 : BitVec 32 := Scalar.extui v78
  let c0_i32_42 : BitVec 32 := 0#32
  let v80 : BitVec 1 := Scalar.cmpi .ne v79 c0_i32_42
  v80

def k0_mult1 (i : grid0.Coords) : BitVec 32 :=
  let arg1 : BitVec 32 := BitVec.ofNat 32 (i 1).val
  let c15_i32 : BitVec 32 := 15#32
  let v121 : BitVec 32 := Scalar.minsi arg1 c15_i32
  let c64_i32 : BitVec 32 := 64#32
  let v122 : BitVec 32 := Scalar.muli v121 c64_i32
  v122
def k0_off1 (i : grid0.Coords) : Fin 2 → Nat :=
  let arg1 : BitVec 32 := BitVec.ofNat 32 (i 1).val
  let c15_i32 : BitVec 32 := 15#32
  let v121 : BitVec 32 := Scalar.minsi arg1 c15_i32
  let c64_i32 : BitVec 32 := 64#32
  let v122 : BitVec 32 := Scalar.muli v121 c64_i32
  let v123 : BitVec 32 := v122
  let v124 : Index := Scalar.indexCast v123
  let c0_64 : Index := 0#32
  ![v124.toNat, 0]
def k0_cond3 (i : grid0.Coords) : BitVec 1 :=
  let arg0 : BitVec 32 := BitVec.ofNat 32 (i 0).val
  let c0_i32_1 : BitVec 32 := 0#32
  let v6 : BitVec 1 := Scalar.cmpi .sgt arg0 c0_i32_1
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_6 : BitVec 32 := 0#32
  let v17 : BitVec 1 := Scalar.cmpi .eq v16 c0_i32_6
  let v18 : BitVec 1 := Scalar.andi v6 v17
  let arg1 : BitVec 32 := BitVec.ofNat 32 (i 1).val
  let c16_i32 : BitVec 32 := 16#32
  let v3 : BitVec 1 := Scalar.cmpi .slt arg1 c16_i32
  let c8_i32 : BitVec 32 := 8#32
  let v4 : BitVec 1 := Scalar.cmpi .slt arg0 c8_i32
  let v5 : BitVec 1 := Scalar.andi v3 v4
  let v_true : BitVec 1 := 1#1
  let v19 : BitVec 1 := Scalar.xori v5 v_true
  let true_7 : BitVec 1 := 1#1
  let v20 : BitVec 1 := Scalar.xori v19 true_7
  let v21 : BitVec 1 := Scalar.andi v18 v20
  let v22 : BitVec 32 := Scalar.extui v21
  let c0_i32_8 : BitVec 32 := 0#32
  let v23 : BitVec 1 := Scalar.cmpi .ne v22 c0_i32_8
  v23

def k0_cond4 (i : grid0.Coords) : BitVec 1 :=
  let arg1 : BitVec 32 := BitVec.ofNat 32 (i 1).val
  let c12_i32 : BitVec 32 := 12#32
  let v78 : BitVec 1 := Scalar.cmpi .slt arg1 c12_i32
  let v79 : BitVec 32 := Scalar.extui v78
  let c0_i32_41 : BitVec 32 := 0#32
  let v80 : BitVec 1 := Scalar.cmpi .ne v79 c0_i32_41
  v80

def k0_mult2 (i : grid0.Coords) : BitVec 32 :=
  let arg1 : BitVec 32 := BitVec.ofNat 32 (i 1).val
  let c15_i32 : BitVec 32 := 15#32
  let v120 : BitVec 32 := Scalar.minsi arg1 c15_i32
  let c64_i32 : BitVec 32 := 64#32
  let v121 : BitVec 32 := Scalar.muli v120 c64_i32
  v121
def k0_off2 (i : grid0.Coords) : Fin 2 → Nat :=
  let arg1 : BitVec 32 := BitVec.ofNat 32 (i 1).val
  let c15_i32 : BitVec 32 := 15#32
  let v120 : BitVec 32 := Scalar.minsi arg1 c15_i32
  let c64_i32 : BitVec 32 := 64#32
  let v121 : BitVec 32 := Scalar.muli v120 c64_i32
  let v122 : BitVec 32 := v121
  let v123 : Index := Scalar.indexCast v122
  let c0_59 : Index := 0#32
  ![v123.toNat, 0]
def k0_cond5 (i : grid0.Coords) : BitVec 1 :=
  let arg1 : BitVec 32 := BitVec.ofNat 32 (i 1).val
  let c12_i32_42 : BitVec 32 := 12#32
  let v81 : BitVec 1 := Scalar.cmpi .sge arg1 c12_i32_42
  let v82 : BitVec 32 := Scalar.extui v81
  let c0_i32_43 : BitVec 32 := 0#32
  let v83 : BitVec 1 := Scalar.cmpi .ne v82 c0_i32_43
  v83

def k0_mult3 (i : grid0.Coords) : BitVec 32 :=
  let arg1 : BitVec 32 := BitVec.ofNat 32 (i 1).val
  let c15_i32 : BitVec 32 := 15#32
  let v120 : BitVec 32 := Scalar.minsi arg1 c15_i32
  let c64_i32 : BitVec 32 := 64#32
  let v121 : BitVec 32 := Scalar.muli v120 c64_i32
  v121
def k0_off3 (i : grid0.Coords) : Fin 2 → Nat :=
  let arg1 : BitVec 32 := BitVec.ofNat 32 (i 1).val
  let c15_i32 : BitVec 32 := 15#32
  let v120 : BitVec 32 := Scalar.minsi arg1 c15_i32
  let c64_i32 : BitVec 32 := 64#32
  let v121 : BitVec 32 := Scalar.muli v120 c64_i32
  let v122 : BitVec 32 := v121
  let v123 : Index := Scalar.indexCast v122
  let c0_59 : Index := 0#32
  ![v123.toNat, 0]
def k0_cond9 (i : grid0.Coords) : BitVec 1 :=
  let arg0 : BitVec 32 := BitVec.ofNat 32 (i 0).val
  let c0_i32_19 : BitVec 32 := 0#32
  let v42 : BitVec 1 := Scalar.cmpi .sgt arg0 c0_i32_19
  let c2_i32_20 : BitVec 32 := 2#32
  let c0_i32_21 : BitVec 32 := 0#32
  let v43 : BitVec 1 := Scalar.cmpi .eq c2_i32_20 c0_i32_21
  let c1_i32_22 : BitVec 32 := 1#32
  let v44 : BitVec 32 := Scalar.select v43 c1_i32_22 c2_i32_20
  let v45 : BitVec 32 := Scalar.remsi arg0 v44
  let c0_i32_24 : BitVec 32 := 0#32
  let v47 : BitVec 1 := Scalar.cmpi .slt v45 c0_i32_24
  let c0_i32_25 : BitVec 32 := 0#32
  let v48 : BitVec 1 := Scalar.cmpi .slt v44 c0_i32_25
  let v49 : BitVec 1 := Scalar.xori v47 v48
  let c0_i32_23 : BitVec 32 := 0#32
  let v46 : BitVec 1 := Scalar.cmpi .ne v45 c0_i32_23
  let v50 : BitVec 1 := Scalar.andi v49 v46
  let v51 : BitVec 32 := Scalar.addi v45 v44
  let v52 : BitVec 32 := Scalar.select v50 v51 v45
  let c1_i32_26 : BitVec 32 := 1#32
  let v53 : BitVec 1 := Scalar.cmpi .eq v52 c1_i32_26
  let v54 : BitVec 1 := Scalar.andi v42 v53
  let arg1 : BitVec 32 := BitVec.ofNat 32 (i 1).val
  let c16_i32 : BitVec 32 := 16#32
  let v3 : BitVec 1 := Scalar.cmpi .slt arg1 c16_i32
  let c8_i32 : BitVec 32 := 8#32
  let v4 : BitVec 1 := Scalar.cmpi .slt arg0 c8_i32
  let v5 : BitVec 1 := Scalar.andi v3 v4
  let true_27 : BitVec 1 := 1#1
  let v55 : BitVec 1 := Scalar.xori v5 true_27
  let true_28 : BitVec 1 := 1#1
  let v56 : BitVec 1 := Scalar.xori v55 true_28
  let v57 : BitVec 1 := Scalar.andi v54 v56
  let v58 : BitVec 32 := Scalar.extui v57
  let c0_i32_29 : BitVec 32 := 0#32
  let v59 : BitVec 1 := Scalar.cmpi .ne v58 c0_i32_29
  v59

def k0_cond10 (i : grid0.Coords) : BitVec 1 :=
  let arg1 : BitVec 32 := BitVec.ofNat 32 (i 1).val
  let c12_i32 : BitVec 32 := 12#32
  let v78 : BitVec 1 := Scalar.cmpi .slt arg1 c12_i32
  let v79 : BitVec 32 := Scalar.extui v78
  let c0_i32_41 : BitVec 32 := 0#32
  let v80 : BitVec 1 := Scalar.cmpi .ne v79 c0_i32_41
  v80

def k0_mult4 (i : grid0.Coords) : BitVec 32 :=
  let arg1 : BitVec 32 := BitVec.ofNat 32 (i 1).val
  let c15_i32 : BitVec 32 := 15#32
  let v120 : BitVec 32 := Scalar.minsi arg1 c15_i32
  let c64_i32 : BitVec 32 := 64#32
  let v121 : BitVec 32 := Scalar.muli v120 c64_i32
  v121
def k0_off4 (i : grid0.Coords) : Fin 2 → Nat :=
  let arg1 : BitVec 32 := BitVec.ofNat 32 (i 1).val
  let c15_i32 : BitVec 32 := 15#32
  let v120 : BitVec 32 := Scalar.minsi arg1 c15_i32
  let c64_i32 : BitVec 32 := 64#32
  let v121 : BitVec 32 := Scalar.muli v120 c64_i32
  let v122 : BitVec 32 := v121
  let v123 : Index := Scalar.indexCast v122
  let c0_59 : Index := 0#32
  ![v123.toNat, 0]
def k0_cond11 (i : grid0.Coords) : BitVec 1 :=
  let arg1 : BitVec 32 := BitVec.ofNat 32 (i 1).val
  let c12_i32_42 : BitVec 32 := 12#32
  let v81 : BitVec 1 := Scalar.cmpi .sge arg1 c12_i32_42
  let v82 : BitVec 32 := Scalar.extui v81
  let c0_i32_43 : BitVec 32 := 0#32
  let v83 : BitVec 1 := Scalar.cmpi .ne v82 c0_i32_43
  v83

def k0_mult5 (i : grid0.Coords) : BitVec 32 :=
  let arg1 : BitVec 32 := BitVec.ofNat 32 (i 1).val
  let c15_i32 : BitVec 32 := 15#32
  let v120 : BitVec 32 := Scalar.minsi arg1 c15_i32
  let c64_i32 : BitVec 32 := 64#32
  let v121 : BitVec 32 := Scalar.muli v120 c64_i32
  v121
def k0_off5 (i : grid0.Coords) : Fin 2 → Nat :=
  let arg1 : BitVec 32 := BitVec.ofNat 32 (i 1).val
  let c15_i32 : BitVec 32 := 15#32
  let v120 : BitVec 32 := Scalar.minsi arg1 c15_i32
  let c64_i32 : BitVec 32 := 64#32
  let v121 : BitVec 32 := Scalar.muli v120 c64_i32
  let v122 : BitVec 32 := v121
  let v123 : Index := Scalar.indexCast v122
  let c0_59 : Index := 0#32
  ![v123.toNat, 0]
def k0_cond6 (i : grid0.Coords) : BitVec 1 :=
  let arg0 : BitVec 32 := BitVec.ofNat 32 (i 0).val
  let c0_i32_9 : BitVec 32 := 0#32
  let v24 : BitVec 1 := Scalar.cmpi .sgt arg0 c0_i32_9
  let c2_i32_10 : BitVec 32 := 2#32
  let c0_i32_11 : BitVec 32 := 0#32
  let v25 : BitVec 1 := Scalar.cmpi .eq c2_i32_10 c0_i32_11
  let c1_i32_12 : BitVec 32 := 1#32
  let v26 : BitVec 32 := Scalar.select v25 c1_i32_12 c2_i32_10
  let v27 : BitVec 32 := Scalar.remsi arg0 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_16 : BitVec 32 := 0#32
  let v35 : BitVec 1 := Scalar.cmpi .eq v34 c0_i32_16
  let v36 : BitVec 1 := Scalar.andi v24 v35
  let arg1 : BitVec 32 := BitVec.ofNat 32 (i 1).val
  let c16_i32 : BitVec 32 := 16#32
  let v3 : BitVec 1 := Scalar.cmpi .slt arg1 c16_i32
  let c8_i32 : BitVec 32 := 8#32
  let v4 : BitVec 1 := Scalar.cmpi .slt arg0 c8_i32
  let v5 : BitVec 1 := Scalar.andi v3 v4
  let v_false : BitVec 1 := 0#1
  let v37 : BitVec 1 := Scalar.xori v5 v_false
  let true_17 : BitVec 1 := 1#1
  let v38 : BitVec 1 := Scalar.xori v37 true_17
  let v39 : BitVec 1 := Scalar.andi v36 v38
  let v40 : BitVec 32 := Scalar.extui v39
  let c0_i32_18 : BitVec 32 := 0#32
  let v41 : BitVec 1 := Scalar.cmpi .ne v40 c0_i32_18
  v41

def k0_cond7 (i : grid0.Coords) : BitVec 1 :=
  let arg1 : BitVec 32 := BitVec.ofNat 32 (i 1).val
  let c12_i32 : BitVec 32 := 12#32
  let v78 : BitVec 1 := Scalar.cmpi .slt arg1 c12_i32
  let v79 : BitVec 32 := Scalar.extui v78
  let c0_i32_41 : BitVec 32 := 0#32
  let v80 : BitVec 1 := Scalar.cmpi .ne v79 c0_i32_41
  v80

def k0_cond12 (i : grid0.Coords) : BitVec 1 :=
  let arg0 : BitVec 32 := BitVec.ofNat 32 (i 0).val
  let c0_i32_30 : BitVec 32 := 0#32
  let v60 : BitVec 1 := Scalar.cmpi .sgt arg0 c0_i32_30
  let c2_i32_31 : BitVec 32 := 2#32
  let c0_i32_32 : BitVec 32 := 0#32
  let v61 : BitVec 1 := Scalar.cmpi .eq c2_i32_31 c0_i32_32
  let c1_i32_33 : BitVec 32 := 1#32
  let v62 : BitVec 32 := Scalar.select v61 c1_i32_33 c2_i32_31
  let v63 : BitVec 32 := Scalar.remsi arg0 v62
  let c0_i32_35 : BitVec 32 := 0#32
  let v65 : BitVec 1 := Scalar.cmpi .slt v63 c0_i32_35
  let c0_i32_36 : BitVec 32 := 0#32
  let v66 : BitVec 1 := Scalar.cmpi .slt v62 c0_i32_36
  let v67 : BitVec 1 := Scalar.xori v65 v66
  let c0_i32_34 : BitVec 32 := 0#32
  let v64 : BitVec 1 := Scalar.cmpi .ne v63 c0_i32_34
  let v68 : BitVec 1 := Scalar.andi v67 v64
  let v69 : BitVec 32 := Scalar.addi v63 v62
  let v70 : BitVec 32 := Scalar.select v68 v69 v63
  let c1_i32_37 : BitVec 32 := 1#32
  let v71 : BitVec 1 := Scalar.cmpi .eq v70 c1_i32_37
  let v72 : BitVec 1 := Scalar.andi v60 v71
  let arg1 : BitVec 32 := BitVec.ofNat 32 (i 1).val
  let c16_i32 : BitVec 32 := 16#32
  let v3 : BitVec 1 := Scalar.cmpi .slt arg1 c16_i32
  let c8_i32 : BitVec 32 := 8#32
  let v4 : BitVec 1 := Scalar.cmpi .slt arg0 c8_i32
  let v5 : BitVec 1 := Scalar.andi v3 v4
  let false_38 : BitVec 1 := 0#1
  let v73 : BitVec 1 := Scalar.xori v5 false_38
  let true_39 : BitVec 1 := 1#1
  let v74 : BitVec 1 := Scalar.xori v73 true_39
  let v75 : BitVec 1 := Scalar.andi v72 v74
  let v76 : BitVec 32 := Scalar.extui v75
  let c0_i32_40 : BitVec 32 := 0#32
  let v77 : BitVec 1 := Scalar.cmpi .ne v76 c0_i32_40
  v77

def k0_cond13 (i : grid0.Coords) : BitVec 1 :=
  let arg1 : BitVec 32 := BitVec.ofNat 32 (i 1).val
  let c12_i32 : BitVec 32 := 12#32
  let v78 : BitVec 1 := Scalar.cmpi .slt arg1 c12_i32
  let v79 : BitVec 32 := Scalar.extui v78
  let c0_i32_41 : BitVec 32 := 0#32
  let v80 : BitVec 1 := Scalar.cmpi .ne v79 c0_i32_41
  v80

def k0_cond8 (i : grid0.Coords) : BitVec 1 :=
  let arg1 : BitVec 32 := BitVec.ofNat 32 (i 1).val
  let c12_i32_42 : BitVec 32 := 12#32
  let v81 : BitVec 1 := Scalar.cmpi .sge arg1 c12_i32_42
  let v82 : BitVec 32 := Scalar.extui v81
  let c0_i32_43 : BitVec 32 := 0#32
  let v83 : BitVec 1 := Scalar.cmpi .ne v82 c0_i32_43
  v83

def k0_cond14 (i : grid0.Coords) : BitVec 1 :=
  let arg1 : BitVec 32 := BitVec.ofNat 32 (i 1).val
  let c12_i32_42 : BitVec 32 := 12#32
  let v81 : BitVec 1 := Scalar.cmpi .sge arg1 c12_i32_42
  let v82 : BitVec 32 := Scalar.extui v81
  let c0_i32_43 : BitVec 32 := 0#32
  let v83 : BitVec 1 := Scalar.cmpi .ne v82 c0_i32_43
  v83

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c16_i32 : BitVec 32 := 16#32
  let v1 : BitVec 32 := Scalar.muli arg0 c16_i32
  let c15_i32 : BitVec 32 := 15#32
  let v2 : BitVec 32 := Scalar.minsi arg1 c15_i32
  let v3 : BitVec 32 := Scalar.addi v1 v2
  let c127_i32 : BitVec 32 := 127#32
  let v4 : BitVec 32 := Scalar.select v0 v3 c127_i32
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c16_i32 : BitVec 32 := 16#32
  let v1 : BitVec 32 := Scalar.muli arg0 c16_i32
  let c15_i32 : BitVec 32 := 15#32
  let v2 : BitVec 32 := Scalar.minsi arg1 c15_i32
  let v3 : BitVec 32 := Scalar.addi v1 v2
  let c127_i32 : BitVec 32 := 127#32
  let v4 : BitVec 32 := Scalar.select v0 v3 c127_i32
  let c0_i32 : BitVec 32 := 0#32
  let c0_i32_0 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c16_i32 : BitVec 32 := 16#32
  let v1 : BitVec 32 := Scalar.muli arg0 c16_i32
  let c15_i32 : BitVec 32 := 15#32
  let v2 : BitVec 32 := Scalar.minsi arg1 c15_i32
  let v3 : BitVec 32 := Scalar.addi v1 v2
  let c127_i32 : BitVec 32 := 127#32
  let v4 : BitVec 32 := Scalar.select v0 v3 c127_i32
  let c0_i32 : BitVec 32 := 0#32
  let c0_i32_0 : BitVec 32 := 0#32
  ![v4.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c1_i32 : BitVec 32 := 1#32
  let v1 : BitVec 32 := Scalar.subi arg0 c1_i32
  let c8_i32 : BitVec 32 := 8#32
  let v2 : BitVec 32 := Scalar.select v0 v1 c8_i32
  let c11_i32 : BitVec 32 := 11#32
  let v3 : BitVec 32 := Scalar.minsi arg1 c11_i32
  let c0_i32_0 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c1_i32 : BitVec 32 := 1#32
  let v1 : BitVec 32 := Scalar.subi arg0 c1_i32
  let c8_i32 : BitVec 32 := 8#32
  let v2 : BitVec 32 := Scalar.select v0 v1 c8_i32
  let c12_i32 : BitVec 32 := 12#32
  let v3 : BitVec 32 := Scalar.subi arg1 c12_i32
  let c0_i32_0 : BitVec 32 := 0#32
  let v4 : BitVec 32 := Scalar.maxsi v3 c0_i32_0
  let c0_i32_1 : BitVec 32 := 0#32
  ![v2.toNat, v4.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== InProjReferenceIdeal.lean ====
abbrev S8192x4096 : Shape := ⟨2, ![8192, 4096]⟩
abbrev S4096 : Shape := ⟨1, ![4096]⟩
abbrev S4096x10240 : Shape := ⟨2, ![4096, 10240]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x10240 : Shape := ⟨2, ![8192, 10240]⟩
abbrev S9216x10240 : Shape := ⟨2, ![9216, 10240]⟩
abbrev S9216x6144 : Shape := ⟨2, ![9216, 6144]⟩
abbrev S9216x4096 : Shape := ⟨2, ![9216, 4096]⟩

abbrev nBuf : Space → Nat
  | .hbm => 49
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S4096, .f32⟩
  | .hbm, ⟨3, _⟩ => ⟨S4096, .f32⟩
  | .hbm, ⟨4, _⟩ => ⟨S4096x10240, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x4096, .f32⟩
  | .hbm, ⟨38, _⟩ => ⟨S8192x4096, .f32⟩
  | .hbm, ⟨39, _⟩ => ⟨S1x4096, .f32⟩
  | .hbm, ⟨40, _⟩ => ⟨S8192x4096, .f32⟩
  | .hbm, ⟨41, _⟩ => ⟨S8192x4096, .f32⟩
  | .hbm, ⟨42, _⟩ => ⟨S8192x10240, .f32⟩
  | .hbm, ⟨43, _⟩ => ⟨S_, .i32⟩
  | .hbm, ⟨44, _⟩ => ⟨S_, .f32⟩
  | .hbm, ⟨45, _⟩ => ⟨S9216x10240, .f32⟩
  | .hbm, ⟨46, _⟩ => ⟨S9216x6144, .f32⟩
  | .hbm, ⟨47, _⟩ => ⟨S9216x6144, .bf16⟩
  | .hbm, ⟨48, _⟩ => ⟨S9216x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_call0_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Ple.lean ====
abbrev S8192x4096 : Shape := ⟨2, ![8192, 4096]⟩
abbrev S4096 : Shape := ⟨1, ![4096]⟩
abbrev S8192x256 : Shape := ⟨2, ![8192, 256]⟩
abbrev S256x4096 : Shape := ⟨2, ![256, 4096]⟩
abbrev S4096x4096 : Shape := ⟨2, ![4096, 4096]⟩
abbrev S1x4096 : Shape := ⟨2, ![1, 4096]⟩
abbrev S9216x4096 : Shape := ⟨2, ![9216, 4096]⟩
abbrev S64x4096 : Shape := ⟨2, ![64, 4096]⟩
abbrev S1024x256 : Shape := ⟨2, ![1024, 256]⟩
abbrev S256x256 : Shape := ⟨2, ![256, 256]⟩
abbrev S4096x256 : Shape := ⟨2, ![4096, 256]⟩
abbrev S1024x4096 : Shape := ⟨2, ![1024, 4096]⟩
abbrev S64 : Shape := ⟨1, ![64]⟩
abbrev S64x1 : Shape := ⟨2, ![64, 1]⟩

abbrev nBuf : Space → Nat
  | .hbm => 9
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S4096, .f32⟩
  | .hbm, ⟨3, _⟩ => ⟨S8192x256, .f32⟩
  | .hbm, ⟨4, _⟩ => ⟨S256x4096, .f32⟩
  | .hbm, ⟨5, _⟩ => ⟨S4096x4096, .f32⟩
  | .hbm, ⟨6, _⟩ => ⟨S1x4096, .f32⟩
  | .hbm, ⟨7, _⟩ => ⟨S8192x4096, .f32⟩
  | .hbm, ⟨8, _⟩ => ⟨S9216x4096, .bf16⟩
  | .local _ .vmem, ⟨0, _⟩ => ⟨S64x4096, .f32⟩
  | .local _ .vmem, ⟨1, _⟩ => ⟨S64x4096, .f32⟩
  | .local _ .vmem, ⟨2, _⟩ => ⟨S64x4096, .bf16⟩
  | .local _ .vmem, ⟨3, _⟩ => ⟨S64x4096, .bf16⟩
  | .local _ .vmem, ⟨4, _⟩ => ⟨S1x4096, .f32⟩
  | .local _ .vmem, ⟨5, _⟩ => ⟨S1024x256, .f32⟩
  | .local _ .vmem, ⟨6, _⟩ => ⟨S1024x256, .f32⟩
  | .local _ .vmem, ⟨7, _⟩ => ⟨S256x256, .f32⟩
  | .local _ .vmem, ⟨8, _⟩ => ⟨S256x256, .f32⟩
  | .local _ .vmem, ⟨9, _⟩ => ⟨S4096x256, .f32⟩
  | .local _ .vmem, ⟨10, _⟩ => ⟨S4096x256, .f32⟩
  | .local _ .vmem, ⟨11, _⟩ => ⟨S64x4096, .f32⟩
  | .local _ .vmem, ⟨12, _⟩ => ⟨S64x4096, .f32⟩
  | .local _ .vmem, ⟨13, _⟩ => ⟨S1024x256, .bf16⟩
  | .local _ .vmem, ⟨14, _⟩ => ⟨S1024x256, .bf16⟩
  | .local _ .vmem, ⟨15, _⟩ => ⟨S1024x4096, .bf16⟩
  | .local _ .vmem, ⟨16, _⟩ => ⟨S1024x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![9, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c16_i32_41 : BitVec 32 := 16#32
  let v78 : BitVec 1 := Scalar.cmpi .slt arg1 c16_i32_41
  let v79 : BitVec 32 := Scalar.extui v78
  let c0_i32_42 : BitVec 32 := 0#32
  let v80 : BitVec 1 := Scalar.cmpi .ne v79 c0_i32_42
  v80

def k0_mult1 (i : grid0.Coords) : BitVec 32 :=
  let arg1 : BitVec 32 := BitVec.ofNat 32 (i 1).val
  let c15_i32 : BitVec 32 := 15#32
  let v105 : BitVec 32 := Scalar.minsi arg1 c15_i32
  let c64_i32 : BitVec 32 := 64#32
  let v106 : BitVec 32 := Scalar.muli v105 c64_i32
  v106
def k0_off1 (i : grid0.Coords) : Fin 2 → Nat :=
  let arg1 : BitVec 32 := BitVec.ofNat 32 (i 1).val
  let c15_i32 : BitVec 32 := 15#32
  let v105 : BitVec 32 := Scalar.minsi arg1 c15_i32
  let c64_i32 : BitVec 32 := 64#32
  let v106 : BitVec 32 := Scalar.muli v105 c64_i32
  let v107 : BitVec 32 := v106
  let v108 : Index := Scalar.indexCast v107
  let c0_56 : Index := 0#32
  ![v108.toNat, 0]
def k0_cond3 (i : grid0.Coords) : BitVec 1 :=
  let arg0 : BitVec 32 := BitVec.ofNat 32 (i 0).val
  let c0_i32_1 : BitVec 32 := 0#32
  let v6 : BitVec 1 := Scalar.cmpi .sgt arg0 c0_i32_1
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_6 : BitVec 32 := 0#32
  let v17 : BitVec 1 := Scalar.cmpi .eq v16 c0_i32_6
  let v18 : BitVec 1 := Scalar.andi v6 v17
  let arg1 : BitVec 32 := BitVec.ofNat 32 (i 1).val
  let c16_i32 : BitVec 32 := 16#32
  let v3 : BitVec 1 := Scalar.cmpi .slt arg1 c16_i32
  let c8_i32 : BitVec 32 := 8#32
  let v4 : BitVec 1 := Scalar.cmpi .slt arg0 c8_i32
  let v5 : BitVec 1 := Scalar.andi v3 v4
  let v_true : BitVec 1 := 1#1
  let v19 : BitVec 1 := Scalar.xori v5 v_true
  let true_7 : BitVec 1 := 1#1
  let v20 : BitVec 1 := Scalar.xori v19 true_7
  let v21 : BitVec 1 := Scalar.andi v18 v20
  let v22 : BitVec 32 := Scalar.extui v21
  let c0_i32_8 : BitVec 32 := 0#32
  let v23 : BitVec 1 := Scalar.cmpi .ne v22 c0_i32_8
  v23

def k0_mult2 (i : grid0.Coords) : BitVec 32 :=
  let arg1 : BitVec 32 := BitVec.ofNat 32 (i 1).val
  let c15_i32 : BitVec 32 := 15#32
  let v100 : BitVec 32 := Scalar.minsi arg1 c15_i32
  let c64_i32 : BitVec 32 := 64#32
  let v101 : BitVec 32 := Scalar.muli v100 c64_i32
  v101
def k0_off2 (i : grid0.Coords) : Fin 2 → Nat :=
  let arg1 : BitVec 32 := BitVec.ofNat 32 (i 1).val
  let c15_i32 : BitVec 32 := 15#32
  let v100 : BitVec 32 := Scalar.minsi arg1 c15_i32
  let c64_i32 : BitVec 32 := 64#32
  let v101 : BitVec 32 := Scalar.muli v100 c64_i32
  let v102 : BitVec 32 := v101
  let v103 : Index := Scalar.indexCast v102
  let c0_51 : Index := 0#32
  ![v103.toNat, 0]
def k0_cond5 (i : grid0.Coords) : BitVec 1 :=
  let arg0 : BitVec 32 := BitVec.ofNat 32 (i 0).val
  let c0_i32_19 : BitVec 32 := 0#32
  let v42 : BitVec 1 := Scalar.cmpi .sgt arg0 c0_i32_19
  let c2_i32_20 : BitVec 32 := 2#32
  let c0_i32_21 : BitVec 32 := 0#32
  let v43 : BitVec 1 := Scalar.cmpi .eq c2_i32_20 c0_i32_21
  let c1_i32_22 : BitVec 32 := 1#32
  let v44 : BitVec 32 := Scalar.select v43 c1_i32_22 c2_i32_20
  let v45 : BitVec 32 := Scalar.remsi arg0 v44
  let c0_i32_24 : BitVec 32 := 0#32
  let v47 : BitVec 1 := Scalar.cmpi .slt v45 c0_i32_24
  let c0_i32_25 : BitVec 32 := 0#32
  let v48 : BitVec 1 := Scalar.cmpi .slt v44 c0_i32_25
  let v49 : BitVec 1 := Scalar.xori v47 v48
  let c0_i32_23 : BitVec 32 := 0#32
  let v46 : BitVec 1 := Scalar.cmpi .ne v45 c0_i32_23
  let v50 : BitVec 1 := Scalar.andi v49 v46
  let v51 : BitVec 32 := Scalar.addi v45 v44
  let v52 : BitVec 32 := Scalar.select v50 v51 v45
  let c1_i32_26 : BitVec 32 := 1#32
  let v53 : BitVec 1 := Scalar.cmpi .eq v52 c1_i32_26
  let v54 : BitVec 1 := Scalar.andi v42 v53
  let arg1 : BitVec 32 := BitVec.ofNat 32 (i 1).val
  let c16_i32 : BitVec 32 := 16#32
  let v3 : BitVec 1 := Scalar.cmpi .slt arg1 c16_i32
  let c8_i32 : BitVec 32 := 8#32
  let v4 : BitVec 1 := Scalar.cmpi .slt arg0 c8_i32
  let v5 : BitVec 1 := Scalar.andi v3 v4
  let true_27 : BitVec 1 := 1#1
  let v55 : BitVec 1 := Scalar.xori v5 true_27
  let true_28 : BitVec 1 := 1#1
  let v56 : BitVec 1 := Scalar.xori v55 true_28
  let v57 : BitVec 1 := Scalar.andi v54 v56
  let v58 : BitVec 32 := Scalar.extui v57
  let c0_i32_29 : BitVec 32 := 0#32
  let v59 : BitVec 1 := Scalar.cmpi .ne v58 c0_i32_29
  v59

def k0_mult3 (i : grid0.Coords) : BitVec 32 :=
  let arg1 : BitVec 32 := BitVec.ofNat 32 (i 1).val
  let c15_i32 : BitVec 32 := 15#32
  let v100 : BitVec 32 := Scalar.minsi arg1 c15_i32
  let c64_i32 : BitVec 32 := 64#32
  let v101 : BitVec 32 := Scalar.muli v100 c64_i32
  v101
def k0_off3 (i : grid0.Coords) : Fin 2 → Nat :=
  let arg1 : BitVec 32 := BitVec.ofNat 32 (i 1).val
  let c15_i32 : BitVec 32 := 15#32
  let v100 : BitVec 32 := Scalar.minsi arg1 c15_i32
  let c64_i32 : BitVec 32 := 64#32
  let v101 : BitVec 32 := Scalar.muli v100 c64_i32
  let v102 : BitVec 32 := v101
  let v103 : Index := Scalar.indexCast v102
  let c0_51 : Index := 0#32
  ![v103.toNat, 0]
def k0_cond4 (i : grid0.Coords) : BitVec 1 :=
  let arg0 : BitVec 32 := BitVec.ofNat 32 (i 0).val
  let c0_i32_9 : BitVec 32 := 0#32
  let v24 : BitVec 1 := Scalar.cmpi .sgt arg0 c0_i32_9
  let c2_i32_10 : BitVec 32 := 2#32
  let c0_i32_11 : BitVec 32 := 0#32
  let v25 : BitVec 1 := Scalar.cmpi .eq c2_i32_10 c0_i32_11
  let c1_i32_12 : BitVec 32 := 1#32
  let v26 : BitVec 32 := Scalar.select v25 c1_i32_12 c2_i32_10
  let v27 : BitVec 32 := Scalar.remsi arg0 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_16 : BitVec 32 := 0#32
  let v35 : BitVec 1 := Scalar.cmpi .eq v34 c0_i32_16
  let v36 : BitVec 1 := Scalar.andi v24 v35
  let arg1 : BitVec 32 := BitVec.ofNat 32 (i 1).val
  let c16_i32 : BitVec 32 := 16#32
  let v3 : BitVec 1 := Scalar.cmpi .slt arg1 c16_i32
  let c8_i32 : BitVec 32 := 8#32
  let v4 : BitVec 1 := Scalar.cmpi .slt arg0 c8_i32
  let v5 : BitVec 1 := Scalar.andi v3 v4
  let v_false : BitVec 1 := 0#1
  let v37 : BitVec 1 := Scalar.xori v5 v_false
  let true_17 : BitVec 1 := 1#1
  let v38 : BitVec 1 := Scalar.xori v37 true_17
  let v39 : BitVec 1 := Scalar.andi v36 v38
  let v40 : BitVec 32 := Scalar.extui v39
  let c0_i32_18 : BitVec 32 := 0#32
  let v41 : BitVec 1 := Scalar.cmpi .ne v40 c0_i32_18
  v41

def k0_cond6 (i : grid0.Coords) : BitVec 1 :=
  let arg0 : BitVec 32 := BitVec.ofNat 32 (i 0).val
  let c0_i32_30 : BitVec 32 := 0#32
  let v60 : BitVec 1 := Scalar.cmpi .sgt arg0 c0_i32_30
  let c2_i32_31 : BitVec 32 := 2#32
  let c0_i32_32 : BitVec 32 := 0#32
  let v61 : BitVec 1 := Scalar.cmpi .eq c2_i32_31 c0_i32_32
  let c1_i32_33 : BitVec 32 := 1#32
  let v62 : BitVec 32 := Scalar.select v61 c1_i32_33 c2_i32_31
  let v63 : BitVec 32 := Scalar.remsi arg0 v62
  let c0_i32_35 : BitVec 32 := 0#32
  let v65 : BitVec 1 := Scalar.cmpi .slt v63 c0_i32_35
  let c0_i32_36 : BitVec 32 := 0#32
  let v66 : BitVec 1 := Scalar.cmpi .slt v62 c0_i32_36
  let v67 : BitVec 1 := Scalar.xori v65 v66
  let c0_i32_34 : BitVec 32 := 0#32
  let v64 : BitVec 1 := Scalar.cmpi .ne v63 c0_i32_34
  let v68 : BitVec 1 := Scalar.andi v67 v64
  let v69 : BitVec 32 := Scalar.addi v63 v62
  let v70 : BitVec 32 := Scalar.select v68 v69 v63
  let c1_i32_37 : BitVec 32 := 1#32
  let v71 : BitVec 1 := Scalar.cmpi .eq v70 c1_i32_37
  let v72 : BitVec 1 := Scalar.andi v60 v71
  let arg1 : BitVec 32 := BitVec.ofNat 32 (i 1).val
  let c16_i32 : BitVec 32 := 16#32
  let v3 : BitVec 1 := Scalar.cmpi .slt arg1 c16_i32
  let c8_i32 : BitVec 32 := 8#32
  let v4 : BitVec 1 := Scalar.cmpi .slt arg0 c8_i32
  let v5 : BitVec 1 := Scalar.andi v3 v4
  let false_38 : BitVec 1 := 0#1
  let v73 : BitVec 1 := Scalar.xori v5 false_38
  let true_39 : BitVec 1 := 1#1
  let v74 : BitVec 1 := Scalar.xori v73 true_39
  let v75 : BitVec 1 := Scalar.andi v72 v74
  let v76 : BitVec 32 := Scalar.extui v75
  let c0_i32_40 : BitVec 32 := 0#32
  let v77 : BitVec 1 := Scalar.cmpi .ne v76 c0_i32_40
  v77

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c16_i32 : BitVec 32 := 16#32
  let v1 : BitVec 32 := Scalar.muli arg0 c16_i32
  let c15_i32 : BitVec 32 := 15#32
  let v2 : BitVec 32 := Scalar.minsi arg1 c15_i32
  let v3 : BitVec 32 := Scalar.addi v1 v2
  let c127_i32 : BitVec 32 := 127#32
  let v4 : BitVec 32 := Scalar.select v0 v3 c127_i32
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c16_i32 : BitVec 32 := 16#32
  let v1 : BitVec 32 := Scalar.muli arg0 c16_i32
  let c15_i32 : BitVec 32 := 15#32
  let v2 : BitVec 32 := Scalar.minsi arg1 c15_i32
  let v3 : BitVec 32 := Scalar.addi v1 v2
  let c127_i32 : BitVec 32 := 127#32
  let v4 : BitVec 32 := Scalar.select v0 v3 c127_i32
  let c0_i32 : BitVec 32 := 0#32
  let c0_i32_0 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c16_i32 : BitVec 32 := 16#32
  let v1 : BitVec 32 := Scalar.muli arg0 c16_i32
  let c15_i32 : BitVec 32 := 15#32
  let v2 : BitVec 32 := Scalar.minsi arg1 c15_i32
  let v3 : BitVec 32 := Scalar.addi v1 v2
  let c127_i32 : BitVec 32 := 127#32
  let v4 : BitVec 32 := Scalar.select v0 v3 c127_i32
  let c0_i32 : BitVec 32 := 0#32
  let c0_i32_0 : BitVec 32 := 0#32
  ![v4.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c1_i32 : BitVec 32 := 1#32
  let v1 : BitVec 32 := Scalar.subi arg0 c1_i32
  let c8_i32 : BitVec 32 := 8#32
  let v2 : BitVec 32 := Scalar.select v0 v1 c8_i32
  let c0_i32_0 : BitVec 32 := 0#32
  ![v2.toNat, arg1.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== PleReferenceIdeal.lean ====
abbrev S8192x4096 : Shape := ⟨2, ![8192, 4096]⟩
abbrev S4096 : Shape := ⟨1, ![4096]⟩
abbrev S8192x256 : Shape := ⟨2, ![8192, 256]⟩
abbrev S256x4096 : Shape := ⟨2, ![256, 4096]⟩
abbrev S4096x4096 : Shape := ⟨2, ![4096, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S9216x4096 : Shape := ⟨2, ![9216, 4096]⟩

abbrev nBuf : Space → Nat
  | .hbm => 42
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S4096, .f32⟩
  | .hbm, ⟨3, _⟩ => ⟨S8192x256, .f32⟩
  | .hbm, ⟨4, _⟩ => ⟨S256x4096, .f32⟩
  | .hbm, ⟨5, _⟩ => ⟨S4096x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S_, .f32⟩
  | .hbm, ⟨35, _⟩ => ⟨S8192x4096, .f32⟩
  | .hbm, ⟨36, _⟩ => ⟨S8192x4096, .f32⟩
  | .hbm, ⟨37, _⟩ => ⟨S8192x4096, .f32⟩
  | .hbm, ⟨38, _⟩ => ⟨S_, .i32⟩
  | .hbm, ⟨39, _⟩ => ⟨S_, .f32⟩
  | .hbm, ⟨40, _⟩ => ⟨S9216x4096, .f32⟩
  | .hbm, ⟨41, _⟩ => ⟨S9216x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_call0_v0 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Residual.lean ====
abbrev S8192x4096 : Shape := ⟨2, ![8192, 4096]⟩
abbrev S9216x4096 : Shape := ⟨2, ![9216, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S9216x4096, .bf16⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResidualReferenceIdeal.lean ====
abbrev S8192x4096 : Shape := ⟨2, ![8192, 4096]⟩
abbrev S9216x4096 : Shape := ⟨2, ![9216, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S9216x4096, .bf16⟩
  | .hbm, ⟨2, _⟩ => ⟨S4096, .f32⟩
  | .hbm, ⟨3, _⟩ => ⟨S8192x4096, .bf16⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Down.lean ====
abbrev S9216x11008 : Shape := ⟨2, ![9216, 11008]⟩
abbrev S11008x4096 : Shape := ⟨2, ![11008, 4096]⟩
abbrev S8192x4096 : Shape := ⟨2, ![8192, 4096]⟩
abbrev S512x11008 : Shape := ⟨2, ![512, 11008]⟩
abbrev S11008x512 : Shape := ⟨2, ![11008, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S9216x11008, .bf16⟩
  | .hbm, ⟨1, _⟩ => ⟨S11008x4096, .bf16⟩
  | .hbm, ⟨2, _⟩ => ⟨S8192x4096, .bf16⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .bf16⟩
  | .local _ .vmem, ⟨5, _⟩ => ⟨S512x512, .bf16⟩
  | _, _ => ⟨S9216x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownReferenceIdeal.lean ====
abbrev S9216x11008 : Shape := ⟨2, ![9216, 11008]⟩
abbrev S11008x4096 : Shape := ⟨2, ![11008, 4096]⟩
abbrev S8192x11008 : Shape := ⟨2, ![8192, 11008]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S9216x11008, .bf16⟩
  | .hbm, ⟨1, _⟩ => ⟨S11008x4096, .bf16⟩
  | .hbm, ⟨2, _⟩ => ⟨S8192x11008, .bf16⟩
  | .hbm, ⟨3, _⟩ => ⟨S8192x11008, .f32⟩
  | .hbm, ⟨4, _⟩ => ⟨S11008x4096, .f32⟩
  | .hbm, ⟨5, _⟩ => ⟨S8192x4096, .f32⟩
  | .hbm, ⟨6, _⟩ => ⟨S8192x4096, .bf16⟩
  | _, _ => ⟨S9216x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.RefIdx.lean ====
module
public import proofs.«01_k».proof.Proof.Gen.ReferenceIdeal.Read
public import Idealize.ShloMosaic.Lib.Pointwise
@[expose] public section
set_option maxRecDepth 16384
noncomputable section
namespace Cert.ReferenceIdeal.Read
open Cert.ReferenceIdeal Cert.ReferenceIdeal.Gen Idealize.ShloMosaic Idealize.SL.Sem
variable (x0 : Vec Ideal S9216x6144 .bf16) (x1 : Vec Ideal S16x257 .f32)
/-- The rows of start indices: chunk `c` starts at row `64 c`, every other axis at 0. -/
abbrev startsOK (idx : IVec S64x4 32) : Prop := ∀ (c : Fin 64) (a : Fin 4), idx (ix2 c a) = if a = 1 then BitVec.ofNat 32 (64 * c.val) else 0#32
theorem start_q : startsOK (val_main_v43 (F := Ideal)) := by decide +kernel
theorem start_k : startsOK (val_main_v54 (F := Ideal)) := by decide +kernel
theorem start_v : startsOK (val_main_v65 (F := Ideal)) := by decide +kernel

theorem start_val (c : Fin 64) (w : ℕ) (hw : 4032 ≤ w) : min (BitVec.ofNat 32 (64 * c.val)).toInt.toNat w = 64 * c.val := by
  have hc := c.isLt
  rw [BitVec.toInt_eq_toNat_of_lt (by simp only [BitVec.toNat_ofNat]; omega)]
  simp only [BitVec.toNat_ofNat, Int.toNat_natCast]
  omega

/-- The queries of chunk `c`. -/
theorem gq (y : Vec Ideal S2x4096x16x128 .f32) (idx : IVec S64x4 32) (hi : startsOK idx) (c : Fin 64) (b : Fin 2) (i : Fin 64) (h : Fin 16) (e : Fin 128) :
  Host.gather gather_S2x4096x16x128_S64x4_S64x2x64x16x128_1234_n_n_n_0123_1_26416128 y idx (ix5 c b i h e) = y (ix4 b ⟨64 * c.val + i.val, by omega⟩ h e) := by
  unfold Host.gather
  congr 1
  funext a
  apply Fin.ext
  match a with
  | ⟨0, _⟩ =>
    show min (idx _).toInt.toNat 0 + 0 + b.val = b.val
    omega
  | ⟨1, _⟩ =>
    show min (idx (GatherDims.siIdx gather_S2x4096x16x128_S64x4_S64x2x64x16x128_1234_n_n_n_0123_1_26416128 (ix5 c b i h e) ⟨1, _⟩)).toInt.toNat 4032 + 0 + i.val = 64 * c.val + i.val
    have e : (GatherDims.siIdx gather_S2x4096x16x128_S64x4_S64x2x64x16x128_1234_n_n_n_0123_1_26416128 (ix5 c b i h e) ⟨1, by decide⟩) = ix2 c 1 := by
      funext a
      match a with
      | ⟨0, _⟩ => rfl
      | ⟨1, _⟩ => rfl
    rw [e, hi, if_pos rfl, start_val c _ (by omega)]; omega
  | ⟨2, _⟩ =>
    show min (idx _).toInt.toNat 0 + 0 + h.val = h.val
    omega
  | ⟨3, _⟩ =>
    show min (idx _).toInt.toNat 0 + 0 + e.val = e.val
    omega
/-- The keys, or the values, that chunk `c` sees. -/
theorem gk (y : Vec Ideal S2x4608x16x128 .f32) (idx : IVec S64x4 32) (hi : startsOK idx) (c : Fin 64) (b : Fin 2) (i : Fin 576) (h : Fin 16) (e : Fin 128) :
  Host.gather gather_S2x4608x16x128_S64x4_S64x2x576x16x128_1234_n_n_n_0123_1_257616128 y idx (ix5 c b i h e) = y (ix4 b ⟨64 * c.val + i.val, by omega⟩ h e) := by
  unfold Host.gather
  congr 1
  funext a
  apply Fin.ext
  match a with
  | ⟨0, _⟩ =>
    show min (idx _).toInt.toNat 0 + 0 + b.val = b.val
    omega
  | ⟨1, _⟩ =>
    show min (idx (GatherDims.siIdx gather_S2x4608x16x128_S64x4_S64x2x576x16x128_1234_n_n_n_0123_1_257616128 (ix5 c b i h e) ⟨1, _⟩)).toInt.toNat 4032 + 0 + i.val = 64 * c.val + i.val
    have e : (GatherDims.siIdx gather_S2x4608x16x128_S64x4_S64x2x576x16x128_1234_n_n_n_0123_1_257616128 (ix5 c b i h e) ⟨1, by decide⟩) = ix2 c 1 := by
      funext a
      match a with
      | ⟨0, _⟩ => rfl
      | ⟨1, _⟩ => rfl
    rw [e, hi, if_pos rfl, start_val c _ (by omega)]; omega
  | ⟨2, _⟩ =>
    show min (idx _).toInt.toNat 0 + 0 + h.val = h.val
    omega
  | ⟨3, _⟩ =>
    show min (idx _).toInt.toNat 0 + 0 + e.val = e.val
    omega
/-- The table entry of a query and a key: 256 for the past, 0 for the future, the distance between. -/
def relIdx (q : Fin 64) (k : Fin 576) : ℕ := if k.val ≤ q.val + 384 then 256 else if k.val ≤ q.val + 640 then q.val + 640 - k.val else 0
/-- The clipped distance as the index the table is read at. -/
def relWord (d : BitVec 32) : BitVec 32 :=
  let w := IntOp.addi (IntOp.minsi 128#32 (IntOp.maxsi 4294967168#32 d)) 128#32
  Scalar.select (IntOp.cmpi .slt w 0#32) (IntOp.addi w 257#32) w
theorem relWord_eq : ∀ t : Fin 640, relWord (BitVec.ofNat 32 t.val - 63#32) = BitVec.ofNat 32 (if 191 ≤ t.val then 256 else if 64 < t.val + 129 then t.val + 65 else 0) := by
  decide +kernel
theorem rel_eq (q : Fin 64) (k : Fin 576) : val_main_v26 (F := Ideal) (ix2 q k) = BitVec.ofNat 32 (relIdx q k) := by
  have e : val_main_v26 (F := Ideal) (ix2 q k) = relWord (BitVec.ofNat 32 q.val - (BitVec.ofNat 32 k.val - 512#32)) := by
    simp only [val_main_v26_apply, val_main_v23_apply, val_main_v25_apply, val_main_v21_apply, val_main_v19_apply,val_main_v20_apply,val_main_v22_apply,val_main_v24_apply, val_main_call2_v4_apply, val_main_call2_v2_apply, val_main_call2_v1_apply, val_main_v18_apply, val_main_v17_apply, val_main_v16_apply, val_main_v15_apply, val_main_v14_apply, val_main_v13_apply, val_main_v12_apply, val_main_v11_apply, val_main_v10_apply, val_main_c_4_apply, val_main_c_5_apply, val_main_c_6_apply, val_main_c_2_apply, val_main_c_3_apply, val_main_c_1_apply, val_main_call2_v3_apply, val_main_call2_v0_apply]
    unfold relWord
    rfl
  have hq := q.isLt
  have hk := k.isLt
  have e2 : BitVec.ofNat 32 q.val - (BitVec.ofNat 32 k.val - 512#32) = BitVec.ofNat 32 (q.val + 575 - k.val) - 63#32 := by
    apply BitVec.eq_of_toNat_eq
    simp only [BitVec.toNat_sub, BitVec.toNat_ofNat]
    omega
  rw [e, e2]
  refine (relWord_eq ⟨q.val + 575 - k.val, by omega⟩).trans (congrArg (BitVec.ofNat 32) ?_)
  unfold relIdx
  dsimp only
  split_ifs <;> omega
/-- The comparison that keeps a key, over the padded row it reads. -/
theorem sge_eq : ∀ t : Fin 4608, IntOp.cmpi .sge (BitVec.ofNat 32 t.val - 512#32) 0#32 = if 512 ≤ t.val then 1#1 else 0#1 := by
  decide +kernel

/-- A key of chunk `c` is kept when its padded row is at least 512. -/
theorem valid_eq (c : Fin 64) (k : Fin 576) : val_main_v80 (F := Ideal) (ix3 c 0 k) = if 512 ≤ 64 * c.val + k.val then 1#1 else 0#1 := by
  have e : val_main_v80 (F := Ideal) (ix3 c 0 k) = IntOp.cmpi .sge (BitVec.ofNat 32 c.val * 64#32 + (BitVec.ofNat 32 k.val - 512#32)) 0#32 := by
    simp only [val_main_v80_apply, val_main_v79_apply, val_main_v78_apply, val_main_v77_apply, val_main_v76_apply, val_main_v75_apply, val_main_v74_apply, val_main_v33_apply, val_main_v32_apply, val_main_v31_apply, val_main_v15_apply, val_main_v14_apply, val_main_v13_apply, val_main_v12_apply]
    rfl
  have hc := c.isLt
  have hk := k.isLt
  have e2 : BitVec.ofNat 32 c.val * 64#32 + (BitVec.ofNat 32 k.val - 512#32) = BitVec.ofNat 32 (64 * c.val + k.val) - 512#32 := by
    apply BitVec.eq_of_toNat_eq
    simp only [BitVec.toNat_sub, BitVec.toNat_ofNat, BitVec.toNat_add, BitVec.toNat_mul]
    omega
  rw [e, e2]
  exact sge_eq ⟨64 * c.val + k.val, by omega⟩

theorem relIdx_lt (q : Fin 64) (k : Fin 576) : relIdx q k < 257 := by
  have hq := q.isLt
  unfold relIdx
  split_ifs <;> omega

/-- The bias of a query and a key is the entry of their clipped distance. -/
theorem bias_at (h : Fin 16) (q : Fin 64) (k : Fin 576) :
    val_main_v28 x1 (ix3 h q k) = x1 (ix2 h ⟨relIdx q k, relIdx_lt q k⟩) := by
  have hi : val_main_v27 (F := Ideal) (ix3 q k 0) = BitVec.ofNat 32 (relIdx q k) := by
    rw [val_main_v27_apply]
    exact (congrArg _ (funext fun a => match a with | ⟨0, _⟩ => rfl | ⟨1, _⟩ => rfl)).trans (rel_eq q k)
  have hl := relIdx_lt q k
  unfold val_main_v28
  generalize val_main_v27 (F := Ideal) = idx at hi
  unfold Host.gather
  congr 1
  funext a
  apply Fin.ext
  match a with
  | ⟨0, _⟩ =>
    show 0 + 0 + h.val = h.val
    omega
  | ⟨1, _⟩ =>
    show min (idx (GatherDims.siIdx gather_S16x257_S64x576x1_S16x64x576_0_1_n_n_1_2_161 (ix3 h q k) ⟨0, _⟩)).toInt.toNat 256 + 0 + 0 = relIdx q k
    have e : (GatherDims.siIdx gather_S16x257_S64x576x1_S16x64x576_0_1_n_n_1_2_161 (ix3 h q k) ⟨0, by decide⟩) = ix3 q k 0 := by
      funext a
      match a with
      | ⟨0, _⟩ => rfl
      | ⟨1, _⟩ => rfl
      | ⟨2, _⟩ => rfl
    rw [e, hi, BitVec.toInt_eq_toNat_of_lt (by simp only [BitVec.toNat_ofNat]; omega)]
    simp only [BitVec.toNat_ofNat, Int.toNat_natCast]
    omega

end Cert.ReferenceIdeal.Read
-- ==== Proof.Softmax.lean ====
/-
  THE EXTENDED-REAL ARITHMETIC OF THE ATTENTION: no program is mentioned here.

  The kernel takes powers of two of scores already divided by `log 2`, over a window wider than the band, and divides
  the weighted sum once; the reference takes `exp` over the band alone and divides every weight. `attn_eq` says that
  the two agree when every score of the band is a real number or `⊥` and one of them is real.
-/
module

public import Mathlib.Algebra.BigOperators.Fin
public import Idealize.ShloMosaic.Lib.FinSumWindow
public import Idealize.ShloMosaic.PureOps.Ideal

@[expose] public section

noncomputable section

namespace Cert.Attn

open Idealize.ShloMosaic
open scoped BigOperators

/-- A finite sum of real numbers, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real number distributes over a finite sum of extended reals. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

/-- `log 2` is positive, so its inverse is. -/
theorem log2_inv_pos : 0 < (Real.log 2)⁻¹ := inv_pos.mpr (Real.log_pos one_lt_two)

/-- A power of two of a score divided by `log 2` is the exponential of the score. -/
theorem exp2_scaled (x : EReal) (hx : x = ⊥ ∨ ∃ r : ℝ, x = (r : EReal)) (M : ℝ) :
    Ideal.exp2 (x * (((Real.log 2)⁻¹ : ℝ) : EReal) - ((M * (Real.log 2)⁻¹ : ℝ) : EReal)) = Ideal.exp (x - (M : EReal)) := by
  rcases hx with rfl | ⟨r, rfl⟩
  · rw [EReal.bot_mul_coe_of_pos log2_inv_pos, sub_eq_add_neg, sub_eq_add_neg, EReal.bot_add, EReal.bot_add]
    rfl
  · rw [← EReal.coe_mul, ← EReal.coe_sub, ← EReal.coe_sub, Ideal.exp2_coe, Ideal.exp_coe]
    congr 1
    show (2 : ℝ) ^ (r * (Real.log 2)⁻¹ - M * (Real.log 2)⁻¹) = Real.exp (r - M)
    rw [Real.rpow_def_of_pos two_pos, ← sub_mul, mul_comm, mul_assoc,
      inv_mul_cancel₀ (Real.log_pos one_lt_two).ne', mul_one]

/-- The maximum of a family of scores each real or `⊥`, one of them real, is real and attained. -/
theorem sup_real {n : ℕ} (s : Fin n → EReal) (hs : ∀ k, s k = ⊥ ∨ ∃ r : ℝ, s k = (r : EReal))
    (hex : ∃ k, ∃ r : ℝ, s k = (r : EReal)) : ∃ k0, ∃ M : ℝ, Finset.univ.sup s = (M : EReal) ∧ s k0 = (M : EReal) := by
  obtain ⟨k, r, hk⟩ := hex
  obtain ⟨k0, -, h0⟩ := Finset.exists_mem_eq_sup Finset.univ ⟨k, Finset.mem_univ k⟩ s
  rcases hs k0 with hb | ⟨M, hM⟩
  · have : (r : EReal) ≤ ⊥ := by
      rw [← hk, ← hb, ← h0]; exact Finset.le_sup (Finset.mem_univ k)
    exact absurd (le_bot_iff.mp this) (EReal.coe_ne_bot r)
  · exact ⟨k0, M, h0.trans hM, hM⟩

/-- One output element: the kernel's quotient of sums over its window is the reference's sum of quotients over the band. -/
theorem attn_eq {N W : ℕ} (off : ℕ) (hoff : off + W ≤ N) (s v : Fin W → EReal) (S V : Fin N → EReal)
    (hS : ∀ k : Fin W, S ⟨off + k.val, by omega⟩ = s k * (((Real.log 2)⁻¹ : ℝ) : EReal))
    (hV : ∀ k : Fin W, V ⟨off + k.val, by omega⟩ = v k)
    (hSo : ∀ j : Fin N, ¬(off ≤ j.val ∧ j.val < off + W) → S j = ⊥)
    (hs : ∀ k, s k = ⊥ ∨ ∃ r : ℝ, s k = (r : EReal)) (hex : ∃ k, ∃ r : ℝ, s k = (r : EReal)) :
    Ideal.div (∑ j, Ideal.exp2 (S j - Finset.univ.sup S) * V j) (∑ j, Ideal.exp2 (S j - Finset.univ.sup S))
      = ∑ k, v k * Ideal.div (Ideal.exp (s k - Finset.univ.sup s)) (∑ k', Ideal.exp (s k' - Finset.univ.sup s)) := by
  obtain ⟨k0, M, hM, hk0⟩ := sup_real s hs hex
  have hSM : Finset.univ.sup S = ((M * (Real.log 2)⁻¹ : ℝ) : EReal) := by
    apply le_antisymm
    · refine Finset.sup_le fun j _ => ?_
      by_cases hj : off ≤ j.val ∧ j.val < off + W
      · have hje : j = ⟨off + (⟨j.val - off, by omega⟩ : Fin W).val, by show off + (j.val - off) < N; omega⟩ :=
          Fin.ext (by show j.val = off + (j.val - off); omega)
        rw [hje, hS, EReal.coe_mul]
        refine mul_le_mul_of_nonneg_right ?_ (by exact_mod_cast log2_inv_pos.le)
        rw [← hM]; exact Finset.le_sup (Finset.mem_univ _)
      · rw [hSo j hj]; exact bot_le
    · rw [EReal.coe_mul, ← hk0, ← hS k0]; exact Finset.le_sup (Finset.mem_univ _)
  have hE : ∀ k, ∃ E : ℝ, 0 ≤ E ∧ Ideal.exp (s k - (M : EReal)) = (E : EReal) := by
    intro k
    rcases hs k with hb | ⟨r, hr⟩
    · exact ⟨0, le_rfl, by rw [hb, sub_eq_add_neg, EReal.bot_add]; rfl⟩
    · exact ⟨Real.exp (r - M), (Real.exp_pos _).le, by rw [hr, ← EReal.coe_sub, Ideal.exp_coe]⟩
  choose E hE0 hEe using hE
  have hpos : 0 < ∑ k, E k := by
    refine Finset.sum_pos' (fun k _ => hE0 k) ⟨k0, Finset.mem_univ k0, ?_⟩
    have h1 := hEe k0
    rw [hk0, ← EReal.coe_sub, sub_self, Ideal.exp_coe, Real.exp_zero] at h1
    have : (1 : ℝ) = E k0 := by exact_mod_cast h1
    rw [← this]; exact one_pos
  have hin : ∀ k : Fin W, Ideal.exp2 (S ⟨off + k.val, by omega⟩ - Finset.univ.sup S) = (E k : EReal) := fun k => by
    rw [hS, hSM, exp2_scaled _ (hs k), hEe]
  have hout : ∀ j : Fin N, ¬(off ≤ j.val ∧ j.val < off + W) → Ideal.exp2 (S j - Finset.univ.sup S) = 0 := fun j hj => by
    rw [hSo j hj, hSM, sub_eq_add_neg, EReal.bot_add]; rfl
  rw [FinSumWindow.sum_window off hoff (fun j => Ideal.exp2 (S j - Finset.univ.sup S) * V j)
      (fun j hj => by rw [hout j hj, zero_mul]),
    FinSumWindow.sum_window off hoff (fun j => Ideal.exp2 (S j - Finset.univ.sup S)) hout]
  simp only [hin, hV, hM, hEe]
  rw [← coe_sum, Ideal.div_coe hpos.ne', sum_mul_coe _ _ (by positivity)]
  refine Finset.sum_congr rfl fun k _ => ?_
  rw [Ideal.div_coe hpos.ne', mul_assoc, mul_left_comm]

end Cert.Attn

end
-- ==== Proof.Block.lean ====
/-
  WHAT ONE GRID POINT OF THE ATTENTION KERNEL COMPUTES, element by element, at the extended reals.

  A grid point is one batch element and one head: `x0`, `x1`, `x2` are its queries, keys and values (4096 rows of 128)
  and `x3` its row of the bias table. Query row `n` lies in the kernel's block of 256 rows that starts at
  `256 * (n / 256)`; it sees 768 rows of the padded keys from there on, all but 576 of them masked.
-/
module

public import proofs.«01_k».proof.Proof.Gen.KernelIdeal.Value
public import proofs.«01_k».proof.Proof.Softmax
public import Idealize.ShloMosaic.Lib.Pipeline.ValueKit
public import Idealize.ShloMosaic.Lib.Pointwise
public import Idealize.ShloMosaic.PureOps.IdealRules
public import Idealize.ShloMosaic.Lib.WritesUnit

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open scoped BigOperators

/-! ## The named constants -/

theorem named_scale : Named.named (F := Ideal) (φ := .f32) κ "scale" 0x3E0293EE#32
    = (((Real.sqrt 128)⁻¹ * (Real.log 2)⁻¹ : ℝ) : EReal) := IdealRules.named_const.ideal_named_scalar _ _ _ _ rfl
theorem named_log2e : Named.named (F := Ideal) (φ := .f32) κ "log2e" 0x3FB8AA3B#32
    = (((Real.log 2)⁻¹ : ℝ) : EReal) := IdealRules.named_const.ideal_named_scalar _ _ _ _ rfl
theorem named_mask : Named.named (F := Ideal) (φ := .f32) κ "mask" 0xF149F2CA#32 = (⊥ : EReal) :=
  IdealRules.named_const.ideal_named_scalar _ _ _ _ rfl
theorem negInf_f32 : Ideal.ofBits .f32 0xFF800000#32 = (⊥ : EReal) := by simp [Ideal.ofBits, Ideal.ieee]

/-! ## The value of a grid point -/

/-- Row `p` of the keys or values after 512 rows of zeros are put in front. -/
def padRow (X : Vec Ideal S4096x128 .bf16) (p : ℕ) (e : Fin 128) : EReal :=
  if h : 512 ≤ p ∧ p < 4608 then X (ix2 ⟨p - 512, by omega⟩ e) else 0

/-- The bias of query row `r` of a block and window column `j`: the bias row rolled by `r`, in units of `log 2`, inside
    the row's band, `⊥` outside. -/
def biasAt (x3 : Vec Ideal S1x1x1024 .f32) (r : ℕ) (j : ℕ) : EReal :=
  if 64 * (r / 64) ≤ j ∧ j < 64 * (r / 64) + 576 then
    x3 (ix3 0 0 ⟨(j + 1024 - r % 1024) % 1024, Nat.mod_lt _ (by omega)⟩) * (((Real.log 2)⁻¹ : ℝ) : EReal)
  else ⊥

/-- The score of query row `n` against window column `j`. -/
def kscore (x0 x1 : Vec Ideal S4096x128 .bf16) (x3 : Vec Ideal S1x1x1024 .f32) (n : Fin 4096) (j : Fin 768) : EReal :=
  if 512 ≤ n.val / 256 * 256 + j.val then
    (∑ e, x0 (ix2 n e) * padRow x1 (n.val / 256 * 256 + j.val) e) * (((Real.sqrt 128)⁻¹ * (Real.log 2)⁻¹ : ℝ) : EReal)
      + biasAt x3 (n.val % 256) j.val
  else ⊥

/-- The weighted sum of `V` by the powers of two of the scores `S`, divided by the sum of the powers. -/
def weigh (S V : Fin 768 → EReal) : EReal :=
  Ideal.div (∑ j, Ideal.exp2 (S j - Finset.univ.sup S) * V j) (∑ j, Ideal.exp2 (S j - Finset.univ.sup S))

/-- What the grid point writes at row `n`, column `d`. -/
def headVal (x0 x1 x2 : Vec Ideal S4096x128 .bf16) (x3 : Vec Ideal S1x1x1024 .f32) (n : Fin 4096) (d : Fin 128) : EReal :=
  weigh (kscore x0 x1 x3 n) fun j => padRow x2 (n.val / 256 * 256 + j.val) d

/-! ## The payloads at an index -/

/-- The maximum the kernel folds from negative infinity is the supremum. -/
theorem fold_max {n : ℕ} (f : Fin n → EReal) :
    Finset.fold max (Ideal.ofBits FTy.f32 0xFF800000#32) f Finset.univ = Finset.univ.sup f := by
  rw [negInf_f32]; rfl

theorem mid_apply (q : Vec Ideal S256x128 .bf16) (k v : Vec Ideal S768x128 .bf16) (b : Vec Ideal S256x768 .f32)
    (r : Fin 256) (d : Fin 128) : k0_pay15 q k v b (ix2 r d)
      = weigh (fun j => (∑ e, q (ix2 r e) * k (ix2 j e)) * (((Real.sqrt 128)⁻¹ * (Real.log 2)⁻¹ : ℝ) : EReal) + b (ix2 r j))
          fun j => v (ix2 j d) := by
  pointwise [k0_pay15]
  simp only [fold_max, named_scale]
  rfl

/-- A score kept when its column is at least `w`, else `⊥`. -/
theorem select_sge (j : Fin 768) (w : ℕ) (hw : w < 1024) (a : EReal) :
    Scalar.select (IntOp.cmpi CmpIPredicate.sge (BitVec.ofNat 32 j.val) (BitVec.ofNat 32 w)) a ⊥ = if w ≤ j.val then a else ⊥ := by
  have hj := j.isLt
  have h : (IntOp.cmpi CmpIPredicate.sge (BitVec.ofNat 32 j.val) (BitVec.ofNat 32 w)) = BitVec.ofBool (decide (w ≤ j.val)) := by
    unfold IntOp.cmpi
    congr 1
    show (BitVec.ofNat 32 w).sle (BitVec.ofNat 32 j.val) = _
    rw [BitVec.sle_eq_decide, decide_eq_decide, BitVec.toInt_eq_toNat_of_lt, BitVec.toInt_eq_toNat_of_lt]
    · simp only [BitVec.toNat_ofNat]; omega
    · simp only [BitVec.toNat_ofNat]; omega
    · simp only [BitVec.toNat_ofNat]; omega
  rw [h]
  by_cases hc : w ≤ j.val
  · rw [if_pos hc, decide_eq_true hc]; rfl
  · rw [if_neg hc, decide_eq_false hc]; rfl

theorem edge0_apply (q : Vec Ideal S256x128 .bf16) (k v : Vec Ideal S768x128 .bf16) (b : Vec Ideal S256x768 .f32)
    (r : Fin 256) (d : Fin 128) : k0_pay11 (iota Kind.tc S256x768 32 [1] iota_S256x768_d1_w32) q k v b (ix2 r d)
      = weigh (fun j => if 512 ≤ j.val then
          (∑ e, q (ix2 r e) * k (ix2 j e)) * (((Real.sqrt 128)⁻¹ * (Real.log 2)⁻¹ : ℝ) : EReal) + b (ix2 r j) else ⊥)
          fun j => v (ix2 j d) := by
  pointwise [k0_pay11]
  simp only [fold_max, named_scale, named_mask]
  simp only [select_sge _ 512 (by omega)]
  rfl

theorem edge1_apply (q : Vec Ideal S256x128 .bf16) (k v : Vec Ideal S768x128 .bf16) (b : Vec Ideal S256x768 .f32)
    (r : Fin 256) (d : Fin 128) :
    k0_pay12 (iota Kind.tc S256x768 32 [1] iota_S256x768_d1_w32) q k v (constant S256x768 FTy.f32 0#32) b (ix2 r d)
      = weigh (fun j => if 256 ≤ j.val then
          (∑ e, q (ix2 r e) * k (ix2 j e)) * (((Real.sqrt 128)⁻¹ * (Real.log 2)⁻¹ : ℝ) : EReal) + b (ix2 r j) else ⊥)
          fun j => v (ix2 j d) := by
  pointwise [k0_pay12]
  simp only [fold_max, named_scale, named_mask]
  simp only [select_sge _ 256 (by omega)]
  rfl

/-- The band of a row as the kernel tests it. -/
theorem band_bit : ∀ (r : Fin 256) (j : Fin 768),
    IntOp.andi (IntOp.cmpi CmpIPredicate.sge (BitVec.ofNat 32 j.val) (IntOp.andi (BitVec.ofNat 32 r.val) 4294967232#32))
        (IntOp.cmpi CmpIPredicate.slt (BitVec.ofNat 32 j.val)
          (IntOp.addi (IntOp.andi (BitVec.ofNat 32 r.val) 4294967232#32) 576#32))
      = BitVec.ofBool (decide (64 * (r.val / 64) ≤ j.val ∧ j.val < 64 * (r.val / 64) + 576)) := by
  intro r j
  have hr := r.isLt
  have hj := j.isLt
  have h1 : ∀ r : Fin 256, IntOp.andi (BitVec.ofNat 32 r.val) 4294967232#32 = BitVec.ofNat 32 (64 * (r.val / 64)) := by
    decide +kernel
  have h2 : IntOp.addi (BitVec.ofNat 32 (64 * (r.val / 64))) 576#32 = BitVec.ofNat 32 (64 * (r.val / 64) + 576) := by
    show BitVec.ofNat 32 (64 * (r.val / 64)) + BitVec.ofNat 32 576 = _
    rw [BitVec.ofNat_add]
  rw [h1, h2]
  unfold IntOp.cmpi
  show BitVec.ofBool ((BitVec.ofNat 32 (64 * (r.val / 64))).sle (BitVec.ofNat 32 j.val)) &&&
    BitVec.ofBool ((BitVec.ofNat 32 j.val).slt (BitVec.ofNat 32 (64 * (r.val / 64) + 576))) = _
  rw [BitVec.ofBool_and_ofBool]
  congr 1
  rw [BitVec.sle_eq_decide, BitVec.slt_eq_decide, BitVec.toInt_eq_toNat_of_lt, BitVec.toInt_eq_toNat_of_lt,
    BitVec.toInt_eq_toNat_of_lt, ← Bool.decide_and, decide_eq_decide]
  · simp only [BitVec.toNat_ofNat]; omega
  all_goals simp only [BitVec.toNat_ofNat]; omega

theorem bias_apply (x3 : Vec Ideal S1x1x1024 .f32) (r : Fin 256) (j : Fin 768) :
    k0_pay10 (F := Ideal) k0_pay7 (k0_pay8 x3) k0_pay9 (ix2 r j) = biasAt x3 r.val j.val := by
  pointwise [k0_pay10, k0_pay7, k0_pay8, k0_pay9]
  rw [band_bit, named_log2e, named_mask]
  unfold biasAt
  by_cases hc : 64 * (r.val / 64) ≤ j.val ∧ j.val < 64 * (r.val / 64) + 576
  · rw [if_pos hc, decide_eq_true hc]; rfl
  · rw [if_neg hc, decide_eq_false hc]; rfl

/-- A load of 768 rows from the padded keys: the scratch's first 512 rows hold zeros, the rest `X`. -/
theorem pad_apply {κ₁ : Kind} {sp : Space} (w : View sig κ₁ sp S4608x128 .bf16) (Z : Vec Ideal S512x128 .bf16)
    (hZ : ∀ x, Z x = 0) (X : Vec Ideal S4096x128 .bf16) (s : ℕ) (hs : s + 768 ≤ 4608)
    (inb : ∀ a, (![s, 0] : Fin 2 → ℕ) a + (![768, 128] : Fin 2 → ℕ) a ≤ S4608x128.size a) (j : Fin 768) (e : Fin 128) :
    View.readCov (Val := Elt Ideal) w
        [⟨Rect.unit ![512, 0] ![4096, 128] inb_S4608x128_S4096x128_512_0, X⟩,
          ⟨Rect.unit ![0, 0] ![512, 128] inb_S4608x128_S512x128_0_0, Z⟩]
        (Rect.unit (s := S4608x128) ![s, 0] ![768, 128] inb).toLoadRect (ix2 j e) = padRow X (s + j.val) e := by
  rw [View.readCov_eq_canon']
  have e0 : (((Rect.unit (s := S4608x128) ![s, 0] ![768, 128] inb).toLoadRect.idx (ix2 j e)) 0).val = s + j.val := by
    show s + 1 * j.val = _; omega
  have e1 : (((Rect.unit (s := S4608x128) ![s, 0] ![768, 128] inb).toLoadRect.idx (ix2 j e)) 1).val = e.val := by
    show 0 + 1 * e.val = _; omega
  show View.canon _ ((Rect.unit (s := S4608x128) ![s, 0] ![768, 128] inb).toLoadRect.idx (ix2 j e)) = _
  revert e0 e1
  generalize (Rect.unit (s := S4608x128) ![s, 0] ![768, 128] inb).toLoadRect.idx (ix2 j e) = y
  intro e0 e1
  have hj := j.isLt
  have hy1 : (y 1).val < 128 := (y 1).isLt
  have hcover : ∃ p ∈ ([⟨Rect.unit ![512, 0] ![4096, 128] inb_S4608x128_S4096x128_512_0, X⟩,
      ⟨Rect.unit ![0, 0] ![512, 128] inb_S4608x128_S512x128_0_0, Z⟩] : List (View.Piece (Elt Ideal) S4608x128 .bf16)),
      y ∈ p.1.set := by
    by_cases h : 512 ≤ (y 0).val
    · exact ⟨⟨Rect.unit ![512, 0] ![4096, 128] inb_S4608x128_S4096x128_512_0, X⟩, List.mem_cons_self,
        (Rect.mem_set_unit (inb := inb_S4608x128_S4096x128_512_0)).mpr (Rect.unit_rows_mem y rfl rfl ⟨h, (by omega : (y 0).val < 512 + 4096)⟩)⟩
    · exact ⟨⟨Rect.unit ![0, 0] ![512, 128] inb_S4608x128_S512x128_0_0, Z⟩, List.mem_cons_of_mem _ List.mem_cons_self,
        (Rect.mem_set_unit (inb := inb_S4608x128_S512x128_0_0)).mpr (Rect.unit_rows_mem y rfl rfl ⟨Nat.zero_le _, (by omega : (y 0).val < 0 + 512)⟩)⟩
  canon_tiles x h using hcover
  · have hx : 512 ≤ s + j.val ∧ s + j.val < 4608 := by omega
    unfold padRow; rw [dif_pos hx]
    congr 1
    funext a
    match a with
    | ⟨0, _⟩ => exact Fin.ext (by show (x 0).val = s + j.val - 512; omega)
    | ⟨1, _⟩ => exact Fin.ext (by show (x 1).val = e.val; omega)
  · have hx : ¬(512 ≤ s + j.val ∧ s + j.val < 4608) := by omega
    unfold padRow; rw [dif_neg hx]
    exact hZ x

theorem pay3_zero (x) : k0_pay3 (F := Ideal) x = 0 := by
  idx_vars x
  pointwise [k0_pay3, k0_pay2]

theorem pay4_zero (x) : k0_pay4 (F := Ideal) x = 0 := pay3_zero x
theorem pay5_eq (X : Vec Ideal S4096x128 .bf16) : k0_pay5 X = X := by
  funext x; idx_vars x; pointwise [k0_pay5]
theorem pay6_eq (X : Vec Ideal S4096x128 .bf16) : k0_pay6 X = X := pay5_eq X

/-! ## The sixteen pieces -/

/-- The padded keys or values as the kernel holds them. -/
abbrev padded (Z : Vec Ideal S512x128 .bf16) (X : Vec Ideal S4096x128 .bf16) : List (View.Piece (Elt Ideal) S4608x128 .bf16) :=
  [⟨Rect.unit ![512, 0] ![4096, 128] inb_S4608x128_S4096x128_512_0, X⟩,
    ⟨Rect.unit ![0, 0] ![512, 128] inb_S4608x128_S512x128_0_0, Z⟩]

theorem q_apply (x0 : Vec Ideal S4096x128 .bf16) (s : ℕ)
    (inb : ∀ a, (![s, 0] : Fin 2 → ℕ) a + (![256, 128] : Fin 2 → ℕ) a ≤ S4096x128.size a) (r : Fin 256) (e : Fin 128)
    (n : Fin 4096) (hn : n.val = s + r.val) :
    View.ld (Val := Elt Ideal) x0 (Rect.unit (s := S4096x128) ![s, 0] ![256, 128] inb) (ix2 r e) = x0 (ix2 n e) := by
  show x0 _ = _
  congr 1
  funext a
  match a with
  | ⟨0, _⟩ => exact Fin.ext (by show s + 1 * r.val = n.val; omega)
  | ⟨1, _⟩ => exact Fin.ext (by show 0 + 1 * e.val = e.val; omega)

section pieces

variable {κ₁ κ₂ : Kind} {sp₁ sp₂ : Space} (w₁ : View sig κ₁ sp₁ S4608x128 .bf16) (w₂ : View sig κ₂ sp₂ S4608x128 .bf16)
  (Z₁ Z₂ : Vec Ideal S512x128 .bf16) (hZ₁ : ∀ x, Z₁ x = 0) (hZ₂ : ∀ x, Z₂ x = 0)
  (x0 x1 x2 : Vec Ideal S4096x128 .bf16) (x3 : Vec Ideal S1x1x1024 .f32)
  (s : ℕ) (inb : ∀ a, (![s, 0] : Fin 2 → ℕ) a + (![256, 128] : Fin 2 → ℕ) a ≤ S4096x128.size a)
  (inb' : ∀ a, (![s, 0] : Fin 2 → ℕ) a + (![768, 128] : Fin 2 → ℕ) a ≤ S4608x128.size a)

include hZ₁ hZ₂

/-- A weighing of the rows seen from block `s` whose scores are the kernel's is the kernel's value. -/
theorem piece_weigh (hs : s % 256 = 0) (hs' : s + 256 ≤ 4096) (r : Fin 256) (d : Fin 128) (n : Fin 4096)
    (hn : n.val = s + r.val) (f : EReal → Fin 768 → EReal) (hf : ∀ j a, f a j = if 512 ≤ s + j.val then a else ⊥) :
    weigh (fun j => f ((∑ e, View.ld (Val := Elt Ideal) x0 (Rect.unit (s := S4096x128) ![s, 0] ![256, 128] inb) (ix2 r e)
          * View.readCov (Val := Elt Ideal) w₁ (padded Z₁ x1) (Rect.unit (s := S4608x128) ![s, 0] ![768, 128] inb').toLoadRect (ix2 j e))
            * (((Real.sqrt 128)⁻¹ * (Real.log 2)⁻¹ : ℝ) : EReal)
          + k0_pay10 (F := Ideal) k0_pay7 (k0_pay8 x3) k0_pay9 (ix2 r j)) j)
        (fun j => View.readCov (Val := Elt Ideal) w₂ (padded Z₂ x2) (Rect.unit (s := S4608x128) ![s, 0] ![768, 128] inb').toLoadRect (ix2 j d))
      = headVal x0 x1 x2 x3 n d := by
  have hr := r.isLt
  have hb : n.val / 256 * 256 = s := by omega
  have hm : n.val % 256 = r.val := by omega
  unfold headVal
  congr 1
  · funext j
    rw [hf]
    unfold kscore
    rw [hb, hm, bias_apply]
    congr 3
    refine Finset.sum_congr rfl fun e _ => ?_
    rw [q_apply x0 s inb r e n hn, pad_apply w₁ Z₁ hZ₁ x1 s (by omega) inb' j e]
  · funext j
    rw [pad_apply w₂ Z₂ hZ₂ x2 s (by omega) inb' j d, hb]

theorem piece_mid (hs : s % 256 = 0) (hs' : s + 256 ≤ 4096) (h512 : 512 ≤ s) (x : S256x128.Idx) (y : S4096x128.Idx)
    (h0 : (y 0).val = s + (x 0).val) (h1 : (y 1).val = (x 1).val) :
    k0_pay15 (View.ld (Val := Elt Ideal) x0 (Rect.unit (s := S4096x128) ![s, 0] ![256, 128] inb))
      (View.readCov (Val := Elt Ideal) w₁ (padded Z₁ x1) (Rect.unit (s := S4608x128) ![s, 0] ![768, 128] inb').toLoadRect)
      (View.readCov (Val := Elt Ideal) w₂ (padded Z₂ x2) (Rect.unit (s := S4608x128) ![s, 0] ![768, 128] inb').toLoadRect)
      (k0_pay10 (F := Ideal) k0_pay7 (k0_pay8 x3) k0_pay9) x = headVal x0 x1 x2 x3 (y 0) (y 1) := by
  obtain ⟨r, d, rfl⟩ : ∃ (r : Fin 256) (d : Fin 128), x = ix2 r d := ⟨x 0, x 1, (ix2_eta x).symm⟩
  obtain ⟨n, d', rfl⟩ : ∃ (n : Fin 4096) (d' : Fin 128), y = ix2 n d' := ⟨y 0, y 1, (ix2_eta y).symm⟩
  obtain rfl : d' = d := Fin.ext h1
  exact (mid_apply _ _ _ _ r d').trans (piece_weigh w₁ w₂ Z₁ Z₂ hZ₁ hZ₂ x0 x1 x2 x3 s inb inb' hs hs' r d' n h0
    (fun a _ => a) (fun j a => by rw [if_pos (by omega)]))

theorem piece_edge0 (hs : s = 0) (x : S256x128.Idx) (y : S4096x128.Idx)
    (h0 : (y 0).val = s + (x 0).val) (h1 : (y 1).val = (x 1).val) :
    k0_pay11 (iota Kind.tc S256x768 32 [1] iota_S256x768_d1_w32)
       (View.ld (Val := Elt Ideal) x0 (Rect.unit (s := S4096x128) ![s, 0] ![256, 128] inb))
      (View.readCov (Val := Elt Ideal) w₁ (padded Z₁ x1) (Rect.unit (s := S4608x128) ![s, 0] ![768, 128] inb').toLoadRect)
      (View.readCov (Val := Elt Ideal) w₂ (padded Z₂ x2) (Rect.unit (s := S4608x128) ![s, 0] ![768, 128] inb').toLoadRect)
      (k0_pay10 (F := Ideal) k0_pay7 (k0_pay8 x3) k0_pay9) x = headVal x0 x1 x2 x3 (y 0) (y 1) := by
  obtain ⟨r, d, rfl⟩ : ∃ (r : Fin 256) (d : Fin 128), x = ix2 r d := ⟨x 0, x 1, (ix2_eta x).symm⟩
  obtain ⟨n, d', rfl⟩ : ∃ (n : Fin 4096) (d' : Fin 128), y = ix2 n d' := ⟨y 0, y 1, (ix2_eta y).symm⟩
  obtain rfl : d' = d := Fin.ext h1
  exact (edge0_apply _ _ _ _ r d').trans (piece_weigh w₁ w₂ Z₁ Z₂ hZ₁ hZ₂ x0 x1 x2 x3 s inb inb' (by omega) (by omega) r d' n h0
    (fun a j => if 512 ≤ j.val then a else ⊥) (fun j a => by rw [hs, Nat.zero_add]))

theorem piece_edge1 (hs : s = 256) (x : S256x128.Idx) (y : S4096x128.Idx)
    (h0 : (y 0).val = s + (x 0).val) (h1 : (y 1).val = (x 1).val) :
    k0_pay12 (iota Kind.tc S256x768 32 [1] iota_S256x768_d1_w32)
       (View.ld (Val := Elt Ideal) x0 (Rect.unit (s := S4096x128) ![s, 0] ![256, 128] inb))
      (View.readCov (Val := Elt Ideal) w₁ (padded Z₁ x1) (Rect.unit (s := S4608x128) ![s, 0] ![768, 128] inb').toLoadRect)
      (View.readCov (Val := Elt Ideal) w₂ (padded Z₂ x2) (Rect.unit (s := S4608x128) ![s, 0] ![768, 128] inb').toLoadRect)
      (constant S256x768 FTy.f32 0#32)
      (k0_pay10 (F := Ideal) k0_pay7 (k0_pay8 x3) k0_pay9) x = headVal x0 x1 x2 x3 (y 0) (y 1) := by
  obtain ⟨r, d, rfl⟩ : ∃ (r : Fin 256) (d : Fin 128), x = ix2 r d := ⟨x 0, x 1, (ix2_eta x).symm⟩
  obtain ⟨n, d', rfl⟩ : ∃ (n : Fin 4096) (d' : Fin 128), y = ix2 n d' := ⟨y 0, y 1, (ix2_eta y).symm⟩
  obtain rfl : d' = d := Fin.ext h1
  exact (edge1_apply _ _ _ _ r d').trans (piece_weigh w₁ w₂ Z₁ Z₂ hZ₁ hZ₂ x0 x1 x2 x3 s inb inb' (by omega) (by omega) r d' n h0
    (fun a j => if 256 ≤ j.val then a else ⊥) (fun j a => if_congr (by omega) rfl rfl))

end pieces

section compositions

variable (q : Vec Ideal S256x128 .bf16) (k v : Vec Ideal S768x128 .bf16) (b : Vec Ideal S256x768 .f32)

/-! The middle blocks' stores are the same function of queries, keys, values and bias. -/

theorem mid2 : k0_pay14 v (k0_pay13 q k b) = k0_pay15 q k v b := rfl
theorem mid4 : k0_pay16 q k v b = k0_pay15 q k v b := rfl
theorem mid5 : k0_pay19 v (k0_pay17 q k b) (k0_pay18 q k b) = k0_pay15 q k v b := rfl
theorem mid6 : k0_pay20 q k v b = k0_pay15 q k v b := rfl
theorem mid7 : k0_pay21 q k v b = k0_pay15 q k v b := rfl
theorem mid8 : k0_pay23 v (k0_pay22 q k) b = k0_pay15 q k v b := rfl
theorem mid9 : k0_pay24 q k v b = k0_pay15 q k v b := rfl
theorem mid10 : k0_pay25 q k v b = k0_pay15 q k v b := rfl
theorem mid11 : k0_pay27 v (k0_pay26 q k) b = k0_pay15 q k v b := rfl
theorem mid12 : k0_pay28 q k v b = k0_pay15 q k v b := rfl
theorem mid13 : k0_pay29 q k v b = k0_pay15 q k v b := rfl
theorem mid14 : k0_pay31 v (k0_pay30 q k) b = k0_pay15 q k v b := rfl
theorem mid15 : k0_pay1 (k0_pay33 q k b) (k0_pay34 q k v b) = k0_pay15 q k v b := rfl

end compositions

end Cert.KernelIdeal.Value

end
-- ==== Proof.Point.lean ====
/-
  WHAT A GRID POINT OF THE ATTENTION KERNEL WRITES, from its sixteen stores.
-/
module

public import proofs.«01_k».proof.Proof.Block

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- **What a grid point writes.** -/
theorem outsAt0_apply (c t) (y : S4096x128.Idx) : (outsAt0 m c t : Vec Ideal S4096x128 .bf16) y
    = headVal (X0_0 m c t) (X0_1 m c t) (X0_2 m c t) (iblk m c 3 t) (y 0) (y 1) := by
  unfold outsAt0
  frame_out
  simp only [pay5_eq, pay6_eq, mid2, mid4, mid5, mid6, mid7, mid8, mid9, mid10, mid11, mid12, mid13, mid14, mid15]
  generalize X0_0 m c t = x0
  generalize X0_1 m c t = x1
  generalize X0_2 m c t = x2
  generalize iblk m c 3 t = x3
  canon_tiles x h
  iterate 14
    refine piece_mid _ _ _ _ ?_ ?_ _ _ _ _ _ _ _ ?_ ?_ ?_ x y h0 h1
    · exact pay3_zero
    · exact pay4_zero
    · norm_num
    · norm_num
    · norm_num
  · exact piece_edge1 _ _ _ _ pay3_zero pay4_zero _ _ _ _ _ _ _ rfl x y h0 h1
  · exact piece_edge0 _ _ _ _ pay3_zero pay4_zero _ _ _ _ _ _ _ rfl x y (h0.trans (Nat.zero_add _).symm) h1

end Cert.KernelIdeal.Value

end
-- ==== Proof.Array.lean ====
/-
  THE ATTENTION KERNEL'S RESULT ARRAY at an index: grid point `(b, h)` writes rows `4096 b …` and columns `128 h …`.
-/
module

public import proofs.«01_k».proof.Proof.Point

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

/-- The entry of the combined projection at a row and a column. -/
def entry (A : Vec Ideal S9216x6144 .bf16) (r c : ℕ) : EReal :=
  if h : r < 9216 ∧ c < 6144 then A (ix2 ⟨r, h.1⟩ ⟨c, h.2⟩) else 0

/-- The 4096 rows of batch element `b` and 128 columns from `col` on. -/
def slab (A : Vec Ideal S9216x6144 .bf16) (b col : ℕ) : Vec Ideal S4096x128 .bf16 :=
  fun j => entry A (b * 4096 + (j 0).val) (col + (j 1).val)

/-- Head `h`'s bias row. -/
def biasRow (B : Vec Ideal S16x1x1024 .f32) (h : ℕ) : Vec Ideal S1x1x1024 .f32 :=
  fun j => if hh : h < 16 then B (ix3 ⟨h, hh⟩ 0 (j 2)) else 0

/-- The result at row `i`, column `j`. -/
def attnAt (A : Vec Ideal S9216x6144 .bf16) (B : Vec Ideal S16x1x1024 .f32) (i j : ℕ) : EReal :=
  headVal (slab A (i / 4096) (j / 128 * 128)) (slab A (i / 4096) (2048 + j / 128 * 128))
    (slab A (i / 4096) (4096 + j / 128 * 128)) (biasRow B (j / 128)) ⟨i % 4096, Nat.mod_lt _ (by omega)⟩
    ⟨j % 128, Nat.mod_lt _ (by omega)⟩

theorem attnAt_of (A : Vec Ideal S9216x6144 .bf16) (B : Vec Ideal S16x1x1024 .f32) (b h : ℕ) (n : Fin 4096) (d : Fin 128)
    (i j : ℕ) (hi : i = b * 4096 + n.val) (hj : j = h * 128 + d.val) : attnAt A B i j
      = headVal (slab A b (h * 128)) (slab A b (2048 + h * 128)) (slab A b (4096 + h * 128)) (biasRow B h) n d := by
  have hn := n.isLt
  have hd := d.isLt
  have q0 : i / 4096 = b := by omega
  have q1 : j / 128 = h := by omega
  unfold attnAt
  rw [q0, q1]
  congr 1
  · exact Fin.ext (by show i % 4096 = n.val; omega)
  · exact Fin.ext (by show j % 128 = d.val; omega)

theorem idx : ∀ t : Fin cfg0.N,
    win0_0.index t = ![(grid0.coords t 0).val, (grid0.coords t 1).val]
    ∧ win0_1.index t = ![(grid0.coords t 0).val, 16 + (grid0.coords t 1).val]
    ∧ win0_2.index t = ![(grid0.coords t 0).val, 32 + (grid0.coords t 1).val]
    ∧ win0_3.index t = ![(grid0.coords t 1).val, 0, 0]
    ∧ win0_4.index t = ![(grid0.coords t 0).val, (grid0.coords t 1).val]
    ∧ (grid0.coords t 0).val < 2 ∧ (grid0.coords t 1).val < 16 :=
  (by decide +kernel : ∀ t : Fin grid0.N, _)

variable (m : (ℓ : Loc nD τ sig) → Buf (Elt Ideal) ℓ)

theorem x0_eq (c t) : (X0_0 m c t : Vec Ideal S4096x128 .bf16)
    = slab (m ((c : Thread nD τ).loc main_arg0)) (grid0.coords t 0).val ((grid0.coords t 1).val * 128) := by
  obtain ⟨e0, e1, e2, e3, e4, l0, l1⟩ := idx t
  funext j
  idx_vars j
  unfold slab entry
  rw [dif_pos ⟨by show _ + j0.val < _; omega, by show _ + j1.val < _; omega⟩]
  unfold X0_0 Pipeline.Window.fill
  rw [dif_pos (moved0_0 t _)]
  blk_ext [iblk, V_main_arg0, e0]

theorem x1_eq (c t) : (X0_1 m c t : Vec Ideal S4096x128 .bf16)
    = slab (m ((c : Thread nD τ).loc main_arg0)) (grid0.coords t 0).val (2048 + (grid0.coords t 1).val * 128) := by
  obtain ⟨e0, e1, e2, e3, e4, l0, l1⟩ := idx t
  funext j
  idx_vars j
  unfold slab entry
  rw [dif_pos ⟨by show _ + j0.val < _; omega, by show _ + j1.val < _; omega⟩]
  unfold X0_1 Pipeline.Window.fill
  rw [dif_pos (moved0_1 t _)]
  blk_ext [iblk, V_main_arg0, e1]

theorem x2_eq (c t) : (X0_2 m c t : Vec Ideal S4096x128 .bf16)
    = slab (m ((c : Thread nD τ).loc main_arg0)) (grid0.coords t 0).val (4096 + (grid0.coords t 1).val * 128) := by
  obtain ⟨e0, e1, e2, e3, e4, l0, l1⟩ := idx t
  funext j
  idx_vars j
  unfold slab entry
  rw [dif_pos ⟨by show _ + j0.val < _; omega, by show _ + j1.val < _; omega⟩]
  unfold X0_2 Pipeline.Window.fill
  rw [dif_pos (moved0_2 t _)]
  blk_ext [iblk, V_main_arg0, e2]

theorem x3_eq (c t) : (iblk m c 3 t : Vec Ideal S1x1x1024 .f32)
    = biasRow (V m c main_v5) (grid0.coords t 1).val := by
  obtain ⟨e0, e1, e2, e3, e4, l0, l1⟩ := idx t
  funext j
  idx_vars j
  unfold biasRow
  rw [dif_pos l1]
  blk_ext [iblk, e3]

/-- **The result array.** -/
theorem final (c) : (dats m 0 c).arrAt 4 cfg0.N
    = fun i : S8192x2048.Idx => attnAt (m ((c : Thread nD τ).loc main_arg0)) (V m c main_v5) (i 0).val (i 1).val := by
  refine (dats m 0 c).arrAt_eq_of_covers 4 _ (by decide +kernel) fun t hf y => ?_
  obtain ⟨e0, e1, e2, e3, e4, l0, l1⟩ := idx t
  blk_simp
  rw [after0_4]
  refine (outsAt0_apply m c t y).trans ?_
  rw [x0_eq, x1_eq, x2_eq, x3_eq]
  refine (attnAt_of _ _ (grid0.coords t 0).val (grid0.coords t 1).val (y 0) (y 1) _ _ ?_ ?_).symm
  · rw [e4]; rfl
  · rw [e4]; rfl

end Cert.KernelIdeal.Value

end
-- ==== Proof.Ref.lean ====
/-
  THE REFERENCE ATTENTION AT AN INDEX: chunk `c` of 64 queries sees 576 padded keys, its own 64 and the 512 before them.
-/
module

public import proofs.«01_k».proof.Proof.RefIdx
public import proofs.«01_k».proof.Proof.Array

@[expose] public section

set_option maxRecDepth 16384

noncomputable section

namespace Cert.ReferenceIdeal.Read

open Cert.ReferenceIdeal Cert.ReferenceIdeal.Gen Idealize.ShloMosaic Idealize.SL.Sem
open Cert.KernelIdeal.Value (entry negInf_f32 fold_max)
open scoped BigOperators

variable (x0 : Vec Ideal S9216x6144 .bf16) (x1 : Vec Ideal S16x257 .f32)

/-- The entry of padded row `p` in the columns from `col` on: zero in the first 512 rows. -/
def padEntry (b p col : ℕ) (e : Fin 128) : EReal :=
  if 512 ≤ p then entry x0 (b * 4096 + (p - 512)) (col + e.val) else 0

/-- The score of query `q` of chunk `c` against key `k` of the 576 it sees. -/
def rscore (c : Fin 64) (b : Fin 2) (h : Fin 16) (q : Fin 64) (k : Fin 576) : EReal :=
  if 512 ≤ 64 * c.val + k.val then
    (∑ e : Fin 128, entry x0 (b.val * 4096 + (64 * c.val + q.val)) (h.val * 128 + e.val)
        * padEntry x0 b.val (64 * c.val + k.val) (2048 + h.val * 128) e) * (((Real.sqrt 128)⁻¹ : ℝ) : EReal)
      + x1 (ix2 h ⟨relIdx q k, relIdx_lt q k⟩)
  else ⊥

theorem entry_of (r c : ℕ) (hr : r < 9216) (hc : c < 6144) : x0 (ix2 ⟨r, hr⟩ ⟨c, hc⟩) = entry x0 r c := by
  unfold entry
  rw [dif_pos ⟨hr, hc⟩]

theorem zero_word (i : S_.Idx) : val_main_call0_v0 (F := Ideal) i = 0 := by
  rw [val_main_call0_v0_apply, val_main_c_apply]
  show (((0#32 : BitVec 32).toInt : ℝ) : EReal) = 0
  simp

theorem zero_word' (i : S_.Idx) : val_main_call1_v0 (F := Ideal) i = 0 := by
  rw [val_main_call1_v0_apply, val_main_c_0_apply]
  show (((0#32 : BitVec 32).toInt : ℝ) : EReal) = 0
  simp

theorem v5_at (b : Fin 2) (n : Fin 4096) (h : Fin 16) (e : Fin 128) :
    val_main_v5 x0 (ix4 b n h e) = entry x0 (b.val * 4096 + n.val) (h.val * 128 + e.val) := by
  pointwise [val_main_v5, val_main_v2, val_main_v1, val_main_v0]
  exact entry_of _ _ _ _ _

theorem v8_at (b : Fin 2) (n : Fin 4608) (h : Fin 16) (e : Fin 128) :
    val_main_v8 x0 (ix4 b n h e) = padEntry x0 b.val n.val (2048 + h.val * 128) e := by
  have hn := n.isLt
  unfold padEntry
  pointwise [val_main_v8, val_main_v6, val_main_v3, val_main_v1, val_main_v0]
  by_cases h1 : 512 ≤ n.val
  · rw [dif_pos ⟨h1, by omega⟩, if_pos h1, Nat.add_assoc]
    exact entry_of x0 _ _ _ _
  · rw [dif_neg (by omega), if_neg h1, zero_word]

theorem v9_at (b : Fin 2) (n : Fin 4608) (h : Fin 16) (e : Fin 128) :
    val_main_v9 x0 (ix4 b n h e) = padEntry x0 b.val n.val (4096 + h.val * 128) e := by
  have hn := n.isLt
  unfold padEntry
  pointwise [val_main_v9, val_main_v7, val_main_v4, val_main_v1, val_main_v0]
  by_cases h1 : 512 ≤ n.val
  · rw [dif_pos ⟨h1, by omega⟩, if_pos h1, Nat.add_assoc]
    exact entry_of x0 _ _ _ _
  · rw [dif_neg (by omega), if_neg h1, zero_word']

theorem v44_at (c : Fin 64) (b : Fin 2) (i : Fin 64) (h : Fin 16) (e : Fin 128) :
    val_main_v44 x0 (ix5 c b i h e) = entry x0 (b.val * 4096 + (64 * c.val + i.val)) (h.val * 128 + e.val) := by
  unfold val_main_v44
  rw [gq _ _ start_q, v5_at]

theorem v55_at (c : Fin 64) (b : Fin 2) (i : Fin 576) (h : Fin 16) (e : Fin 128) :
    val_main_v55 x0 (ix5 c b i h e) = padEntry x0 b.val (64 * c.val + i.val) (2048 + h.val * 128) e := by
  unfold val_main_v55
  rw [gk _ _ start_k, v8_at]

theorem v66_at (c : Fin 64) (b : Fin 2) (i : Fin 576) (h : Fin 16) (e : Fin 128) :
    val_main_v66 x0 (ix5 c b i h e) = padEntry x0 b.val (64 * c.val + i.val) (4096 + h.val * 128) e := by
  unfold val_main_v66
  rw [gk _ _ start_v, v9_at]

theorem ofBits_128 : Ideal.ofBits .f32 0x43000000#32 = ((128 : ℝ) : EReal) := by
  simp only [Ideal.ofBits, Ideal.ieee]
  simp
  show ((8388608 : ℝ) : EReal) * (((2 ^ 16)⁻¹ : ℝ) : EReal) = ((128 : ℝ) : EReal)
  rw [← EReal.coe_mul]
  norm_num

theorem v30_at (i : S_.Idx) : val_main_v30 (F := Ideal) i = (((Real.sqrt 128)⁻¹ : ℝ) : EReal) := by
  pointwise [val_main_v30, val_main_v29, val_main_cst, val_main_cst_7]
  have h : Real.sqrt 128 ≠ 0 := by positivity
  rw [ofBits_128, Ideal.sqrt_coe, if_neg (by norm_num), Ideal.div_coe h, one_mul, one_div]

theorem v82_at (c : Fin 64) (b : Fin 2) (h : Fin 16) (q : Fin 64) (k : Fin 576) :
    val_main_v82 x0 x1 (ix5 c b h q k) = rscore x0 x1 c b h q k := by
  have hbit : val_main_call3_v1 (F := Ideal) (ix5 c b h q k) = if 512 ≤ 64 * c.val + k.val then 1#1 else 0#1 := by
    rw [val_main_call3_v1_apply, val_main_v81_apply, ← valid_eq]
    exact congrArg _ (funext fun a => match a with | ⟨0, _⟩ => rfl | ⟨1, _⟩ => rfl | ⟨2, _⟩ => rfl)
  have hbot : val_main_call3_v3 (F := Ideal) (ix5 c b h q k) = ⊥ := by
    rw [val_main_call3_v3_apply, val_main_call3_v2_apply, val_main_call3_v0_apply, val_main_cst_25_apply]
    exact negInf_f32
  have hdot : val_main_v67 x0 (ix5 c b h q k) = ∑ e : Fin 128, entry x0 (b.val * 4096 + (64 * c.val + q.val)) (h.val * 128 + e.val)
        * padEntry x0 b.val (64 * c.val + k.val) (2048 + h.val * 128) e := by
    rw [val_main_v67_apply]
    refine Finset.sum_congr rfl fun e _ => ?_
    refine congrArg₂ (· * ·) ((congrArg _ (funext fun a => ?_)).trans (v44_at x0 c b q h e))
      ((congrArg _ (funext fun a => ?_)).trans (v55_at x0 c b k h e))
    · match a with
      | ⟨0, _⟩ => rfl
      | ⟨1, _⟩ => rfl
      | ⟨2, _⟩ => rfl
      | ⟨3, _⟩ => rfl
      | ⟨4, _⟩ => rfl
    · match a with
      | ⟨0, _⟩ => rfl
      | ⟨1, _⟩ => rfl
      | ⟨2, _⟩ => rfl
      | ⟨3, _⟩ => rfl
      | ⟨4, _⟩ => rfl
  have hbias : val_main_v72 x1 (ix5 c b h q k) = x1 (ix2 h ⟨relIdx q k, relIdx_lt q k⟩) := by
    rw [val_main_v72_apply, val_main_v71_apply, val_main_v70_apply]
    refine Eq.trans (congrArg _ ?_) (bias_at x1 h q k)
    exact (funext fun a => match a with | ⟨0, _⟩ => rfl | ⟨1, _⟩ => rfl | ⟨2, _⟩ => rfl)
  have hmul : val_main_v73 x0 x1 (ix5 c b h q k) = val_main_v67 x0 (ix5 c b h q k) * (((Real.sqrt 128)⁻¹ : ℝ) : EReal)
      + val_main_v72 x1 (ix5 c b h q k) := by
    rw [val_main_v73_apply, val_main_v69_apply, val_main_v68_apply, v30_at]
    rfl
  rw [val_main_v82_apply, hbit, hbot, hmul, hdot, hbias]
  unfold rscore
  split_ifs <;> rfl

theorem v85_at (c : Fin 64) (b : Fin 2) (h : Fin 16) (q : Fin 64) :
    val_main_v85 x0 x1 (ix4 c b h q) = Finset.univ.sup (rscore x0 x1 c b h q) := by
  have e1 : val_main_v83 x0 x1 (ix4 c b h q) = Finset.univ.sup (rscore x0 x1 c b h q) := by
    have e0 : val_main_v83 x0 x1 (ix4 c b h q)
        = Finset.fold max (val_main_cst_26 (F := Ideal) (Shape.Idx.first h_S_)) (fun x => val_main_v82 x0 x1 (ix5 c b h q x)) Finset.univ := by
      pointwise [val_main_v83]
    rw [e0, funext (v82_at x0 x1 c b h q), val_main_cst_26_apply]
    exact fold_max _
  have e2 : val_main_v84 (F := Ideal) (ix4 c b h q) = ⊥ := by
    rw [val_main_v84_apply, val_main_cst_27_apply]
    exact negInf_f32
  rw [val_main_v85_apply, e1, e2]
  exact max_eq_right bot_le

theorem v89_at (c : Fin 64) (b : Fin 2) (h : Fin 16) (q : Fin 64) (k : Fin 576) :
    val_main_v89 x0 x1 (ix5 c b h q k)
      = Ideal.exp (rscore x0 x1 c b h q k - Finset.univ.sup (rscore x0 x1 c b h q)) := by
  have e : val_main_v87 x0 x1 (ix5 c b h q k) = Finset.univ.sup (rscore x0 x1 c b h q) := by
    rw [val_main_v87_apply, val_main_v86_apply, ← v85_at]
    exact congrArg _ (funext fun a => match a with | ⟨0, _⟩ => rfl | ⟨1, _⟩ => rfl | ⟨2, _⟩ => rfl | ⟨3, _⟩ => rfl)
  rw [val_main_v89_apply, val_main_v88_apply, e, v82_at]
  rfl

theorem v93_at (c : Fin 64) (b : Fin 2) (h : Fin 16) (q : Fin 64) (k : Fin 576) :
    val_main_v93 x0 x1 (ix5 c b h q k)
      = Ideal.div (Ideal.exp (rscore x0 x1 c b h q k - Finset.univ.sup (rscore x0 x1 c b h q)))
          (∑ k', Ideal.exp (rscore x0 x1 c b h q k' - Finset.univ.sup (rscore x0 x1 c b h q))) := by
  have e : val_main_v92 x0 x1 (ix5 c b h q k)
      = ∑ k', Ideal.exp (rscore x0 x1 c b h q k' - Finset.univ.sup (rscore x0 x1 c b h q)) := by
    rw [val_main_v92_apply, val_main_v91_apply, val_main_v90_apply, val_main_cst_28_apply]
    have hz : (FloatOps.ofBits .f32 0x00000000#32 : Ideal .f32) = (0 : EReal) := by
      show Ideal.ofBits .f32 0x00000000#32 = 0
      simp [Ideal.ofBits, Ideal.ieee]
    rw [hz]
    refine (zero_add _).trans (Finset.sum_congr rfl fun k' _ => ?_)
    rw [← v89_at]
    exact congrArg _ (funext fun a => match a with
      | ⟨0, _⟩ => rfl | ⟨1, _⟩ => rfl | ⟨2, _⟩ => rfl | ⟨3, _⟩ => rfl | ⟨4, _⟩ => rfl)
  rw [val_main_v93_apply, e, v89_at]
  rfl

/-- The reference's result. -/
theorem v99_at (c : Fin 64) (b : Fin 2) (h : Fin 16) (q : Fin 64) (d : Fin 128) :
    val_main_v99 x0 x1 (ix2 ⟨b.val * 4096 + 64 * c.val + q.val, by omega⟩ ⟨h.val * 128 + d.val, by omega⟩)
      = ∑ k : Fin 576, padEntry x0 b.val (64 * c.val + k.val) (4096 + h.val * 128) d
          * Ideal.div (Ideal.exp (rscore x0 x1 c b h q k - Finset.univ.sup (rscore x0 x1 c b h q)))
            (∑ k', Ideal.exp (rscore x0 x1 c b h q k' - Finset.univ.sup (rscore x0 x1 c b h q))) := by
  have e : val_main_v99 x0 x1 (ix2 ⟨b.val * 4096 + 64 * c.val + q.val, by omega⟩ ⟨h.val * 128 + d.val, by omega⟩)
      = val_main_v94 x0 x1 (ix5 c b h d q) := by
    rw [val_main_v99_apply, val_main_v98_apply, val_main_v97_apply, val_main_v96_apply, val_main_v95_apply, Ideal.truncf_def]
    refine congrArg _ (funext fun a => Fin.ext ?_)
    match a with
    | ⟨0, _⟩ => dsimp [ix2, ix5]; omega
    | ⟨1, _⟩ => dsimp [ix2, ix5]; omega
    | ⟨2, _⟩ => dsimp [ix2, ix5]; omega
    | ⟨3, _⟩ => dsimp [ix2, ix5]; omega
    | ⟨4, _⟩ => dsimp [ix2, ix5]; omega
  rw [e, val_main_v94_apply]
  refine Finset.sum_congr rfl fun k _ => ?_
  refine congrArg₂ (· * ·) ((congrArg _ (funext fun a => ?_)).trans (v66_at x0 c b k h d))
    ((congrArg _ (funext fun a => ?_)).trans (v93_at x0 x1 c b h q k))
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl
    | ⟨4, _⟩ => rfl

end Cert.ReferenceIdeal.Read
-- ==== Proof.Bias.lean ====
/-
  THE HOST'S BIAS ROWS, which the attention kernel reads instead of the table: entry `x` of head `h`'s row is the table's
  entry at `relIx x`.
-/
module

public import proofs.«01_k».proof.Proof.Array

@[expose] public section

set_option maxRecDepth 16384

noncomputable section

namespace Cert.KernelIdeal.Value

open Cert.KernelIdeal Cert.KernelIdeal.Gen Idealize.ShloMosaic Idealize.ShloMosaic.TcCoe Idealize.SL.Sem

/-- The table entry behind entry `x` of a bias row. -/
def relIx (x : ℕ) : ℕ := if x ≤ 384 ∨ 768 ≤ x then 256 else 640 - x

theorem relIx_lt (x : ℕ) : relIx x < 257 := by
  unfold relIx
  split_ifs <;> omega

/-- The literal the program indexes the table with. -/
theorem lit_eq : ∀ x : Fin 1024, lit0 x = BitVec.ofNat 32 (relIx x.val) := by decide +kernel

variable (m : (ℓ : Loc nD τ sig) → Buf (Elt Ideal) ℓ)

theorem bias_row (c : Dev nD) (h : Fin 16) (x : Fin 1024) :
    (V m c main_v5 : Vec Ideal S16x1x1024 .f32) (ix3 h 0 x)
      = (m (c, Proc.tc.devRef main_arg1) : Vec Ideal S16x257 .f32) (ix2 h ⟨relIx x.val, relIx_lt _⟩) := by
  entry_read
  pointwise
  generalize m (c, Proc.tc.devRef main_arg1) = y
  have hx := relIx_lt x.val
  unfold Host.gather
  refine congrArg y (funext fun a => Fin.ext ?_)
  match a with
  | ⟨0, _⟩ =>
    show 0 + 0 + h.val = h.val
    omega
  | ⟨1, _⟩ =>
    have e : ∀ idx : IVec S1024x1 32, idx (ix2 x 0) = BitVec.ofNat 32 (relIx x.val) →
        (gather_S16x257_S1024x1_S16x1024_0_1_n_n_1_1_161.operandIdx (ix2 h x) idx 1).val = relIx x.val := by
      intro idx hi
      show min (idx (GatherDims.siIdx gather_S16x257_S1024x1_S16x1024_0_1_n_n_1_1_161 (ix2 h x) ⟨0, _⟩)).toInt.toNat 256 + 0 + 0 = relIx x.val
      have e : (GatherDims.siIdx gather_S16x257_S1024x1_S16x1024_0_1_n_n_1_1_161 (ix2 h x) ⟨0, by decide⟩) = ix2 x 0 := by
        funext a
        match a with
        | ⟨0, _⟩ => rfl
        | ⟨1, _⟩ => rfl
      rw [e, hi, BitVec.toInt_eq_toNat_of_lt (by simp only [BitVec.toNat_ofNat]; omega)]
      simp only [BitVec.toNat_ofNat, Int.toNat_natCast]
      omega
    refine e _ ?_
    pointwise
    exact (congrArg lit0 (Fin.ext (Shape.rowMajor_val_one _))).trans (lit_eq x)

end Cert.KernelIdeal.Value
-- ==== Proof.Pre.lean ====
/-
  WHAT THE PRECONDITION SAYS: the queries, the keys and the bias table hold real numbers.
-/
module

public import proofs.«01_k».proof.Proof.Gen.Pre_qk_finite
public import Idealize.ShloMosaic.Lib.ReduceAll
public import Idealize.ShloMosaic.Lib.Pointwise

@[expose] public section

set_option maxRecDepth 16384

noncomputable section

namespace Cert.Pre_qk_finite.Gen

open Cert.Pre_qk_finite Idealize.ShloMosaic Idealize.SL.Sem

theorem inf_f32 : Ideal.ofBits .f32 0x7F800000#32 = (⊤ : EReal) := by simp [Ideal.ofBits, Ideal.ieee]

/-- A number whose absolute value is below infinity is real. -/
theorem real_of_bit (x : EReal)
    (h : BitVec.ofBool (decide (FloatOps.absf (F := Ideal) (φ := .f32) x < Ideal.ofBits FTy.f32 0x7F800000#32)) = 1#1) :
    ∃ r : ℝ, x = r := by
  have h1 : FloatOps.absf (F := Ideal) (φ := .f32) x < Ideal.ofBits FTy.f32 0x7F800000#32 := by
    by_contra hn
    rw [decide_eq_false hn] at h
    exact absurd h (by decide)
  rw [inf_f32] at h1
  have h2 : max x (-x) < ⊤ := h1
  induction x using EReal.rec with
  | bot => simp at h2
  | top => simp at h2
  | coe r => exact ⟨r, rfl⟩

theorem andi_one (a b : BitVec 1) (h : IntOp.andi a b = 1#1) : a = 1#1 ∧ b = 1#1 := by
  revert a b; decide

variable (x0 : Vec Ideal S9216x6144 .bf16) (x1 : Vec Ideal S16x257 .f32)

theorem reals (h : fn (F := Ideal) x0 x1 = fun _ => 1#1) :
    (∀ (i : Fin 8192) (j : Fin 4096), ∃ r : ℝ, x0 (ix2 ⟨i.val, by omega⟩ ⟨j.val, by omega⟩) = r)
      ∧ ∀ i j, ∃ r : ℝ, x1 (ix2 i j) = r := by
  have h0 := congrFun h (Shape.Idx.first h_S_)
  have ⟨ha, hb⟩ := andi_one _ _ h0
  haveI : Subsingleton S_.Idx := ⟨fun a b => funext fun x => x.elim0⟩
  constructor
  · intro i j
    have h1 := Host.reduce_andi_all _ _ _ _ _ ha (ix2 i j)
    pointwise at h1
    exact real_of_bit _ h1
  · intro i j
    have h1 := Host.reduce_andi_all _ _ _ _ _ hb (ix2 i j)
    pointwise at h1
    exact real_of_bit _ h1

end Cert.Pre_qk_finite.Gen
-- ==== Proof.Match.lean ====
/-
  THE TWO ATTENTIONS AGREE: a query row of the kernel sees, inside its band, exactly the keys its chunk of the reference
  sees; the kernel's scores there are the reference's in units of `log 2`.
-/
module

public import proofs.«01_k».proof.Proof.Ref
public import proofs.«01_k».proof.Proof.Bias
public import proofs.«01_k».proof.Proof.Pre

@[expose] public section

set_option maxRecDepth 16384

noncomputable section

namespace Cert.Attn

open Idealize.ShloMosaic Idealize.SL.Sem
open Cert.KernelIdeal (S9216x6144 S16x257 S16x1x1024)
open Cert.KernelIdeal.Value Cert.ReferenceIdeal.Read
open scoped BigOperators

variable (A : Vec Ideal S9216x6144 .bf16) (T : Vec Ideal S16x257 .f32)

/-- The queries, the keys and the bias table hold real numbers. -/
def Reals : Prop := (∀ (i : Fin 8192) (j : Fin 4096), ∃ r : ℝ, A (ix2 ⟨i.val, by omega⟩ ⟨j.val, by omega⟩) = r)
  ∧ ∀ i j, ∃ r : ℝ, T (ix2 i j) = r

theorem sum_real {n : ℕ} (f : Fin n → EReal) (h : ∀ i, ∃ r : ℝ, f i = r) : ∃ r : ℝ, ∑ i, f i = r := by
  choose g hg using h
  refine ⟨∑ i, g i, ?_⟩
  rw [coe_sum]
  exact Finset.sum_congr rfl fun i _ => hg i

variable {A T}

theorem entry_real (hR : Reals A T) (r c : ℕ) (hr : r < 8192) (hc : c < 4096) : ∃ x : ℝ, entry A r c = x := by
  obtain ⟨x, hx⟩ := hR.1 ⟨r, hr⟩ ⟨c, hc⟩
  exact ⟨x, by unfold entry; rw [dif_pos ⟨by omega, by omega⟩]; exact hx⟩

theorem padEntry_real (hR : Reals A T) (b p col : ℕ) (e : Fin 128) (hb : b < 2) (hp : p < 4608) (hc : col + 128 ≤ 4096) :
    ∃ x : ℝ, padEntry A b p col e = x := by
  have he := e.isLt
  unfold padEntry
  split_ifs with h
  · exact entry_real hR _ _ (by omega) (by omega)
  · exact ⟨0, rfl⟩

theorem dot_real (hR : Reals A T) (c : Fin 64) (b : Fin 2) (h : Fin 16) (q : Fin 64) (k : Fin 576) :
    ∃ x : ℝ, (∑ e : Fin 128, entry A (b.val * 4096 + (64 * c.val + q.val)) (h.val * 128 + e.val)
        * padEntry A b.val (64 * c.val + k.val) (2048 + h.val * 128) e) = x := by
  refine sum_real _ fun e => ?_
  obtain ⟨x, hx⟩ := entry_real hR (b.val * 4096 + (64 * c.val + q.val)) (h.val * 128 + e.val) (by omega) (by omega)
  obtain ⟨y, hy⟩ := padEntry_real hR b.val (64 * c.val + k.val) (2048 + h.val * 128) e b.isLt (by omega) (by omega)
  exact ⟨x * y, by rw [hx, hy, EReal.coe_mul]⟩

theorem rscore_real (hR : Reals A T) (c : Fin 64) (b : Fin 2) (h : Fin 16) (q : Fin 64) (k : Fin 576)
    (hk : 512 ≤ 64 * c.val + k.val) : ∃ x : ℝ, rscore A T c b h q k = x := by
  obtain ⟨x, hx⟩ := dot_real hR c b h q k
  obtain ⟨y, hy⟩ := hR.2 h ⟨relIdx q k, relIdx_lt q k⟩
  refine ⟨x * (Real.sqrt 128)⁻¹ + y, ?_⟩
  unfold rscore
  rw [if_pos hk, hx]
  refine (congrArg _ hy).trans ?_
  rw [EReal.coe_add, EReal.coe_mul]

/-- A padded row of a head's slab. -/
theorem padRow_slab (b col p : ℕ) (e : Fin 128) (hp : p < 4608) : padRow (slab A b col) p e = padEntry A b p col e := by
  unfold padRow padEntry
  by_cases h : 512 ≤ p
  · rw [dif_pos ⟨h, hp⟩, if_pos h]; rfl
  · rw [dif_neg (fun h' => h h'.1), if_neg h]

/-- Inside its band, a query row's bias entry is the reference's. -/
theorem rel_match (q : Fin 64) (k : Fin 576) (o : ℕ) (ho : o ≤ 192) :
    relIx ((o + k.val + 1024 - (o + q.val) % 1024) % 1024) = relIdx q k := by
  have hq := q.isLt
  have hk := k.isLt
  unfold relIx relIdx
  split_ifs <;> omega

theorem kscore_band (hR : Reals A T) (B : Vec Ideal S16x1x1024 .f32)
    (hB : ∀ (h : Fin 16) (x : Fin 1024), B (ix3 h 0 x) = T (ix2 h ⟨relIx x.val, relIx_lt _⟩))
    (c : Fin 64) (b : Fin 2) (h : Fin 16) (q : Fin 64) (k : Fin 576) (n : Fin 4096) (hn : n.val = 64 * c.val + q.val)
    (j : Fin 768) (hj : j.val = 64 * (n.val % 256 / 64) + k.val) :
    kscore (slab A b.val (h.val * 128)) (slab A b.val (2048 + h.val * 128)) (biasRow B h.val) n j
      = rscore A T c b h q k * (((Real.log 2)⁻¹ : ℝ) : EReal) := by
  have hc := c.isLt
  have hq := q.isLt
  have hk := k.isLt
  have hl : (0 : ℝ) < (Real.log 2)⁻¹ := inv_pos.2 (Real.log_pos (by norm_num))
  have hrow : n.val / 256 * 256 + j.val = 64 * c.val + k.val := by omega
  unfold kscore rscore
  rw [hrow]
  split_ifs with hv
  · obtain ⟨x, hx⟩ := dot_real hR c b h q k
    obtain ⟨y, hy⟩ := hR.2 h ⟨relIdx q k, relIdx_lt q k⟩
    have hdot : (∑ e, slab A b.val (h.val * 128) (ix2 n e) * padRow (slab A b.val (2048 + h.val * 128)) (64 * c.val + k.val) e) = (x : EReal) := by
      rw [← hx]
      refine Finset.sum_congr rfl fun e _ => ?_
      rw [padRow_slab _ _ _ _ (by omega), ← hn]
      rfl
    have hbias : biasAt (biasRow B h.val) (n.val % 256) j.val = (y : EReal) * (((Real.log 2)⁻¹ : ℝ) : EReal) := by
      unfold biasAt
      rw [if_pos (by omega)]
      congr 1
      rw [← hy]
      have e1 := rel_match q k (64 * (n.val % 256 / 64)) (by omega)
      have e2 : n.val % 256 = 64 * (n.val % 256 / 64) + q.val := by omega
      have e3 : relIx ((j.val + 1024 - n.val % 256 % 1024) % 1024) = relIdx q k := by
        rw [← e1, hj]
        congr 2
        omega
      unfold biasRow
      rw [dif_pos h.isLt]
      refine (hB h ⟨(j.val + 1024 - n.val % 256 % 1024) % 1024, Nat.mod_lt _ (by omega)⟩).trans ?_
      exact congrArg (fun z => T (ix2 h z)) (Fin.ext e3)
    have hy' : T (ix2 h ⟨relIdx q k, relIdx_lt q k⟩) = (y : EReal) := hy
    have step : ∀ u v w : EReal, u = x → v = y → w = (y : EReal) * (((Real.log 2)⁻¹ : ℝ) : EReal) →
        u * (((Real.sqrt 128)⁻¹ * (Real.log 2)⁻¹ : ℝ) : EReal) + w
          = (u * (((Real.sqrt 128)⁻¹ : ℝ) : EReal) + v) * (((Real.log 2)⁻¹ : ℝ) : EReal) := by
      rintro u v w rfl rfl rfl
      rw [← EReal.coe_mul, ← EReal.coe_mul, ← EReal.coe_mul, ← EReal.coe_add, ← EReal.coe_add, ← EReal.coe_mul]
      congr 1
      ring
    refine (congrArg (· * _ + _) (hdot.trans hx.symm)).trans ?_
    exact step _ _ _ hx hy' hbias
  · exact (EReal.bot_mul_coe_of_pos hl).symm

theorem kscore_out (X Y : Vec Ideal Cert.KernelIdeal.S4096x128 .bf16) (x3 : Vec Ideal Cert.KernelIdeal.S1x1x1024 .f32)
    (n : Fin 4096) (j : Fin 768) (hj : ¬(64 * (n.val % 256 / 64) ≤ j.val ∧ j.val < 64 * (n.val % 256 / 64) + 576)) :
    kscore X Y x3 n j = ⊥ := by
  unfold kscore
  split_ifs with hv
  · unfold biasAt
    rw [if_neg hj, EReal.add_bot]
  · rfl

/-- The kernel's result and the reference's, at a row and a column. -/
theorem result_eq (hR : Reals A T) (B : Vec Ideal S16x1x1024 .f32)
    (hB : ∀ (h : Fin 16) (x : Fin 1024), B (ix3 h 0 x) = T (ix2 h ⟨relIx x.val, relIx_lt _⟩))
    (c : Fin 64) (b : Fin 2) (h : Fin 16) (q : Fin 64) (d : Fin 128) :
    attnAt A B (b.val * 4096 + 64 * c.val + q.val) (h.val * 128 + d.val)
      = val_main_v99 A T (ix2 ⟨b.val * 4096 + 64 * c.val + q.val, by omega⟩ ⟨h.val * 128 + d.val, by omega⟩) := by
  have hn : 64 * c.val + q.val < 4096 := by omega
  rw [v99_at, attnAt_of A B b.val h.val ⟨64 * c.val + q.val, hn⟩ d _ _ (Nat.add_assoc _ _ _) rfl]
  generalize hN : (⟨64 * c.val + q.val, hn⟩ : Fin 4096) = n
  have hn' : n.val = 64 * c.val + q.val := by rw [← hN]
  unfold headVal weigh
  refine attn_eq (64 * (n.val % 256 / 64)) (by omega) (rscore A T c b h q)
    (fun k => padEntry A b.val (64 * c.val + k.val) (4096 + h.val * 128) d) _ _ ?_ ?_ ?_ ?_ ?_
  · intro k
    exact kscore_band hR B hB c b h q k n hn' _ rfl
  · intro k
    dsimp only
    rw [padRow_slab _ _ _ _ (by omega), show n.val / 256 * 256 + (64 * (n.val % 256 / 64) + k.val) = 64 * c.val + k.val by omega]
  · intro j hj
    exact kscore_out _ _ _ n j hj
  · intro k
    by_cases hk : 512 ≤ 64 * c.val + k.val
    · exact Or.inr (rscore_real hR c b h q k hk)
    · exact Or.inl (by unfold rscore; rw [if_neg hk])
  · exact ⟨⟨575, by omega⟩, rscore_real hR c b h q _ (by dsimp only; omega)⟩

/-- The two arrays. -/
theorem array_eq (hR : Reals A T) (B : Vec Ideal S16x1x1024 .f32)
    (hB : ∀ (h : Fin 16) (x : Fin 1024), B (ix3 h 0 x) = T (ix2 h ⟨relIx x.val, relIx_lt _⟩)) :
    (fun i : Cert.KernelIdeal.S8192x2048.Idx => attnAt A B (i 0).val (i 1).val) = val_main_v99 A T := by
  funext i
  obtain ⟨r, s, rfl⟩ : ∃ (r : Fin 8192) (s : Fin 2048), i = ix2 r s := ⟨i 0, i 1, (ix2_eta i).symm⟩
  have hr := r.isLt
  have hs := s.isLt
  have e := result_eq hR B hB ⟨r.val % 4096 / 64, by omega⟩ ⟨r.val / 4096, by omega⟩ ⟨s.val / 128, by omega⟩
    ⟨r.val % 64, by omega⟩ ⟨s.val % 128, by omega⟩
  have h1 : r.val / 4096 * 4096 + 64 * (r.val % 4096 / 64) + r.val % 64 = r.val := by omega
  have h2 : s.val / 128 * 128 + s.val % 128 = s.val := by omega
  dsimp only at e
  simp only [h1, h2] at e
  exact e

end Cert.Attn
-- ==== Proof.Down.lean ====
/-
  THE DOWN PROJECTION: the blocked product over a grid of 16 by 8 blocks of 512 by 512 entries is the product of the first
  8192 rows of the activations with the weights.
-/
module

public import proofs.«01_k».proof.Proof.Gen.DownIdeal.Value
public import proofs.«01_k».proof.Proof.Gen.DownReferenceIdeal.Read
public import Idealize.ShloMosaic.Lib.Pipeline.ValueKit
public import Idealize.ShloMosaic.Lib.Pointwise

@[expose] public section

set_option maxRecDepth 16384

noncomputable section

namespace Cert.DownIdeal.Value

open Cert.DownIdeal Cert.DownIdeal.Gen Idealize.ShloMosaic Idealize.ShloMosaic.TcCoe Idealize.SL.Sem
open Idealize.ShloMosaic.Pipeline (Dat)

theorem idx : ∀ t : Fin cfg0.N,
    win0_0.index t = ![(grid0.coords t 0).val, 0] ∧ win0_1.index t = ![0, (grid0.coords t 1).val]
    ∧ win0_2.index t = ![(grid0.coords t 0).val, (grid0.coords t 1).val]
    ∧ (grid0.coords t 0).val < 16 ∧ (grid0.coords t 1).val < 8 :=
  (by decide +kernel : ∀ t : Fin grid0.N, _)

/-- The product at row `i` and column `j`. -/
def prodAt (A : Vec Ideal S9216x11008 .bf16) (W : Vec Ideal S11008x4096 .bf16) (i : Fin 8192) (j : Fin 4096) : EReal :=
  ∑ k : Fin 11008, A (ix2 ⟨i.val, by omega⟩ k) * W (ix2 k j)

variable (m : (ℓ : Loc nD τ sig) → Buf (Elt Ideal) ℓ)

/-- A block of the result is the product of a block of rows with a block of columns. -/
theorem pay_at (x : Vec Ideal S512x11008 .bf16) (w : Vec Ideal S11008x512 .bf16) (y : S512x512.Idx) :
    k0_pay1 (F := Ideal) x w y = ∑ k : Fin 11008, x (ix2 (y 0) k) * w (ix2 k (y 1)) := by
  pointwise [k0_pay1]

/-- **The result array** is the product. -/
theorem final (c) : (dats m 0 c).arrAt 2 cfg0.N
    = fun i : S8192x4096.Idx => prodAt (m ((c : Thread nD τ).loc main_arg0)) (m ((c : Thread nD τ).loc main_arg1)) (i 0) (i 1) := by
  refine (dats m 0 c).arrAt_eq_of_covers 2 _ (by decide +kernel) fun t hf y => ?_
  obtain ⟨e0, e1, e2, l0, l1⟩ := idx t
  blk_simp
  rw [after0_2]
  frame_out
  refine (pay_at _ _ _).trans ?_
  unfold prodAt
  blk_point [iblk, V, e0, e1, e2]

/-- The reference's result is the product. -/
theorem reference_eq (A : Vec Ideal S9216x11008 .bf16) (W : Vec Ideal S11008x4096 .bf16) :
    Cert.DownReferenceIdeal.Read.val_main_v4 (F := Ideal) A W = fun i : S8192x4096.Idx => prodAt A W (i 0) (i 1) := by
  funext i
  unfold prodAt Cert.DownReferenceIdeal.Read.val_main_v4 Cert.DownReferenceIdeal.Read.val_main_v3
    Cert.DownReferenceIdeal.Read.val_main_v2 Cert.DownReferenceIdeal.Read.val_main_v1 Cert.DownReferenceIdeal.Read.val_main_v0
  pointwise

end Cert.DownIdeal.Value

end
-- ==== Proof.GateUpIdeal.Runs.lean ====
module

public import proofs.«01_k».proof.Proof.Gen.GateUpIdeal.Launch
public import proofs.«01_k».proof.Proof.Gen.GateUpIdeal.Skeleton
public import proofs.«01_k».proof.Proof.Gen.GateUpIdeal.Points
public import Idealize.ShloMosaic.Lib.Pipeline.FrameBody
public import Idealize.ShloMosaic.Lib.Pipeline.ValueKit
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer of 1024 rows with the 32 rows from `32 * j` replaced. -/
def put (j : ℕ) (p : Vec F S32x4096 .bf16) (d : Vec F S1024x4096 .bf16) : Vec F S1024x4096 .bf16 :=
  fun y => if h : 32 * j ≤ (y 0).val ∧ (y 0).val < 32 * j + 32 then p (ix2 ⟨(y 0).val - 32 * j, by omega⟩ (y 1)) else d y

/-- Storing 32 whole rows at row `32 * j` leaves the buffer with those rows replaced. -/
theorem read_put (v : View sig .tc .vmem S1024x4096 .bf16) (f : v.ty.Contents (Elt F)) (off : Fin 2 → ℕ) (j : ℕ)
    (inb : ∀ a, off a + S32x4096.size a ≤ S1024x4096.size a) (hoff : off = ![32 * j, 0]) (p : Vec F S32x4096 .bf16) :
    v.read (Elt F) (v.writes (Elt F) f [⟨Rect.unit (s := S1024x4096) off S32x4096.size inb, p⟩]) = put j p (v.read (Elt F) f) := by
  funext y
  refine (View.read_writes_cons_rows v f (o := 32 * j) (W := 32) inb p [] y hoff rfl rfl).trans ?_
  unfold put
  split
  · refine congrArg p (funext fun a => ?_)
    fin_cases a
    · rfl
    · exact Fin.ext (Nat.sub_zero _)
  · rfl

/-- Loading the whole of a buffer reads its contents. -/
theorem whole_load {s : Shape} {e : EltTy} {a : Memref sig .tc .vmem s e} (h : a.IsWhole) (x : Vec F s e)
    {off : Fin s.rank → ℕ} (inb : ∀ a, off a + s.size a ≤ s.size a) :
    a.view.readAt (Elt F) (Rect.unit off s.size inb).toLoadRect (h.unread x) = x :=
  (View.readAt_full _ _ _).trans (h.read_unread x)

theorem k0_off1_row (i : grid0.Coords) (hj : (i 1).val < 32) : k0_off1 i = ![32 * (i 1).val, 0] := by
  rw [k0_off1_eq, Nat.min_eq_left (by omega)]
theorem k0_off2_row (i : grid0.Coords) (hj : (i 1).val < 32) : k0_off2 i = ![32 * (i 1).val, 0] := by
  rw [k0_off2_eq, Nat.min_eq_left (by omega)]
theorem k0_off3_row (i : grid0.Coords) (hj : (i 1).val < 32) : k0_off3 i = ![32 * (i 1).val, 0] := by
  rw [k0_off3_eq, Nat.min_eq_left (by omega)]

set_option maxHeartbeats 1000000 in
theorem runA (c : Dev nD) (i : grid0.Coords) (arg2 : Memref sig .tc .vmem S32x4096 .f32) (harg2 : arg2.IsWhole) (arg3 : Memref sig .tc .vmem S1x4096 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S32x4096 .f32) (harg6 : arg6.IsWhole) (arg7 : Memref sig .tc .vmem S1024x256 .bf16) (harg7 : arg7.IsWhole) (arg8 : Memref sig .tc .vmem S32x4096 .bf16) (harg8 : arg8.IsWhole) (arg9 : Memref sig .tc .vmem S1024x4096 .bf16) (harg9 : arg9.IsWhole) (arg10 : Memref sig .tc .vmem S1024x4096 .bf16) (harg10 : arg10.IsWhole)
    (hc1 : k0_cond1 i = 1#1) (hc2 : k0_cond2 i = 1#1) (hc3 : ¬k0_cond3 i = 1#1) (hc4 : ¬k0_cond4 i = 1#1) (hc5 : ¬k0_cond5 i = 1#1) (hc6 : ¬k0_cond6 i = 1#1) (hj : (i 1).val < 32)
    (x0 : Vec F S32x4096 .f32) (x1 : Vec F S1x4096 .f32) (x2 : Vec F S4096x256 .f32) (x3 : Vec F S4096x256 .f32) (x4 : Vec F S32x4096 .f32) (d0 : Vec F S1024x4096 .bf16) (d1 : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare d0 ∗ owns (c : Thread nD τ) arg10 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay8) ∗ owns (c : Thread nD τ) arg8 fullShare (k0_pay9 x4) ∗ owns (c : Thread nD τ) arg9 fullShare (put (i 1).val (k0_pay7 x0 x1) d0) ∗ owns (c : Thread nD τ) arg10 fullShare d1) -∗ K ⟨⟩))
      ⊢ wp frame (wpE (defs₀ (F := F)) Variants.none c none) E (cc0_ffn_gate_up i arg2 harg2 arg3 harg3 arg4 harg4 arg5 harg5 arg6 harg6 arg7 harg7 arg8 harg8 arg9 harg9 arg10 harg10) K := by
  simp only [cc0_ffn_gate_up_eq_skeleton]; unfold cc0_ffn_gate_up_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%e5, %f5, -, H5⟩, ⟨%e6, %f6, -, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf4; obtain rfl := harg9.eq_unread hf7; obtain rfl := harg10.eq_unread hf8
  sl_exec (disch := first | sl_exact hc1 | sl_exact hc2 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    exact (View.read_writes_full _ _ _ _ _).trans (rfl)
  isplitl [H6]
  · iexists _; isplitr; swap; · iexact H6
    ipureintro
    exact (View.read_writes_full _ _ _ _ _).trans (congrArg k0_pay9 (whole_load harg6 _ _))
  isplitl [H7]
  · iexists _; isplitr; swap; · iexact H7
    ipureintro
    exact (read_put _ _ _ (i 1).val _ (k0_off1_row i hj) _).trans (congr (congrArg (put (i 1).val) (congr (congrArg k0_pay7 (whole_load harg2 _ _)) (whole_load harg3 _ _))) (harg9.read_unread _))
  iexists _; isplitr; swap; · iexact H8
  ipureintro
  exact harg10.read_unread _

set_option maxHeartbeats 1000000 in
theorem runB (c : Dev nD) (i : grid0.Coords) (arg2 : Memref sig .tc .vmem S32x4096 .f32) (harg2 : arg2.IsWhole) (arg3 : Memref sig .tc .vmem S1x4096 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S32x4096 .f32) (harg6 : arg6.IsWhole) (arg7 : Memref sig .tc .vmem S1024x256 .bf16) (harg7 : arg7.IsWhole) (arg8 : Memref sig .tc .vmem S32x4096 .bf16) (harg8 : arg8.IsWhole) (arg9 : Memref sig .tc .vmem S1024x4096 .bf16) (harg9 : arg9.IsWhole) (arg10 : Memref sig .tc .vmem S1024x4096 .bf16) (harg10 : arg10.IsWhole)
    (hc1 : k0_cond1 i = 1#1) (hc2 : ¬k0_cond2 i = 1#1) (hc3 : ¬k0_cond3 i = 1#1) (hc4 : ¬k0_cond4 i = 1#1) (hc5 : ¬k0_cond5 i = 1#1) (hc6 : ¬k0_cond6 i = 1#1)
    (x0 : Vec F S32x4096 .f32) (x1 : Vec F S1x4096 .f32) (x2 : Vec F S4096x256 .f32) (x3 : Vec F S4096x256 .f32) (x4 : Vec F S32x4096 .f32) (d0 : Vec F S1024x4096 .bf16) (d1 : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare d0 ∗ owns (c : Thread nD τ) arg10 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay8) ∗ owns (c : Thread nD τ) arg8 fullShare (k0_pay9 x4) ∗ owns (c : Thread nD τ) arg9 fullShare d0 ∗ owns (c : Thread nD τ) arg10 fullShare d1) -∗ K ⟨⟩))
      ⊢ wp frame (wpE (defs₀ (F := F)) Variants.none c none) E (cc0_ffn_gate_up i arg2 harg2 arg3 harg3 arg4 harg4 arg5 harg5 arg6 harg6 arg7 harg7 arg8 harg8 arg9 harg9 arg10 harg10) K := by
  simp only [cc0_ffn_gate_up_eq_skeleton]; unfold cc0_ffn_gate_up_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%e5, %f5, -, H5⟩, ⟨%e6, %f6, -, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf4; obtain rfl := harg9.eq_unread hf7; obtain rfl := harg10.eq_unread hf8
  sl_exec (disch := first | sl_exact hc1 | sl_exact hc2 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    exact (View.read_writes_full _ _ _ _ _).trans (rfl)
  isplitl [H6]
  · iexists _; isplitr; swap; · iexact H6
    ipureintro
    exact (View.read_writes_full _ _ _ _ _).trans (congrArg k0_pay9 (whole_load harg6 _ _))
  isplitl [H7]
  · iexists _; isplitr; swap; · iexact H7
    ipureintro
    exact harg9.read_unread _
  iexists _; isplitr; swap; · iexact H8
  ipureintro
  exact harg10.read_unread _

set_option maxHeartbeats 1000000 in
theorem runC (c : Dev nD) (i : grid0.Coords) (arg2 : Memref sig .tc .vmem S32x4096 .f32) (harg2 : arg2.IsWhole) (arg3 : Memref sig .tc .vmem S1x4096 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S32x4096 .f32) (harg6 : arg6.IsWhole) (arg7 : Memref sig .tc .vmem S1024x256 .bf16) (harg7 : arg7.IsWhole) (arg8 : Memref sig .tc .vmem S32x4096 .bf16) (harg8 : arg8.IsWhole) (arg9 : Memref sig .tc .vmem S1024x4096 .bf16) (harg9 : arg9.IsWhole) (arg10 : Memref sig .tc .vmem S1024x4096 .bf16) (harg10 : arg10.IsWhole)
    (hc3 : k0_cond3 i = 1#1) (hc1 : ¬k0_cond1 i = 1#1) (hc4 : ¬k0_cond4 i = 1#1) (hc5 : ¬k0_cond5 i = 1#1) (hc6 : ¬k0_cond6 i = 1#1) (hj : (i 1).val < 32)
    (x0 : Vec F S32x4096 .f32) (x1 : Vec F S1x4096 .f32) (x2 : Vec F S4096x256 .f32) (x3 : Vec F S4096x256 .f32) (x4 : Vec F S32x4096 .f32) (d0 : Vec F S1024x4096 .bf16) (d1 : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare d0 ∗ owns (c : Thread nD τ) arg10 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 d1 x2 x3) ∗ owns (c : Thread nD τ) arg8 fullShare (k0_pay10 x4) ∗ owns (c : Thread nD τ) arg9 fullShare (put (i 1).val (k0_pay3 x0 x1) d0) ∗ owns (c : Thread nD τ) arg10 fullShare d1) -∗ K ⟨⟩))
      ⊢ wp frame (wpE (defs₀ (F := F)) Variants.none c none) E (cc0_ffn_gate_up i arg2 harg2 arg3 harg3 arg4 harg4 arg5 harg5 arg6 harg6 arg7 harg7 arg8 harg8 arg9 harg9 arg10 harg10) K := by
  simp only [cc0_ffn_gate_up_eq_skeleton]; unfold cc0_ffn_gate_up_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%e5, %f5, -, H5⟩, ⟨%e6, %f6, -, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf4; obtain rfl := harg9.eq_unread hf7; obtain rfl := harg10.eq_unread hf8
  sl_exec (disch := first | sl_exact hc1 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    exact (View.read_writes_full _ _ _ _ _).trans (congr (congr (congrArg k0_pay4 (whole_load harg10 _ _)) (whole_load harg4 _ _)) (whole_load harg5 _ _))
  isplitl [H6]
  · iexists _; isplitr; swap; · iexact H6
    ipureintro
    exact (View.read_writes_full _ _ _ _ _).trans (congrArg k0_pay10 (whole_load harg6 _ _))
  isplitl [H7]
  · iexists _; isplitr; swap; · iexact H7
    ipureintro
    exact (read_put _ _ _ (i 1).val _ (k0_off2_row i hj) _).trans (congr (congrArg (put (i 1).val) (congr (congrArg k0_pay3 (whole_load harg2 _ _)) (whole_load harg3 _ _))) (harg9.read_unread _))
  iexists _; isplitr; swap; · iexact H8
  ipureintro
  exact harg10.read_unread _

set_option maxHeartbeats 1000000 in
theorem runD (c : Dev nD) (i : grid0.Coords) (arg2 : Memref sig .tc .vmem S32x4096 .f32) (harg2 : arg2.IsWhole) (arg3 : Memref sig .tc .vmem S1x4096 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S32x4096 .f32) (harg6 : arg6.IsWhole) (arg7 : Memref sig .tc .vmem S1024x256 .bf16) (harg7 : arg7.IsWhole) (arg8 : Memref sig .tc .vmem S32x4096 .bf16) (harg8 : arg8.IsWhole) (arg9 : Memref sig .tc .vmem S1024x4096 .bf16) (harg9 : arg9.IsWhole) (arg10 : Memref sig .tc .vmem S1024x4096 .bf16) (harg10 : arg10.IsWhole)
    (hc4 : k0_cond4 i = 1#1) (hc1 : ¬k0_cond1 i = 1#1) (hc3 : ¬k0_cond3 i = 1#1) (hc5 : ¬k0_cond5 i = 1#1) (hc6 : ¬k0_cond6 i = 1#1)
    (x0 : Vec F S32x4096 .f32) (x1 : Vec F S1x4096 .f32) (x2 : Vec F S4096x256 .f32) (x3 : Vec F S4096x256 .f32) (x4 : Vec F S32x4096 .f32) (d0 : Vec F S1024x4096 .bf16) (d1 : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare d0 ∗ owns (c : Thread nD τ) arg10 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay11 d1 x2 x3) ∗ owns (c : Thread nD τ) arg8 fullShare (k0_pay12 x4) ∗ owns (c : Thread nD τ) arg9 fullShare d0 ∗ owns (c : Thread nD τ) arg10 fullShare d1) -∗ K ⟨⟩))
      ⊢ wp frame (wpE (defs₀ (F := F)) Variants.none c none) E (cc0_ffn_gate_up i arg2 harg2 arg3 harg3 arg4 harg4 arg5 harg5 arg6 harg6 arg7 harg7 arg8 harg8 arg9 harg9 arg10 harg10) K := by
  simp only [cc0_ffn_gate_up_eq_skeleton]; unfold cc0_ffn_gate_up_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%e5, %f5, -, H5⟩, ⟨%e6, %f6, -, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf4; obtain rfl := harg9.eq_unread hf7; obtain rfl := harg10.eq_unread hf8
  sl_exec (disch := first | sl_exact hc1 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    exact (View.read_writes_full _ _ _ _ _).trans (congr (congr (congrArg k0_pay11 (whole_load harg10 _ _)) (whole_load harg4 _ _)) (whole_load harg5 _ _))
  isplitl [H6]
  · iexists _; isplitr; swap; · iexact H6
    ipureintro
    exact (View.read_writes_full _ _ _ _ _).trans (congrArg k0_pay12 (whole_load harg6 _ _))
  isplitl [H7]
  · iexists _; isplitr; swap; · iexact H7
    ipureintro
    exact harg9.read_unread _
  iexists _; isplitr; swap; · iexact H8
  ipureintro
  exact harg10.read_unread _

set_option maxHeartbeats 1000000 in
theorem runE (c : Dev nD) (i : grid0.Coords) (arg2 : Memref sig .tc .vmem S32x4096 .f32) (harg2 : arg2.IsWhole) (arg3 : Memref sig .tc .vmem S1x4096 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S32x4096 .f32) (harg6 : arg6.IsWhole) (arg7 : Memref sig .tc .vmem S1024x256 .bf16) (harg7 : arg7.IsWhole) (arg8 : Memref sig .tc .vmem S32x4096 .bf16) (harg8 : arg8.IsWhole) (arg9 : Memref sig .tc .vmem S1024x4096 .bf16) (harg9 : arg9.IsWhole) (arg10 : Memref sig .tc .vmem S1024x4096 .bf16) (harg10 : arg10.IsWhole)
    (hc5 : k0_cond5 i = 1#1) (hc1 : ¬k0_cond1 i = 1#1) (hc3 : ¬k0_cond3 i = 1#1) (hc4 : ¬k0_cond4 i = 1#1) (hc6 : ¬k0_cond6 i = 1#1) (hj : (i 1).val < 32)
    (x0 : Vec F S32x4096 .f32) (x1 : Vec F S1x4096 .f32) (x2 : Vec F S4096x256 .f32) (x3 : Vec F S4096x256 .f32) (x4 : Vec F S32x4096 .f32) (d0 : Vec F S1024x4096 .bf16) (d1 : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare d0 ∗ owns (c : Thread nD τ) arg10 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay6 d0 x2 x3) ∗ owns (c : Thread nD τ) arg8 fullShare (k0_pay13 x4) ∗ owns (c : Thread nD τ) arg9 fullShare d0 ∗ owns (c : Thread nD τ) arg10 fullShare (put (i 1).val (k0_pay5 x0 x1) d1)) -∗ K ⟨⟩))
      ⊢ wp frame (wpE (defs₀ (F := F)) Variants.none c none) E (cc0_ffn_gate_up i arg2 harg2 arg3 harg3 arg4 harg4 arg5 harg5 arg6 harg6 arg7 harg7 arg8 harg8 arg9 harg9 arg10 harg10) K := by
  simp only [cc0_ffn_gate_up_eq_skeleton]; unfold cc0_ffn_gate_up_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%e5, %f5, -, H5⟩, ⟨%e6, %f6, -, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf4; obtain rfl := harg9.eq_unread hf7; obtain rfl := harg10.eq_unread hf8
  sl_exec (disch := first | sl_exact hc1 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    exact (View.read_writes_full _ _ _ _ _).trans (congr (congr (congrArg k0_pay6 (whole_load harg9 _ _)) (whole_load harg4 _ _)) (whole_load harg5 _ _))
  isplitl [H6]
  · iexists _; isplitr; swap; · iexact H6
    ipureintro
    exact (View.read_writes_full _ _ _ _ _).trans (congrArg k0_pay13 (whole_load harg6 _ _))
  isplitl [H7]
  · iexists _; isplitr; swap; · iexact H7
    ipureintro
    exact harg9.read_unread _
  iexists _; isplitr; swap; · iexact H8
  ipureintro
  exact (read_put _ _ _ (i 1).val _ (k0_off3_row i hj) _).trans (congr (congrArg (put (i 1).val) (congr (congrArg k0_pay5 (whole_load harg2 _ _)) (whole_load harg3 _ _))) (harg10.read_unread _))

set_option maxHeartbeats 1000000 in
theorem runG (c : Dev nD) (i : grid0.Coords) (arg2 : Memref sig .tc .vmem S32x4096 .f32) (harg2 : arg2.IsWhole) (arg3 : Memref sig .tc .vmem S1x4096 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S32x4096 .f32) (harg6 : arg6.IsWhole) (arg7 : Memref sig .tc .vmem S1024x256 .bf16) (harg7 : arg7.IsWhole) (arg8 : Memref sig .tc .vmem S32x4096 .bf16) (harg8 : arg8.IsWhole) (arg9 : Memref sig .tc .vmem S1024x4096 .bf16) (harg9 : arg9.IsWhole) (arg10 : Memref sig .tc .vmem S1024x4096 .bf16) (harg10 : arg10.IsWhole)
    (hc6 : k0_cond6 i = 1#1) (hc1 : ¬k0_cond1 i = 1#1) (hc3 : ¬k0_cond3 i = 1#1) (hc4 : ¬k0_cond4 i = 1#1) (hc5 : ¬k0_cond5 i = 1#1)
    (x0 : Vec F S32x4096 .f32) (x1 : Vec F S1x4096 .f32) (x2 : Vec F S4096x256 .f32) (x3 : Vec F S4096x256 .f32) (x4 : Vec F S32x4096 .f32) (d0 : Vec F S1024x4096 .bf16) (d1 : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare d0 ∗ owns (c : Thread nD τ) arg10 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay1 d0 x2 x3) ∗ owns (c : Thread nD τ) arg8 fullShare (k0_pay2 x4) ∗ owns (c : Thread nD τ) arg9 fullShare d0 ∗ owns (c : Thread nD τ) arg10 fullShare d1) -∗ K ⟨⟩))
      ⊢ wp frame (wpE (defs₀ (F := F)) Variants.none c none) E (cc0_ffn_gate_up i arg2 harg2 arg3 harg3 arg4 harg4 arg5 harg5 arg6 harg6 arg7 harg7 arg8 harg8 arg9 harg9 arg10 harg10) K := by
  simp only [cc0_ffn_gate_up_eq_skeleton]; unfold cc0_ffn_gate_up_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%e5, %f5, -, H5⟩, ⟨%e6, %f6, -, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf4; obtain rfl := harg9.eq_unread hf7; obtain rfl := harg10.eq_unread hf8
  sl_exec (disch := first | sl_exact hc1 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    exact (View.read_writes_full _ _ _ _ _).trans (congr (congr (congrArg k0_pay1 (whole_load harg9 _ _)) (whole_load harg4 _ _)) (whole_load harg5 _ _))
  isplitl [H6]
  · iexists _; isplitr; swap; · iexact H6
    ipureintro
    exact (View.read_writes_full _ _ _ _ _).trans (congrArg k0_pay2 (whole_load harg6 _ _))
  isplitl [H7]
  · iexists _; isplitr; swap; · iexact H7
    ipureintro
    exact harg9.read_unread _
  iexists _; isplitr; swap; · iexact H8
  ipureintro
  exact harg10.read_unread _

end Cert.GateUpIdeal.Gen

end
-- ==== Proof.GateUpIdeal.Frame.lean ====
module

public import proofs.«01_k».proof.Proof.GateUpIdeal.Runs
public import Idealize.ShloMosaic.Lib.Claim

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its call, and the blocks the call's windows show -/

/-- The buffers when the call is entered: the norm's weights reshaped to one row. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes the reshaped weights alone. -/
theorem V_of_ne (c : Dev nD) (b : Ref sig .tc) (h : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne h))

theorem V_main_arg0 (c : Dev nD) : V m c main_arg0 = m ((c : Thread nD τ).loc main_arg0) := V_of_ne m c _ (by decide)
theorem V_main_arg1 (c : Dev nD) : V m c main_arg1 = m ((c : Thread nD τ).loc main_arg1) := V_of_ne m c _ (by decide)
theorem V_main_arg2 (c : Dev nD) : V m c main_arg2 = m ((c : Thread nD τ).loc main_arg2) := V_of_ne m c _ (by decide)
theorem V_main_arg3 (c : Dev nD) : V m c main_arg3 = m ((c : Thread nD τ).loc main_arg3) := V_of_ne m c _ (by decide)
theorem V_main_arg4 (c : Dev nD) : V m c main_arg4 = m ((c : Thread nD τ).loc main_arg4) := V_of_ne m c _ (by decide)

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's buffer shows its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The grid: 9 sweeps of 43 points -/

theorem lt_387 (t : Fin cfg0.N) : t.val < 387 := t.isLt.trans_eq N_0

theorem coord1 : ∀ t : Fin cfg0.N, (grid0.coords t 1).val = t.val % 43 :=
  (by decide +kernel : ∀ t : Fin grid0.N, (grid0.coords t 1).val = t.val % 43)
theorem cond1_iff : ∀ t : Fin cfg0.N, k0_cond1 (grid0.coords t) = 1#1 ↔ t.val / 43 = 0 :=
  (by decide +kernel : ∀ t : Fin grid0.N, k0_cond1 (grid0.coords t) = 1#1 ↔ t.val / 43 = 0)
theorem cond2_iff : ∀ t : Fin cfg0.N, k0_cond2 (grid0.coords t) = 1#1 ↔ t.val % 43 < 32 :=
  (by decide +kernel : ∀ t : Fin grid0.N, k0_cond2 (grid0.coords t) = 1#1 ↔ t.val % 43 < 32)
theorem cond3_iff : ∀ t : Fin cfg0.N, k0_cond3 (grid0.coords t) = 1#1 ↔
    (t.val / 43 ≠ 0 ∧ t.val / 43 % 2 = 0) ∧ (t.val / 43 < 8 ∧ t.val % 43 < 32) :=
  (by decide +kernel : ∀ t : Fin grid0.N, k0_cond3 (grid0.coords t) = 1#1 ↔
    (t.val / 43 ≠ 0 ∧ t.val / 43 % 2 = 0) ∧ (t.val / 43 < 8 ∧ t.val % 43 < 32))
theorem cond4_iff : ∀ t : Fin cfg0.N, k0_cond4 (grid0.coords t) = 1#1 ↔
    (t.val / 43 ≠ 0 ∧ t.val / 43 % 2 = 0) ∧ ¬(t.val / 43 < 8 ∧ t.val % 43 < 32) :=
  (by decide +kernel : ∀ t : Fin grid0.N, k0_cond4 (grid0.coords t) = 1#1 ↔
    (t.val / 43 ≠ 0 ∧ t.val / 43 % 2 = 0) ∧ ¬(t.val / 43 < 8 ∧ t.val % 43 < 32))
theorem cond5_iff : ∀ t : Fin cfg0.N, k0_cond5 (grid0.coords t) = 1#1 ↔
    (t.val / 43 ≠ 0 ∧ t.val / 43 % 2 = 1) ∧ (t.val / 43 < 8 ∧ t.val % 43 < 32) :=
  (by decide +kernel : ∀ t : Fin grid0.N, k0_cond5 (grid0.coords t) = 1#1 ↔
    (t.val / 43 ≠ 0 ∧ t.val / 43 % 2 = 1) ∧ (t.val / 43 < 8 ∧ t.val % 43 < 32))
theorem cond6_iff : ∀ t : Fin cfg0.N, k0_cond6 (grid0.coords t) = 1#1 ↔
    (t.val / 43 ≠ 0 ∧ t.val / 43 % 2 = 1) ∧ ¬(t.val / 43 < 8 ∧ t.val % 43 < 32) :=
  (by decide +kernel : ∀ t : Fin grid0.N, k0_cond6 (grid0.coords t) = 1#1 ↔
    (t.val / 43 ≠ 0 ∧ t.val / 43 % 2 = 1) ∧ ¬(t.val / 43 < 8 ∧ t.val % 43 < 32))
/-- Both results are stored at every point. -/
theorem idle_5 : ∀ t : Fin cfg0.N, cfg0.idle 5 (cfg0.grid.coords t) = false :=
  (by decide +kernel : ∀ t : Fin grid0.N, idle0 5 (grid0.coords t) = false)
theorem idle_6 : ∀ t : Fin cfg0.N, cfg0.idle 6 (cfg0.grid.coords t) = false :=
  (by decide +kernel : ∀ t : Fin grid0.N, idle0 6 (grid0.coords t) = false)

/-! ## What the two scratch buffers hold

During sweep `s` the body norms the rows of tile `s`, 32 at a point, into one of the two buffers; the other one
holds tile `s - 1`, filled by the sweep before. -/

/-- The point at which row `r` of tile `s` is normed. -/
def pt (s r : ℕ) : Fin cfg0.N := ⟨min (s * 43 + r / 32) 386, by rw [show cfg0.N = 387 from N_0]; omega⟩

/-- Tile `s` of the normed rows. -/
def tile (c : Dev nD) (s : ℕ) : Vec F S1024x4096 .bf16 := fun y =>
  k0_pay3 (iblk m c 0 (pt s (y 0).val)) (iblk m c 1 (pt s (y 0).val))
    (ix2 ⟨(y 0).val % 32, Nat.mod_lt _ (by decide)⟩ (y 1))

/-- Before point `n` of sweep `s`: the buffer of the sweep's parity holds the rows of tile `s` normed so far, the
    other one the whole of tile `s - 1`. -/
def Held (c : Dev nD) (n : ℕ) (d0 d1 : Vec F S1024x4096 .bf16) : Prop :=
  (n / 43 < 8 → ∀ y : S1024x4096.Idx, (y 0).val < 32 * min (n % 43) 32 →
      (if n / 43 % 2 = 0 then d0 else d1) y = tile m c (n / 43) y)
    ∧ (n / 43 ≠ 0 → n / 43 ≤ 8 → (if n / 43 % 2 = 0 then d1 else d0) = tile m c (n / 43 - 1))

theorem held_zero (c : Dev nD) (d0 d1 : Vec F S1024x4096 .bf16) : Held m c 0 d0 d1 :=
  ⟨fun _ y h => absurd h (by simp), fun h _ => absurd rfl h⟩

/-- A point that norms nothing keeps what is known of the buffers. -/
theorem held_keep (c : Dev nD) (n : ℕ) (hn : n < 387) (d0 d1 : Vec F S1024x4096 .bf16) (h : Held m c n d0 d1)
    (hb : ¬(n / 43 < 8 ∧ n % 43 < 32)) : Held m c (n + 1) d0 d1 := by
  obtain ⟨h1, h2⟩ := h
  by_cases hj : n % 43 = 42
  · have e1 : (n + 1) / 43 = n / 43 + 1 := by omega
    have e2 : (n + 1) % 43 = 0 := by omega
    refine ⟨fun _ y hy => absurd hy (by rw [e2]; simp), fun _ h9 => ?_⟩
    rw [e1] at h9 ⊢
    by_cases h8 : n / 43 < 8
    · have hfull : (if n / 43 % 2 = 0 then d0 else d1) = tile m c (n / 43) := funext fun y => h1 h8 y (by
        have := (y 0).isLt; rw [hj]; exact this)
      by_cases hp : n / 43 % 2 = 0
      · rw [if_pos hp] at hfull
        rw [if_neg (by omega), hfull]; rfl
      · rw [if_neg hp] at hfull
        rw [if_pos (by omega), hfull]; rfl
    · omega
  · have e1 : (n + 1) / 43 = n / 43 := by omega
    unfold Held
    rw [e1]
    exact ⟨fun h8 y hy => h1 h8 y (by have e2 : (n + 1) % 43 = n % 43 + 1 := by omega
                                      rw [e2] at hy; omega), h2⟩

theorem pt_of (t : Fin cfg0.N) (hj : t.val % 43 < 32) (r : ℕ) (hr : r / 32 = t.val % 43) : pt (t.val / 43) r = t :=
  Fin.ext (by have := lt_387 t; show min _ _ = _; rw [hr]; omega)

/-- A point that norms 32 rows into one buffer. -/
theorem held_put (c : Dev nD) (t : Fin cfg0.N) (j : ℕ) (ej : j = t.val % 43) (d0 d1 d0' d1' : Vec F S1024x4096 .bf16)
    (h : Held m c t.val d0 d1) (hj : t.val % 43 < 32)
    (hput : (if t.val / 43 % 2 = 0 then d0' else d1')
      = put j (k0_pay3 (iblk m c 0 t) (iblk m c 1 t)) (if t.val / 43 % 2 = 0 then d0 else d1))
    (hoth : (if t.val / 43 % 2 = 0 then d1' else d0') = (if t.val / 43 % 2 = 0 then d1 else d0)) :
    Held m c (t.val + 1) d0' d1' := by
  subst ej
  obtain ⟨h1, h2⟩ := h
  have e1 : (t.val + 1) / 43 = t.val / 43 := by omega
  have e2 : (t.val + 1) % 43 = t.val % 43 + 1 := by omega
  unfold Held
  rw [e1, hput, hoth]
  refine ⟨fun h8 y hy => ?_, h2⟩
  unfold put
  split
  · rename_i hy2
    unfold tile
    rw [pt_of t hj (y 0).val (by omega)]
    refine congrArg _ (congrArg (fun a => ix2 a (y 1)) (Fin.ext ?_))
    show (y 0).val - 32 * (t.val % 43) = (y 0).val % 32
    omega
  · exact h1 h8 y (by rw [e2] at hy; omega)

/-! ## The pipeline's proof data -/

/-- The invariant: the scratch buffers at contents that `Held` describes, and the generator register. -/
def Inv (c : Dev nD) (n : ℕ) : sProp 𝕄 :=
  iprop(∃ d0, ∃ d1, ⌜Held m c n d0 d1⌝ ∗ owns (c : Thread nD τ) (Memref.whole cc0_scratch0 : Memref sig .tc .vmem S1024x4096 .bf16) fullShare d0
    ∗ owns (c : Thread nD τ) (Memref.whole cc0_scratch1 : Memref sig .tc .vmem S1024x4096 .bf16) fullShare d1 ∗ (∃ r, prngReg c r))

/-- The first result's block after point `t`: zeros in the first sweep, then the gate and up products of the tile
    before. -/
def out5 (c : Dev nD) (t : Fin cfg0.N) : Vec F S1024x256 .bf16 :=
  if t.val / 43 = 0 then k0_pay8 else k0_pay4 (tile m c (t.val / 43 - 1)) (iblk m c 2 t) (iblk m c 3 t)

/-- The second result's block: the slab of the down weights, rounded. -/
def out6 (c : Dev nD) (t : Fin cfg0.N) : Vec F S32x4096 .bf16 := k0_pay2 (iblk m c 4 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
    | ⟨6, _⟩ => out6 m c t
  Φ t := Inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out5 m c t := by dsimp only [dats]
theorem after0_6 (c : Dev nD) (t : Fin cfg0.N) : (dats m 0 c).after 6 t = out6 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6,
    show (dats m 0 c).Φ t.castSucc = Inv m c t.val from rfl, show (dats m 0 c).Φ t.succ = Inv m c (t.val + 1) from rfl]
  unfold Inv
  iintro ⟨⟨%s0, %s1, %hH, HS0, HS1, Hg⟩, Ho, ⟨%d0, H0⟩, ⟨%d1, H1⟩, ⟨%d2, H2⟩, ⟨%d3, H3⟩, ⟨%d4, H4⟩, ⟨%d5, H5⟩, ⟨%d6, H6⟩⟩
  have hc1 := cond1_iff t; have hc2 := cond2_iff t; have hc3 := cond3_iff t
  have hc4 := cond4_iff t; have hc5 := cond5_iff t; have hc6 := cond6_iff t
  have hn := lt_387 t
  have ej := coord1 t
  by_cases hs : t.val / 43 = 0
  · have e5 : out5 m c t = k0_pay8 := if_pos hs
    by_cases hj : t.val % 43 < 32
    · iapply (runA c (grid0.coords t) _ _ _ _ _ _ _ _ _ _ _ _ _ _ _ _ _ _ (hc1.mpr (by omega)) (hc2.mpr (by omega)) (fun h => by have := hc3.mp h; omega) (fun h => by have := hc4.mp h; omega) (fun h => by have := hc5.mp h; omega) (fun h => by have := hc6.mp h; omega) (by omega) (iblk m c 0 t) (iblk m c 1 t) (iblk m c 2 t) (iblk m c 3 t) (iblk m c 4 t) s0 s1 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · iexists _; iexists _; isplitr; swap
        · isplitl [HS0]; · iexact HS0
          isplitl [HS1]; · iexact HS1
          iexact Hg
        ipureintro; exact held_put m c t _ ej s0 s1 _ _ hH (by omega) (by rw [if_pos (by omega), if_pos (by omega)]; try rfl) (by rw [if_pos (by omega), if_pos (by omega)])
      isplitl [Ho]; · iexact Ho
      isplitl [H0]; · iexact H0
      isplitl [H1]; · iexact H1
      isplitl [H2]; · iexact H2
      isplitl [H3]; · iexact H3
      isplitl [H4]; · iexact H4
      isplitl [H5]
      · rw [e5]; iexact H5
      iexact H6
    · iapply (runB c (grid0.coords t) _ _ _ _ _ _ _ _ _ _ _ _ _ _ _ _ _ _ (hc1.mpr (by omega)) (fun h => by have := hc2.mp h; omega) (fun h => by have := hc3.mp h; omega) (fun h => by have := hc4.mp h; omega) (fun h => by have := hc5.mp h; omega) (fun h => by have := hc6.mp h; omega) (iblk m c 0 t) (iblk m c 1 t) (iblk m c 2 t) (iblk m c 3 t) (iblk m c 4 t) s0 s1 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · iexists _; iexists _; isplitr; swap
        · isplitl [HS0]; · iexact HS0
          isplitl [HS1]; · iexact HS1
          iexact Hg
        ipureintro; exact held_keep m c t.val hn s0 s1 hH (by omega)
      isplitl [Ho]; · iexact Ho
      isplitl [H0]; · iexact H0
      isplitl [H1]; · iexact H1
      isplitl [H2]; · iexact H2
      isplitl [H3]; · iexact H3
      isplitl [H4]; · iexact H4
      isplitl [H5]
      · rw [e5]; iexact H5
      iexact H6
  · have e5 : out5 m c t = k0_pay4 (tile m c (t.val / 43 - 1)) (iblk m c 2 t) (iblk m c 3 t) := if_neg hs
    have hT := hH.2 hs (by omega)
    by_cases hp : t.val / 43 % 2 = 0
    · rw [if_pos hp] at hT
      by_cases hb : t.val / 43 < 8 ∧ t.val % 43 < 32
      · iapply (runC c (grid0.coords t) _ _ _ _ _ _ _ _ _ _ _ _ _ _ _ _ _ _ (hc3.mpr (by omega)) (fun h => by have := hc1.mp h; omega) (fun h => by have := hc4.mp h; omega) (fun h => by have := hc5.mp h; omega) (fun h => by have := hc6.mp h; omega) (by omega) (iblk m c 0 t) (iblk m c 1 t) (iblk m c 2 t) (iblk m c 3 t) (iblk m c 4 t) s0 s1 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        isplitl [HS1]; · iexact HS1
        iintro ⟨H0, H1, H2, H3, H4, H5, H6, HS0, HS1⟩
        isplitl [HS0 HS1 Hg]
        · iexists _; iexists _; isplitr; swap
          · isplitl [HS0]; · iexact HS0
            isplitl [HS1]; · iexact HS1
            iexact Hg
          ipureintro; exact held_put m c t _ ej s0 s1 _ _ hH (by omega) (by rw [if_pos (by omega), if_pos (by omega)]; try rfl) (by rw [if_pos (by omega), if_pos (by omega)])
        isplitl [Ho]; · iexact Ho
        isplitl [H0]; · iexact H0
        isplitl [H1]; · iexact H1
        isplitl [H2]; · iexact H2
        isplitl [H3]; · iexact H3
        isplitl [H4]; · iexact H4
        isplitl [H5]
        · rw [e5, ← hT]; iexact H5
        iexact H6
      · iapply (runD c (grid0.coords t) _ _ _ _ _ _ _ _ _ _ _ _ _ _ _ _ _ _ (hc4.mpr (by omega)) (fun h => by have := hc1.mp h; omega) (fun h => by have := hc3.mp h; omega) (fun h => by have := hc5.mp h; omega) (fun h => by have := hc6.mp h; omega) (iblk m c 0 t) (iblk m c 1 t) (iblk m c 2 t) (iblk m c 3 t) (iblk m c 4 t) s0 s1 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        isplitl [HS1]; · iexact HS1
        iintro ⟨H0, H1, H2, H3, H4, H5, H6, HS0, HS1⟩
        isplitl [HS0 HS1 Hg]
        · iexists _; iexists _; isplitr; swap
          · isplitl [HS0]; · iexact HS0
            isplitl [HS1]; · iexact HS1
            iexact Hg
          ipureintro; exact held_keep m c t.val hn s0 s1 hH (by omega)
        isplitl [Ho]; · iexact Ho
        isplitl [H0]; · iexact H0
        isplitl [H1]; · iexact H1
        isplitl [H2]; · iexact H2
        isplitl [H3]; · iexact H3
        isplitl [H4]; · iexact H4
        isplitl [H5]
        · rw [e5, ← hT]; iexact H5
        iexact H6
    · rw [if_neg hp] at hT
      by_cases hb : t.val / 43 < 8 ∧ t.val % 43 < 32
      · iapply (runE c (grid0.coords t) _ _ _ _ _ _ _ _ _ _ _ _ _ _ _ _ _ _ (hc5.mpr (by omega)) (fun h => by have := hc1.mp h; omega) (fun h => by have := hc3.mp h; omega) (fun h => by have := hc4.mp h; omega) (fun h => by have := hc6.mp h; omega) (by omega) (iblk m c 0 t) (iblk m c 1 t) (iblk m c 2 t) (iblk m c 3 t) (iblk m c 4 t) s0 s1 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        isplitl [HS1]; · iexact HS1
        iintro ⟨H0, H1, H2, H3, H4, H5, H6, HS0, HS1⟩
        isplitl [HS0 HS1 Hg]
        · iexists _; iexists _; isplitr; swap
          · isplitl [HS0]; · iexact HS0
            isplitl [HS1]; · iexact HS1
            iexact Hg
          ipureintro; exact held_put m c t _ ej s0 s1 _ _ hH (by omega) (by rw [if_neg (by omega), if_neg (by omega)]; try rfl) (by rw [if_neg (by omega), if_neg (by omega)])
        isplitl [Ho]; · iexact Ho
        isplitl [H0]; · iexact H0
        isplitl [H1]; · iexact H1
        isplitl [H2]; · iexact H2
        isplitl [H3]; · iexact H3
        isplitl [H4]; · iexact H4
        isplitl [H5]
        · rw [e5, ← hT]; iexact H5
        iexact H6
      · iapply (runG c (grid0.coords t) _ _ _ _ _ _ _ _ _ _ _ _ _ _ _ _ _ _ (hc6.mpr (by omega)) (fun h => by have := hc1.mp h; omega) (fun h => by have := hc3.mp h; omega) (fun h => by have := hc4.mp h; omega) (fun h => by have := hc5.mp h; omega) (iblk m c 0 t) (iblk m c 1 t) (iblk m c 2 t) (iblk m c 3 t) (iblk m c 4 t) s0 s1 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        isplitl [HS1]; · iexact HS1
        iintro ⟨H0, H1, H2, H3, H4, H5, H6, HS0, HS1⟩
        isplitl [HS0 HS1 Hg]
        · iexists _; iexists _; isplitr; swap
          · isplitl [HS0]; · iexact HS0
            isplitl [HS1]; · iexact HS1
            iexact Hg
          ipureintro; exact held_keep m c t.val hn s0 s1 hH (by omega)
        isplitl [Ho]; · iexact Ho
        isplitl [H0]; · iexact H0
        isplitl [H1]; · iexact H1
        isplitl [H2]; · iexact H2
        isplitl [H3]; · iexact H3
        isplitl [H4]; · iexact H4
        isplitl [H5]
        · rw [e5, ← hT]; iexact H5
        iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, Ho, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · rw [idle_5 t]; iexact H5
  rw [idle_6 t]; iexact H6

/-! ## The run and the frame -/

theorem PhiA0_eq (c : Dev nD) :
    (Pipeline.ΦA spec0 c : sProp 𝕄)
      = iprop(iprop((∃ d, owns (c : Thread nD τ) (Memref.whole cc0_scratch0 : Memref sig .tc .vmem S1024x4096 .bf16) fullShare d)
        ∗ (∃ d, owns (c : Thread nD τ) (Memref.whole cc0_scratch1 : Memref sig .tc .vmem S1024x4096 .bf16) fullShare d)) ∗ (∃ r, prngReg c r)) := by
  unfold Pipeline.ΦA; rw [scopedRest0_eq]; simp only [owns_whole]; try rfl

theorem inv_in (c : Dev nD) : (Pipeline.ΦA spec0 c : sProp 𝕄) ⊢ Inv m c 0 := by
  rw [PhiA0_eq]; unfold Inv
  iintro ⟨⟨⟨%d0, H0⟩, ⟨%d1, H1⟩⟩, Hg⟩
  iexists d0; iexists d1
  isplitr; · ipureintro; exact held_zero m c d0 d1
  isplitl [H0]; · iexact H0
  isplitl [H1]; · iexact H1
  iexact Hg

theorem inv_out (c : Dev nD) (n : ℕ) : Inv m c n ⊢ (Pipeline.ΦA spec0 c : sProp 𝕄) := by
  rw [PhiA0_eq]; unfold Inv
  iintro ⟨%d0, %d1, -, H0, H1, Hg⟩
  isplitr [Hg]
  · isplitl [H0]
    · iexists _; iexact H0
    iexists _; iexact H1
  iexact Hg

-- the run's implicit arguments are found by unifying its conclusion with this one, which takes unfolding plain
-- definitions in a metavariable's type
set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => inv_in m c) (hout := fun c => inv_out m c _)

theorem run_main : θ_run defs (onTc (τ := τ) (main (F := F))) (s₀ m ρ) (Pipeline.FramePost cfgs (dats m) 0 (V m)) :=
  (θ_run defs _ _).mono (fun _ h => h.1) (run_main_quiescent m ρ)

/-- Every argument array ends as it was. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

/-- The frame: every argument array ends as it was, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.GateUpIdeal.Gen

end
-- ==== Proof.GateUpIdeal.Value.lean ====
/-
  THE GATE AND UP PRODUCTS: what the call's two result arrays hold, and what the reference's two results are.

  The kernel norms a tile of 1024 rows in 32 steps of 32 rows, in the sweep before the one that multiplies the tile, and
  writes its products block by block; the last 1024 rows of the first result are zeros, written in the first sweep. The
  second result is the down weights, rounded, in slabs of 32 rows.
-/
module

public import proofs.«01_k».proof.Proof.GateUpIdeal.Frame
public import proofs.«01_k».proof.Proof.Gen.GateUpReferenceIdeal.Read
public import Idealize.ShloMosaic.Lib.Pipeline.ValueKit
public import Idealize.ShloMosaic.Lib.Pointwise
public import Idealize.ShloMosaic.Lib.KernelVsHost
public import Idealize.ShloMosaic.Lib.StableHlo.RunRead

@[expose] public section

set_option maxRecDepth 16384

noncomputable section

namespace Cert.GateUpIdeal.Value

open Cert.GateUpIdeal Cert.GateUpIdeal.Gen Idealize.ShloMosaic Idealize.ShloMosaic.TcCoe Idealize.SL.Sem
open Idealize.ShloMosaic.Pipeline (Dat)

/-! ## What the body stores, at one entry -/

/-- Entry `k` of a row `x` of 4096 entries after the norm: the entry over the root of the row's mean square, times the
    weight. -/
def normed (x : Fin 4096 → EReal) (g : Fin 4096 → EReal) (k : Fin 4096) : EReal :=
  x k * Ideal.rsqrt (Ideal.div (∑ q : Fin 4096, x q * x q) (Ideal.ofBits .f32 0x45800000#32) + Ideal.ofBits .f32 0x358637BD#32) * g k

/-- The gated product of a row with a gate column and an up column. -/
def gated (u : Fin 4096 → EReal) (a b : Fin 4096 → EReal) : EReal :=
  (∑ k : Fin 4096, u k * a k) * Ideal.logistic (∑ k : Fin 4096, u k * a k) * (∑ k : Fin 4096, u k * b k)

theorem pay3_at (x : Vec Ideal S32x4096 .f32) (g : Vec Ideal S1x4096 .f32) (y : S32x4096.Idx) :
    k0_pay3 (F := Ideal) x g y = normed (fun q => x (ix2 (y 0) q)) (fun q => g (ix2 (0 : Fin 1) q)) (y 1) := by
  unfold normed
  pointwise [k0_pay3]

theorem pay4_at (u : Vec Ideal S1024x4096 .bf16) (a b : Vec Ideal S4096x256 .f32) (y : S1024x256.Idx) :
    k0_pay4 (F := Ideal) u a b y = gated (fun q => u (ix2 (y 0) q)) (fun q => a (ix2 q (y 1))) (fun q => b (ix2 q (y 1))) := by
  unfold gated
  pointwise [k0_pay4]

theorem pay8_at (y : S1024x256.Idx) : k0_pay8 (F := Ideal) y = 0 := by
  pointwise [k0_pay8]

theorem pay2_at (x : Vec Ideal S32x4096 .f32) (y : S32x4096.Idx) : k0_pay2 (F := Ideal) x y = x y := by
  pointwise [k0_pay2]

/-- The first result: the gated products of the normed rows, and 1024 rows of zeros. -/
def act (H : Vec Ideal S8192x4096 .f32) (g : Vec Ideal S4096 .f32) (A B : Vec Ideal S4096x11008 .f32) : Vec Ideal S9216x11008 .bf16 := fun i =>
  if h : (i 0).val < 8192 then
    gated (normed (fun q => H (ix2 ⟨(i 0).val, h⟩ q)) (fun q => g (ix1 q))) (fun q => A (ix2 q (i 1))) (fun q => B (ix2 q (i 1)))
  else 0

/-! ## The windows' blocks, at one entry -/

theorem index0 : ∀ t : Fin cfg0.N, t.val / 43 < 8 → t.val % 43 < 32 → win0_0.index t = ![t.val / 43 * 32 + t.val % 43, 0] :=
  (by decide +kernel : ∀ t : Fin grid0.N, t.val / 43 < 8 → t.val % 43 < 32 → win0_0.index t = ![t.val / 43 * 32 + t.val % 43, 0])
theorem index1 : ∀ t : Fin cfg0.N, win0_1.index t = ![0, 0] :=
  (by decide +kernel : ∀ t : Fin grid0.N, win0_1.index t = ![0, 0])
theorem index2 : ∀ t : Fin cfg0.N, t.val / 43 ≠ 0 → win0_2.index t = ![0, t.val % 43] :=
  (by decide +kernel : ∀ t : Fin grid0.N, t.val / 43 ≠ 0 → win0_2.index t = ![0, t.val % 43])
theorem index3 : ∀ t : Fin cfg0.N, t.val / 43 ≠ 0 → win0_3.index t = ![0, t.val % 43] :=
  (by decide +kernel : ∀ t : Fin grid0.N, t.val / 43 ≠ 0 → win0_3.index t = ![0, t.val % 43])
theorem index4 : ∀ t : Fin cfg0.N, win0_4.index t = ![min t.val 343, 0] :=
  (by decide +kernel : ∀ t : Fin grid0.N, win0_4.index t = ![min t.val 343, 0])
theorem index5 : ∀ t : Fin cfg0.N, win0_5.index t = ![if t.val / 43 = 0 then 8 else t.val / 43 - 1, t.val % 43] :=
  (by decide +kernel : ∀ t : Fin grid0.N, win0_5.index t = ![if t.val / 43 = 0 then 8 else t.val / 43 - 1, t.val % 43])
theorem index6 : ∀ t : Fin cfg0.N, win0_6.index t = ![min t.val 343, 0] :=
  (by decide +kernel : ∀ t : Fin grid0.N, win0_6.index t = ![min t.val 343, 0])

variable (m : (ℓ : Loc nD τ sig) → Buf (Elt Ideal) ℓ)

theorem iblk0_at (c : Dev nD) (t : Fin cfg0.N) (h8 : t.val / 43 < 8) (h32 : t.val % 43 < 32) (y : S32x4096.Idx) :
    iblk m c 0 t y = m ((c : Thread nD τ).loc main_arg0)
      (ix2 (⟨(t.val / 43 * 32 + t.val % 43) * 32 + (y 0).val, by have := (y 0).isLt; change _ < 32 at this; omega⟩ : Fin 8192) (y 1)) := by
  have e := index0 t h8 h32
  unfold iblk
  rw [show V m c (Pipeline.arrRef spec0 0) = m ((c : Thread nD τ).loc main_arg0) from V_main_arg0 m c]
  blk_point [e]

/-- The weights reshaped to one row. -/
theorem row_at (G : Vec Ideal S4096 .f32) (q : Fin 4096) : shapeCast S1x4096 G shapeCasts_S4096_S1x4096 (ix2 (0 : Fin 1) q) = G (ix1 q) := by
  pointwise

theorem iblk1_at (c : Dev nD) (t : Fin cfg0.N) (q : Fin 4096) :
    iblk m c 1 t (ix2 (0 : Fin 1) q) = m ((c : Thread nD τ).loc main_arg1) (ix1 q) := by
  have e := index1 t
  unfold iblk
  rw [show V m c (Pipeline.arrRef spec0 1) = shapeCast S1x4096 (m ((c : Thread nD τ).loc main_arg1)) shapeCasts_S4096_S1x4096 from by
    unfold V; after_reads_simp; try rfl]
  generalize hX : shapeCast S1x4096 (m ((c : Thread nD τ).loc main_arg1)) shapeCasts_S4096_S1x4096 = X
  trans X (ix2 (0 : Fin 1) q)
  · blk_point [e]
  · rw [← hX]
    exact row_at _ q

theorem iblk2_at (c : Dev nD) (t : Fin cfg0.N) (h : t.val / 43 ≠ 0) (y : S4096x256.Idx) :
    iblk m c 2 t y = m ((c : Thread nD τ).loc main_arg2)
      (ix2 (y 0) (⟨t.val % 43 * 256 + (y 1).val, by have := (y 1).isLt; change _ < 256 at this; omega⟩ : Fin 11008)) := by
  have e := index2 t h
  unfold iblk
  rw [show V m c (Pipeline.arrRef spec0 2) = m ((c : Thread nD τ).loc main_arg2) from V_main_arg2 m c]
  blk_point [e]

theorem iblk3_at (c : Dev nD) (t : Fin cfg0.N) (h : t.val / 43 ≠ 0) (y : S4096x256.Idx) :
    iblk m c 3 t y = m ((c : Thread nD τ).loc main_arg3)
      (ix2 (y 0) (⟨t.val % 43 * 256 + (y 1).val, by have := (y 1).isLt; change _ < 256 at this; omega⟩ : Fin 11008)) := by
  have e := index3 t h
  unfold iblk
  rw [show V m c (Pipeline.arrRef spec0 3) = m ((c : Thread nD τ).loc main_arg3) from V_main_arg3 m c]
  blk_point [e]

theorem iblk4_at (c : Dev nD) (t : Fin cfg0.N) (y : S32x4096.Idx) :
    iblk m c 4 t y = m ((c : Thread nD τ).loc main_arg4)
      (ix2 (⟨min t.val 343 * 32 + (y 0).val, by have := (y 0).isLt; change _ < 32 at this; omega⟩ : Fin 11008) (y 1)) := by
  have e := index4 t
  unfold iblk
  rw [show V m c (Pipeline.arrRef spec0 4) = m ((c : Thread nD τ).loc main_arg4) from V_main_arg4 m c]
  blk_point [e]

/-! ## The result arrays -/

theorem pt_val (s : ℕ) (hs : s < 8) (r : ℕ) (hr : r < 1024) : (pt s r).val = s * 43 + r / 32 := by
  show min _ _ = _
  omega

/-- A tile holds its rows normed. -/
theorem tile_at (c : Dev nD) (s : ℕ) (hs : s < 8) (r : Fin 1024) (k : Fin 4096) :
    tile m c s (ix2 r k) = normed (fun q => m ((c : Thread nD τ).loc main_arg0) (ix2 (⟨s * 1024 + r.val, by omega⟩ : Fin 8192) q))
      (fun q => m ((c : Thread nD τ).loc main_arg1) (ix1 q)) k := by
  have hp := pt_val s hs r.val r.isLt
  have hr := r.isLt
  unfold tile
  refine (pay3_at _ _ _).trans ?_
  refine congr (congr (congrArg normed (funext fun q => ?_)) (funext fun q => ?_)) rfl
  · refine (iblk0_at m c (pt s r.val) (by rw [hp]; omega) (by rw [hp]; omega) _).trans ?_
    refine congrArg (fun a : Fin 8192 => m ((c : Thread nD τ).loc main_arg0) (ix2 a q)) (Fin.ext ?_)
    show ((pt s r.val).val / 43 * 32 + (pt s r.val).val % 43) * 32 + r.val % 32 = s * 1024 + r.val
    rw [hp]
    omega
  · exact iblk1_at m c (pt s r.val) q

/-- The block that point `t` writes is the first result's. -/
theorem out5_at (c : Dev nD) (t : Fin cfg0.N) (y : S1024x256.Idx) (h0 : (y 0).val < 1024) (h1 : (y 1).val < 256)
    (hr : (if t.val / 43 = 0 then 8 else t.val / 43 - 1) * 1024 + (y 0).val < 9216) (hc : t.val % 43 * 256 + (y 1).val < 11008) :
    out5 m c t y = act (m ((c : Thread nD τ).loc main_arg0)) (m ((c : Thread nD τ).loc main_arg1)) (m ((c : Thread nD τ).loc main_arg2))
      (m ((c : Thread nD τ).loc main_arg3)) (ix2 (⟨_, hr⟩ : Fin 9216) (⟨_, hc⟩ : Fin 11008)) := by
  have ht := lt_387 t
  unfold out5 act
  by_cases h : t.val / 43 = 0
  · rw [if_pos h, dif_neg (by show ¬(if t.val / 43 = 0 then 8 else t.val / 43 - 1) * 1024 + (y 0).val < 8192; rw [if_pos h]; omega)]
    exact pay8_at y
  · rw [if_neg h, dif_pos (by show (if t.val / 43 = 0 then 8 else t.val / 43 - 1) * 1024 + (y 0).val < 8192; rw [if_neg h]; omega)]
    refine (pay4_at _ _ _ _).trans ?_
    refine congr (congr (congrArg gated (funext fun k => ?_)) (funext fun q => ?_)) (funext fun q => ?_)
    · refine (tile_at m c (t.val / 43 - 1) (by omega) ⟨(y 0).val, h0⟩ k).trans ?_
      refine congrArg (fun x => normed x _ k) (funext fun q => congrArg (fun a : Fin 8192 => m ((c : Thread nD τ).loc main_arg0) (ix2 a q)) (Fin.ext ?_))
      show (t.val / 43 - 1) * 1024 + (y 0).val = (if t.val / 43 = 0 then 8 else t.val / 43 - 1) * 1024 + (y 0).val
      rw [if_neg h]
    · exact iblk2_at m c t h _
    · exact iblk3_at m c t h _

/-- **The first result array.** -/
theorem final5 (c : Dev nD) : (dats m 0 c).arrAt 5 cfg0.N
    = act (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have e := index5 t
  have ht := lt_387 t
  blk_simp
  rw [after0_5]
  frame_out
  generalize hX : act (m ((c : Thread nD τ).loc main_arg0)) (m ((c : Thread nD τ).loc main_arg1)) (m ((c : Thread nD τ).loc main_arg2))
    (m ((c : Thread nD τ).loc main_arg3)) = X
  change S1024x256.Idx at y
  have h0 : (y 0).val < 1024 := (y 0).isLt
  have h1 : (y 1).val < 256 := (y 1).isLt
  trans X (ix2 (⟨(if t.val / 43 = 0 then 8 else t.val / 43 - 1) * 1024 + (y 0).val, by split <;> omega⟩ : Fin 9216)
    (⟨t.val % 43 * 256 + (y 1).val, by omega⟩ : Fin 11008))
  · rw [← hX]
    exact out5_at m c t y h0 h1 _ _
  · blk_point [e]

/-- **The second result array.** -/
theorem final6 (c : Dev nD) : (dats m 0 c).arrAt 6 cfg0.N = (m ((c : Thread nD τ).loc main_arg4) : Vec Ideal S11008x4096 .f32) := by
  refine (dats m 0 c).arrAt_eq_of_covers 6 _ (by decide +kernel) fun t hf y => ?_
  have e := index6 t
  blk_simp
  rw [after0_6]
  frame_out
  refine (pay2_at _ _).trans ?_
  refine (iblk4_at m c t _).trans ?_
  blk_point [e]

/-- The whole run: the two result arrays, and the arguments as they were. -/
theorem run_blocks (ρ : Dev nD → PrngReg) : θ_run defs (onTc (τ := τ) (main (F := Ideal))) ⟨m, fun _ => 0, ρ⟩ (fun r => ∀ c : Dev nD,
      r.2.mem ((c.tc : Thread nD τ).loc main_v1_0) = (dats m 0 c).arrAt 5 cfg0.N
      ∧ r.2.mem ((c.tc : Thread nD τ).loc main_v1_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 5, (h c).1 6,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.GateUpIdeal.Value

end
-- ==== Proof.GateUpIdeal.Reference.lean ====
/-
  THE REFERENCE OF THE GATE AND UP PRODUCTS, at one entry.
-/
module

public import proofs.«01_k».proof.Proof.GateUpIdeal.Value
public import proofs.«01_k».proof.Proof.Gen.GateUpReferenceIdeal.Read
public import Idealize.ShloMosaic.Lib.Pipeline.ValueKit
public import Idealize.ShloMosaic.Lib.Pointwise
public import Idealize.ShloMosaic.Lib.KernelVsHost

@[expose] public section

set_option maxRecDepth 16384

noncomputable section

namespace Cert.GateUpReferenceIdeal.Products

open Cert.GateUpIdeal.Value (normed gated act)
open Cert.GateUpReferenceIdeal Cert.GateUpReferenceIdeal.Read Idealize.ShloMosaic

variable (H : Vec Ideal S8192x4096 .f32) (g : Vec Ideal S4096 .f32) (A B : Vec Ideal S4096x11008 .f32) (D : Vec Ideal S11008x4096 .f32)

theorem v12_at (i : S8192x4096.Idx) :
    val_main_v12 (F := Ideal) H g i = normed (fun q => H (ix2 (i 0) q)) (fun q => g (ix1 q)) (i 1) := by
  unfold normed
  pointwise [val_main_v12, val_main_v11, val_main_v10, val_main_v9, val_main_v8, val_main_v7, val_main_v6, val_main_v5, val_main_cst_1, val_main_v4, val_main_v3, val_main_cst_0, val_main_v2, val_main_v1, val_main_cst, val_main_v0]

theorem v16_at (i : S8192x11008.Idx) :
    val_main_v16 (F := Ideal) H g A B i = gated (fun q => val_main_v12 (F := Ideal) H g (ix2 (i 0) q)) (fun q => A (ix2 q (i 1))) (fun q => B (ix2 q (i 1))) := by
  unfold gated Ideal.logistic
  unfold val_main_v16 val_main_v15 val_main_v14 val_main_v13 val_main_call0_v5 val_main_call0_v4 val_main_call0_v3 val_main_call0_v2 val_main_call0_v1 val_main_call0_v0 val_main_call0_cst val_main_call0_cst_0 val_main_v13
  generalize val_main_v12 (F := Ideal) H g = u
  pointwise

theorem v19_at (i : S11008x4096.Idx) : val_main_v19 (F := Ideal) D i = D i := by
  pointwise [val_main_v19]

theorem v18_in (i : S9216x11008.Idx) (h : (i 0).val < 8192) :
    val_main_v18 (F := Ideal) H g A B i = val_main_v16 (F := Ideal) H g A B (ix2 ⟨(i 0).val, h⟩ (i 1)) := by
  rw [val_main_v18_apply]
  unfold val_main_v17
  generalize val_main_v16 (F := Ideal) H g A B = z
  refine (pad_apply_of_inside _ _ _ z _ _ _ i (ix2 ⟨(i 0).val, h⟩ (i 1)) fun a => ?_)
  fin_cases a <;> simp

theorem v18_out (i : S9216x11008.Idx) (h : ¬(i 0).val < 8192) :
    val_main_v18 (F := Ideal) H g A B i = 0 := by
  rw [val_main_v18_apply]
  unfold val_main_v17
  generalize val_main_v16 (F := Ideal) H g A B = z
  refine (pad_apply_of_not_inside _ _ _ z _ _ _ i (0 : Fin 2) fun ha => h ?_).trans ?_
  · have := ha.2.2
    simp at this
    exact this
  · pointwise [val_main_call1_v0, val_main_c]
    exact (EReal.coe_eq_zero.mpr (by simp) : (((0#32 : BitVec 32).toInt : ℝ) : EReal) = 0)

/-- The reference's first result. -/
theorem first : val_main_v18 (F := Ideal) H g A B = act H g A B := by
  funext i
  unfold act
  split
  · rename_i h
    refine (v18_in H g A B i h).trans ((v16_at H g A B _).trans ?_)
    exact congrArg (fun u => gated u _ _) (funext fun k => v12_at H g _)
  · rename_i h
    exact v18_out H g A B i h

/-- The reference's second result. -/
theorem second : val_main_v19 (F := Ideal) D = D := funext fun i => v19_at D i

end Cert.GateUpReferenceIdeal.Products

end
-- ==== Proof.ResGateUpIdeal.Runs.lean ====
module

public import proofs.«01_k».proof.Proof.Gen.ResGateUpIdeal.Launch
public import proofs.«01_k».proof.Proof.Gen.ResGateUpIdeal.Skeleton
public import proofs.«01_k».proof.Proof.Gen.ResGateUpIdeal.Points
public import Idealize.ShloMosaic.Lib.Pipeline.FrameBody
public import Idealize.ShloMosaic.Lib.Pipeline.ValueKit
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.ResGateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer of 1024 rows with the 32 rows from `32 * j` replaced. -/
def put (j : ℕ) (p : Vec F S32x4096 .bf16) (d : Vec F S1024x4096 .bf16) : Vec F S1024x4096 .bf16 :=
  fun y => if h : 32 * j ≤ (y 0).val ∧ (y 0).val < 32 * j + 32 then p (ix2 ⟨(y 0).val - 32 * j, by omega⟩ (y 1)) else d y

/-- Storing 32 whole rows at row `32 * j` leaves the buffer with those rows replaced. -/
theorem read_put (v : View sig .tc .vmem S1024x4096 .bf16) (f : v.ty.Contents (Elt F)) (off : Fin 2 → ℕ) (j : ℕ)
    (inb : ∀ a, off a + S32x4096.size a ≤ S1024x4096.size a) (hoff : off = ![32 * j, 0]) (p : Vec F S32x4096 .bf16) :
    v.read (Elt F) (v.writes (Elt F) f [⟨Rect.unit (s := S1024x4096) off S32x4096.size inb, p⟩]) = put j p (v.read (Elt F) f) := by
  funext y
  refine (View.read_writes_cons_rows v f (o := 32 * j) (W := 32) inb p [] y hoff rfl rfl).trans ?_
  unfold put
  split
  · refine congrArg p (funext fun a => ?_)
    fin_cases a
    · rfl
    · exact Fin.ext (Nat.sub_zero _)
  · rfl

/-- Loading the whole of a buffer reads its contents. -/
theorem whole_load {s : Shape} {e : EltTy} {a : Memref sig .tc .vmem s e} (h : a.IsWhole) (x : Vec F s e)
    {off : Fin s.rank → ℕ} (inb : ∀ a, off a + s.size a ≤ s.size a) :
    a.view.readAt (Elt F) (Rect.unit off s.size inb).toLoadRect (h.unread x) = x :=
  (View.readAt_full _ _ _).trans (h.read_unread x)

theorem k0_off1_row (i : grid0.Coords) (hj : (i 1).val < 32) : k0_off1 i = ![32 * (i 1).val, 0] := by
  rw [k0_off1_eq, Nat.min_eq_left (by omega)]
theorem k0_off2_row (i : grid0.Coords) (hj : (i 1).val < 32) : k0_off2 i = ![32 * (i 1).val, 0] := by
  rw [k0_off2_eq, Nat.min_eq_left (by omega)]
theorem k0_off3_row (i : grid0.Coords) (hj : (i 1).val < 32) : k0_off3 i = ![32 * (i 1).val, 0] := by
  rw [k0_off3_eq, Nat.min_eq_left (by omega)]

set_option maxHeartbeats 1000000 in
theorem runA (c : Dev nD) (i : grid0.Coords) (arg2 : Memref sig .tc .vmem S32x4096 .f32) (harg2 : arg2.IsWhole) (arg3 : Memref sig .tc .vmem S32x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x256 .f32) (harg6 : arg6.IsWhole) (arg7 : Memref sig .tc .vmem S4096x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S1024x256 .bf16) (harg10 : arg10.IsWhole) (arg11 : Memref sig .tc .vmem S32x4096 .bf16) (harg11 : arg11.IsWhole) (arg12 : Memref sig .tc .vmem S1024x4096 .bf16) (harg12 : arg12.IsWhole) (arg13 : Memref sig .tc .vmem S1024x4096 .bf16) (harg13 : arg13.IsWhole)
    (hc1 : k0_cond1 i = 1#1) (hc2 : k0_cond2 i = 1#1) (hc3 : ¬k0_cond3 i = 1#1) (hc4 : ¬k0_cond4 i = 1#1) (hc5 : ¬k0_cond5 i = 1#1) (hc6 : ¬k0_cond6 i = 1#1) (hj : (i 1).val < 32)
    (x0 : Vec F S32x4096 .f32) (x1 : Vec F S32x4096 .bf16) (x2 : Vec F S1x4096 .f32) (x3 : Vec F S1x4096 .f32) (x4 : Vec F S4096x256 .f32) (x5 : Vec F S4096x256 .f32) (x6 : Vec F S32x4096 .f32) (d0 : Vec F S1024x4096 .bf16) (d1 : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare d0 ∗ owns (c : Thread nD τ) arg13 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay3 x0 x1 x2) ∗ owns (c : Thread nD τ) arg10 fullShare (k0_pay10) ∗ owns (c : Thread nD τ) arg11 fullShare (k0_pay11 x6) ∗ owns (c : Thread nD τ) arg12 fullShare (put (i 1).val (k0_pay9 (k0_pay4 x0 x1 x2 x3)) d0) ∗ owns (c : Thread nD τ) arg13 fullShare d1) -∗ K ⟨⟩))
      ⊢ wp frame (wpE (defs₀ (F := F)) Variants.none c none) E (cc0_ffn_gate_up i arg2 harg2 arg3 harg3 arg4 harg4 arg5 harg5 arg6 harg6 arg7 harg7 arg8 harg8 arg9 harg9 arg10 harg10 arg11 harg11 arg12 harg12 arg13 harg13) K := by
  simp only [cc0_ffn_gate_up_eq_skeleton]; unfold cc0_ffn_gate_up_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%e7, %f7, -, H7⟩, ⟨%e8, %f8, -, H8⟩, ⟨%e9, %f9, -, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hf10; obtain rfl := harg13.eq_unread hf11
  sl_exec (disch := first | sl_exact hc1 | sl_exact hc2 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    exact (View.read_writes_full _ _ _ _ _).trans (congr (congr (congrArg k0_pay3 (whole_load harg2 _ _)) (whole_load harg3 _ _)) (whole_load harg4 _ _))
  isplitl [H8]
  · iexists _; isplitr; swap; · iexact H8
    ipureintro
    exact (View.read_writes_full _ _ _ _ _).trans (rfl)
  isplitl [H9]
  · iexists _; isplitr; swap; · iexact H9
    ipureintro
    exact (View.read_writes_full _ _ _ _ _).trans (congrArg k0_pay11 (whole_load harg8 _ _))
  isplitl [H10]
  · iexists _; isplitr; swap; · iexact H10
    ipureintro
    refine (read_put _ _ _ (i 1).val _ (k0_off1_row i hj) _).trans (congr (congrArg (put (i 1).val) (congrArg k0_pay9 ?_)) (harg12.read_unread _))
    unfold runA.sl.r
    exact congr (congr (congr (congrArg k0_pay4 (whole_load harg2 _ _)) (whole_load harg3 _ _)) (whole_load harg4 _ _)) (whole_load harg5 _ _)
  iexists _; isplitr; swap; · iexact H11
  ipureintro
  exact harg13.read_unread _

set_option maxHeartbeats 1000000 in
theorem runB (c : Dev nD) (i : grid0.Coords) (arg2 : Memref sig .tc .vmem S32x4096 .f32) (harg2 : arg2.IsWhole) (arg3 : Memref sig .tc .vmem S32x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x256 .f32) (harg6 : arg6.IsWhole) (arg7 : Memref sig .tc .vmem S4096x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S1024x256 .bf16) (harg10 : arg10.IsWhole) (arg11 : Memref sig .tc .vmem S32x4096 .bf16) (harg11 : arg11.IsWhole) (arg12 : Memref sig .tc .vmem S1024x4096 .bf16) (harg12 : arg12.IsWhole) (arg13 : Memref sig .tc .vmem S1024x4096 .bf16) (harg13 : arg13.IsWhole)
    (hc1 : k0_cond1 i = 1#1) (hc2 : ¬k0_cond2 i = 1#1) (hc3 : ¬k0_cond3 i = 1#1) (hc4 : ¬k0_cond4 i = 1#1) (hc5 : ¬k0_cond5 i = 1#1) (hc6 : ¬k0_cond6 i = 1#1)
    (x0 : Vec F S32x4096 .f32) (x1 : Vec F S32x4096 .bf16) (x2 : Vec F S1x4096 .f32) (x3 : Vec F S1x4096 .f32) (x4 : Vec F S4096x256 .f32) (x5 : Vec F S4096x256 .f32) (x6 : Vec F S32x4096 .f32) (d0 : Vec F S1024x4096 .bf16) (d1 : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ (∃ d, owns (c : Thread nD τ) arg11 fullShare d) ∗ owns (c : Thread nD τ) arg12 fullShare d0 ∗ owns (c : Thread nD τ) arg13 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg10 fullShare (k0_pay10) ∗ owns (c : Thread nD τ) arg11 fullShare (k0_pay11 x6) ∗ owns (c : Thread nD τ) arg12 fullShare d0 ∗ owns (c : Thread nD τ) arg13 fullShare d1) -∗ K ⟨⟩))
      ⊢ wp frame (wpE (defs₀ (F := F)) Variants.none c none) E (cc0_ffn_gate_up i arg2 harg2 arg3 harg3 arg4 harg4 arg5 harg5 arg6 harg6 arg7 harg7 arg8 harg8 arg9 harg9 arg10 harg10 arg11 harg11 arg12 harg12 arg13 harg13) K := by
  simp only [cc0_ffn_gate_up_eq_skeleton]; unfold cc0_ffn_gate_up_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%e8, %f8, -, H8⟩, ⟨%e9, %f9, -, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hf10; obtain rfl := harg13.eq_unread hf11
  sl_exec (disch := first | sl_exact hc1 | sl_exact hc2 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H8]
  · iexists _; isplitr; swap; · iexact H8
    ipureintro
    exact (View.read_writes_full _ _ _ _ _).trans (rfl)
  isplitl [H9]
  · iexists _; isplitr; swap; · iexact H9
    ipureintro
    exact (View.read_writes_full _ _ _ _ _).trans (congrArg k0_pay11 (whole_load harg8 _ _))
  isplitl [H10]
  · iexists _; isplitr; swap; · iexact H10
    ipureintro
    exact harg12.read_unread _
  iexists _; isplitr; swap; · iexact H11
  ipureintro
  exact harg13.read_unread _

set_option maxHeartbeats 1000000 in
theorem runC (c : Dev nD) (i : grid0.Coords) (arg2 : Memref sig .tc .vmem S32x4096 .f32) (harg2 : arg2.IsWhole) (arg3 : Memref sig .tc .vmem S32x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x256 .f32) (harg6 : arg6.IsWhole) (arg7 : Memref sig .tc .vmem S4096x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S1024x256 .bf16) (harg10 : arg10.IsWhole) (arg11 : Memref sig .tc .vmem S32x4096 .bf16) (harg11 : arg11.IsWhole) (arg12 : Memref sig .tc .vmem S1024x4096 .bf16) (harg12 : arg12.IsWhole) (arg13 : Memref sig .tc .vmem S1024x4096 .bf16) (harg13 : arg13.IsWhole)
    (hc3 : k0_cond3 i = 1#1) (hc1 : ¬k0_cond1 i = 1#1) (hc4 : ¬k0_cond4 i = 1#1) (hc5 : ¬k0_cond5 i = 1#1) (hc6 : ¬k0_cond6 i = 1#1) (hj : (i 1).val < 32)
    (x0 : Vec F S32x4096 .f32) (x1 : Vec F S32x4096 .bf16) (x2 : Vec F S1x4096 .f32) (x3 : Vec F S1x4096 .f32) (x4 : Vec F S4096x256 .f32) (x5 : Vec F S4096x256 .f32) (x6 : Vec F S32x4096 .f32) (d0 : Vec F S1024x4096 .bf16) (d1 : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare d0 ∗ owns (c : Thread nD τ) arg13 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay5 x0 x1 x2) ∗ owns (c : Thread nD τ) arg10 fullShare (k0_pay13 d1 x4 x5) ∗ owns (c : Thread nD τ) arg11 fullShare (k0_pay14 x6) ∗ owns (c : Thread nD τ) arg12 fullShare (put (i 1).val (k0_pay12 (k0_pay6 x0 x1 x2 x3)) d0) ∗ owns (c : Thread nD τ) arg13 fullShare d1) -∗ K ⟨⟩))
      ⊢ wp frame (wpE (defs₀ (F := F)) Variants.none c none) E (cc0_ffn_gate_up i arg2 harg2 arg3 harg3 arg4 harg4 arg5 harg5 arg6 harg6 arg7 harg7 arg8 harg8 arg9 harg9 arg10 harg10 arg11 harg11 arg12 harg12 arg13 harg13) K := by
  simp only [cc0_ffn_gate_up_eq_skeleton]; unfold cc0_ffn_gate_up_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%e7, %f7, -, H7⟩, ⟨%e8, %f8, -, H8⟩, ⟨%e9, %f9, -, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hf10; obtain rfl := harg13.eq_unread hf11
  sl_exec (disch := first | sl_exact hc1 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    exact (View.read_writes_full _ _ _ _ _).trans (congr (congr (congrArg k0_pay5 (whole_load harg2 _ _)) (whole_load harg3 _ _)) (whole_load harg4 _ _))
  isplitl [H8]
  · iexists _; isplitr; swap; · iexact H8
    ipureintro
    exact (View.read_writes_full _ _ _ _ _).trans (congr (congr (congrArg k0_pay13 (whole_load harg13 _ _)) (whole_load harg6 _ _)) (whole_load harg7 _ _))
  isplitl [H9]
  · iexists _; isplitr; swap; · iexact H9
    ipureintro
    exact (View.read_writes_full _ _ _ _ _).trans (congrArg k0_pay14 (whole_load harg8 _ _))
  isplitl [H10]
  · iexists _; isplitr; swap; · iexact H10
    ipureintro
    refine (read_put _ _ _ (i 1).val _ (k0_off2_row i hj) _).trans (congr (congrArg (put (i 1).val) (congrArg k0_pay12 ?_)) (harg12.read_unread _))
    unfold runC.sl.r
    exact congr (congr (congr (congrArg k0_pay6 (whole_load harg2 _ _)) (whole_load harg3 _ _)) (whole_load harg4 _ _)) (whole_load harg5 _ _)
  iexists _; isplitr; swap; · iexact H11
  ipureintro
  exact harg13.read_unread _

set_option maxHeartbeats 1000000 in
theorem runD (c : Dev nD) (i : grid0.Coords) (arg2 : Memref sig .tc .vmem S32x4096 .f32) (harg2 : arg2.IsWhole) (arg3 : Memref sig .tc .vmem S32x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x256 .f32) (harg6 : arg6.IsWhole) (arg7 : Memref sig .tc .vmem S4096x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S1024x256 .bf16) (harg10 : arg10.IsWhole) (arg11 : Memref sig .tc .vmem S32x4096 .bf16) (harg11 : arg11.IsWhole) (arg12 : Memref sig .tc .vmem S1024x4096 .bf16) (harg12 : arg12.IsWhole) (arg13 : Memref sig .tc .vmem S1024x4096 .bf16) (harg13 : arg13.IsWhole)
    (hc4 : k0_cond4 i = 1#1) (hc1 : ¬k0_cond1 i = 1#1) (hc3 : ¬k0_cond3 i = 1#1) (hc5 : ¬k0_cond5 i = 1#1) (hc6 : ¬k0_cond6 i = 1#1)
    (x0 : Vec F S32x4096 .f32) (x1 : Vec F S32x4096 .bf16) (x2 : Vec F S1x4096 .f32) (x3 : Vec F S1x4096 .f32) (x4 : Vec F S4096x256 .f32) (x5 : Vec F S4096x256 .f32) (x6 : Vec F S32x4096 .f32) (d0 : Vec F S1024x4096 .bf16) (d1 : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ (∃ d, owns (c : Thread nD τ) arg11 fullShare d) ∗ owns (c : Thread nD τ) arg12 fullShare d0 ∗ owns (c : Thread nD τ) arg13 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg10 fullShare (k0_pay15 d1 x4 x5) ∗ owns (c : Thread nD τ) arg11 fullShare (k0_pay16 x6) ∗ owns (c : Thread nD τ) arg12 fullShare d0 ∗ owns (c : Thread nD τ) arg13 fullShare d1) -∗ K ⟨⟩))
      ⊢ wp frame (wpE (defs₀ (F := F)) Variants.none c none) E (cc0_ffn_gate_up i arg2 harg2 arg3 harg3 arg4 harg4 arg5 harg5 arg6 harg6 arg7 harg7 arg8 harg8 arg9 harg9 arg10 harg10 arg11 harg11 arg12 harg12 arg13 harg13) K := by
  simp only [cc0_ffn_gate_up_eq_skeleton]; unfold cc0_ffn_gate_up_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%e8, %f8, -, H8⟩, ⟨%e9, %f9, -, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hf10; obtain rfl := harg13.eq_unread hf11
  sl_exec (disch := first | sl_exact hc1 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H8]
  · iexists _; isplitr; swap; · iexact H8
    ipureintro
    exact (View.read_writes_full _ _ _ _ _).trans (congr (congr (congrArg k0_pay15 (whole_load harg13 _ _)) (whole_load harg6 _ _)) (whole_load harg7 _ _))
  isplitl [H9]
  · iexists _; isplitr; swap; · iexact H9
    ipureintro
    exact (View.read_writes_full _ _ _ _ _).trans (congrArg k0_pay16 (whole_load harg8 _ _))
  isplitl [H10]
  · iexists _; isplitr; swap; · iexact H10
    ipureintro
    exact harg12.read_unread _
  iexists _; isplitr; swap; · iexact H11
  ipureintro
  exact harg13.read_unread _

set_option maxHeartbeats 1000000 in
theorem runE (c : Dev nD) (i : grid0.Coords) (arg2 : Memref sig .tc .vmem S32x4096 .f32) (harg2 : arg2.IsWhole) (arg3 : Memref sig .tc .vmem S32x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x256 .f32) (harg6 : arg6.IsWhole) (arg7 : Memref sig .tc .vmem S4096x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S1024x256 .bf16) (harg10 : arg10.IsWhole) (arg11 : Memref sig .tc .vmem S32x4096 .bf16) (harg11 : arg11.IsWhole) (arg12 : Memref sig .tc .vmem S1024x4096 .bf16) (harg12 : arg12.IsWhole) (arg13 : Memref sig .tc .vmem S1024x4096 .bf16) (harg13 : arg13.IsWhole)
    (hc5 : k0_cond5 i = 1#1) (hc1 : ¬k0_cond1 i = 1#1) (hc3 : ¬k0_cond3 i = 1#1) (hc4 : ¬k0_cond4 i = 1#1) (hc6 : ¬k0_cond6 i = 1#1) (hj : (i 1).val < 32)
    (x0 : Vec F S32x4096 .f32) (x1 : Vec F S32x4096 .bf16) (x2 : Vec F S1x4096 .f32) (x3 : Vec F S1x4096 .f32) (x4 : Vec F S4096x256 .f32) (x5 : Vec F S4096x256 .f32) (x6 : Vec F S32x4096 .f32) (d0 : Vec F S1024x4096 .bf16) (d1 : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare d0 ∗ owns (c : Thread nD τ) arg13 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay7 x0 x1 x2) ∗ owns (c : Thread nD τ) arg10 fullShare (k0_pay18 d0 x4 x5) ∗ owns (c : Thread nD τ) arg11 fullShare (k0_pay19 x6) ∗ owns (c : Thread nD τ) arg12 fullShare d0 ∗ owns (c : Thread nD τ) arg13 fullShare (put (i 1).val (k0_pay17 (k0_pay8 x0 x1 x2 x3)) d1)) -∗ K ⟨⟩))
      ⊢ wp frame (wpE (defs₀ (F := F)) Variants.none c none) E (cc0_ffn_gate_up i arg2 harg2 arg3 harg3 arg4 harg4 arg5 harg5 arg6 harg6 arg7 harg7 arg8 harg8 arg9 harg9 arg10 harg10 arg11 harg11 arg12 harg12 arg13 harg13) K := by
  simp only [cc0_ffn_gate_up_eq_skeleton]; unfold cc0_ffn_gate_up_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%e7, %f7, -, H7⟩, ⟨%e8, %f8, -, H8⟩, ⟨%e9, %f9, -, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hf10; obtain rfl := harg13.eq_unread hf11
  sl_exec (disch := first | sl_exact hc1 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    exact (View.read_writes_full _ _ _ _ _).trans (congr (congr (congrArg k0_pay7 (whole_load harg2 _ _)) (whole_load harg3 _ _)) (whole_load harg4 _ _))
  isplitl [H8]
  · iexists _; isplitr; swap; · iexact H8
    ipureintro
    exact (View.read_writes_full _ _ _ _ _).trans (congr (congr (congrArg k0_pay18 (whole_load harg12 _ _)) (whole_load harg6 _ _)) (whole_load harg7 _ _))
  isplitl [H9]
  · iexists _; isplitr; swap; · iexact H9
    ipureintro
    exact (View.read_writes_full _ _ _ _ _).trans (congrArg k0_pay19 (whole_load harg8 _ _))
  isplitl [H10]
  · iexists _; isplitr; swap; · iexact H10
    ipureintro
    exact harg12.read_unread _
  iexists _; isplitr; swap; · iexact H11
  ipureintro
  refine (read_put _ _ _ (i 1).val _ (k0_off3_row i hj) _).trans (congr (congrArg (put (i 1).val) (congrArg k0_pay17 ?_)) (harg13.read_unread _))
  unfold runE.sl.r
  exact congr (congr (congr (congrArg k0_pay8 (whole_load harg2 _ _)) (whole_load harg3 _ _)) (whole_load harg4 _ _)) (whole_load harg5 _ _)

set_option maxHeartbeats 1000000 in
theorem runG (c : Dev nD) (i : grid0.Coords) (arg2 : Memref sig .tc .vmem S32x4096 .f32) (harg2 : arg2.IsWhole) (arg3 : Memref sig .tc .vmem S32x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x256 .f32) (harg6 : arg6.IsWhole) (arg7 : Memref sig .tc .vmem S4096x256 .f32) (harg7 : arg7.IsWhole) (arg8 : Memref sig .tc .vmem S32x4096 .f32) (harg8 : arg8.IsWhole) (arg9 : Memref sig .tc .vmem S32x4096 .f32) (harg9 : arg9.IsWhole) (arg10 : Memref sig .tc .vmem S1024x256 .bf16) (harg10 : arg10.IsWhole) (arg11 : Memref sig .tc .vmem S32x4096 .bf16) (harg11 : arg11.IsWhole) (arg12 : Memref sig .tc .vmem S1024x4096 .bf16) (harg12 : arg12.IsWhole) (arg13 : Memref sig .tc .vmem S1024x4096 .bf16) (harg13 : arg13.IsWhole)
    (hc6 : k0_cond6 i = 1#1) (hc1 : ¬k0_cond1 i = 1#1) (hc3 : ¬k0_cond3 i = 1#1) (hc4 : ¬k0_cond4 i = 1#1) (hc5 : ¬k0_cond5 i = 1#1)
    (x0 : Vec F S32x4096 .f32) (x1 : Vec F S32x4096 .bf16) (x2 : Vec F S1x4096 .f32) (x3 : Vec F S1x4096 .f32) (x4 : Vec F S4096x256 .f32) (x5 : Vec F S4096x256 .f32) (x6 : Vec F S32x4096 .f32) (d0 : Vec F S1024x4096 .bf16) (d1 : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ (∃ d, owns (c : Thread nD τ) arg11 fullShare d) ∗ owns (c : Thread nD τ) arg12 fullShare d0 ∗ owns (c : Thread nD τ) arg13 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg10 fullShare (k0_pay1 d0 x4 x5) ∗ owns (c : Thread nD τ) arg11 fullShare (k0_pay2 x6) ∗ owns (c : Thread nD τ) arg12 fullShare d0 ∗ owns (c : Thread nD τ) arg13 fullShare d1) -∗ K ⟨⟩))
      ⊢ wp frame (wpE (defs₀ (F := F)) Variants.none c none) E (cc0_ffn_gate_up i arg2 harg2 arg3 harg3 arg4 harg4 arg5 harg5 arg6 harg6 arg7 harg7 arg8 harg8 arg9 harg9 arg10 harg10 arg11 harg11 arg12 harg12 arg13 harg13) K := by
  simp only [cc0_ffn_gate_up_eq_skeleton]; unfold cc0_ffn_gate_up_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%e8, %f8, -, H8⟩, ⟨%e9, %f9, -, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hf10; obtain rfl := harg13.eq_unread hf11
  sl_exec (disch := first | sl_exact hc1 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H8]
  · iexists _; isplitr; swap; · iexact H8
    ipureintro
    exact (View.read_writes_full _ _ _ _ _).trans (congr (congr (congrArg k0_pay1 (whole_load harg12 _ _)) (whole_load harg6 _ _)) (whole_load harg7 _ _))
  isplitl [H9]
  · iexists _; isplitr; swap; · iexact H9
    ipureintro
    exact (View.read_writes_full _ _ _ _ _).trans (congrArg k0_pay2 (whole_load harg8 _ _))
  isplitl [H10]
  · iexists _; isplitr; swap; · iexact H10
    ipureintro
    exact harg12.read_unread _
  iexists _; isplitr; swap; · iexact H11
  ipureintro
  exact harg13.read_unread _

end Cert.ResGateUpIdeal.Gen

end
-- ==== Proof.ResGateUpIdeal.Frame.lean ====
module

public import proofs.«01_k».proof.Proof.ResGateUpIdeal.Runs
public import Idealize.ShloMosaic.Lib.Claim
public import Idealize.ShloMosaic.Lib.Pipeline.TableIdle

@[expose] public section

set_option maxRecDepth 16384

noncomputable section

namespace Cert.ResGateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its call, and the blocks the call's windows show -/

/-- The buffers when the call is entered: the two norms' weights reshaped to one row each. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write the reshaped weights alone. -/
theorem V_of_ne (c : Dev nD) (b : Ref sig .tc) (h : b ≠ main_v0) (h' : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h, StableHlo.devRef_ne_of_ne h'⟩))

theorem V_main_arg0 (c : Dev nD) : V m c main_arg0 = m ((c : Thread nD τ).loc main_arg0) := V_of_ne m c _ (by decide) (by decide)
theorem V_main_arg1 (c : Dev nD) : V m c main_arg1 = m ((c : Thread nD τ).loc main_arg1) := V_of_ne m c _ (by decide) (by decide)
theorem V_main_arg2 (c : Dev nD) : V m c main_arg2 = m ((c : Thread nD τ).loc main_arg2) := V_of_ne m c _ (by decide) (by decide)
theorem V_main_arg3 (c : Dev nD) : V m c main_arg3 = m ((c : Thread nD τ).loc main_arg3) := V_of_ne m c _ (by decide) (by decide)
theorem V_main_arg4 (c : Dev nD) : V m c main_arg4 = m ((c : Thread nD τ).loc main_arg4) := V_of_ne m c _ (by decide) (by decide)
theorem V_main_arg5 (c : Dev nD) : V m c main_arg5 = m ((c : Thread nD τ).loc main_arg5) := V_of_ne m c _ (by decide) (by decide)
theorem V_main_arg6 (c : Dev nD) : V m c main_arg6 = m ((c : Thread nD τ).loc main_arg6) := V_of_ne m c _ (by decide) (by decide)

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's buffer shows its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The grid: 9 sweeps of 43 points -/

theorem lt_387 (t : Fin cfg0.N) : t.val < 387 := t.isLt.trans_eq N_0

theorem coord1 : ∀ t : Fin cfg0.N, (grid0.coords t 1).val = t.val % 43 :=
  (by decide +kernel : ∀ t : Fin grid0.N, (grid0.coords t 1).val = t.val % 43)
theorem cond1_iff : ∀ t : Fin cfg0.N, k0_cond1 (grid0.coords t) = 1#1 ↔ t.val / 43 = 0 :=
  (by decide +kernel : ∀ t : Fin grid0.N, k0_cond1 (grid0.coords t) = 1#1 ↔ t.val / 43 = 0)
theorem cond2_iff : ∀ t : Fin cfg0.N, k0_cond2 (grid0.coords t) = 1#1 ↔ t.val % 43 < 32 :=
  (by decide +kernel : ∀ t : Fin grid0.N, k0_cond2 (grid0.coords t) = 1#1 ↔ t.val % 43 < 32)
theorem cond3_iff : ∀ t : Fin cfg0.N, k0_cond3 (grid0.coords t) = 1#1 ↔
    (t.val / 43 ≠ 0 ∧ t.val / 43 % 2 = 0) ∧ (t.val / 43 < 8 ∧ t.val % 43 < 32) :=
  (by decide +kernel : ∀ t : Fin grid0.N, k0_cond3 (grid0.coords t) = 1#1 ↔
    (t.val / 43 ≠ 0 ∧ t.val / 43 % 2 = 0) ∧ (t.val / 43 < 8 ∧ t.val % 43 < 32))
theorem cond4_iff : ∀ t : Fin cfg0.N, k0_cond4 (grid0.coords t) = 1#1 ↔
    (t.val / 43 ≠ 0 ∧ t.val / 43 % 2 = 0) ∧ ¬(t.val / 43 < 8 ∧ t.val % 43 < 32) :=
  (by decide +kernel : ∀ t : Fin grid0.N, k0_cond4 (grid0.coords t) = 1#1 ↔
    (t.val / 43 ≠ 0 ∧ t.val / 43 % 2 = 0) ∧ ¬(t.val / 43 < 8 ∧ t.val % 43 < 32))
theorem cond5_iff : ∀ t : Fin cfg0.N, k0_cond5 (grid0.coords t) = 1#1 ↔
    (t.val / 43 ≠ 0 ∧ t.val / 43 % 2 = 1) ∧ (t.val / 43 < 8 ∧ t.val % 43 < 32) :=
  (by decide +kernel : ∀ t : Fin grid0.N, k0_cond5 (grid0.coords t) = 1#1 ↔
    (t.val / 43 ≠ 0 ∧ t.val / 43 % 2 = 1) ∧ (t.val / 43 < 8 ∧ t.val % 43 < 32))
theorem cond6_iff : ∀ t : Fin cfg0.N, k0_cond6 (grid0.coords t) = 1#1 ↔
    (t.val / 43 ≠ 0 ∧ t.val / 43 % 2 = 1) ∧ ¬(t.val / 43 < 8 ∧ t.val % 43 < 32) :=
  (by decide +kernel : ∀ t : Fin grid0.N, k0_cond6 (grid0.coords t) = 1#1 ↔
    (t.val / 43 ≠ 0 ∧ t.val / 43 % 2 = 1) ∧ ¬(t.val / 43 < 8 ∧ t.val % 43 < 32))
/-- The first result is stored at the points that norm rows, the other two at every point. -/
theorem idle_7 : ∀ t : Fin cfg0.N, cfg0.idle 7 (cfg0.grid.coords t) = !decide (t.val / 43 < 8 ∧ t.val % 43 < 32) :=
  (by decide +kernel : ∀ t : Fin grid0.N, idle0 7 (grid0.coords t) = !decide (t.val / 43 < 8 ∧ t.val % 43 < 32))
theorem idle_8 : ∀ t : Fin cfg0.N, cfg0.idle 8 (cfg0.grid.coords t) = false :=
  (by decide +kernel : ∀ t : Fin grid0.N, idle0 8 (grid0.coords t) = false)
theorem idle_9 : ∀ t : Fin cfg0.N, cfg0.idle 9 (cfg0.grid.coords t) = false :=
  (by decide +kernel : ∀ t : Fin grid0.N, idle0 9 (grid0.coords t) = false)

/-- Before which points nothing is known of the first result's staging buffer: those that norm rows, and after the last. -/
def freshAt (n : ℕ) : Bool := decide (n = 387) || decide (n / 43 < 8 ∧ n % 43 < 32)
theorem freshAt_step : ∀ t : Fin cfg0.N, freshAt (t.val + 1) = ((cfg0.win 7).flush t || (cfg0.idle 7 (cfg0.grid.coords t) && freshAt t.val)) :=
  (by decide +kernel : ∀ t : Fin grid0.N, freshAt (t.val + 1) = (win0_7.flush t || (idle0 7 (grid0.coords t) && freshAt t.val)))
theorem fresh_7 (n : ℕ) (hn : n ≤ cfg0.N) : cfg0.fresh 7 n = freshAt n := Cfg.fresh_tab cfg0 7 freshAt rfl freshAt_step n hn

/-! ## What the two scratch buffers hold

During sweep `s` the body norms the rows of tile `s`, 32 at a point, into one of the two buffers; the other one
holds tile `s - 1`, filled by the sweep before. -/

/-- The point at which row `r` of tile `s` is normed. -/
def pt (s r : ℕ) : Fin cfg0.N := ⟨min (s * 43 + r / 32) 386, by rw [show cfg0.N = 387 from N_0]; omega⟩

/-- Tile `s` of the normed rows. -/
def tile (c : Dev nD) (s : ℕ) : Vec F S1024x4096 .bf16 := fun y =>
  k0_pay9 (k0_pay4 (iblk m c 0 (pt s (y 0).val)) (iblk m c 1 (pt s (y 0).val)) (iblk m c 2 (pt s (y 0).val)) (iblk m c 3 (pt s (y 0).val)))
    (ix2 ⟨(y 0).val % 32, Nat.mod_lt _ (by decide)⟩ (y 1))

/-- Before point `n` of sweep `s`: the buffer of the sweep's parity holds the rows of tile `s` normed so far, the
    other one the whole of tile `s - 1`. -/
def Held (c : Dev nD) (n : ℕ) (d0 d1 : Vec F S1024x4096 .bf16) : Prop :=
  (n / 43 < 8 → ∀ y : S1024x4096.Idx, (y 0).val < 32 * min (n % 43) 32 →
      (if n / 43 % 2 = 0 then d0 else d1) y = tile m c (n / 43) y)
    ∧ (n / 43 ≠ 0 → n / 43 ≤ 8 → (if n / 43 % 2 = 0 then d1 else d0) = tile m c (n / 43 - 1))

theorem held_zero (c : Dev nD) (d0 d1 : Vec F S1024x4096 .bf16) : Held m c 0 d0 d1 :=
  ⟨fun _ y h => absurd h (by simp), fun h _ => absurd rfl h⟩

/-- A point that norms nothing keeps what is known of the buffers. -/
theorem held_keep (c : Dev nD) (n : ℕ) (hn : n < 387) (d0 d1 : Vec F S1024x4096 .bf16) (h : Held m c n d0 d1)
    (hb : ¬(n / 43 < 8 ∧ n % 43 < 32)) : Held m c (n + 1) d0 d1 := by
  obtain ⟨h1, h2⟩ := h
  by_cases hj : n % 43 = 42
  · have e1 : (n + 1) / 43 = n / 43 + 1 := by omega
    have e2 : (n + 1) % 43 = 0 := by omega
    refine ⟨fun _ y hy => absurd hy (by rw [e2]; simp), fun _ h9 => ?_⟩
    rw [e1] at h9 ⊢
    by_cases h8 : n / 43 < 8
    · have hfull : (if n / 43 % 2 = 0 then d0 else d1) = tile m c (n / 43) := funext fun y => h1 h8 y (by
        have := (y 0).isLt; rw [hj]; exact this)
      by_cases hp : n / 43 % 2 = 0
      · rw [if_pos hp] at hfull
        rw [if_neg (by omega), hfull]; rfl
      · rw [if_neg hp] at hfull
        rw [if_pos (by omega), hfull]; rfl
    · omega
  · have e1 : (n + 1) / 43 = n / 43 := by omega
    unfold Held
    rw [e1]
    exact ⟨fun h8 y hy => h1 h8 y (by have e2 : (n + 1) % 43 = n % 43 + 1 := by omega
                                      rw [e2] at hy; omega), h2⟩

theorem pt_of (t : Fin cfg0.N) (hj : t.val % 43 < 32) (r : ℕ) (hr : r / 32 = t.val % 43) : pt (t.val / 43) r = t :=
  Fin.ext (by have := lt_387 t; show min _ _ = _; rw [hr]; omega)

/-- A point that norms 32 rows into one buffer. -/
theorem held_put (c : Dev nD) (t : Fin cfg0.N) (j : ℕ) (ej : j = t.val % 43) (d0 d1 d0' d1' : Vec F S1024x4096 .bf16)
    (h : Held m c t.val d0 d1) (hj : t.val % 43 < 32)
    (hput : (if t.val / 43 % 2 = 0 then d0' else d1')
      = put j (k0_pay9 (k0_pay4 (iblk m c 0 t) (iblk m c 1 t) (iblk m c 2 t) (iblk m c 3 t))) (if t.val / 43 % 2 = 0 then d0 else d1))
    (hoth : (if t.val / 43 % 2 = 0 then d1' else d0') = (if t.val / 43 % 2 = 0 then d1 else d0)) :
    Held m c (t.val + 1) d0' d1' := by
  subst ej
  obtain ⟨h1, h2⟩ := h
  have e1 : (t.val + 1) / 43 = t.val / 43 := by omega
  have e2 : (t.val + 1) % 43 = t.val % 43 + 1 := by omega
  unfold Held
  rw [e1, hput, hoth]
  refine ⟨fun h8 y hy => ?_, h2⟩
  unfold put
  split
  · rename_i hy2
    unfold tile
    rw [pt_of t hj (y 0).val (by omega)]
    refine congrArg _ (congrArg (fun a => ix2 a (y 1)) (Fin.ext ?_))
    show (y 0).val - 32 * (t.val % 43) = (y 0).val % 32
    omega
  · exact h1 h8 y (by rw [e2] at hy; omega)

/-! ## The pipeline's proof data -/

/-- The invariant: the scratch buffers at contents that `Held` describes, and the generator register. -/
def Inv (c : Dev nD) (n : ℕ) : sProp 𝕄 :=
  iprop(∃ d0, ∃ d1, ⌜Held m c n d0 d1⌝ ∗ owns (c : Thread nD τ) (Memref.whole cc0_scratch0 : Memref sig .tc .vmem S1024x4096 .bf16) fullShare d0
    ∗ owns (c : Thread nD τ) (Memref.whole cc0_scratch1 : Memref sig .tc .vmem S1024x4096 .bf16) fullShare d1 ∗ (∃ r, prngReg c r))

/-- The last point up to `n` that norms rows. -/
def builtAt (n : ℕ) : ℕ := if n / 43 < 8 then n - (n % 43 - 31) else 332
theorem builtAt_lt (t : Fin cfg0.N) : builtAt t.val < cfg0.N := by
  have := lt_387 t
  refine lt_of_lt_of_eq (b := 387) ?_ (show 387 = cfg0.N from N_0.symm)
  unfold builtAt; split <;> omega
def bpt (t : Fin cfg0.N) : Fin cfg0.N := ⟨builtAt t.val, builtAt_lt t⟩
theorem bpt_of (t : Fin cfg0.N) (hb : t.val / 43 < 8 ∧ t.val % 43 < 32) : bpt t = t :=
  Fin.ext (by show builtAt _ = _; unfold builtAt; rw [if_pos hb.1]; omega)
theorem bpt_pred (t : Fin cfg0.N) (hb : ¬(t.val / 43 < 8 ∧ t.val % 43 < 32)) : bpt t = bpt ⟨t.val - 1, by omega⟩ :=
  Fin.ext (by have := lt_387 t; show builtAt _ = builtAt (t.val - 1); unfold builtAt; split <;> split <;> omega)

/-- The first result's block after point `t`: the stream with the normed branch added, of the last point that normed rows. -/
def out7 (c : Dev nD) (t : Fin cfg0.N) : Vec F S32x4096 .f32 :=
  k0_pay3 (iblk m c 0 (bpt t)) (iblk m c 1 (bpt t)) (iblk m c 2 (bpt t))

/-- The second result's block after point `t`: zeros in the first sweep, then the gate and up products of the tile
    before. -/
def out8 (c : Dev nD) (t : Fin cfg0.N) : Vec F S1024x256 .bf16 :=
  if t.val / 43 = 0 then k0_pay10 else k0_pay13 (tile m c (t.val / 43 - 1)) (iblk m c 4 t) (iblk m c 5 t)

/-- The third result's block: the slab of the down weights, rounded. -/
def out9 (c : Dev nD) (t : Fin cfg0.N) : Vec F S32x4096 .bf16 := k0_pay2 (iblk m c 6 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
    | ⟨8, _⟩ => out8 m c t
    | ⟨9, _⟩ => out9 m c t
  Φ t := Inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out7 m c t := by dsimp only [dats]
theorem after0_8 (c : Dev nD) (t : Fin cfg0.N) : (dats m 0 c).after 8 t = out8 m c t := by dsimp only [dats]
theorem after0_9 (c : Dev nD) (t : Fin cfg0.N) : (dats m 0 c).after 9 t = out9 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- At a point that norms nothing the first result's buffer is found as the last norming point left it. -/
theorem before0_7 (c : Dev nD) (t : Fin cfg0.N) (hb : ¬(t.val / 43 < 8 ∧ t.val % 43 < 32)) (d) : (dats m 0 c).before 7 t d = out7 m c t := by
  have key : ∀ t : Fin cfg0.N, ¬(t.val / 43 < 8 ∧ t.val % 43 < 32) → out7 m c t = out7 m c ⟨t.val - 1, by omega⟩ := fun t h => by
    unfold out7; rw [bpt_pred t h]
  refine ((dats m 0 c).before_out_traj 7 rfl (fun _ _ => rfl) (fun t _ hi _ => ?_) t.val t rfl d).trans ?_
  · rw [after0_7, after0_7]
    exact key t (fun h => by rw [idle_7 t, decide_eq_true h] at hi; exact absurd hi (by decide))
  · have h387 := lt_387 t
    have hf : cfg0.fresh 7 t.val = false := (fresh_7 t.val (Nat.le_of_lt t.isLt)).trans (by
      unfold freshAt; rw [decide_eq_false hb, decide_eq_false (by omega)]; rfl)
    rw [hf, if_neg Bool.false_ne_true, after0_7]
    exact (key t hb).symm

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9,
    show (dats m 0 c).Φ t.castSucc = Inv m c t.val from rfl, show (dats m 0 c).Φ t.succ = Inv m c (t.val + 1) from rfl]
  unfold Inv
  iintro ⟨⟨%s0, %s1, %hH, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hc1 := cond1_iff t; have hc2 := cond2_iff t; have hc3 := cond3_iff t
  have hc4 := cond4_iff t; have hc5 := cond5_iff t; have hc6 := cond6_iff t
  have hn := lt_387 t
  have ej := coord1 t
  by_cases hs : t.val / 43 = 0
  · have e8 : out8 m c t = k0_pay10 := if_pos hs
    by_cases hj : t.val % 43 < 32
    · iapply (runA c (grid0.coords t) _ _ _ _ _ _ _ _ _ _ _ _ _ _ _ _ _ _ _ _ _ _ _ _ (hc1.mpr (by omega)) (hc2.mpr (by omega)) (fun h => by have := hc3.mp h; omega) (fun h => by have := hc4.mp h; omega) (fun h => by have := hc5.mp h; omega) (fun h => by have := hc6.mp h; omega) (by omega) (iblk m c 0 t) (iblk m c 1 t) (iblk m c 2 t) (iblk m c 3 t) (iblk m c 4 t) (iblk m c 5 t) (iblk m c 6 t) s0 s1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hg]
      · iexists _; iexists _; isplitr; swap
        · isplitl [HS0]; · iexact HS0
          isplitl [HS1]; · iexact HS1
          iexact Hg
        ipureintro; exact held_put m c t _ ej s0 s1 _ _ hH (by omega) (by rw [if_pos (by omega), if_pos (by omega)]; try rfl) (by rw [if_pos (by omega), if_pos (by omega)])
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold out7; rw [bpt_of t (by omega)]; iexact H7
      isplitl [H8]
      · rw [e8]; iexact H8
      iexact H9
    · iapply (runB c (grid0.coords t) _ _ _ _ _ _ _ _ _ _ _ _ _ _ _ _ _ _ _ _ _ _ _ _ (hc1.mpr (by omega)) (fun h => by have := hc2.mp h; omega) (fun h => by have := hc3.mp h; omega) (fun h => by have := hc4.mp h; omega) (fun h => by have := hc5.mp h; omega) (fun h => by have := hc6.mp h; omega) (iblk m c 0 t) (iblk m c 1 t) (iblk m c 2 t) (iblk m c 3 t) (iblk m c 4 t) (iblk m c 5 t) (iblk m c 6 t) s0 s1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H8]; · iexists _; iexact H8
      isplitl [H9]; · iexists _; iexact H9
      isplitl [HS0]; · iexact HS0
      isplitl [HS1]; · iexact HS1
      iintro ⟨H0, H1, H2, H3, H4, H5, H6, H8, H9, HS0, HS1⟩
      isplitl [HS0 HS1 Hg]
      · iexists _; iexists _; isplitr; swap
        · isplitl [HS0]; · iexact HS0
          isplitl [HS1]; · iexact HS1
          iexact Hg
        ipureintro; exact held_keep m c t.val hn s0 s1 hH (by omega)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · rw [before0_7 m c t (by omega)]; iexact H7
      isplitl [H8]
      · rw [e8]; iexact H8
      iexact H9
  · have e8 : out8 m c t = k0_pay13 (tile m c (t.val / 43 - 1)) (iblk m c 4 t) (iblk m c 5 t) := if_neg hs
    have hT := hH.2 hs (by omega)
    by_cases hp : t.val / 43 % 2 = 0
    · rw [if_pos hp] at hT
      by_cases hb : t.val / 43 < 8 ∧ t.val % 43 < 32
      · iapply (runC c (grid0.coords t) _ _ _ _ _ _ _ _ _ _ _ _ _ _ _ _ _ _ _ _ _ _ _ _ (hc3.mpr (by omega)) (fun h => by have := hc1.mp h; omega) (fun h => by have := hc4.mp h; omega) (fun h => by have := hc5.mp h; omega) (fun h => by have := hc6.mp h; omega) (by omega) (iblk m c 0 t) (iblk m c 1 t) (iblk m c 2 t) (iblk m c 3 t) (iblk m c 4 t) (iblk m c 5 t) (iblk m c 6 t) s0 s1 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [HS0]; · iexact HS0
        isplitl [HS1]; · iexact HS1
        iintro ⟨H0, H1, H2, H3, H4, H5, H6, H7, H8, H9, HS0, HS1⟩
        isplitl [HS0 HS1 Hg]
        · iexists _; iexists _; isplitr; swap
          · isplitl [HS0]; · iexact HS0
            isplitl [HS1]; · iexact HS1
            iexact Hg
          ipureintro; exact held_put m c t _ ej s0 s1 _ _ hH (by omega) (by rw [if_pos (by omega), if_pos (by omega)]; try rfl) (by rw [if_pos (by omega), if_pos (by omega)])
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold out7; rw [bpt_of t (by omega)]; iexact H7
        isplitl [H8]
        · rw [e8, ← hT]; iexact H8
        iexact H9
      · iapply (runD c (grid0.coords t) _ _ _ _ _ _ _ _ _ _ _ _ _ _ _ _ _ _ _ _ _ _ _ _ (hc4.mpr (by omega)) (fun h => by have := hc1.mp h; omega) (fun h => by have := hc3.mp h; omega) (fun h => by have := hc5.mp h; omega) (fun h => by have := hc6.mp h; omega) (iblk m c 0 t) (iblk m c 1 t) (iblk m c 2 t) (iblk m c 3 t) (iblk m c 4 t) (iblk m c 5 t) (iblk m c 6 t) s0 s1 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H8]; · iexists _; iexact H8
        isplitl [H9]; · iexists _; iexact H9
        isplitl [HS0]; · iexact HS0
        isplitl [HS1]; · iexact HS1
        iintro ⟨H0, H1, H2, H3, H4, H5, H6, H8, H9, HS0, HS1⟩
        isplitl [HS0 HS1 Hg]
        · iexists _; iexists _; isplitr; swap
          · isplitl [HS0]; · iexact HS0
            isplitl [HS1]; · iexact HS1
            iexact Hg
          ipureintro; exact held_keep m c t.val hn s0 s1 hH (by omega)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · rw [before0_7 m c t (by omega)]; iexact H7
        isplitl [H8]
        · rw [e8, ← hT]; iexact H8
        iexact H9
    · rw [if_neg hp] at hT
      by_cases hb : t.val / 43 < 8 ∧ t.val % 43 < 32
      · iapply (runE c (grid0.coords t) _ _ _ _ _ _ _ _ _ _ _ _ _ _ _ _ _ _ _ _ _ _ _ _ (hc5.mpr (by omega)) (fun h => by have := hc1.mp h; omega) (fun h => by have := hc3.mp h; omega) (fun h => by have := hc4.mp h; omega) (fun h => by have := hc6.mp h; omega) (by omega) (iblk m c 0 t) (iblk m c 1 t) (iblk m c 2 t) (iblk m c 3 t) (iblk m c 4 t) (iblk m c 5 t) (iblk m c 6 t) s0 s1 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [HS0]; · iexact HS0
        isplitl [HS1]; · iexact HS1
        iintro ⟨H0, H1, H2, H3, H4, H5, H6, H7, H8, H9, HS0, HS1⟩
        isplitl [HS0 HS1 Hg]
        · iexists _; iexists _; isplitr; swap
          · isplitl [HS0]; · iexact HS0
            isplitl [HS1]; · iexact HS1
            iexact Hg
          ipureintro; exact held_put m c t _ ej s0 s1 _ _ hH (by omega) (by rw [if_neg (by omega), if_neg (by omega)]; try rfl) (by rw [if_neg (by omega), if_neg (by omega)])
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold out7; rw [bpt_of t (by omega)]; iexact H7
        isplitl [H8]
        · rw [e8, ← hT]; iexact H8
        iexact H9
      · iapply (runG c (grid0.coords t) _ _ _ _ _ _ _ _ _ _ _ _ _ _ _ _ _ _ _ _ _ _ _ _ (hc6.mpr (by omega)) (fun h => by have := hc1.mp h; omega) (fun h => by have := hc3.mp h; omega) (fun h => by have := hc4.mp h; omega) (fun h => by have := hc5.mp h; omega) (iblk m c 0 t) (iblk m c 1 t) (iblk m c 2 t) (iblk m c 3 t) (iblk m c 4 t) (iblk m c 5 t) (iblk m c 6 t) s0 s1 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H8]; · iexists _; iexact H8
        isplitl [H9]; · iexists _; iexact H9
        isplitl [HS0]; · iexact HS0
        isplitl [HS1]; · iexact HS1
        iintro ⟨H0, H1, H2, H3, H4, H5, H6, H8, H9, HS0, HS1⟩
        isplitl [HS0 HS1 Hg]
        · iexists _; iexists _; isplitr; swap
          · isplitl [HS0]; · iexact HS0
            isplitl [HS1]; · iexact HS1
            iexact Hg
          ipureintro; exact held_keep m c t.val hn s0 s1 hH (by omega)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · rw [before0_7 m c t (by omega)]; iexact H7
        isplitl [H8]
        · rw [e8, ← hT]; iexact H8
        iexact H9

theorem defs₀_row (t : Fin cfg0.N) :
    defs₀ (F := F) .tc cfg0.body (cfg0.bodyArgs t (cfg0.slots t)) = bodyAt0 t := by
  unfold defs₀; rw [Defs.onTc_tc]

/-- The first result's buffer after a point, as the pipeline's rules ask for it: at a point that norms nothing, what it was. -/
theorem leaves_7 (c : Dev nD) (t : Fin cfg0.N) :
    owns (c : Thread nD τ) (st0_7 t) fullShare ((dats m 0 c).after 7 t) ⊢ ((dats m 0 c).leavesExact 7 t : sProp 𝕄) := by
  unfold Dat.leavesExact
  by_cases hb : t.val / 43 < 8 ∧ t.val % 43 < 32
  · rw [idle_7 t, decide_eq_true hb]; exact .rfl
  · rw [idle_7 t, decide_eq_false hb]
    cases hf : (cfg0.win 7).flush t
    · show _ ⊢ iprop(∃ d, owns (c : Thread nD τ) (st0_7 t) fullShare ((dats m 0 c).before 7 t d))
      iintro H
      iexists out7 m c t
      rw [before0_7 m c t hb, after0_7]; iexact H
    · exact .rfl

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, Ho, H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (leaves_7 m c t); iexact H7
  isplitl [H8]
  · rw [idle_8 t]; iexact H8
  rw [idle_9 t]; iexact H9

/-! ## The run and the frame -/

theorem PhiA0_eq (c : Dev nD) :
    (Pipeline.ΦA spec0 c : sProp 𝕄)
      = iprop(iprop((∃ d, owns (c : Thread nD τ) (Memref.whole cc0_scratch0 : Memref sig .tc .vmem S1024x4096 .bf16) fullShare d)
        ∗ (∃ d, owns (c : Thread nD τ) (Memref.whole cc0_scratch1 : Memref sig .tc .vmem S1024x4096 .bf16) fullShare d)) ∗ (∃ r, prngReg c r)) := by
  unfold Pipeline.ΦA; rw [scopedRest0_eq]; simp only [owns_whole]; try rfl

theorem inv_in (c : Dev nD) : (Pipeline.ΦA spec0 c : sProp 𝕄) ⊢ Inv m c 0 := by
  rw [PhiA0_eq]; unfold Inv
  iintro ⟨⟨⟨%d0, H0⟩, ⟨%d1, H1⟩⟩, Hg⟩
  iexists d0; iexists d1
  isplitr; · ipureintro; exact held_zero m c d0 d1
  isplitl [H0]; · iexact H0
  isplitl [H1]; · iexact H1
  iexact Hg

theorem inv_out (c : Dev nD) (n : ℕ) : Inv m c n ⊢ (Pipeline.ΦA spec0 c : sProp 𝕄) := by
  rw [PhiA0_eq]; unfold Inv
  iintro ⟨%d0, %d1, -, H0, H1, Hg⟩
  isplitr [Hg]
  · isplitl [H0]
    · iexists _; iexact H0
    iexists _; iexact H1
  iexact Hg

-- the run's implicit arguments are found by unifying its conclusion with this one, which takes unfolding plain
-- definitions in a metavariable's type
set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => inv_in m c) (hout := fun c => inv_out m c _)

theorem run_main : θ_run defs (onTc (τ := τ) (main (F := F))) (s₀ m ρ) (Pipeline.FramePost cfgs (dats m) 0 (V m)) :=
  (θ_run defs _ _).mono (fun _ h => h.1) (run_main_quiescent m ρ)

/-- Every argument array ends as it was. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩) (run_main m ρ)

/-- The frame: every argument array ends as it was, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.ResGateUpIdeal.Gen

end
-- ==== Proof.ResGateUpIdeal.Value.lean ====
/-
  THE GATE AND UP PRODUCTS AFTER A RESIDUAL: what the call's three result arrays hold, and what the reference's are.

  The kernel first adds a normed branch to the stream, row by row, and writes the sum back as its first result; the rest
  is the gate and up products of that sum (`GateUpIdeal/Value.lean`): its tiles of 1024 rows normed in 32 steps of 32 rows
  in the sweep before the one that multiplies them, 1024 rows of zeros at the end, and the down weights, rounded.
-/
module

public import proofs.«01_k».proof.Proof.ResGateUpIdeal.Frame
public import proofs.«01_k».proof.Proof.GateUpIdeal.Value
public import Idealize.ShloMosaic.Lib.Pipeline.ValueKit
public import Idealize.ShloMosaic.Lib.Pointwise
public import Idealize.ShloMosaic.Lib.KernelVsHost
public import Idealize.ShloMosaic.Lib.StableHlo.RunRead

@[expose] public section

set_option maxRecDepth 16384

noncomputable section

namespace Cert.ResGateUpIdeal.Value

open Cert.ResGateUpIdeal Cert.ResGateUpIdeal.Gen Idealize.ShloMosaic Idealize.ShloMosaic.TcCoe Idealize.SL.Sem
open Cert.GateUpIdeal.Value (normed gated act)
open Idealize.ShloMosaic.Pipeline (Dat)

/-! ## What the body stores, at one entry -/

theorem one_bits : Ideal.ofBits .f32 0x3F800000#32 = 1 := by
  rw [Ideal.ofBits_one_f32]

theorem pay3_at (h : Vec Ideal S32x4096 .f32) (f : Vec Ideal S32x4096 .bf16) (p : Vec Ideal S1x4096 .f32) (y : S32x4096.Idx) :
    k0_pay3 (F := Ideal) h f p y = h y + normed (fun q => f (ix2 (y 0) q)) (fun q => p (ix2 (0 : Fin 1) q)) (y 1) := by
  unfold normed
  refine Eq.trans ?_ (congrArg (h y + ·) (one_mul _))
  rw [← one_bits]
  pointwise [k0_pay3]

theorem pay4_at (h : Vec Ideal S32x4096 .f32) (f : Vec Ideal S32x4096 .bf16) (p g : Vec Ideal S1x4096 .f32) (y : S32x4096.Idx) :
    k0_pay9 (F := Ideal) (k0_pay4 (F := Ideal) h f p g) y
      = normed (fun q => k0_pay3 (F := Ideal) h f p (ix2 (y 0) q)) (fun q => g (ix2 (0 : Fin 1) q)) (y 1) := by
  unfold normed k0_pay9 k0_pay4
  generalize k0_pay3 (F := Ideal) h f p = x
  pointwise

theorem pay13_at (u : Vec Ideal S1024x4096 .bf16) (a b : Vec Ideal S4096x256 .f32) (y : S1024x256.Idx) :
    k0_pay13 (F := Ideal) u a b y = gated (fun q => u (ix2 (y 0) q)) (fun q => a (ix2 q (y 1))) (fun q => b (ix2 q (y 1))) := by
  unfold gated
  pointwise [k0_pay13]

theorem pay10_at (y : S1024x256.Idx) : k0_pay10 (F := Ideal) y = 0 := by
  pointwise [k0_pay10]

theorem pay2_at (x : Vec Ideal S32x4096 .f32) (y : S32x4096.Idx) : k0_pay2 (F := Ideal) x y = x y := by
  pointwise [k0_pay2]

/-- The first result: the stream plus the branch's first 8192 rows normed. -/
def stream (H : Vec Ideal S8192x4096 .f32) (f : Vec Ideal S9216x4096 .bf16) (p : Vec Ideal S4096 .f32) : Vec Ideal S8192x4096 .f32 := fun i =>
  H i + normed (fun q => f (ix2 (⟨(i 0).val, Nat.lt_of_lt_of_le (i 0).isLt (by decide)⟩ : Fin 9216) q)) (fun q => p (ix1 q)) (i 1)

/-! ## The windows' blocks, at one entry -/

theorem index0 : ∀ t : Fin cfg0.N, t.val / 43 < 8 → t.val % 43 < 32 → win0_0.index t = ![t.val / 43 * 32 + t.val % 43, 0] :=
  (by decide +kernel : ∀ t : Fin grid0.N, t.val / 43 < 8 → t.val % 43 < 32 → win0_0.index t = ![t.val / 43 * 32 + t.val % 43, 0])
theorem index1 : ∀ t : Fin cfg0.N, t.val / 43 < 8 → t.val % 43 < 32 → win0_1.index t = ![t.val / 43 * 32 + t.val % 43, 0] :=
  (by decide +kernel : ∀ t : Fin grid0.N, t.val / 43 < 8 → t.val % 43 < 32 → win0_1.index t = ![t.val / 43 * 32 + t.val % 43, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, t.val / 43 ≠ 0 → win0_4.index t = ![0, t.val % 43] :=
  (by decide +kernel : ∀ t : Fin grid0.N, t.val / 43 ≠ 0 → win0_4.index t = ![0, t.val % 43])
theorem index5 : ∀ t : Fin cfg0.N, t.val / 43 ≠ 0 → win0_5.index t = ![0, t.val % 43] :=
  (by decide +kernel : ∀ t : Fin grid0.N, t.val / 43 ≠ 0 → win0_5.index t = ![0, t.val % 43])
theorem index6 : ∀ t : Fin cfg0.N, win0_6.index t = ![min t.val 343, 0] :=
  (by decide +kernel : ∀ t : Fin grid0.N, win0_6.index t = ![min t.val 343, 0])
theorem index7 : ∀ t : Fin cfg0.N, win0_7.index t = ![(bpt t).val / 43 * 32 + (bpt t).val % 43, 0] :=
  (by decide +kernel : ∀ t : Fin grid0.N, win0_7.index t = ![(bpt t).val / 43 * 32 + (bpt t).val % 43, 0])
theorem index8 : ∀ t : Fin cfg0.N, win0_8.index t = ![if t.val / 43 = 0 then 8 else t.val / 43 - 1, t.val % 43] :=
  (by decide +kernel : ∀ t : Fin grid0.N, win0_8.index t = ![if t.val / 43 = 0 then 8 else t.val / 43 - 1, t.val % 43])
theorem index9 : ∀ t : Fin cfg0.N, win0_9.index t = ![min t.val 343, 0] :=
  (by decide +kernel : ∀ t : Fin grid0.N, win0_9.index t = ![min t.val 343, 0])

variable (m : (ℓ : Loc nD τ sig) → Buf (Elt Ideal) ℓ)

theorem iblk0_at (c : Dev nD) (t : Fin cfg0.N) (h8 : t.val / 43 < 8) (h32 : t.val % 43 < 32) (y : S32x4096.Idx) :
    iblk m c 0 t y = m ((c : Thread nD τ).loc main_arg0)
      (ix2 (⟨(t.val / 43 * 32 + t.val % 43) * 32 + (y 0).val, by have := (y 0).isLt; change _ < 32 at this; omega⟩ : Fin 8192) (y 1)) := by
  have e := index0 t h8 h32
  unfold iblk
  rw [show V m c (Pipeline.arrRef spec0 0) = m ((c : Thread nD τ).loc main_arg0) from V_main_arg0 m c]
  blk_point [e]

theorem iblk1_at (c : Dev nD) (t : Fin cfg0.N) (h8 : t.val / 43 < 8) (h32 : t.val % 43 < 32) (y : S32x4096.Idx) :
    iblk m c 1 t y = m ((c : Thread nD τ).loc main_arg1)
      (ix2 (⟨(t.val / 43 * 32 + t.val % 43) * 32 + (y 0).val, by have := (y 0).isLt; change _ < 32 at this; omega⟩ : Fin 9216) (y 1)) := by
  have e := index1 t h8 h32
  unfold iblk
  rw [show V m c (Pipeline.arrRef spec0 1) = m ((c : Thread nD τ).loc main_arg1) from V_main_arg1 m c]
  blk_point [e]

/-- The weights reshaped to one row. -/
theorem row_at (G : Vec Ideal S4096 .f32) (q : Fin 4096) : shapeCast S1x4096 G shapeCasts_S4096_S1x4096 (ix2 (0 : Fin 1) q) = G (ix1 q) := by
  pointwise

theorem iblk2_at (c : Dev nD) (t : Fin cfg0.N) (q : Fin 4096) :
    iblk m c 2 t (ix2 (0 : Fin 1) q) = m ((c : Thread nD τ).loc main_arg2) (ix1 q) := by
  have e := index2 t
  unfold iblk
  rw [show V m c (Pipeline.arrRef spec0 2) = shapeCast S1x4096 (m ((c : Thread nD τ).loc main_arg2)) shapeCasts_S4096_S1x4096 from by
    unfold V; after_reads_simp; try rfl]
  generalize hX : shapeCast S1x4096 (m ((c : Thread nD τ).loc main_arg2)) shapeCasts_S4096_S1x4096 = X
  trans X (ix2 (0 : Fin 1) q)
  · blk_point [e]
  · rw [← hX]
    exact row_at _ q

theorem iblk3_at (c : Dev nD) (t : Fin cfg0.N) (q : Fin 4096) :
    iblk m c 3 t (ix2 (0 : Fin 1) q) = m ((c : Thread nD τ).loc main_arg3) (ix1 q) := by
  have e := index3 t
  unfold iblk
  rw [show V m c (Pipeline.arrRef spec0 3) = shapeCast S1x4096 (m ((c : Thread nD τ).loc main_arg3)) shapeCasts_S4096_S1x4096 from by
    unfold V; after_reads_simp; try rfl]
  generalize hX : shapeCast S1x4096 (m ((c : Thread nD τ).loc main_arg3)) shapeCasts_S4096_S1x4096 = X
  trans X (ix2 (0 : Fin 1) q)
  · blk_point [e]
  · rw [← hX]
    exact row_at _ q

theorem iblk4_at (c : Dev nD) (t : Fin cfg0.N) (h : t.val / 43 ≠ 0) (y : S4096x256.Idx) :
    iblk m c 4 t y = m ((c : Thread nD τ).loc main_arg4)
      (ix2 (y 0) (⟨t.val % 43 * 256 + (y 1).val, by have := (y 1).isLt; change _ < 256 at this; omega⟩ : Fin 11008)) := by
  have e := index4 t h
  unfold iblk
  rw [show V m c (Pipeline.arrRef spec0 4) = m ((c : Thread nD τ).loc main_arg4) from V_main_arg4 m c]
  blk_point [e]

theorem iblk5_at (c : Dev nD) (t : Fin cfg0.N) (h : t.val / 43 ≠ 0) (y : S4096x256.Idx) :
    iblk m c 5 t y = m ((c : Thread nD τ).loc main_arg5)
      (ix2 (y 0) (⟨t.val % 43 * 256 + (y 1).val, by have := (y 1).isLt; change _ < 256 at this; omega⟩ : Fin 11008)) := by
  have e := index5 t h
  unfold iblk
  rw [show V m c (Pipeline.arrRef spec0 5) = m ((c : Thread nD τ).loc main_arg5) from V_main_arg5 m c]
  blk_point [e]

theorem iblk6_at (c : Dev nD) (t : Fin cfg0.N) (y : S32x4096.Idx) :
    iblk m c 6 t y = m ((c : Thread nD τ).loc main_arg6)
      (ix2 (⟨min t.val 343 * 32 + (y 0).val, by have := (y 0).isLt; change _ < 32 at this; omega⟩ : Fin 11008) (y 1)) := by
  have e := index6 t
  unfold iblk
  rw [show V m c (Pipeline.arrRef spec0 6) = m ((c : Thread nD τ).loc main_arg6) from V_main_arg6 m c]
  blk_point [e]

/-! ## The result arrays -/

theorem pt_val (s : ℕ) (hs : s < 8) (r : ℕ) (hr : r < 1024) : (pt s r).val = s * 43 + r / 32 := by
  show min _ _ = _
  omega

/-- The last point that normed rows is one that norms rows. -/
theorem bpt_building : ∀ t : Fin cfg0.N, (bpt t).val / 43 < 8 ∧ (bpt t).val % 43 < 32 := fun t => by
  have := lt_387 t
  show builtAt _ / 43 < 8 ∧ builtAt _ % 43 < 32
  unfold builtAt; split <;> omega

/-- The 32 rows that a norming point adds. -/
theorem rows_at (c : Dev nD) (t : Fin cfg0.N) (h8 : t.val / 43 < 8) (h32 : t.val % 43 < 32) (y : S32x4096.Idx)
    (hr : (t.val / 43 * 32 + t.val % 43) * 32 + (y 0).val < 8192) :
    k0_pay3 (F := Ideal) (iblk m c 0 t) (iblk m c 1 t) (iblk m c 2 t) y
      = stream (m ((c : Thread nD τ).loc main_arg0)) (m ((c : Thread nD τ).loc main_arg1)) (m ((c : Thread nD τ).loc main_arg2))
        (ix2 (⟨_, hr⟩ : Fin 8192) (y 1)) := by
  refine (pay3_at _ _ _ _).trans ?_
  unfold stream
  refine congr (congrArg _ (iblk0_at m c t h8 h32 y)) ?_
  refine congr (congr (congrArg normed (funext fun q => ?_)) (funext fun q => iblk2_at m c t q)) rfl
  exact iblk1_at m c t h8 h32 (ix2 (y 0) q)

/-- A tile holds its rows of the sum, normed. -/
theorem tile_at (c : Dev nD) (s : ℕ) (hs : s < 8) (r : Fin 1024) (k : Fin 4096) :
    tile m c s (ix2 r k) = normed (fun q => stream (m ((c : Thread nD τ).loc main_arg0)) (m ((c : Thread nD τ).loc main_arg1))
        (m ((c : Thread nD τ).loc main_arg2)) (ix2 (⟨s * 1024 + r.val, by omega⟩ : Fin 8192) q))
      (fun q => m ((c : Thread nD τ).loc main_arg3) (ix1 q)) k := by
  have hp := pt_val s hs r.val r.isLt
  have hr := r.isLt
  unfold tile
  refine (pay4_at _ _ _ _ _).trans ?_
  refine congr (congr (congrArg normed (funext fun q => ?_)) (funext fun q => ?_)) rfl
  · refine (rows_at m c (pt s r.val) (by rw [hp]; omega) (by rw [hp]; omega) (ix2 ⟨r.val % 32, Nat.mod_lt _ (by decide)⟩ q)
      (by show ((pt s r.val).val / 43 * 32 + (pt s r.val).val % 43) * 32 + r.val % 32 < 8192; rw [hp]; omega)).trans ?_
    refine congrArg (fun a : Fin 8192 => stream _ _ _ (ix2 a q)) (Fin.ext ?_)
    show ((pt s r.val).val / 43 * 32 + (pt s r.val).val % 43) * 32 + r.val % 32 = s * 1024 + r.val
    rw [hp]
    omega
  · exact iblk3_at m c (pt s r.val) q

/-- The block that point `t` writes is the second result's. -/
theorem out8_at (c : Dev nD) (t : Fin cfg0.N) (y : S1024x256.Idx) (h0 : (y 0).val < 1024) (h1 : (y 1).val < 256)
    (hr : (if t.val / 43 = 0 then 8 else t.val / 43 - 1) * 1024 + (y 0).val < 9216) (hc : t.val % 43 * 256 + (y 1).val < 11008) :
    out8 m c t y = act (stream (m ((c : Thread nD τ).loc main_arg0)) (m ((c : Thread nD τ).loc main_arg1)) (m ((c : Thread nD τ).loc main_arg2)))
      (m ((c : Thread nD τ).loc main_arg3)) (m ((c : Thread nD τ).loc main_arg4)) (m ((c : Thread nD τ).loc main_arg5))
      (ix2 (⟨_, hr⟩ : Fin 9216) (⟨_, hc⟩ : Fin 11008)) := by
  have ht := lt_387 t
  unfold out8 act
  by_cases h : t.val / 43 = 0
  · rw [if_pos h, dif_neg (by show ¬(if t.val / 43 = 0 then 8 else t.val / 43 - 1) * 1024 + (y 0).val < 8192; rw [if_pos h]; omega)]
    exact pay10_at y
  · rw [if_neg h, dif_pos (by show (if t.val / 43 = 0 then 8 else t.val / 43 - 1) * 1024 + (y 0).val < 8192; rw [if_neg h]; omega)]
    refine (pay13_at _ _ _ _).trans ?_
    refine congr (congr (congrArg gated (funext fun k => ?_)) (funext fun q => ?_)) (funext fun q => ?_)
    · refine (tile_at m c (t.val / 43 - 1) (by omega) ⟨(y 0).val, h0⟩ k).trans ?_
      refine congrArg (fun x => normed x _ k) (funext fun q => congrArg (fun a : Fin 8192 => stream _ _ _ (ix2 a q)) (Fin.ext ?_))
      show (t.val / 43 - 1) * 1024 + (y 0).val = (if t.val / 43 = 0 then 8 else t.val / 43 - 1) * 1024 + (y 0).val
      rw [if_neg h]
    · exact iblk4_at m c t h _
    · exact iblk5_at m c t h _

/-- **The first result array.** -/
theorem final7 (c : Dev nD) : (dats m 0 c).arrAt 7 cfg0.N
    = stream (m ((c : Thread nD τ).loc main_arg0)) (m ((c : Thread nD τ).loc main_arg1)) (m ((c : Thread nD τ).loc main_arg2)) := by
  refine (dats m 0 c).arrAt_eq_of_covers 7 _ (by decide +kernel) fun t hf y => ?_
  have e := index7 t
  have hb := bpt_building t
  blk_simp
  rw [after0_7]
  frame_out
  generalize hX : stream (m ((c : Thread nD τ).loc main_arg0)) (m ((c : Thread nD τ).loc main_arg1)) (m ((c : Thread nD τ).loc main_arg2)) = X
  change S32x4096.Idx at y
  have h0 : (y 0).val < 32 := (y 0).isLt
  trans X (ix2 (⟨((bpt t).val / 43 * 32 + (bpt t).val % 43) * 32 + (y 0).val, by omega⟩ : Fin 8192) (y 1))
  · rw [← hX]
    exact rows_at m c (bpt t) hb.1 hb.2 y _
  · blk_point [e]

/-- **The second result array.** -/
theorem final8 (c : Dev nD) : (dats m 0 c).arrAt 8 cfg0.N
    = act (stream (m ((c : Thread nD τ).loc main_arg0)) (m ((c : Thread nD τ).loc main_arg1)) (m ((c : Thread nD τ).loc main_arg2)))
      (m ((c : Thread nD τ).loc main_arg3)) (m ((c : Thread nD τ).loc main_arg4)) (m ((c : Thread nD τ).loc main_arg5)) := by
  refine (dats m 0 c).arrAt_eq_of_covers 8 _ (by decide +kernel) fun t hf y => ?_
  have e := index8 t
  have ht := lt_387 t
  blk_simp
  rw [after0_8]
  frame_out
  generalize hX : act (stream (m ((c : Thread nD τ).loc main_arg0)) (m ((c : Thread nD τ).loc main_arg1)) (m ((c : Thread nD τ).loc main_arg2)))
      (m ((c : Thread nD τ).loc main_arg3)) (m ((c : Thread nD τ).loc main_arg4)) (m ((c : Thread nD τ).loc main_arg5)) = X
  change S1024x256.Idx at y
  have h0 : (y 0).val < 1024 := (y 0).isLt
  have h1 : (y 1).val < 256 := (y 1).isLt
  trans X (ix2 (⟨(if t.val / 43 = 0 then 8 else t.val / 43 - 1) * 1024 + (y 0).val, by split <;> omega⟩ : Fin 9216)
    (⟨t.val % 43 * 256 + (y 1).val, by omega⟩ : Fin 11008))
  · rw [← hX]
    exact out8_at m c t y h0 h1 _ _
  · blk_point [e]

/-- **The third result array.** -/
theorem final9 (c : Dev nD) : (dats m 0 c).arrAt 9 cfg0.N = (m ((c : Thread nD τ).loc main_arg6) : Vec Ideal S11008x4096 .f32) := by
  refine (dats m 0 c).arrAt_eq_of_covers 9 _ (by decide +kernel) fun t hf y => ?_
  have e := index9 t
  blk_simp
  rw [after0_9]
  frame_out
  refine (pay2_at _ _).trans ?_
  refine (iblk6_at m c t _).trans ?_
  blk_point [e]

/-- The whole run: the three result arrays, and the arguments as they were. -/
theorem run_blocks (ρ : Dev nD → PrngReg) : θ_run defs (onTc (τ := τ) (main (F := Ideal))) ⟨m, fun _ => 0, ρ⟩ (fun r => ∀ c : Dev nD,
      r.2.mem ((c.tc : Thread nD τ).loc main_v2_0) = (dats m 0 c).arrAt 7 cfg0.N
      ∧ r.2.mem ((c.tc : Thread nD τ).loc main_v2_1) = (dats m 0 c).arrAt 8 cfg0.N
      ∧ r.2.mem ((c.tc : Thread nD τ).loc main_v2_2) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1 7, (h c).1 8, (h c).1 9,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.ResGateUpIdeal.Value

end
-- ==== Proof.ResGateUpIdeal.Reference.lean ====
/-
  THE REFERENCE OF THE GATE AND UP PRODUCTS AFTER A RESIDUAL, at one entry.
-/
module

public import proofs.«01_k».proof.Proof.ResGateUpIdeal.Value
public import proofs.«01_k».proof.Proof.Gen.ResGateUpReferenceIdeal.Read
public import Idealize.ShloMosaic.Lib.Pipeline.ValueKit
public import Idealize.ShloMosaic.Lib.Pointwise
public import Idealize.ShloMosaic.Lib.KernelVsHost

@[expose] public section

set_option maxRecDepth 16384

noncomputable section

namespace Cert.ResGateUpReferenceIdeal.Products

open Cert.GateUpIdeal.Value (normed gated act)
open Cert.ResGateUpIdeal.Value (stream)
open Cert.ResGateUpReferenceIdeal Cert.ResGateUpReferenceIdeal.Read Idealize.ShloMosaic

variable (H : Vec Ideal S8192x4096 .f32) (f : Vec Ideal S9216x4096 .bf16) (p g : Vec Ideal S4096 .f32)
  (A B : Vec Ideal S4096x11008 .f32) (D : Vec Ideal S11008x4096 .f32)

/-- The reference's first result. -/
theorem first : val_main_v15 (F := Ideal) H f p = stream H f p := by
  funext i
  unfold stream normed
  pointwise [val_main_v15, val_main_v14, val_main_v13, val_main_v12, val_main_v11, val_main_v10, val_main_v9, val_main_v8, val_main_v7, val_main_cst_1, val_main_v6, val_main_v5, val_main_cst_0, val_main_v4, val_main_v3, val_main_cst, val_main_v2, val_main_v1, val_main_v0]

theorem v28_at (i : S8192x4096.Idx) :
    val_main_v28 (F := Ideal) H f p g i = normed (fun q => stream H f p (ix2 (i 0) q)) (fun q => g (ix1 q)) (i 1) := by
  rw [← first]
  unfold normed
  unfold val_main_v28 val_main_v27 val_main_v26 val_main_v25 val_main_v24 val_main_v23 val_main_v22 val_main_v21 val_main_v20 val_main_v19 val_main_v18 val_main_v17 val_main_v16 val_main_cst_2 val_main_cst_3 val_main_cst_4
  generalize val_main_v15 (F := Ideal) H f p = x
  pointwise

theorem v32_at (i : S8192x11008.Idx) :
    val_main_v32 (F := Ideal) H f p g A B i = gated (fun q => val_main_v28 (F := Ideal) H f p g (ix2 (i 0) q)) (fun q => A (ix2 q (i 1))) (fun q => B (ix2 q (i 1))) := by
  unfold gated Ideal.logistic
  unfold val_main_v32 val_main_v31 val_main_v30 val_main_v29 val_main_call0_v5 val_main_call0_v4 val_main_call0_v3 val_main_call0_v2 val_main_call0_v1 val_main_call0_v0 val_main_call0_cst val_main_call0_cst_0 val_main_v29
  generalize val_main_v28 (F := Ideal) H f p g = u
  pointwise

theorem v35_at (i : S11008x4096.Idx) : val_main_v35 (F := Ideal) D i = D i := by
  pointwise [val_main_v35]

theorem v34_in (i : S9216x11008.Idx) (h : (i 0).val < 8192) :
    val_main_v34 (F := Ideal) H f p g A B i = val_main_v32 (F := Ideal) H f p g A B (ix2 ⟨(i 0).val, h⟩ (i 1)) := by
  rw [val_main_v34_apply]
  unfold val_main_v33
  generalize val_main_v32 (F := Ideal) H f p g A B = z
  refine (pad_apply_of_inside _ _ _ z _ _ _ i (ix2 ⟨(i 0).val, h⟩ (i 1)) fun a => ?_)
  fin_cases a <;> simp

theorem v34_out (i : S9216x11008.Idx) (h : ¬(i 0).val < 8192) :
    val_main_v34 (F := Ideal) H f p g A B i = 0 := by
  rw [val_main_v34_apply]
  unfold val_main_v33
  generalize val_main_v32 (F := Ideal) H f p g A B = z
  refine (pad_apply_of_not_inside _ _ _ z _ _ _ i (0 : Fin 2) fun ha => h ?_).trans ?_
  · have := ha.2.2
    simp at this
    exact this
  · pointwise [val_main_call1_v0, val_main_c]
    exact (EReal.coe_eq_zero.mpr (by simp) : (((0#32 : BitVec 32).toInt : ℝ) : EReal) = 0)

/-- The reference's second result. -/
theorem second : val_main_v34 (F := Ideal) H f p g A B = act (stream H f p) g A B := by
  funext i
  unfold act
  split
  · rename_i h
    refine (v34_in H f p g A B i h).trans ((v32_at H f p g A B _).trans ?_)
    exact congrArg (fun u => gated u _ _) (funext fun k => v28_at H f p g _)
  · rename_i h
    exact v34_out H f p g A B i h

/-- The reference's third result. -/
theorem third : val_main_v35 (F := Ideal) D = D := funext fun i => v35_at D i

end Cert.ResGateUpReferenceIdeal.Products

end
-- ==== Proof.InProjIdeal.Runs.lean ====
module

public import proofs.«01_k».proof.Proof.Gen.InProjIdeal.Launch
public import proofs.«01_k».proof.Proof.Gen.InProjIdeal.Skeleton
public import proofs.«01_k».proof.Proof.Gen.InProjIdeal.Points
public import Idealize.ShloMosaic.Lib.Pipeline.FrameBody
public import Idealize.ShloMosaic.Lib.Pipeline.ValueKit
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer of 1024 rows with the 64 rows from `64 * j` replaced. -/
def put (j : ℕ) (p : Vec F S64x4096 .bf16) (d : Vec F S1024x4096 .bf16) : Vec F S1024x4096 .bf16 :=
  fun y => if h : 64 * j ≤ (y 0).val ∧ (y 0).val < 64 * j + 64 then p (ix2 ⟨(y 0).val - 64 * j, by omega⟩ (y 1)) else d y

/-- Storing 64 whole rows at row `64 * j` leaves the buffer with those rows replaced. -/
theorem read_put (v : View sig .tc .vmem S1024x4096 .bf16) (f : v.ty.Contents (Elt F)) (off : Fin 2 → ℕ) (j : ℕ)
    (inb : ∀ a, off a + S64x4096.size a ≤ S1024x4096.size a) (hoff : off = ![64 * j, 0]) (p : Vec F S64x4096 .bf16) :
    v.read (Elt F) (v.writes (Elt F) f [⟨Rect.unit (s := S1024x4096) off S64x4096.size inb, p⟩]) = put j p (v.read (Elt F) f) := by
  funext y
  refine (View.read_writes_cons_rows v f (o := 64 * j) (W := 64) inb p [] y hoff rfl rfl).trans ?_
  unfold put
  split
  · refine congrArg p (funext fun a => ?_)
    fin_cases a
    · rfl
    · exact Fin.ext (Nat.sub_zero _)
  · rfl

/-- Loading the whole of a buffer reads its contents. -/
theorem whole_load {s : Shape} {e : EltTy} {a : Memref sig .tc .vmem s e} (h : a.IsWhole) (x : Vec F s e)
    {off : Fin s.rank → ℕ} (inb : ∀ a, off a + s.size a ≤ s.size a) :
    a.view.readAt (Elt F) (Rect.unit off s.size inb).toLoadRect (h.unread x) = x :=
  (View.readAt_full _ _ _).trans (h.read_unread x)

theorem k0_off1_row (i : grid0.Coords) (hj : (i 1).val < 16) : k0_off1 i = ![64 * (i 1).val, 0] := by
  rw [k0_off1_eq, Nat.min_eq_left (by omega)]
theorem k0_off2_row (i : grid0.Coords) (hj : (i 1).val < 16) : k0_off2 i = ![64 * (i 1).val, 0] := by
  rw [k0_off2_eq, Nat.min_eq_left (by omega)]
theorem k0_off3_row (i : grid0.Coords) (hj : (i 1).val < 16) : k0_off3 i = ![64 * (i 1).val, 0] := by
  rw [k0_off3_eq, Nat.min_eq_left (by omega)]
theorem k0_off4_row (i : grid0.Coords) (hj : (i 1).val < 16) : k0_off4 i = ![64 * (i 1).val, 0] := by
  rw [k0_off4_eq, Nat.min_eq_left (by omega)]
theorem k0_off5_row (i : grid0.Coords) (hj : (i 1).val < 16) : k0_off5 i = ![64 * (i 1).val, 0] := by
  rw [k0_off5_eq, Nat.min_eq_left (by omega)]

set_option maxHeartbeats 1000000 in
theorem runA (c : Dev nD) (i : grid0.Coords) (arg2 : Memref sig .tc .vmem S64x4096 .f32) (harg2 : arg2.IsWhole) (arg3 : Memref sig .tc .vmem S64x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x512 .f32) (harg6 : arg6.IsWhole) (arg7 : Memref sig .tc .vmem S64x4096 .f32) (harg7 : arg7.IsWhole) (arg8 : Memref sig .tc .vmem S1024x512 .bf16) (harg8 : arg8.IsWhole) (arg9 : Memref sig .tc .vmem S1024x512 .f32) (harg9 : arg9.IsWhole) (arg10 : Memref sig .tc .vmem S1024x4096 .bf16) (harg10 : arg10.IsWhole) (arg11 : Memref sig .tc .vmem S1024x4096 .bf16) (harg11 : arg11.IsWhole)
    (hc1 : k0_cond1 i = 1#1) (hc2 : k0_cond2 i = 1#1) (hc3 : ¬k0_cond3 i = 1#1) (hc6 : ¬k0_cond6 i = 1#1) (hc9 : ¬k0_cond9 i = 1#1) (hc12 : ¬k0_cond12 i = 1#1) (hj : (i 1).val < 16)
    (x0 : Vec F S64x4096 .f32) (x1 : Vec F S64x4096 .bf16) (x2 : Vec F S1x4096 .f32) (x3 : Vec F S1x4096 .f32) (x4 : Vec F S4096x512 .f32) (d0 : Vec F S1024x4096 .bf16) (d1 : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare d0 ∗ owns (c : Thread nD τ) arg11 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 x0 x1 x2) ∗ owns (c : Thread nD τ) arg8 fullShare (k0_pay14) ∗ owns (c : Thread nD τ) arg9 fullShare (k0_pay15) ∗ owns (c : Thread nD τ) arg10 fullShare (put (i 1).val (k0_pay13 (k0_pay4 x0 x1 x2 x3)) d0) ∗ owns (c : Thread nD τ) arg11 fullShare d1) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%e5, %f5, -, H5⟩, ⟨%e6, %f6, -, H6⟩, ⟨%e7, %f7, -, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg10.eq_unread hf8; obtain rfl := harg11.eq_unread hf9
  sl_exec (disch := first | sl_exact hc1 | sl_exact hc2 | sl_exact hc3 | sl_exact hc6 | sl_exact hc9 | sl_exact hc12)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    exact (View.read_writes_full _ _ _ _ _).trans (congr (congr (congrArg k0_pay3 (whole_load harg2 _ _)) (whole_load harg3 _ _)) (whole_load harg4 _ _))
  isplitl [H6]
  · iexists _; isplitr; swap; · iexact H6
    ipureintro
    exact (View.read_writes_full _ _ _ _ _).trans (rfl)
  isplitl [H7]
  · iexists _; isplitr; swap; · iexact H7
    ipureintro
    exact (View.read_writes_full _ _ _ _ _).trans (rfl)
  isplitl [H8]
  · iexists _; isplitr; swap; · iexact H8
    ipureintro
    refine (read_put _ _ _ (i 1).val _ (k0_off1_row i hj) _).trans (congr (congrArg (put (i 1).val) (congrArg k0_pay13 ?_)) (harg10.read_unread _))
    unfold runA.sl.r
    exact congr (congr (congr (congrArg k0_pay4 (whole_load harg2 _ _)) (whole_load harg3 _ _)) (whole_load harg4 _ _)) (whole_load harg5 _ _)
  iexists _; isplitr; swap; · iexact H9
  ipureintro
  exact harg11.read_unread _

set_option maxHeartbeats 1000000 in
theorem runB (c : Dev nD) (i : grid0.Coords) (arg2 : Memref sig .tc .vmem S64x4096 .f32) (harg2 : arg2.IsWhole) (arg3 : Memref sig .tc .vmem S64x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x512 .f32) (harg6 : arg6.IsWhole) (arg7 : Memref sig .tc .vmem S64x4096 .f32) (harg7 : arg7.IsWhole) (arg8 : Memref sig .tc .vmem S1024x512 .bf16) (harg8 : arg8.IsWhole) (arg9 : Memref sig .tc .vmem S1024x512 .f32) (harg9 : arg9.IsWhole) (arg10 : Memref sig .tc .vmem S1024x4096 .bf16) (harg10 : arg10.IsWhole) (arg11 : Memref sig .tc .vmem S1024x4096 .bf16) (harg11 : arg11.IsWhole)
    (hc1 : k0_cond1 i = 1#1) (hc2 : ¬k0_cond2 i = 1#1) (hc3 : ¬k0_cond3 i = 1#1) (hc6 : ¬k0_cond6 i = 1#1) (hc9 : ¬k0_cond9 i = 1#1) (hc12 : ¬k0_cond12 i = 1#1)
    (x0 : Vec F S64x4096 .f32) (x1 : Vec F S64x4096 .bf16) (x2 : Vec F S1x4096 .f32) (x3 : Vec F S1x4096 .f32) (x4 : Vec F S4096x512 .f32) (d0 : Vec F S1024x4096 .bf16) (d1 : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ (∃ d, owns (c : Thread nD τ) arg9 fullShare d) ∗ owns (c : Thread nD τ) arg10 fullShare d0 ∗ owns (c : Thread nD τ) arg11 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare (k0_pay14) ∗ owns (c : Thread nD τ) arg9 fullShare (k0_pay15) ∗ owns (c : Thread nD τ) arg10 fullShare d0 ∗ owns (c : Thread nD τ) arg11 fullShare d1) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%e6, %f6, -, H6⟩, ⟨%e7, %f7, -, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg10.eq_unread hf8; obtain rfl := harg11.eq_unread hf9
  sl_exec (disch := first | sl_exact hc1 | sl_exact hc2 | sl_exact hc3 | sl_exact hc6 | sl_exact hc9 | sl_exact hc12)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H6]
  · iexists _; isplitr; swap; · iexact H6
    ipureintro
    exact (View.read_writes_full _ _ _ _ _).trans (rfl)
  isplitl [H7]
  · iexists _; isplitr; swap; · iexact H7
    ipureintro
    exact (View.read_writes_full _ _ _ _ _).trans (rfl)
  isplitl [H8]
  · iexists _; isplitr; swap; · iexact H8
    ipureintro
    exact harg10.read_unread _
  iexists _; isplitr; swap; · iexact H9
  ipureintro
  exact harg11.read_unread _

set_option maxHeartbeats 1000000 in
theorem runCq (c : Dev nD) (i : grid0.Coords) (arg2 : Memref sig .tc .vmem S64x4096 .f32) (harg2 : arg2.IsWhole) (arg3 : Memref sig .tc .vmem S64x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x512 .f32) (harg6 : arg6.IsWhole) (arg7 : Memref sig .tc .vmem S64x4096 .f32) (harg7 : arg7.IsWhole) (arg8 : Memref sig .tc .vmem S1024x512 .bf16) (harg8 : arg8.IsWhole) (arg9 : Memref sig .tc .vmem S1024x512 .f32) (harg9 : arg9.IsWhole) (arg10 : Memref sig .tc .vmem S1024x4096 .bf16) (harg10 : arg10.IsWhole) (arg11 : Memref sig .tc .vmem S1024x4096 .bf16) (harg11 : arg11.IsWhole)
    (hc3 : k0_cond3 i = 1#1) (hc4 : k0_cond4 i = 1#1) (hc1 : ¬k0_cond1 i = 1#1) (hc5 : ¬k0_cond5 i = 1#1) (hc6 : ¬k0_cond6 i = 1#1) (hc9 : ¬k0_cond9 i = 1#1) (hc12 : ¬k0_cond12 i = 1#1) (hj : (i 1).val < 16)
    (x0 : Vec F S64x4096 .f32) (x1 : Vec F S64x4096 .bf16) (x2 : Vec F S1x4096 .f32) (x3 : Vec F S1x4096 .f32) (x4 : Vec F S4096x512 .f32) (d0 : Vec F S1024x4096 .bf16) (d1 : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg10 fullShare d0 ∗ owns (c : Thread nD τ) arg11 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 x0 x1 x2) ∗ owns (c : Thread nD τ) arg8 fullShare (k0_pay17 d1 x4) ∗ owns (c : Thread nD τ) arg10 fullShare (put (i 1).val (k0_pay16 (k0_pay6 x0 x1 x2 x3)) d0) ∗ owns (c : Thread nD τ) arg11 fullShare d1) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%e5, %f5, -, H5⟩, ⟨%e6, %f6, -, H6⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg10.eq_unread hf8; obtain rfl := harg11.eq_unread hf9
  sl_exec (disch := first | sl_exact hc1 | sl_exact hc3 | sl_exact hc4 | sl_exact hc5 | sl_exact hc6 | sl_exact hc9 | sl_exact hc12)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    exact (View.read_writes_full _ _ _ _ _).trans (congr (congr (congrArg k0_pay5 (whole_load harg2 _ _)) (whole_load harg3 _ _)) (whole_load harg4 _ _))
  isplitl [H6]
  · iexists _; isplitr; swap; · iexact H6
    ipureintro
    exact (View.read_writes_full _ _ _ _ _).trans (congr (congrArg k0_pay17 (whole_load harg11 _ _)) (whole_load harg6 _ _))
  isplitl [H8]
  · iexists _; isplitr; swap; · iexact H8
    ipureintro
    refine (read_put _ _ _ (i 1).val _ (k0_off2_row i hj) _).trans (congr (congrArg (put (i 1).val) (congrArg k0_pay16 ?_)) (harg10.read_unread _))
    unfold runCq.sl.r
    exact congr (congr (congr (congrArg k0_pay6 (whole_load harg2 _ _)) (whole_load harg3 _ _)) (whole_load harg4 _ _)) (whole_load harg5 _ _)
  iexists _; isplitr; swap; · iexact H9
  ipureintro
  exact harg11.read_unread _

set_option maxHeartbeats 1000000 in
theorem runCx (c : Dev nD) (i : grid0.Coords) (arg2 : Memref sig .tc .vmem S64x4096 .f32) (harg2 : arg2.IsWhole) (arg3 : Memref sig .tc .vmem S64x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x512 .f32) (harg6 : arg6.IsWhole) (arg7 : Memref sig .tc .vmem S64x4096 .f32) (harg7 : arg7.IsWhole) (arg8 : Memref sig .tc .vmem S1024x512 .bf16) (harg8 : arg8.IsWhole) (arg9 : Memref sig .tc .vmem S1024x512 .f32) (harg9 : arg9.IsWhole) (arg10 : Memref sig .tc .vmem S1024x4096 .bf16) (harg10 : arg10.IsWhole) (arg11 : Memref sig .tc .vmem S1024x4096 .bf16) (harg11 : arg11.IsWhole)
    (hc3 : k0_cond3 i = 1#1) (hc5 : k0_cond5 i = 1#1) (hc1 : ¬k0_cond1 i = 1#1) (hc4 : ¬k0_cond4 i = 1#1) (hc6 : ¬k0_cond6 i = 1#1) (hc9 : ¬k0_cond9 i = 1#1) (hc12 : ¬k0_cond12 i = 1#1) (hj : (i 1).val < 16)
    (x0 : Vec F S64x4096 .f32) (x1 : Vec F S64x4096 .bf16) (x2 : Vec F S1x4096 .f32) (x3 : Vec F S1x4096 .f32) (x4 : Vec F S4096x512 .f32) (d0 : Vec F S1024x4096 .bf16) (d1 : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg9 fullShare d) ∗ owns (c : Thread nD τ) arg10 fullShare d0 ∗ owns (c : Thread nD τ) arg11 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay7 x0 x1 x2) ∗ owns (c : Thread nD τ) arg9 fullShare (k0_pay19 d1 x4) ∗ owns (c : Thread nD τ) arg10 fullShare (put (i 1).val (k0_pay18 (k0_pay8 x0 x1 x2 x3)) d0) ∗ owns (c : Thread nD τ) arg11 fullShare d1) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%e5, %f5, -, H5⟩, ⟨%e7, %f7, -, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg10.eq_unread hf8; obtain rfl := harg11.eq_unread hf9
  sl_exec (disch := first | sl_exact hc1 | sl_exact hc3 | sl_exact hc4 | sl_exact hc5 | sl_exact hc6 | sl_exact hc9 | sl_exact hc12)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    exact (View.read_writes_full _ _ _ _ _).trans (congr (congr (congrArg k0_pay7 (whole_load harg2 _ _)) (whole_load harg3 _ _)) (whole_load harg4 _ _))
  isplitl [H7]
  · iexists _; isplitr; swap; · iexact H7
    ipureintro
    exact (View.read_writes_full _ _ _ _ _).trans (congr (congrArg k0_pay19 (whole_load harg11 _ _)) (whole_load harg6 _ _))
  isplitl [H8]
  · iexists _; isplitr; swap; · iexact H8
    ipureintro
    refine (read_put _ _ _ (i 1).val _ (k0_off3_row i hj) _).trans (congr (congrArg (put (i 1).val) (congrArg k0_pay18 ?_)) (harg10.read_unread _))
    unfold runCx.sl.r
    exact congr (congr (congr (congrArg k0_pay8 (whole_load harg2 _ _)) (whole_load harg3 _ _)) (whole_load harg4 _ _)) (whole_load harg5 _ _)
  iexists _; isplitr; swap; · iexact H9
  ipureintro
  exact harg11.read_unread _

set_option maxHeartbeats 1000000 in
theorem runDq (c : Dev nD) (i : grid0.Coords) (arg2 : Memref sig .tc .vmem S64x4096 .f32) (harg2 : arg2.IsWhole) (arg3 : Memref sig .tc .vmem S64x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x512 .f32) (harg6 : arg6.IsWhole) (arg7 : Memref sig .tc .vmem S64x4096 .f32) (harg7 : arg7.IsWhole) (arg8 : Memref sig .tc .vmem S1024x512 .bf16) (harg8 : arg8.IsWhole) (arg9 : Memref sig .tc .vmem S1024x512 .f32) (harg9 : arg9.IsWhole) (arg10 : Memref sig .tc .vmem S1024x4096 .bf16) (harg10 : arg10.IsWhole) (arg11 : Memref sig .tc .vmem S1024x4096 .bf16) (harg11 : arg11.IsWhole)
    (hc6 : k0_cond6 i = 1#1) (hc7 : k0_cond7 i = 1#1) (hc1 : ¬k0_cond1 i = 1#1) (hc3 : ¬k0_cond3 i = 1#1) (hc8 : ¬k0_cond8 i = 1#1) (hc9 : ¬k0_cond9 i = 1#1) (hc12 : ¬k0_cond12 i = 1#1)
    (x0 : Vec F S64x4096 .f32) (x1 : Vec F S64x4096 .bf16) (x2 : Vec F S1x4096 .f32) (x3 : Vec F S1x4096 .f32) (x4 : Vec F S4096x512 .f32) (d0 : Vec F S1024x4096 .bf16) (d1 : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ owns (c : Thread nD τ) arg10 fullShare d0 ∗ owns (c : Thread nD τ) arg11 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare (k0_pay20 d1 x4) ∗ owns (c : Thread nD τ) arg10 fullShare d0 ∗ owns (c : Thread nD τ) arg11 fullShare d1) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%e6, %f6, -, H6⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg10.eq_unread hf8; obtain rfl := harg11.eq_unread hf9
  sl_exec (disch := first | sl_exact hc1 | sl_exact hc3 | sl_exact hc6 | sl_exact hc7 | sl_exact hc8 | sl_exact hc9 | sl_exact hc12)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H6]
  · iexists _; isplitr; swap; · iexact H6
    ipureintro
    exact (View.read_writes_full _ _ _ _ _).trans (congr (congrArg k0_pay20 (whole_load harg11 _ _)) (whole_load harg6 _ _))
  isplitl [H8]
  · iexists _; isplitr; swap; · iexact H8
    ipureintro
    exact harg10.read_unread _
  iexists _; isplitr; swap; · iexact H9
  ipureintro
  exact harg11.read_unread _

set_option maxHeartbeats 1000000 in
theorem runDx (c : Dev nD) (i : grid0.Coords) (arg2 : Memref sig .tc .vmem S64x4096 .f32) (harg2 : arg2.IsWhole) (arg3 : Memref sig .tc .vmem S64x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x512 .f32) (harg6 : arg6.IsWhole) (arg7 : Memref sig .tc .vmem S64x4096 .f32) (harg7 : arg7.IsWhole) (arg8 : Memref sig .tc .vmem S1024x512 .bf16) (harg8 : arg8.IsWhole) (arg9 : Memref sig .tc .vmem S1024x512 .f32) (harg9 : arg9.IsWhole) (arg10 : Memref sig .tc .vmem S1024x4096 .bf16) (harg10 : arg10.IsWhole) (arg11 : Memref sig .tc .vmem S1024x4096 .bf16) (harg11 : arg11.IsWhole)
    (hc6 : k0_cond6 i = 1#1) (hc8 : k0_cond8 i = 1#1) (hc1 : ¬k0_cond1 i = 1#1) (hc3 : ¬k0_cond3 i = 1#1) (hc7 : ¬k0_cond7 i = 1#1) (hc9 : ¬k0_cond9 i = 1#1) (hc12 : ¬k0_cond12 i = 1#1)
    (x0 : Vec F S64x4096 .f32) (x1 : Vec F S64x4096 .bf16) (x2 : Vec F S1x4096 .f32) (x3 : Vec F S1x4096 .f32) (x4 : Vec F S4096x512 .f32) (d0 : Vec F S1024x4096 .bf16) (d1 : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg9 fullShare d) ∗ owns (c : Thread nD τ) arg10 fullShare d0 ∗ owns (c : Thread nD τ) arg11 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg9 fullShare (k0_pay21 d1 x4) ∗ owns (c : Thread nD τ) arg10 fullShare d0 ∗ owns (c : Thread nD τ) arg11 fullShare d1) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%e7, %f7, -, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg10.eq_unread hf8; obtain rfl := harg11.eq_unread hf9
  sl_exec (disch := first | sl_exact hc1 | sl_exact hc3 | sl_exact hc6 | sl_exact hc7 | sl_exact hc8 | sl_exact hc9 | sl_exact hc12)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    exact (View.read_writes_full _ _ _ _ _).trans (congr (congrArg k0_pay21 (whole_load harg11 _ _)) (whole_load harg6 _ _))
  isplitl [H8]
  · iexists _; isplitr; swap; · iexact H8
    ipureintro
    exact harg10.read_unread _
  iexists _; isplitr; swap; · iexact H9
  ipureintro
  exact harg11.read_unread _

set_option maxHeartbeats 1000000 in
theorem runEq (c : Dev nD) (i : grid0.Coords) (arg2 : Memref sig .tc .vmem S64x4096 .f32) (harg2 : arg2.IsWhole) (arg3 : Memref sig .tc .vmem S64x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x512 .f32) (harg6 : arg6.IsWhole) (arg7 : Memref sig .tc .vmem S64x4096 .f32) (harg7 : arg7.IsWhole) (arg8 : Memref sig .tc .vmem S1024x512 .bf16) (harg8 : arg8.IsWhole) (arg9 : Memref sig .tc .vmem S1024x512 .f32) (harg9 : arg9.IsWhole) (arg10 : Memref sig .tc .vmem S1024x4096 .bf16) (harg10 : arg10.IsWhole) (arg11 : Memref sig .tc .vmem S1024x4096 .bf16) (harg11 : arg11.IsWhole)
    (hc9 : k0_cond9 i = 1#1) (hc10 : k0_cond10 i = 1#1) (hc1 : ¬k0_cond1 i = 1#1) (hc3 : ¬k0_cond3 i = 1#1) (hc6 : ¬k0_cond6 i = 1#1) (hc11 : ¬k0_cond11 i = 1#1) (hc12 : ¬k0_cond12 i = 1#1) (hj : (i 1).val < 16)
    (x0 : Vec F S64x4096 .f32) (x1 : Vec F S64x4096 .bf16) (x2 : Vec F S1x4096 .f32) (x3 : Vec F S1x4096 .f32) (x4 : Vec F S4096x512 .f32) (d0 : Vec F S1024x4096 .bf16) (d1 : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg10 fullShare d0 ∗ owns (c : Thread nD τ) arg11 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay9 x0 x1 x2) ∗ owns (c : Thread nD τ) arg8 fullShare (k0_pay23 d0 x4) ∗ owns (c : Thread nD τ) arg10 fullShare d0 ∗ owns (c : Thread nD τ) arg11 fullShare (put (i 1).val (k0_pay22 (k0_pay10 x0 x1 x2 x3)) d1)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%e5, %f5, -, H5⟩, ⟨%e6, %f6, -, H6⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg10.eq_unread hf8; obtain rfl := harg11.eq_unread hf9
  sl_exec (disch := first | sl_exact hc1 | sl_exact hc3 | sl_exact hc6 | sl_exact hc9 | sl_exact hc10 | sl_exact hc11 | sl_exact hc12)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    exact (View.read_writes_full _ _ _ _ _).trans (congr (congr (congrArg k0_pay9 (whole_load harg2 _ _)) (whole_load harg3 _ _)) (whole_load harg4 _ _))
  isplitl [H6]
  · iexists _; isplitr; swap; · iexact H6
    ipureintro
    exact (View.read_writes_full _ _ _ _ _).trans (congr (congrArg k0_pay23 (whole_load harg10 _ _)) (whole_load harg6 _ _))
  isplitl [H8]
  · iexists _; isplitr; swap; · iexact H8
    ipureintro
    exact harg10.read_unread _
  iexists _; isplitr; swap; · iexact H9
  ipureintro
  refine (read_put _ _ _ (i 1).val _ (k0_off4_row i hj) _).trans (congr (congrArg (put (i 1).val) (congrArg k0_pay22 ?_)) (harg11.read_unread _))
  unfold runEq.sl.r
  exact congr (congr (congr (congrArg k0_pay10 (whole_load harg2 _ _)) (whole_load harg3 _ _)) (whole_load harg4 _ _)) (whole_load harg5 _ _)

set_option maxHeartbeats 1000000 in
theorem runEx (c : Dev nD) (i : grid0.Coords) (arg2 : Memref sig .tc .vmem S64x4096 .f32) (harg2 : arg2.IsWhole) (arg3 : Memref sig .tc .vmem S64x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x512 .f32) (harg6 : arg6.IsWhole) (arg7 : Memref sig .tc .vmem S64x4096 .f32) (harg7 : arg7.IsWhole) (arg8 : Memref sig .tc .vmem S1024x512 .bf16) (harg8 : arg8.IsWhole) (arg9 : Memref sig .tc .vmem S1024x512 .f32) (harg9 : arg9.IsWhole) (arg10 : Memref sig .tc .vmem S1024x4096 .bf16) (harg10 : arg10.IsWhole) (arg11 : Memref sig .tc .vmem S1024x4096 .bf16) (harg11 : arg11.IsWhole)
    (hc9 : k0_cond9 i = 1#1) (hc11 : k0_cond11 i = 1#1) (hc1 : ¬k0_cond1 i = 1#1) (hc3 : ¬k0_cond3 i = 1#1) (hc6 : ¬k0_cond6 i = 1#1) (hc10 : ¬k0_cond10 i = 1#1) (hc12 : ¬k0_cond12 i = 1#1) (hj : (i 1).val < 16)
    (x0 : Vec F S64x4096 .f32) (x1 : Vec F S64x4096 .bf16) (x2 : Vec F S1x4096 .f32) (x3 : Vec F S1x4096 .f32) (x4 : Vec F S4096x512 .f32) (d0 : Vec F S1024x4096 .bf16) (d1 : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg9 fullShare d) ∗ owns (c : Thread nD τ) arg10 fullShare d0 ∗ owns (c : Thread nD τ) arg11 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay11 x0 x1 x2) ∗ owns (c : Thread nD τ) arg9 fullShare (k0_pay25 d0 x4) ∗ owns (c : Thread nD τ) arg10 fullShare d0 ∗ owns (c : Thread nD τ) arg11 fullShare (put (i 1).val (k0_pay24 (k0_pay12 x0 x1 x2 x3)) d1)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%e5, %f5, -, H5⟩, ⟨%e7, %f7, -, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg10.eq_unread hf8; obtain rfl := harg11.eq_unread hf9
  sl_exec (disch := first | sl_exact hc1 | sl_exact hc3 | sl_exact hc6 | sl_exact hc9 | sl_exact hc10 | sl_exact hc11 | sl_exact hc12)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    exact (View.read_writes_full _ _ _ _ _).trans (congr (congr (congrArg k0_pay11 (whole_load harg2 _ _)) (whole_load harg3 _ _)) (whole_load harg4 _ _))
  isplitl [H7]
  · iexists _; isplitr; swap; · iexact H7
    ipureintro
    exact (View.read_writes_full _ _ _ _ _).trans (congr (congrArg k0_pay25 (whole_load harg10 _ _)) (whole_load harg6 _ _))
  isplitl [H8]
  · iexists _; isplitr; swap; · iexact H8
    ipureintro
    exact harg10.read_unread _
  iexists _; isplitr; swap; · iexact H9
  ipureintro
  refine (read_put _ _ _ (i 1).val _ (k0_off5_row i hj) _).trans (congr (congrArg (put (i 1).val) (congrArg k0_pay24 ?_)) (harg11.read_unread _))
  unfold runEx.sl.r
  exact congr (congr (congr (congrArg k0_pay12 (whole_load harg2 _ _)) (whole_load harg3 _ _)) (whole_load harg4 _ _)) (whole_load harg5 _ _)

set_option maxHeartbeats 1000000 in
theorem runGx (c : Dev nD) (i : grid0.Coords) (arg2 : Memref sig .tc .vmem S64x4096 .f32) (harg2 : arg2.IsWhole) (arg3 : Memref sig .tc .vmem S64x4096 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x512 .f32) (harg6 : arg6.IsWhole) (arg7 : Memref sig .tc .vmem S64x4096 .f32) (harg7 : arg7.IsWhole) (arg8 : Memref sig .tc .vmem S1024x512 .bf16) (harg8 : arg8.IsWhole) (arg9 : Memref sig .tc .vmem S1024x512 .f32) (harg9 : arg9.IsWhole) (arg10 : Memref sig .tc .vmem S1024x4096 .bf16) (harg10 : arg10.IsWhole) (arg11 : Memref sig .tc .vmem S1024x4096 .bf16) (harg11 : arg11.IsWhole)
    (hc12 : k0_cond12 i = 1#1) (hc14 : k0_cond14 i = 1#1) (hc1 : ¬k0_cond1 i = 1#1) (hc3 : ¬k0_cond3 i = 1#1) (hc6 : ¬k0_cond6 i = 1#1) (hc9 : ¬k0_cond9 i = 1#1) (hc13 : ¬k0_cond13 i = 1#1)
    (x0 : Vec F S64x4096 .f32) (x1 : Vec F S64x4096 .bf16) (x2 : Vec F S1x4096 .f32) (x3 : Vec F S1x4096 .f32) (x4 : Vec F S4096x512 .f32) (d0 : Vec F S1024x4096 .bf16) (d1 : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg9 fullShare d) ∗ owns (c : Thread nD τ) arg10 fullShare d0 ∗ owns (c : Thread nD τ) arg11 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg9 fullShare (k0_pay2 d0 x4) ∗ owns (c : Thread nD τ) arg10 fullShare d0 ∗ owns (c : Thread nD τ) arg11 fullShare d1) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%e7, %f7, -, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg10.eq_unread hf8; obtain rfl := harg11.eq_unread hf9
  sl_exec (disch := first | sl_exact hc1 | sl_exact hc3 | sl_exact hc6 | sl_exact hc9 | sl_exact hc12 | sl_exact hc13 | sl_exact hc14)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    exact (View.read_writes_full _ _ _ _ _).trans (congr (congrArg k0_pay2 (whole_load harg10 _ _)) (whole_load harg6 _ _))
  isplitl [H8]
  · iexists _; isplitr; swap; · iexact H8
    ipureintro
    exact harg10.read_unread _
  iexists _; isplitr; swap; · iexact H9
  ipureintro
  exact harg11.read_unread _

end Cert.InProjIdeal.Gen

end
-- ==== Proof.InProjIdeal.Frame.lean ====
module

public import proofs.«01_k».proof.Proof.InProjIdeal.Runs
public import Idealize.ShloMosaic.Lib.Claim
public import Idealize.ShloMosaic.Lib.Pipeline.TableIdle

@[expose] public section

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its call, and the blocks the call's windows show -/

/-- The buffers when the call is entered: the two norms' weights reshaped to one row each. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write the reshaped weights alone. -/
theorem V_of_ne (c : Dev nD) (b : Ref sig .tc) (h : b ≠ main_v0) (h' : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h, StableHlo.devRef_ne_of_ne h'⟩))

theorem V_main_arg0 (c : Dev nD) : V m c main_arg0 = m ((c : Thread nD τ).loc main_arg0) := V_of_ne m c _ (by decide) (by decide)
theorem V_main_arg1 (c : Dev nD) : V m c main_arg1 = m ((c : Thread nD τ).loc main_arg1) := V_of_ne m c _ (by decide) (by decide)
theorem V_main_arg2 (c : Dev nD) : V m c main_arg2 = m ((c : Thread nD τ).loc main_arg2) := V_of_ne m c _ (by decide) (by decide)
theorem V_main_arg3 (c : Dev nD) : V m c main_arg3 = m ((c : Thread nD τ).loc main_arg3) := V_of_ne m c _ (by decide) (by decide)
theorem V_main_arg4 (c : Dev nD) : V m c main_arg4 = m ((c : Thread nD τ).loc main_arg4) := V_of_ne m c _ (by decide) (by decide)

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's buffer shows its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-! ## The grid: 9 sweeps of 20 points -/

theorem lt_180 (t : Fin cfg0.N) : t.val < 180 := t.isLt.trans_eq N_0

theorem coord1 : ∀ t : Fin cfg0.N, (grid0.coords t 1).val = t.val % 20 :=
  (by decide +kernel : ∀ t : Fin grid0.N, (grid0.coords t 1).val = t.val % 20)
theorem cond1_iff : ∀ t : Fin cfg0.N, k0_cond1 (grid0.coords t) = 1#1 ↔ t.val / 20 = 0 :=
  (by decide +kernel : ∀ t : Fin grid0.N, k0_cond1 (grid0.coords t) = 1#1 ↔ t.val / 20 = 0)
theorem cond2_iff : ∀ t : Fin cfg0.N, k0_cond2 (grid0.coords t) = 1#1 ↔ t.val % 20 < 16 :=
  (by decide +kernel : ∀ t : Fin grid0.N, k0_cond2 (grid0.coords t) = 1#1 ↔ t.val % 20 < 16)
theorem cond3_iff : ∀ t : Fin cfg0.N, k0_cond3 (grid0.coords t) = 1#1 ↔ (t.val / 20 ≠ 0 ∧ t.val / 20 % 2 = 0) ∧ (t.val / 20 < 8 ∧ t.val % 20 < 16) :=
  (by decide +kernel : ∀ t : Fin grid0.N, k0_cond3 (grid0.coords t) = 1#1 ↔ (t.val / 20 ≠ 0 ∧ t.val / 20 % 2 = 0) ∧ (t.val / 20 < 8 ∧ t.val % 20 < 16))
theorem cond4_iff : ∀ t : Fin cfg0.N, k0_cond4 (grid0.coords t) = 1#1 ↔ t.val % 20 < 12 :=
  (by decide +kernel : ∀ t : Fin grid0.N, k0_cond4 (grid0.coords t) = 1#1 ↔ t.val % 20 < 12)
theorem cond5_iff : ∀ t : Fin cfg0.N, k0_cond5 (grid0.coords t) = 1#1 ↔ 12 ≤ t.val % 20 :=
  (by decide +kernel : ∀ t : Fin grid0.N, k0_cond5 (grid0.coords t) = 1#1 ↔ 12 ≤ t.val % 20)
theorem cond6_iff : ∀ t : Fin cfg0.N, k0_cond6 (grid0.coords t) = 1#1 ↔ (t.val / 20 ≠ 0 ∧ t.val / 20 % 2 = 0) ∧ ¬(t.val / 20 < 8 ∧ t.val % 20 < 16) :=
  (by decide +kernel : ∀ t : Fin grid0.N, k0_cond6 (grid0.coords t) = 1#1 ↔ (t.val / 20 ≠ 0 ∧ t.val / 20 % 2 = 0) ∧ ¬(t.val / 20 < 8 ∧ t.val % 20 < 16))
theorem cond7_iff : ∀ t : Fin cfg0.N, k0_cond7 (grid0.coords t) = 1#1 ↔ t.val % 20 < 12 :=
  (by decide +kernel : ∀ t : Fin grid0.N, k0_cond7 (grid0.coords t) = 1#1 ↔ t.val % 20 < 12)
theorem cond8_iff : ∀ t : Fin cfg0.N, k0_cond8 (grid0.coords t) = 1#1 ↔ 12 ≤ t.val % 20 :=
  (by decide +kernel : ∀ t : Fin grid0.N, k0_cond8 (grid0.coords t) = 1#1 ↔ 12 ≤ t.val % 20)
theorem cond9_iff : ∀ t : Fin cfg0.N, k0_cond9 (grid0.coords t) = 1#1 ↔ (t.val / 20 ≠ 0 ∧ t.val / 20 % 2 = 1) ∧ (t.val / 20 < 8 ∧ t.val % 20 < 16) :=
  (by decide +kernel : ∀ t : Fin grid0.N, k0_cond9 (grid0.coords t) = 1#1 ↔ (t.val / 20 ≠ 0 ∧ t.val / 20 % 2 = 1) ∧ (t.val / 20 < 8 ∧ t.val % 20 < 16))
theorem cond10_iff : ∀ t : Fin cfg0.N, k0_cond10 (grid0.coords t) = 1#1 ↔ t.val % 20 < 12 :=
  (by decide +kernel : ∀ t : Fin grid0.N, k0_cond10 (grid0.coords t) = 1#1 ↔ t.val % 20 < 12)
theorem cond11_iff : ∀ t : Fin cfg0.N, k0_cond11 (grid0.coords t) = 1#1 ↔ 12 ≤ t.val % 20 :=
  (by decide +kernel : ∀ t : Fin grid0.N, k0_cond11 (grid0.coords t) = 1#1 ↔ 12 ≤ t.val % 20)
theorem cond12_iff : ∀ t : Fin cfg0.N, k0_cond12 (grid0.coords t) = 1#1 ↔ (t.val / 20 ≠ 0 ∧ t.val / 20 % 2 = 1) ∧ ¬(t.val / 20 < 8 ∧ t.val % 20 < 16) :=
  (by decide +kernel : ∀ t : Fin grid0.N, k0_cond12 (grid0.coords t) = 1#1 ↔ (t.val / 20 ≠ 0 ∧ t.val / 20 % 2 = 1) ∧ ¬(t.val / 20 < 8 ∧ t.val % 20 < 16))
theorem cond13_iff : ∀ t : Fin cfg0.N, k0_cond13 (grid0.coords t) = 1#1 ↔ t.val % 20 < 12 :=
  (by decide +kernel : ∀ t : Fin grid0.N, k0_cond13 (grid0.coords t) = 1#1 ↔ t.val % 20 < 12)
theorem cond14_iff : ∀ t : Fin cfg0.N, k0_cond14 (grid0.coords t) = 1#1 ↔ 12 ≤ t.val % 20 :=
  (by decide +kernel : ∀ t : Fin grid0.N, k0_cond14 (grid0.coords t) = 1#1 ↔ 12 ≤ t.val % 20)
/-- The first result is stored at the points that norm rows; in the first sweep the other two are stored at every point,
    then the second one at a sweep's first 12 points and the third one at its last 8. -/
theorem idle_5 : ∀ t : Fin cfg0.N, cfg0.idle 5 (cfg0.grid.coords t) = !decide (t.val / 20 < 8 ∧ t.val % 20 < 16) :=
  (by decide +kernel : ∀ t : Fin grid0.N, idle0 5 (grid0.coords t) = !decide (t.val / 20 < 8 ∧ t.val % 20 < 16))
theorem idle_6 : ∀ t : Fin cfg0.N, cfg0.idle 6 (cfg0.grid.coords t) = !decide (t.val / 20 = 0 ∨ t.val % 20 < 12) :=
  (by decide +kernel : ∀ t : Fin grid0.N, idle0 6 (grid0.coords t) = !decide (t.val / 20 = 0 ∨ t.val % 20 < 12))
theorem idle_7 : ∀ t : Fin cfg0.N, cfg0.idle 7 (cfg0.grid.coords t) = !decide (t.val / 20 = 0 ∨ 12 ≤ t.val % 20) :=
  (by decide +kernel : ∀ t : Fin grid0.N, idle0 7 (grid0.coords t) = !decide (t.val / 20 = 0 ∨ 12 ≤ t.val % 20))
/-- While it is not stored, the third result's block is not written back. -/
theorem flush_7 : ∀ t : Fin cfg0.N, ¬(t.val / 20 = 0 ∨ 12 ≤ t.val % 20) → (cfg0.win 7).flush t = false :=
  (by decide +kernel : ∀ t : Fin grid0.N, ¬(t.val / 20 = 0 ∨ 12 ≤ t.val % 20) → win0_7.flush t = false)

/-- Before which points nothing is known of the first result's staging buffer: those that norm rows, and after the last. -/
def freshAt5 (n : ℕ) : Bool := decide (n = 180) || decide (n / 20 < 8 ∧ n % 20 < 16)
theorem freshAt5_step : ∀ t : Fin cfg0.N, freshAt5 (t.val + 1) = ((cfg0.win 5).flush t || (cfg0.idle 5 (cfg0.grid.coords t) && freshAt5 t.val)) :=
  (by decide +kernel : ∀ t : Fin grid0.N, freshAt5 (t.val + 1) = (win0_5.flush t || (idle0 5 (grid0.coords t) && freshAt5 t.val)))
theorem fresh_5 (n : ℕ) (hn : n ≤ cfg0.N) : cfg0.fresh 5 n = freshAt5 n := Cfg.fresh_tab cfg0 5 freshAt5 rfl freshAt5_step n hn
/-- The same of the second result's. -/
def freshAt6 (n : ℕ) : Bool := decide (n % 20 < 12)
theorem freshAt6_step : ∀ t : Fin cfg0.N, freshAt6 (t.val + 1) = ((cfg0.win 6).flush t || (cfg0.idle 6 (cfg0.grid.coords t) && freshAt6 t.val)) :=
  (by decide +kernel : ∀ t : Fin grid0.N, freshAt6 (t.val + 1) = (win0_6.flush t || (idle0 6 (grid0.coords t) && freshAt6 t.val)))
theorem fresh_6 (n : ℕ) (hn : n ≤ cfg0.N) : cfg0.fresh 6 n = freshAt6 n := Cfg.fresh_tab cfg0 6 freshAt6 rfl freshAt6_step n hn

/-! ## What the two scratch buffers hold

During sweep `s` the body norms the rows of tile `s`, 64 at a point, into one of the two buffers; the other one
holds tile `s - 1`, filled by the sweep before. -/

/-- The point at which row `r` of tile `s` is normed. -/
def pt (s r : ℕ) : Fin cfg0.N := ⟨min (s * 20 + r / 64) 179, by rw [show cfg0.N = 180 from N_0]; omega⟩

/-- Tile `s` of the normed rows. -/
def tile (c : Dev nD) (s : ℕ) : Vec F S1024x4096 .bf16 := fun y =>
  k0_pay13 (k0_pay4 (iblk m c 0 (pt s (y 0).val)) (iblk m c 1 (pt s (y 0).val)) (iblk m c 2 (pt s (y 0).val)) (iblk m c 3 (pt s (y 0).val)))
    (ix2 ⟨(y 0).val % 64, Nat.mod_lt _ (by decide)⟩ (y 1))

/-- Before point `n` of sweep `s`: the buffer of the sweep's parity holds the rows of tile `s` normed so far, the
    other one the whole of tile `s - 1`. -/
def Held (c : Dev nD) (n : ℕ) (d0 d1 : Vec F S1024x4096 .bf16) : Prop :=
  (n / 20 < 8 → ∀ y : S1024x4096.Idx, (y 0).val < 64 * min (n % 20) 16 →
      (if n / 20 % 2 = 0 then d0 else d1) y = tile m c (n / 20) y)
    ∧ (n / 20 ≠ 0 → n / 20 ≤ 8 → (if n / 20 % 2 = 0 then d1 else d0) = tile m c (n / 20 - 1))

theorem held_zero (c : Dev nD) (d0 d1 : Vec F S1024x4096 .bf16) : Held m c 0 d0 d1 :=
  ⟨fun _ y h => absurd h (by simp), fun h _ => absurd rfl h⟩

/-- A point that norms nothing keeps what is known of the buffers. -/
theorem held_keep (c : Dev nD) (n : ℕ) (hn : n < 180) (d0 d1 : Vec F S1024x4096 .bf16) (h : Held m c n d0 d1)
    (hb : ¬(n / 20 < 8 ∧ n % 20 < 16)) : Held m c (n + 1) d0 d1 := by
  obtain ⟨h1, h2⟩ := h
  by_cases hj : n % 20 = 19
  · have e1 : (n + 1) / 20 = n / 20 + 1 := by omega
    have e2 : (n + 1) % 20 = 0 := by omega
    refine ⟨fun _ y hy => absurd hy (by rw [e2]; simp), fun _ h9 => ?_⟩
    rw [e1] at h9 ⊢
    by_cases h8 : n / 20 < 8
    · have hfull : (if n / 20 % 2 = 0 then d0 else d1) = tile m c (n / 20) := funext fun y => h1 h8 y (by
        have := (y 0).isLt; rw [hj]; exact this)
      by_cases hp : n / 20 % 2 = 0
      · rw [if_pos hp] at hfull
        rw [if_neg (by omega), hfull]; rfl
      · rw [if_neg hp] at hfull
        rw [if_pos (by omega), hfull]; rfl
    · omega
  · have e1 : (n + 1) / 20 = n / 20 := by omega
    unfold Held
    rw [e1]
    exact ⟨fun h8 y hy => h1 h8 y (by have e2 : (n + 1) % 20 = n % 20 + 1 := by omega
                                      rw [e2] at hy; omega), h2⟩

theorem pt_of (t : Fin cfg0.N) (hj : t.val % 20 < 16) (r : ℕ) (hr : r / 64 = t.val % 20) : pt (t.val / 20) r = t :=
  Fin.ext (by have := lt_180 t; show min _ _ = _; rw [hr]; omega)

/-- A point that norms 64 rows into one buffer. -/
theorem held_put (c : Dev nD) (t : Fin cfg0.N) (j : ℕ) (ej : j = t.val % 20) (d0 d1 d0' d1' : Vec F S1024x4096 .bf16)
    (h : Held m c t.val d0 d1) (hj : t.val % 20 < 16)
    (hput : (if t.val / 20 % 2 = 0 then d0' else d1')
      = put j (k0_pay13 (k0_pay4 (iblk m c 0 t) (iblk m c 1 t) (iblk m c 2 t) (iblk m c 3 t))) (if t.val / 20 % 2 = 0 then d0 else d1))
    (hoth : (if t.val / 20 % 2 = 0 then d1' else d0') = (if t.val / 20 % 2 = 0 then d1 else d0)) :
    Held m c (t.val + 1) d0' d1' := by
  subst ej
  obtain ⟨h1, h2⟩ := h
  have e1 : (t.val + 1) / 20 = t.val / 20 := by omega
  have e2 : (t.val + 1) % 20 = t.val % 20 + 1 := by omega
  unfold Held
  rw [e1, hput, hoth]
  refine ⟨fun h8 y hy => ?_, h2⟩
  unfold put
  split
  · rename_i hy2
    unfold tile
    rw [pt_of t hj (y 0).val (by omega)]
    refine congrArg _ (congrArg (fun a => ix2 a (y 1)) (Fin.ext ?_))
    show (y 0).val - 64 * (t.val % 20) = (y 0).val % 64
    omega
  · exact h1 h8 y (by rw [e2] at hy; omega)

/-! ## The pipeline's proof data -/

/-- The invariant: the scratch buffers at contents that `Held` describes, and the generator register. -/
def Inv (c : Dev nD) (n : ℕ) : sProp 𝕄 :=
  iprop(∃ d0, ∃ d1, ⌜Held m c n d0 d1⌝ ∗ owns (c : Thread nD τ) (Memref.whole cc0_scratch0 : Memref sig .tc .vmem S1024x4096 .bf16) fullShare d0
    ∗ owns (c : Thread nD τ) (Memref.whole cc0_scratch1 : Memref sig .tc .vmem S1024x4096 .bf16) fullShare d1 ∗ (∃ r, prngReg c r))

/-- The last point up to `n` that norms rows. -/
def builtAt (n : ℕ) : ℕ := if n / 20 < 8 then n - (n % 20 - 15) else 155
theorem builtAt_lt (t : Fin cfg0.N) : builtAt t.val < cfg0.N := by
  have := lt_180 t
  refine lt_of_lt_of_eq (b := 180) ?_ (show 180 = cfg0.N from N_0.symm)
  unfold builtAt; split <;> omega
def bpt (t : Fin cfg0.N) : Fin cfg0.N := ⟨builtAt t.val, builtAt_lt t⟩
theorem bpt_of (t : Fin cfg0.N) (hb : t.val / 20 < 8 ∧ t.val % 20 < 16) : bpt t = t :=
  Fin.ext (by show builtAt _ = _; unfold builtAt; rw [if_pos hb.1]; omega)
theorem bpt_pred (t : Fin cfg0.N) (hb : ¬(t.val / 20 < 8 ∧ t.val % 20 < 16)) : bpt t = bpt ⟨t.val - 1, by omega⟩ :=
  Fin.ext (by have := lt_180 t; show builtAt _ = builtAt (t.val - 1); unfold builtAt; split <;> split <;> omega)

/-- The last of a sweep's points up to `t` that stores the second result. -/
def qpt (t : Fin cfg0.N) : Fin cfg0.N := ⟨t.val - (t.val % 20 - 11), by omega⟩
theorem qpt_of (t : Fin cfg0.N) (hb : t.val % 20 < 12) : qpt t = t := Fin.ext (by show t.val - _ = _; omega)
theorem qpt_pred (t : Fin cfg0.N) (hb : 12 ≤ t.val % 20) : qpt t = qpt ⟨t.val - 1, by omega⟩ :=
  Fin.ext (by show t.val - (t.val % 20 - 11) = (t.val - 1) - ((t.val - 1) % 20 - 11); omega)

/-- The first result's block after point `t`: the stream with half the normed branch added, of the last point that normed
    rows. -/
def out5 (c : Dev nD) (t : Fin cfg0.N) : Vec F S64x4096 .f32 :=
  k0_pay3 (iblk m c 0 (bpt t)) (iblk m c 1 (bpt t)) (iblk m c 2 (bpt t))

/-- The second result's block after point `t`: zeros in the first sweep, then the product of the tile before with the last
    of the first 12 blocks of columns. -/
def out6 (c : Dev nD) (t : Fin cfg0.N) : Vec F S1024x512 .bf16 :=
  if t.val / 20 = 0 then k0_pay14 else k0_pay17 (tile m c (t.val / 20 - 1)) (iblk m c 4 (qpt t))

/-- The third result's block at a point that stores it: zeros in the first sweep, then the product of the tile before with
    a block of columns. -/
def out7 (c : Dev nD) (t : Fin cfg0.N) : Vec F S1024x512 .f32 :=
  if t.val / 20 = 0 then k0_pay15 else k0_pay19 (tile m c (t.val / 20 - 1)) (iblk m c 4 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
    | ⟨6, _⟩ => out6 m c t
    | ⟨7, _⟩ => out7 m c t
  Φ t := Inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out5 m c t := by dsimp only [dats]
theorem after0_6 (c : Dev nD) (t : Fin cfg0.N) : (dats m 0 c).after 6 t = out6 m c t := by dsimp only [dats]
theorem after0_7 (c : Dev nD) (t : Fin cfg0.N) : (dats m 0 c).after 7 t = out7 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- At a point that norms nothing the first result's buffer is found as the last norming point left it. -/
theorem before0_5 (c : Dev nD) (t : Fin cfg0.N) (hb : ¬(t.val / 20 < 8 ∧ t.val % 20 < 16)) (d) : (dats m 0 c).before 5 t d = out5 m c t := by
  have key : ∀ t : Fin cfg0.N, ¬(t.val / 20 < 8 ∧ t.val % 20 < 16) → out5 m c t = out5 m c ⟨t.val - 1, by omega⟩ := fun t h => by
    unfold out5; rw [bpt_pred t h]
  refine ((dats m 0 c).before_out_traj 5 rfl (fun _ _ => rfl) (fun t _ hi _ => ?_) t.val t rfl d).trans ?_
  · rw [after0_5, after0_5]
    exact key t (fun h => by rw [idle_5 t, decide_eq_true h] at hi; exact absurd hi (by decide))
  · have h180 := lt_180 t
    have hf : cfg0.fresh 5 t.val = false := (fresh_5 t.val (Nat.le_of_lt t.isLt)).trans (by
      unfold freshAt5; rw [decide_eq_false hb, decide_eq_false (by omega)]; rfl)
    rw [hf, if_neg Bool.false_ne_true, after0_5]
    exact (key t hb).symm
/-- At a point that does not store the second result its buffer is found as the last storing point left it. -/
theorem before0_6 (c : Dev nD) (t : Fin cfg0.N) (hb : ¬(t.val / 20 = 0 ∨ t.val % 20 < 12)) (d) : (dats m 0 c).before 6 t d = out6 m c t := by
  have key : ∀ t : Fin cfg0.N, ¬(t.val / 20 = 0 ∨ t.val % 20 < 12) → out6 m c t = out6 m c ⟨t.val - 1, by omega⟩ := fun t h => by
    unfold out6
    rw [qpt_pred t (by omega), if_neg (by omega), if_neg (by show ¬(t.val - 1) / 20 = 0; omega)]
    rw [show (t.val - 1) / 20 = t.val / 20 from by omega]
  refine ((dats m 0 c).before_out_traj 6 rfl (fun _ _ => rfl) (fun t _ hi _ => ?_) t.val t rfl d).trans ?_
  · rw [after0_6, after0_6]
    exact key t (fun h => by rw [idle_6 t, decide_eq_true h] at hi; exact absurd hi (by decide))
  · have h180 := lt_180 t
    have hf : cfg0.fresh 6 t.val = false := (fresh_6 t.val (Nat.le_of_lt t.isLt)).trans (by
      unfold freshAt6; exact decide_eq_false (by omega))
    rw [hf, if_neg Bool.false_ne_true, after0_6]
    exact (key t hb).symm

/-! ## The results' buffers after a point, as the pipeline's rules ask for them -/

theorem leaves_5 (c : Dev nD) (t : Fin cfg0.N) :
    owns (c : Thread nD τ) (st0_5 t) fullShare ((dats m 0 c).after 5 t) ⊢ ((dats m 0 c).leavesExact 5 t : sProp 𝕄) := by
  unfold Dat.leavesExact
  by_cases hb : t.val / 20 < 8 ∧ t.val % 20 < 16
  · rw [idle_5 t, decide_eq_true hb]; exact .rfl
  · rw [idle_5 t, decide_eq_false hb]
    cases hf : (cfg0.win 5).flush t
    · show _ ⊢ iprop(∃ d, owns (c : Thread nD τ) (st0_5 t) fullShare ((dats m 0 c).before 5 t d))
      iintro H
      iexists out5 m c t
      rw [before0_5 m c t hb, after0_5]; iexact H
    · exact .rfl

theorem leaves_6 (c : Dev nD) (t : Fin cfg0.N) :
    owns (c : Thread nD τ) (st0_6 t) fullShare ((dats m 0 c).after 6 t) ⊢ ((dats m 0 c).leavesExact 6 t : sProp 𝕄) := by
  unfold Dat.leavesExact
  by_cases hb : t.val / 20 = 0 ∨ t.val % 20 < 12
  · rw [idle_6 t, decide_eq_true hb]; exact .rfl
  · rw [idle_6 t, decide_eq_false hb]
    cases hf : (cfg0.win 6).flush t
    · show _ ⊢ iprop(∃ d, owns (c : Thread nD τ) (st0_6 t) fullShare ((dats m 0 c).before 6 t d))
      iintro H
      iexists out6 m c t
      rw [before0_6 m c t hb, after0_6]; iexact H
    · exact .rfl

theorem leaves_7 (c : Dev nD) (t : Fin cfg0.N) (hb : t.val / 20 = 0 ∨ 12 ≤ t.val % 20) :
    owns (c : Thread nD τ) (st0_7 t) fullShare (out7 m c t) ⊢ ((dats m 0 c).leavesExact 7 t : sProp 𝕄) := by
  unfold Dat.leavesExact
  rw [idle_7 t, decide_eq_true hb, ← after0_7]; exact .rfl

theorem keeps_7 (c : Dev nD) (t : Fin cfg0.N) (hb : ¬(t.val / 20 = 0 ∨ 12 ≤ t.val % 20)) (d) :
    owns (c : Thread nD τ) (st0_7 t) fullShare ((dats m 0 c).before 7 t d) ⊢ ((dats m 0 c).leavesExact 7 t : sProp 𝕄) := by
  unfold Dat.leavesExact
  rw [idle_7 t, decide_eq_false hb, flush_7 t hb]
  show _ ⊢ iprop(∃ d, owns (c : Thread nD τ) (st0_7 t) fullShare ((dats m 0 c).before 7 t d))
  iintro H
  iexists d; iexact H

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6,
    show (dats m 0 c).Φ t.castSucc = Inv m c t.val from rfl, show (dats m 0 c).Φ t.succ = Inv m c (t.val + 1) from rfl]
  unfold Inv
  iintro ⟨⟨%s0, %s1, %hH, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hc1 := cond1_iff t; have hc2 := cond2_iff t; have hc3 := cond3_iff t; have hc4 := cond4_iff t; have hc5 := cond5_iff t; have hc6 := cond6_iff t; have hc7 := cond7_iff t
  have hc8 := cond8_iff t; have hc9 := cond9_iff t; have hc10 := cond10_iff t; have hc11 := cond11_iff t; have hc12 := cond12_iff t; have hc13 := cond13_iff t; have hc14 := cond14_iff t
  have hn := lt_180 t
  have ej := coord1 t
  by_cases hs : t.val / 20 = 0
  · have e6 : out6 m c t = k0_pay14 := if_pos hs
    have e7 : out7 m c t = k0_pay15 := if_pos hs
    by_cases hj : t.val % 20 < 16
    · iapply (runA c (grid0.coords t) _ _ _ _ _ _ _ _ _ _ _ _ _ _ _ _ _ _ _ _ (hc1.mpr (by omega)) (hc2.mpr (by omega)) (fun h => by have := hc3.mp h; omega) (fun h => by have := hc6.mp h; omega) (fun h => by have := hc9.mp h; omega) (fun h => by have := hc12.mp h; omega) (by omega) (iblk m c 0 t) (iblk m c 1 t) (iblk m c 2 t) (iblk m c 3 t) (iblk m c 4 t) s0 s1 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hg]
      · iexists _; iexists _; isplitr; swap
        · isplitl [HS0]; · iexact HS0
          isplitl [HS1]; · iexact HS1
          iexact Hg
        ipureintro; exact held_put m c t _ ej s0 s1 _ _ hH (by omega) (by rw [if_pos (by omega), if_pos (by omega)]; try rfl) (by rw [if_pos (by omega), if_pos (by omega)])
      isplitl [Ho]; · iexact Ho
      isplitl [H0]; · iexact H0
      isplitl [H1]; · iexact H1
      isplitl [H2]; · iexact H2
      isplitl [H3]; · iexact H3
      isplitl [H4]; · iexact H4
      isplitl [H5]
      · unfold out5; rw [bpt_of t (by omega)]; iexact H5
      isplitl [H6]
      · rw [e6]; iexact H6
      iapply (leaves_7 m c t (by omega)); rw [e7]; iexact H7
    · iapply (runB c (grid0.coords t) _ _ _ _ _ _ _ _ _ _ _ _ _ _ _ _ _ _ _ _ (hc1.mpr (by omega)) (fun h => by have := hc2.mp h; omega) (fun h => by have := hc3.mp h; omega) (fun h => by have := hc6.mp h; omega) (fun h => by have := hc9.mp h; omega) (fun h => by have := hc12.mp h; omega) (iblk m c 0 t) (iblk m c 1 t) (iblk m c 2 t) (iblk m c 3 t) (iblk m c 4 t) s0 s1 Set.univ _)
      isplitl [H0]; · iexact H0
      isplitl [H1]; · iexact H1
      isplitl [H2]; · iexact H2
      isplitl [H3]; · iexact H3
      isplitl [H4]; · iexact H4
      isplitl [H6]; · iexists _; iexact H6
      isplitl [H7]; · iexists _; iexact H7
      isplitl [HS0]; · iexact HS0
      isplitl [HS1]; · iexact HS1
      iintro ⟨H0, H1, H2, H3, H4, H6, H7, HS0, HS1⟩
      isplitl [HS0 HS1 Hg]
      · iexists _; iexists _; isplitr; swap
        · isplitl [HS0]; · iexact HS0
          isplitl [HS1]; · iexact HS1
          iexact Hg
        ipureintro; exact held_keep m c t.val hn s0 s1 hH (by omega)
      isplitl [Ho]; · iexact Ho
      isplitl [H0]; · iexact H0
      isplitl [H1]; · iexact H1
      isplitl [H2]; · iexact H2
      isplitl [H3]; · iexact H3
      isplitl [H4]; · iexact H4
      isplitl [H5]
      · rw [before0_5 m c t (by omega)]; iexact H5
      isplitl [H6]
      · rw [e6]; iexact H6
      iapply (leaves_7 m c t (by omega)); rw [e7]; iexact H7
  · have e6 : out6 m c t = k0_pay17 (tile m c (t.val / 20 - 1)) (iblk m c 4 (qpt t)) := if_neg hs
    have e7 : out7 m c t = k0_pay19 (tile m c (t.val / 20 - 1)) (iblk m c 4 t) := if_neg hs
    have hT := hH.2 hs (by omega)
    by_cases hp : t.val / 20 % 2 = 0
    · rw [if_pos hp] at hT
      by_cases hb : t.val / 20 < 8 ∧ t.val % 20 < 16
      · by_cases hq : t.val % 20 < 12
        · iapply (runCq c (grid0.coords t) _ _ _ _ _ _ _ _ _ _ _ _ _ _ _ _ _ _ _ _ (hc3.mpr (by omega)) (hc4.mpr (by omega)) (fun h => by have := hc1.mp h; omega) (fun h => by have := hc5.mp h; omega) (fun h => by have := hc6.mp h; omega) (fun h => by have := hc9.mp h; omega) (fun h => by have := hc12.mp h; omega) (by omega) (iblk m c 0 t) (iblk m c 1 t) (iblk m c 2 t) (iblk m c 3 t) (iblk m c 4 t) s0 s1 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [HS0]; · iexact HS0
          isplitl [HS1]; · iexact HS1
          iintro ⟨H0, H1, H2, H3, H4, H5, H6, HS0, HS1⟩
          isplitl [HS0 HS1 Hg]
          · iexists _; iexists _; isplitr; swap
            · isplitl [HS0]; · iexact HS0
              isplitl [HS1]; · iexact HS1
              iexact Hg
            ipureintro; exact held_put m c t _ ej s0 s1 _ _ hH (by omega) (by rw [if_pos (by omega), if_pos (by omega)]; try rfl) (by rw [if_pos (by omega), if_pos (by omega)])
          isplitl [Ho]; · iexact Ho
          isplitl [H0]; · iexact H0
          isplitl [H1]; · iexact H1
          isplitl [H2]; · iexact H2
          isplitl [H3]; · iexact H3
          isplitl [H4]; · iexact H4
          isplitl [H5]
          · unfold out5; rw [bpt_of t (by omega)]; iexact H5
          isplitl [H6]
          · rw [e6, qpt_of t (by omega), ← hT]; iexact H6
          iapply (keeps_7 m c t (by omega) d7); iexact H7
        · iapply (runCx c (grid0.coords t) _ _ _ _ _ _ _ _ _ _ _ _ _ _ _ _ _ _ _ _ (hc3.mpr (by omega)) (hc5.mpr (by omega)) (fun h => by have := hc1.mp h; omega) (fun h => by have := hc4.mp h; omega) (fun h => by have := hc6.mp h; omega) (fun h => by have := hc9.mp h; omega) (fun h => by have := hc12.mp h; omega) (by omega) (iblk m c 0 t) (iblk m c 1 t) (iblk m c 2 t) (iblk m c 3 t) (iblk m c 4 t) s0 s1 Set.univ _)
          isplitl [H0]; · iexact H0
          isplitl [H1]; · iexact H1
          isplitl [H2]; · iexact H2
          isplitl [H3]; · iexact H3
          isplitl [H4]; · iexact H4
          isplitl [H5]; · iexists _; iexact H5
          isplitl [H7]; · iexists _; iexact H7
          isplitl [HS0]; · iexact HS0
          isplitl [HS1]; · iexact HS1
          iintro ⟨H0, H1, H2, H3, H4, H5, H7, HS0, HS1⟩
          isplitl [HS0 HS1 Hg]
          · iexists _; iexists _; isplitr; swap
            · isplitl [HS0]; · iexact HS0
              isplitl [HS1]; · iexact HS1
              iexact Hg
            ipureintro; exact held_put m c t _ ej s0 s1 _ _ hH (by omega) (by rw [if_pos (by omega), if_pos (by omega)]; try rfl) (by rw [if_pos (by omega), if_pos (by omega)])
          isplitl [Ho]; · iexact Ho
          isplitl [H0]; · iexact H0
          isplitl [H1]; · iexact H1
          isplitl [H2]; · iexact H2
          isplitl [H3]; · iexact H3
          isplitl [H4]; · iexact H4
          isplitl [H5]
          · unfold out5; rw [bpt_of t (by omega)]; iexact H5
          isplitl [H6]
          · rw [before0_6 m c t (by omega)]; iexact H6
          iapply (leaves_7 m c t (by omega)); rw [e7, ← hT]; iexact H7
      · by_cases hq : t.val % 20 < 12
        · iapply (runDq c (grid0.coords t) _ _ _ _ _ _ _ _ _ _ _ _ _ _ _ _ _ _ _ _ (hc6.mpr (by omega)) (hc7.mpr (by omega)) (fun h => by have := hc1.mp h; omega) (fun h => by have := hc3.mp h; omega) (fun h => by have := hc8.mp h; omega) (fun h => by have := hc9.mp h; omega) (fun h => by have := hc12.mp h; omega) (iblk m c 0 t) (iblk m c 1 t) (iblk m c 2 t) (iblk m c 3 t) (iblk m c 4 t) s0 s1 Set.univ _)
          isplitl [H0]; · iexact H0
          isplitl [H1]; · iexact H1
          isplitl [H2]; · iexact H2
          isplitl [H3]; · iexact H3
          isplitl [H4]; · iexact H4
          isplitl [H6]; · iexists _; iexact H6
          isplitl [HS0]; · iexact HS0
          isplitl [HS1]; · iexact HS1
          iintro ⟨H0, H1, H2, H3, H4, H6, HS0, HS1⟩
          isplitl [HS0 HS1 Hg]
          · iexists _; iexists _; isplitr; swap
            · isplitl [HS0]; · iexact HS0
              isplitl [HS1]; · iexact HS1
              iexact Hg
            ipureintro; exact held_keep m c t.val hn s0 s1 hH (by omega)
          isplitl [Ho]; · iexact Ho
          isplitl [H0]; · iexact H0
          isplitl [H1]; · iexact H1
          isplitl [H2]; · iexact H2
          isplitl [H3]; · iexact H3
          isplitl [H4]; · iexact H4
          isplitl [H5]
          · rw [before0_5 m c t (by omega)]; iexact H5
          isplitl [H6]
          · rw [e6, qpt_of t (by omega), ← hT]; iexact H6
          iapply (keeps_7 m c t (by omega) d7); iexact H7
        · iapply (runDx c (grid0.coords t) _ _ _ _ _ _ _ _ _ _ _ _ _ _ _ _ _ _ _ _ (hc6.mpr (by omega)) (hc8.mpr (by omega)) (fun h => by have := hc1.mp h; omega) (fun h => by have := hc3.mp h; omega) (fun h => by have := hc7.mp h; omega) (fun h => by have := hc9.mp h; omega) (fun h => by have := hc12.mp h; omega) (iblk m c 0 t) (iblk m c 1 t) (iblk m c 2 t) (iblk m c 3 t) (iblk m c 4 t) s0 s1 Set.univ _)
          isplitl [H0]; · iexact H0
          isplitl [H1]; · iexact H1
          isplitl [H2]; · iexact H2
          isplitl [H3]; · iexact H3
          isplitl [H4]; · iexact H4
          isplitl [H7]; · iexists _; iexact H7
          isplitl [HS0]; · iexact HS0
          isplitl [HS1]; · iexact HS1
          iintro ⟨H0, H1, H2, H3, H4, H7, HS0, HS1⟩
          isplitl [HS0 HS1 Hg]
          · iexists _; iexists _; isplitr; swap
            · isplitl [HS0]; · iexact HS0
              isplitl [HS1]; · iexact HS1
              iexact Hg
            ipureintro; exact held_keep m c t.val hn s0 s1 hH (by omega)
          isplitl [Ho]; · iexact Ho
          isplitl [H0]; · iexact H0
          isplitl [H1]; · iexact H1
          isplitl [H2]; · iexact H2
          isplitl [H3]; · iexact H3
          isplitl [H4]; · iexact H4
          isplitl [H5]
          · rw [before0_5 m c t (by omega)]; iexact H5
          isplitl [H6]
          · rw [before0_6 m c t (by omega)]; iexact H6
          iapply (leaves_7 m c t (by omega)); rw [e7, ← hT]; iexact H7
    · rw [if_neg hp] at hT
      by_cases hb : t.val / 20 < 8 ∧ t.val % 20 < 16
      · by_cases hq : t.val % 20 < 12
        · iapply (runEq c (grid0.coords t) _ _ _ _ _ _ _ _ _ _ _ _ _ _ _ _ _ _ _ _ (hc9.mpr (by omega)) (hc10.mpr (by omega)) (fun h => by have := hc1.mp h; omega) (fun h => by have := hc3.mp h; omega) (fun h => by have := hc6.mp h; omega) (fun h => by have := hc11.mp h; omega) (fun h => by have := hc12.mp h; omega) (by omega) (iblk m c 0 t) (iblk m c 1 t) (iblk m c 2 t) (iblk m c 3 t) (iblk m c 4 t) s0 s1 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [HS0]; · iexact HS0
          isplitl [HS1]; · iexact HS1
          iintro ⟨H0, H1, H2, H3, H4, H5, H6, HS0, HS1⟩
          isplitl [HS0 HS1 Hg]
          · iexists _; iexists _; isplitr; swap
            · isplitl [HS0]; · iexact HS0
              isplitl [HS1]; · iexact HS1
              iexact Hg
            ipureintro; exact held_put m c t _ ej s0 s1 _ _ hH (by omega) (by rw [if_neg (by omega), if_neg (by omega)]; try rfl) (by rw [if_neg (by omega), if_neg (by omega)])
          isplitl [Ho]; · iexact Ho
          isplitl [H0]; · iexact H0
          isplitl [H1]; · iexact H1
          isplitl [H2]; · iexact H2
          isplitl [H3]; · iexact H3
          isplitl [H4]; · iexact H4
          isplitl [H5]
          · unfold out5; rw [bpt_of t (by omega)]; iexact H5
          isplitl [H6]
          · rw [e6, qpt_of t (by omega), ← hT]; iexact H6
          iapply (keeps_7 m c t (by omega) d7); iexact H7
        · iapply (runEx c (grid0.coords t) _ _ _ _ _ _ _ _ _ _ _ _ _ _ _ _ _ _ _ _ (hc9.mpr (by omega)) (hc11.mpr (by omega)) (fun h => by have := hc1.mp h; omega) (fun h => by have := hc3.mp h; omega) (fun h => by have := hc6.mp h; omega) (fun h => by have := hc10.mp h; omega) (fun h => by have := hc12.mp h; omega) (by omega) (iblk m c 0 t) (iblk m c 1 t) (iblk m c 2 t) (iblk m c 3 t) (iblk m c 4 t) s0 s1 Set.univ _)
          isplitl [H0]; · iexact H0
          isplitl [H1]; · iexact H1
          isplitl [H2]; · iexact H2
          isplitl [H3]; · iexact H3
          isplitl [H4]; · iexact H4
          isplitl [H5]; · iexists _; iexact H5
          isplitl [H7]; · iexists _; iexact H7
          isplitl [HS0]; · iexact HS0
          isplitl [HS1]; · iexact HS1
          iintro ⟨H0, H1, H2, H3, H4, H5, H7, HS0, HS1⟩
          isplitl [HS0 HS1 Hg]
          · iexists _; iexists _; isplitr; swap
            · isplitl [HS0]; · iexact HS0
              isplitl [HS1]; · iexact HS1
              iexact Hg
            ipureintro; exact held_put m c t _ ej s0 s1 _ _ hH (by omega) (by rw [if_neg (by omega), if_neg (by omega)]; try rfl) (by rw [if_neg (by omega), if_neg (by omega)])
          isplitl [Ho]; · iexact Ho
          isplitl [H0]; · iexact H0
          isplitl [H1]; · iexact H1
          isplitl [H2]; · iexact H2
          isplitl [H3]; · iexact H3
          isplitl [H4]; · iexact H4
          isplitl [H5]
          · unfold out5; rw [bpt_of t (by omega)]; iexact H5
          isplitl [H6]
          · rw [before0_6 m c t (by omega)]; iexact H6
          iapply (leaves_7 m c t (by omega)); rw [e7, ← hT]; iexact H7
      · iapply (runGx c (grid0.coords t) _ _ _ _ _ _ _ _ _ _ _ _ _ _ _ _ _ _ _ _ (hc12.mpr (by omega)) (hc14.mpr (by omega)) (fun h => by have := hc1.mp h; omega) (fun h => by have := hc3.mp h; omega) (fun h => by have := hc6.mp h; omega) (fun h => by have := hc9.mp h; omega) (fun h => by have := hc13.mp h; omega) (iblk m c 0 t) (iblk m c 1 t) (iblk m c 2 t) (iblk m c 3 t) (iblk m c 4 t) s0 s1 Set.univ _)
        isplitl [H0]; · iexact H0
        isplitl [H1]; · iexact H1
        isplitl [H2]; · iexact H2
        isplitl [H3]; · iexact H3
        isplitl [H4]; · iexact H4
        isplitl [H7]; · iexists _; iexact H7
        isplitl [HS0]; · iexact HS0
        isplitl [HS1]; · iexact HS1
        iintro ⟨H0, H1, H2, H3, H4, H7, HS0, HS1⟩
        isplitl [HS0 HS1 Hg]
        · iexists _; iexists _; isplitr; swap
          · isplitl [HS0]; · iexact HS0
            isplitl [HS1]; · iexact HS1
            iexact Hg
          ipureintro; exact held_keep m c t.val hn s0 s1 hH (by omega)
        isplitl [Ho]; · iexact Ho
        isplitl [H0]; · iexact H0
        isplitl [H1]; · iexact H1
        isplitl [H2]; · iexact H2
        isplitl [H3]; · iexact H3
        isplitl [H4]; · iexact H4
        isplitl [H5]
        · rw [before0_5 m c t (by omega)]; iexact H5
        isplitl [H6]
        · rw [before0_6 m c t (by omega)]; iexact H6
        iapply (leaves_7 m c t (by omega)); rw [e7, ← hT]; iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, Ho, H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · iapply (leaves_5 m c t); iexact H5
  isplitl [H6]
  · iapply (leaves_6 m c t); iexact H6
  iexact H7

/-! ## The run and the frame -/

theorem PhiA0_eq (c : Dev nD) :
    (Pipeline.ΦA spec0 c : sProp 𝕄)
      = iprop(iprop((∃ d, owns (c : Thread nD τ) (Memref.whole cc0_scratch0 : Memref sig .tc .vmem S1024x4096 .bf16) fullShare d)
        ∗ (∃ d, owns (c : Thread nD τ) (Memref.whole cc0_scratch1 : Memref sig .tc .vmem S1024x4096 .bf16) fullShare d)) ∗ (∃ r, prngReg c r)) := by
  unfold Pipeline.ΦA; rw [scopedRest0_eq]; simp only [owns_whole]; try rfl

theorem inv_in (c : Dev nD) : (Pipeline.ΦA spec0 c : sProp 𝕄) ⊢ Inv m c 0 := by
  rw [PhiA0_eq]; unfold Inv
  iintro ⟨⟨⟨%d0, H0⟩, ⟨%d1, H1⟩⟩, Hg⟩
  iexists d0; iexists d1
  isplitr; · ipureintro; exact held_zero m c d0 d1
  isplitl [H0]; · iexact H0
  isplitl [H1]; · iexact H1
  iexact Hg

theorem inv_out (c : Dev nD) (n : ℕ) : Inv m c n ⊢ (Pipeline.ΦA spec0 c : sProp 𝕄) := by
  rw [PhiA0_eq]; unfold Inv
  iintro ⟨%d0, %d1, -, H0, H1, Hg⟩
  isplitr [Hg]
  · isplitl [H0]
    · iexists _; iexact H0
    iexists _; iexact H1
  iexact Hg

-- the run's implicit arguments are found by unifying its conclusion with this one, which takes unfolding plain
-- definitions in a metavariable's type
set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => inv_in m c) (hout := fun c => inv_out m c _)

theorem run_main : θ_run defs (onTc (τ := τ) (main (F := F))) (s₀ m ρ) (Pipeline.FramePost cfgs (dats m) 0 (V m)) :=
  (θ_run defs _ _).mono (fun _ h => h.1) (run_main_quiescent m ρ)

/-- Every argument array ends as it was. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c)))⟩) (run_main m ρ)

/-- The frame: every argument array ends as it was, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.InProjIdeal.Gen

end
-- ==== Proof.InProjIdeal.Value.lean ====
/-
  THE INPUT PROJECTION AFTER A RESIDUAL: what the call's three result arrays hold.

  The kernel adds half of a normed branch to the stream, row by row, and writes the sum back as its first result. The sum,
  normed again, is multiplied by the weights: its tiles of 1024 rows normed in 16 steps of 64 rows in the sweep before the
  one that multiplies them, 1024 rows of zeros at the end. The first 6144 columns of the product are the second result,
  rounded, and the other 4096 the third.
-/
module

public import proofs.«01_k».proof.Proof.InProjIdeal.Frame
public import proofs.«01_k».proof.Proof.GateUpIdeal.Value
public import Idealize.ShloMosaic.Lib.Pipeline.ValueKit
public import Idealize.ShloMosaic.Lib.Pointwise
public import Idealize.ShloMosaic.Lib.KernelVsHost
public import Idealize.ShloMosaic.Lib.StableHlo.RunRead

@[expose] public section

set_option maxRecDepth 16384

noncomputable section

namespace Cert.InProjIdeal.Value

open Cert.InProjIdeal Cert.InProjIdeal.Gen Idealize.ShloMosaic Idealize.ShloMosaic.TcCoe Idealize.SL.Sem
open Cert.GateUpIdeal.Value (normed)
open Idealize.ShloMosaic.Pipeline (Dat)

/-! ## What the body stores, at one entry -/

theorem pay3_at (h : Vec Ideal S64x4096 .f32) (f : Vec Ideal S64x4096 .bf16) (p : Vec Ideal S1x4096 .f32) (y : S64x4096.Idx) :
    k0_pay3 (F := Ideal) h f p y
      = h y + Ideal.ofBits .f32 0x3F000000#32 * normed (fun q => f (ix2 (y 0) q)) (fun q => p (ix2 (0 : Fin 1) q)) (y 1) := by
  unfold normed
  pointwise [k0_pay3]

theorem pay4_at (h : Vec Ideal S64x4096 .f32) (f : Vec Ideal S64x4096 .bf16) (p g : Vec Ideal S1x4096 .f32) (y : S64x4096.Idx) :
    k0_pay13 (F := Ideal) (k0_pay4 (F := Ideal) h f p g) y
      = normed (fun q => k0_pay3 (F := Ideal) h f p (ix2 (y 0) q)) (fun q => g (ix2 (0 : Fin 1) q)) (y 1) := by
  unfold normed k0_pay13 k0_pay4
  generalize k0_pay3 (F := Ideal) h f p = x
  pointwise

theorem pay19_at (u : Vec Ideal S1024x4096 .bf16) (w : Vec Ideal S4096x512 .f32) (y : S1024x512.Idx) :
    k0_pay19 (F := Ideal) u w y = ∑ q : Fin 4096, u (ix2 (y 0) q) * w (ix2 q (y 1)) := by
  pointwise [k0_pay19]

theorem pay17_at (u : Vec Ideal S1024x4096 .bf16) (w : Vec Ideal S4096x512 .f32) (y : S1024x512.Idx) :
    k0_pay17 (F := Ideal) u w y = ∑ q : Fin 4096, u (ix2 (y 0) q) * w (ix2 q (y 1)) := by
  pointwise [k0_pay17]

theorem pay14_at (y : S1024x512.Idx) : k0_pay14 (F := Ideal) y = 0 := by
  pointwise [k0_pay14]

theorem pay15_at (y : S1024x512.Idx) : k0_pay15 (F := Ideal) y = 0 := by
  pointwise [k0_pay15]

/-- The first result: the stream plus half of the branch normed. -/
def stream (H : Vec Ideal S8192x4096 .f32) (f : Vec Ideal S8192x4096 .bf16) (p : Vec Ideal S4096 .f32) : Vec Ideal S8192x4096 .f32 := fun i =>
  H i + Ideal.ofBits .f32 0x3F000000#32 * normed (fun q => f (ix2 (i 0) q)) (fun q => p (ix1 q)) (i 1)

/-- The product of the normed rows with the weights, and zeros below row 8192. -/
def product (H : Vec Ideal S8192x4096 .f32) (g : Vec Ideal S4096 .f32) (W : Vec Ideal S4096x10240 .f32) (r : Fin 9216) (j : Fin 10240) : EReal :=
  if h : r.val < 8192 then
    ∑ k : Fin 4096, normed (fun q => H (ix2 (⟨r.val, h⟩ : Fin 8192) q)) (fun q => g (ix1 q)) k * W (ix2 k j)
  else 0

/-- The second result: the product's first 6144 columns. -/
def left (H : Vec Ideal S8192x4096 .f32) (g : Vec Ideal S4096 .f32) (W : Vec Ideal S4096x10240 .f32) : Vec Ideal S9216x6144 .bf16 := fun i =>
  product H g W (i 0) ⟨(i 1).val, Nat.lt_of_lt_of_le (i 1).isLt (by decide)⟩

/-- The third result: the product's last 4096 columns. -/
def right (H : Vec Ideal S8192x4096 .f32) (g : Vec Ideal S4096 .f32) (W : Vec Ideal S4096x10240 .f32) : Vec Ideal S9216x4096 .f32 := fun i =>
  product H g W (i 0) ⟨6144 + (i 1).val, Nat.add_lt_add_left (i 1).isLt 6144⟩

/-! ## The windows' blocks, at one entry -/

theorem index0 : ∀ t : Fin cfg0.N, t.val / 20 < 8 → t.val % 20 < 16 → win0_0.index t = ![t.val / 20 * 16 + t.val % 20, 0] :=
  (by decide +kernel : ∀ t : Fin grid0.N, t.val / 20 < 8 → t.val % 20 < 16 → win0_0.index t = ![t.val / 20 * 16 + t.val % 20, 0])
theorem index1 : ∀ t : Fin cfg0.N, t.val / 20 < 8 → t.val % 20 < 16 → win0_1.index t = ![t.val / 20 * 16 + t.val % 20, 0] :=
  (by decide +kernel : ∀ t : Fin grid0.N, t.val / 20 < 8 → t.val % 20 < 16 → win0_1.index t = ![t.val / 20 * 16 + t.val % 20, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, t.val / 20 ≠ 0 → win0_4.index t = ![0, t.val % 20] :=
  (by decide +kernel : ∀ t : Fin grid0.N, t.val / 20 ≠ 0 → win0_4.index t = ![0, t.val % 20])
theorem index5 : ∀ t : Fin cfg0.N, win0_5.index t = ![(bpt t).val / 20 * 16 + (bpt t).val % 20, 0] :=
  (by decide +kernel : ∀ t : Fin grid0.N, win0_5.index t = ![(bpt t).val / 20 * 16 + (bpt t).val % 20, 0])
theorem index6 : ∀ t : Fin cfg0.N, win0_6.index t = ![if t.val / 20 = 0 then 8 else t.val / 20 - 1, min (t.val % 20) 11] :=
  (by decide +kernel : ∀ t : Fin grid0.N, win0_6.index t = ![if t.val / 20 = 0 then 8 else t.val / 20 - 1, min (t.val % 20) 11])
theorem index7 : ∀ t : Fin cfg0.N, win0_7.index t = ![if t.val / 20 = 0 then 8 else t.val / 20 - 1, t.val % 20 - 12] :=
  (by decide +kernel : ∀ t : Fin grid0.N, win0_7.index t = ![if t.val / 20 = 0 then 8 else t.val / 20 - 1, t.val % 20 - 12])

variable (m : (ℓ : Loc nD τ sig) → Buf (Elt Ideal) ℓ)

theorem iblk0_at (c : Dev nD) (t : Fin cfg0.N) (h8 : t.val / 20 < 8) (h16 : t.val % 20 < 16) (y : S64x4096.Idx) :
    iblk m c 0 t y = m ((c : Thread nD τ).loc main_arg0)
      (ix2 (⟨(t.val / 20 * 16 + t.val % 20) * 64 + (y 0).val, by have := (y 0).isLt; change _ < 64 at this; omega⟩ : Fin 8192) (y 1)) := by
  have e := index0 t h8 h16
  unfold iblk
  rw [show V m c (Pipeline.arrRef spec0 0) = m ((c : Thread nD τ).loc main_arg0) from V_main_arg0 m c]
  blk_point [e]

theorem iblk1_at (c : Dev nD) (t : Fin cfg0.N) (h8 : t.val / 20 < 8) (h16 : t.val % 20 < 16) (y : S64x4096.Idx) :
    iblk m c 1 t y = m ((c : Thread nD τ).loc main_arg1)
      (ix2 (⟨(t.val / 20 * 16 + t.val % 20) * 64 + (y 0).val, by have := (y 0).isLt; change _ < 64 at this; omega⟩ : Fin 8192) (y 1)) := by
  have e := index1 t h8 h16
  unfold iblk
  rw [show V m c (Pipeline.arrRef spec0 1) = m ((c : Thread nD τ).loc main_arg1) from V_main_arg1 m c]
  blk_point [e]

/-- The weights reshaped to one row. -/
theorem row_at (G : Vec Ideal S4096 .f32) (q : Fin 4096) : shapeCast S1x4096 G shapeCasts_S4096_S1x4096 (ix2 (0 : Fin 1) q) = G (ix1 q) := by
  pointwise

theorem iblk2_at (c : Dev nD) (t : Fin cfg0.N) (q : Fin 4096) :
    iblk m c 2 t (ix2 (0 : Fin 1) q) = m ((c : Thread nD τ).loc main_arg2) (ix1 q) := by
  have e := index2 t
  unfold iblk
  rw [show V m c (Pipeline.arrRef spec0 2) = shapeCast S1x4096 (m ((c : Thread nD τ).loc main_arg2)) shapeCasts_S4096_S1x4096 from by
    unfold V; after_reads_simp; try rfl]
  generalize hX : shapeCast S1x4096 (m ((c : Thread nD τ).loc main_arg2)) shapeCasts_S4096_S1x4096 = X
  trans X (ix2 (0 : Fin 1) q)
  · blk_point [e]
  · rw [← hX]
    exact row_at _ q

theorem iblk3_at (c : Dev nD) (t : Fin cfg0.N) (q : Fin 4096) :
    iblk m c 3 t (ix2 (0 : Fin 1) q) = m ((c : Thread nD τ).loc main_arg3) (ix1 q) := by
  have e := index3 t
  unfold iblk
  rw [show V m c (Pipeline.arrRef spec0 3) = shapeCast S1x4096 (m ((c : Thread nD τ).loc main_arg3)) shapeCasts_S4096_S1x4096 from by
    unfold V; after_reads_simp; try rfl]
  generalize hX : shapeCast S1x4096 (m ((c : Thread nD τ).loc main_arg3)) shapeCasts_S4096_S1x4096 = X
  trans X (ix2 (0 : Fin 1) q)
  · blk_point [e]
  · rw [← hX]
    exact row_at _ q

theorem iblk4_at (c : Dev nD) (t : Fin cfg0.N) (h : t.val / 20 ≠ 0) (y : S4096x512.Idx) :
    iblk m c 4 t y = m ((c : Thread nD τ).loc main_arg4)
      (ix2 (y 0) (⟨t.val % 20 * 512 + (y 1).val, by have := (y 1).isLt; change _ < 512 at this; omega⟩ : Fin 10240)) := by
  have e := index4 t h
  unfold iblk
  rw [show V m c (Pipeline.arrRef spec0 4) = m ((c : Thread nD τ).loc main_arg4) from V_main_arg4 m c]
  blk_point [e]

/-! ## The result arrays -/

theorem pt_val (s : ℕ) (hs : s < 8) (r : ℕ) (hr : r < 1024) : (pt s r).val = s * 20 + r / 64 := by
  show min _ _ = _
  omega

/-- The last point that normed rows is one that norms rows. -/
theorem bpt_building : ∀ t : Fin cfg0.N, (bpt t).val / 20 < 8 ∧ (bpt t).val % 20 < 16 := fun t => by
  have := lt_180 t
  show builtAt _ / 20 < 8 ∧ builtAt _ % 20 < 16
  unfold builtAt; split <;> omega

theorem qpt_val (t : Fin cfg0.N) : (qpt t).val / 20 = t.val / 20 ∧ (qpt t).val % 20 = min (t.val % 20) 11 := by
  show (t.val - (t.val % 20 - 11)) / 20 = _ ∧ (t.val - (t.val % 20 - 11)) % 20 = _
  omega

/-- The 64 rows that a norming point adds. -/
theorem rows_at (c : Dev nD) (t : Fin cfg0.N) (h8 : t.val / 20 < 8) (h16 : t.val % 20 < 16) (y : S64x4096.Idx)
    (hr : (t.val / 20 * 16 + t.val % 20) * 64 + (y 0).val < 8192) :
    k0_pay3 (F := Ideal) (iblk m c 0 t) (iblk m c 1 t) (iblk m c 2 t) y
      = stream (m ((c : Thread nD τ).loc main_arg0)) (m ((c : Thread nD τ).loc main_arg1)) (m ((c : Thread nD τ).loc main_arg2))
        (ix2 (⟨_, hr⟩ : Fin 8192) (y 1)) := by
  refine (pay3_at _ _ _ _).trans ?_
  unfold stream
  refine congr (congrArg _ (iblk0_at m c t h8 h16 y)) (congrArg _ ?_)
  refine congr (congr (congrArg normed (funext fun q => ?_)) (funext fun q => iblk2_at m c t q)) rfl
  exact iblk1_at m c t h8 h16 (ix2 (y 0) q)

/-- A tile holds its rows of the sum, normed. -/
theorem tile_at (c : Dev nD) (s : ℕ) (hs : s < 8) (r : Fin 1024) (k : Fin 4096) :
    tile m c s (ix2 r k) = normed (fun q => stream (m ((c : Thread nD τ).loc main_arg0)) (m ((c : Thread nD τ).loc main_arg1))
        (m ((c : Thread nD τ).loc main_arg2)) (ix2 (⟨s * 1024 + r.val, by omega⟩ : Fin 8192) q))
      (fun q => m ((c : Thread nD τ).loc main_arg3) (ix1 q)) k := by
  have hp := pt_val s hs r.val r.isLt
  have hr := r.isLt
  unfold tile
  refine (pay4_at _ _ _ _ _).trans ?_
  refine congr (congr (congrArg normed (funext fun q => ?_)) (funext fun q => ?_)) rfl
  · refine (rows_at m c (pt s r.val) (by rw [hp]; omega) (by rw [hp]; omega) (ix2 ⟨r.val % 64, Nat.mod_lt _ (by decide)⟩ q)
      (by show ((pt s r.val).val / 20 * 16 + (pt s r.val).val % 20) * 64 + r.val % 64 < 8192; rw [hp]; omega)).trans ?_
    refine congrArg (fun a : Fin 8192 => stream _ _ _ (ix2 a q)) (Fin.ext ?_)
    show ((pt s r.val).val / 20 * 16 + (pt s r.val).val % 20) * 64 + r.val % 64 = s * 1024 + r.val
    rw [hp]
    omega
  · exact iblk3_at m c (pt s r.val) q

/-- A tile's product with a block of 512 columns. -/
theorem product_at (c : Dev nD) (s : ℕ) (hs : s < 8) (t : Fin cfg0.N) (ht : t.val / 20 ≠ 0) (y : S1024x512.Idx)
    (r : Fin 9216) (hr : r.val = s * 1024 + (y 0).val) (j : Fin 10240) (hj : j.val = t.val % 20 * 512 + (y 1).val) :
    ∑ q : Fin 4096, tile m c s (ix2 (y 0) q) * iblk m c 4 t (ix2 q (y 1))
      = product (stream (m ((c : Thread nD τ).loc main_arg0)) (m ((c : Thread nD τ).loc main_arg1)) (m ((c : Thread nD τ).loc main_arg2))) (m ((c : Thread nD τ).loc main_arg3)) (m ((c : Thread nD τ).loc main_arg4)) r j := by
  have h0 : (y 0).val < 1024 := (y 0).isLt
  unfold product
  rw [dif_pos (by omega)]
  refine Finset.sum_congr rfl fun k _ => ?_
  refine congr (congrArg _ ((tile_at m c s hs (y 0) k).trans ?_)) ((iblk4_at m c t ht (ix2 k (y 1))).trans ?_)
  · exact congrArg (fun x => normed x _ k) (funext fun q => congrArg (fun a : Fin 8192 => stream _ _ _ (ix2 a q)) (Fin.ext hr.symm))
  · exact congrArg (fun a : Fin 10240 => m ((c : Thread nD τ).loc main_arg4) (ix2 k a)) (Fin.ext hj.symm)

/-- The block that point `t` holds is the second result's. -/
theorem out6_at (c : Dev nD) (t : Fin cfg0.N) (y : S1024x512.Idx) (h0 : (y 0).val < 1024) (h1 : (y 1).val < 512)
    (hr : (if t.val / 20 = 0 then 8 else t.val / 20 - 1) * 1024 + (y 0).val < 9216) (hc : min (t.val % 20) 11 * 512 + (y 1).val < 6144) :
    out6 m c t y = left (stream (m ((c : Thread nD τ).loc main_arg0)) (m ((c : Thread nD τ).loc main_arg1)) (m ((c : Thread nD τ).loc main_arg2))) (m ((c : Thread nD τ).loc main_arg3)) (m ((c : Thread nD τ).loc main_arg4)) (ix2 (⟨_, hr⟩ : Fin 9216) (⟨_, hc⟩ : Fin 6144)) := by
  have ht := lt_180 t
  unfold out6 left
  by_cases h : t.val / 20 = 0
  · rw [if_pos h]
    unfold product
    rw [dif_neg (by show ¬(if t.val / 20 = 0 then 8 else t.val / 20 - 1) * 1024 + (y 0).val < 8192; rw [if_pos h]; omega)]
    exact pay14_at y
  · rw [if_neg h]
    have hq := qpt_val t
    refine (pay17_at _ _ _).trans (product_at m c (t.val / 20 - 1) (by omega) (qpt t) (by rw [hq.1]; exact h) y _ ?_ _ ?_)
    · show (if t.val / 20 = 0 then 8 else t.val / 20 - 1) * 1024 + (y 0).val = _
      rw [if_neg h]
    · show min (t.val % 20) 11 * 512 + (y 1).val = _
      rw [hq.2]

/-- The block that point `t` writes back is the third result's. -/
theorem out7_at (c : Dev nD) (t : Fin cfg0.N) (hx : t.val / 20 = 0 ∨ 12 ≤ t.val % 20) (y : S1024x512.Idx) (h0 : (y 0).val < 1024) (h1 : (y 1).val < 512)
    (hr : (if t.val / 20 = 0 then 8 else t.val / 20 - 1) * 1024 + (y 0).val < 9216) (hc : (t.val % 20 - 12) * 512 + (y 1).val < 4096) :
    out7 m c t y = right (stream (m ((c : Thread nD τ).loc main_arg0)) (m ((c : Thread nD τ).loc main_arg1)) (m ((c : Thread nD τ).loc main_arg2))) (m ((c : Thread nD τ).loc main_arg3)) (m ((c : Thread nD τ).loc main_arg4)) (ix2 (⟨_, hr⟩ : Fin 9216) (⟨_, hc⟩ : Fin 4096)) := by
  have ht := lt_180 t
  unfold out7 right
  by_cases h : t.val / 20 = 0
  · rw [if_pos h]
    unfold product
    rw [dif_neg (by show ¬(if t.val / 20 = 0 then 8 else t.val / 20 - 1) * 1024 + (y 0).val < 8192; rw [if_pos h]; omega)]
    exact pay15_at y
  · rw [if_neg h]
    refine (pay19_at _ _ _).trans (product_at m c (t.val / 20 - 1) (by omega) t h y _ ?_ _ ?_)
    · show (if t.val / 20 = 0 then 8 else t.val / 20 - 1) * 1024 + (y 0).val = _
      rw [if_neg h]
    · show 6144 + ((t.val % 20 - 12) * 512 + (y 1).val) = _
      omega

/-- **The first result array.** -/
theorem final5 (c : Dev nD) : (dats m 0 c).arrAt 5 cfg0.N
    = stream (m ((c : Thread nD τ).loc main_arg0)) (m ((c : Thread nD τ).loc main_arg1)) (m ((c : Thread nD τ).loc main_arg2)) := by
  refine (dats m 0 c).arrAt_eq_of_covers 5 _ (by decide +kernel) fun t hf y => ?_
  have e := index5 t
  have hb := bpt_building t
  blk_simp
  rw [after0_5]
  frame_out
  generalize hX : stream (m ((c : Thread nD τ).loc main_arg0)) (m ((c : Thread nD τ).loc main_arg1)) (m ((c : Thread nD τ).loc main_arg2)) = X
  change S64x4096.Idx at y
  have h0 : (y 0).val < 64 := (y 0).isLt
  trans X (ix2 (⟨((bpt t).val / 20 * 16 + (bpt t).val % 20) * 64 + (y 0).val, by omega⟩ : Fin 8192) (y 1))
  · rw [← hX]
    exact rows_at m c (bpt t) hb.1 hb.2 y _
  · blk_point [e]

/-- **The second result array.** -/
theorem final6 (c : Dev nD) : (dats m 0 c).arrAt 6 cfg0.N
    = left (stream (m ((c : Thread nD τ).loc main_arg0)) (m ((c : Thread nD τ).loc main_arg1)) (m ((c : Thread nD τ).loc main_arg2))) (m ((c : Thread nD τ).loc main_arg3)) (m ((c : Thread nD τ).loc main_arg4)) := by
  refine (dats m 0 c).arrAt_eq_of_covers 6 _ (by decide +kernel) fun t hf y => ?_
  have e := index6 t
  have ht := lt_180 t
  blk_simp
  rw [after0_6]
  frame_out
  generalize hX : left (stream (m ((c : Thread nD τ).loc main_arg0)) (m ((c : Thread nD τ).loc main_arg1)) (m ((c : Thread nD τ).loc main_arg2))) (m ((c : Thread nD τ).loc main_arg3)) (m ((c : Thread nD τ).loc main_arg4)) = X
  change S1024x512.Idx at y
  have h0 : (y 0).val < 1024 := (y 0).isLt
  have h1 : (y 1).val < 512 := (y 1).isLt
  trans X (ix2 (⟨(if t.val / 20 = 0 then 8 else t.val / 20 - 1) * 1024 + (y 0).val, by split <;> omega⟩ : Fin 9216)
    (⟨min (t.val % 20) 11 * 512 + (y 1).val, by omega⟩ : Fin 6144))
  · rw [← hX]
    exact out6_at m c t y h0 h1 _ _
  · blk_point [e]

/-- **The third result array.** -/
theorem final7 (c : Dev nD) : (dats m 0 c).arrAt 7 cfg0.N
    = right (stream (m ((c : Thread nD τ).loc main_arg0)) (m ((c : Thread nD τ).loc main_arg1)) (m ((c : Thread nD τ).loc main_arg2))) (m ((c : Thread nD τ).loc main_arg3)) (m ((c : Thread nD τ).loc main_arg4)) := by
  refine (dats m 0 c).arrAt_eq_of_covers 7 _ (by decide +kernel) fun t hf y => ?_
  have e := index7 t
  have ht := lt_180 t
  have hx : t.val / 20 = 0 ∨ 12 ≤ t.val % 20 := by
    by_contra h
    rw [flush_7 t h] at hf
    exact absurd hf (by decide)
  blk_simp
  rw [after0_7]
  frame_out
  generalize hX : right (stream (m ((c : Thread nD τ).loc main_arg0)) (m ((c : Thread nD τ).loc main_arg1)) (m ((c : Thread nD τ).loc main_arg2))) (m ((c : Thread nD τ).loc main_arg3)) (m ((c : Thread nD τ).loc main_arg4)) = X
  change S1024x512.Idx at y
  have h0 : (y 0).val < 1024 := (y 0).isLt
  have h1 : (y 1).val < 512 := (y 1).isLt
  trans X (ix2 (⟨(if t.val / 20 = 0 then 8 else t.val / 20 - 1) * 1024 + (y 0).val, by split <;> omega⟩ : Fin 9216)
    (⟨(t.val % 20 - 12) * 512 + (y 1).val, by omega⟩ : Fin 4096))
  · rw [← hX]
    exact out7_at m c t hx y h0 h1 _ _
  · blk_point [e]

/-- The whole run: the three result arrays, and the arguments as they were. -/
theorem run_blocks (ρ : Dev nD → PrngReg) : θ_run defs (onTc (τ := τ) (main (F := Ideal))) ⟨m, fun _ => 0, ρ⟩ (fun r => ∀ c : Dev nD,
      r.2.mem ((c.tc : Thread nD τ).loc main_v2_0) = (dats m 0 c).arrAt 5 cfg0.N
      ∧ r.2.mem ((c.tc : Thread nD τ).loc main_v2_1) = (dats m 0 c).arrAt 6 cfg0.N
      ∧ r.2.mem ((c.tc : Thread nD τ).loc main_v2_2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 5, (h c).1 6, (h c).1 7,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c)))⟩)
    (run_main m ρ)

end Cert.InProjIdeal.Value

end
-- ==== Proof.InProjIdeal.Reference.lean ====
/-
  THE REFERENCE OF THE INPUT PROJECTION AFTER A RESIDUAL, at one entry.
-/
module

public import proofs.«01_k».proof.Proof.InProjIdeal.Value
public import proofs.«01_k».proof.Proof.Gen.InProjReferenceIdeal.Read
public import Idealize.ShloMosaic.Lib.Pipeline.ValueKit
public import Idealize.ShloMosaic.Lib.Pointwise
public import Idealize.ShloMosaic.Lib.KernelVsHost

@[expose] public section

set_option maxRecDepth 16384

noncomputable section

namespace Cert.InProjReferenceIdeal.Products

open Cert.GateUpIdeal.Value (normed)
open Cert.InProjIdeal.Value (stream product left right)
open Cert.InProjReferenceIdeal Cert.InProjReferenceIdeal.Read Idealize.ShloMosaic

variable (H : Vec Ideal S8192x4096 .f32) (f : Vec Ideal S8192x4096 .bf16) (p g : Vec Ideal S4096 .f32) (W : Vec Ideal S4096x10240 .f32)

/-- The reference's first result. -/
theorem first : val_main_v16 (F := Ideal) H f p = stream H f p := by
  funext i
  unfold stream normed
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

theorem v29_at (i : S8192x4096.Idx) :
    val_main_v29 (F := Ideal) H f p g i = normed (fun q => stream H f p (ix2 (i 0) q)) (fun q => g (ix1 q)) (i 1) := by
  rw [← first]
  unfold normed
  unfold val_main_v29 val_main_v28 val_main_v27 val_main_v26 val_main_v25 val_main_v24 val_main_v23 val_main_v22 val_main_v21 val_main_v20 val_main_v19 val_main_v18 val_main_v17 val_main_cst_3 val_main_cst_4 val_main_cst_5
  generalize val_main_v16 (F := Ideal) H f p = x
  pointwise

theorem v30_at (i : S8192x10240.Idx) :
    val_main_v30 (F := Ideal) H f p g W i = ∑ k : Fin 4096, val_main_v29 (F := Ideal) H f p g (ix2 (i 0) k) * W (ix2 k (i 1)) := by
  unfold val_main_v30
  generalize val_main_v29 (F := Ideal) H f p g = u
  pointwise

/-- The padded product. -/
theorem v31_at (i : S9216x10240.Idx) : val_main_v31 (F := Ideal) H f p g W i = product (stream H f p) g W (i 0) (i 1) := by
  unfold product
  split
  · rename_i h
    refine Eq.trans ?_ ((v30_at H f p g W (ix2 ⟨(i 0).val, h⟩ (i 1))).trans (Finset.sum_congr rfl fun k _ => congrArg (· * _) (v29_at H f p g _)))
    unfold val_main_v31
    generalize val_main_v30 (F := Ideal) H f p g W = z
    refine (pad_apply_of_inside _ _ _ z _ _ _ i (ix2 ⟨(i 0).val, h⟩ (i 1)) fun a => ?_)
    fin_cases a <;> simp
  · rename_i h
    unfold val_main_v31
    generalize val_main_v30 (F := Ideal) H f p g W = z
    refine (pad_apply_of_not_inside _ _ _ z _ _ _ i (0 : Fin 2) fun ha => h ?_).trans ?_
    · have := ha.2.2
      simp at this
      exact this
    · pointwise [val_main_call0_v0, val_main_c]
      exact (EReal.coe_eq_zero.mpr (by simp) : (((0#32 : BitVec 32).toInt : ℝ) : EReal) = 0)

/-- The reference's second result. -/
theorem second : val_main_v33 (F := Ideal) H f p g W = left (stream H f p) g W := by
  funext i
  rw [val_main_v33_apply, val_main_v32_apply]
  exact v31_at H f p g W _

/-- The reference's third result. -/
theorem third : val_main_v34 (F := Ideal) H f p g W = right (stream H f p) g W := by
  funext i
  rw [val_main_v34_apply]
  exact v31_at H f p g W _

end Cert.InProjReferenceIdeal.Products

end
-- ==== Proof.PleIdeal.Runs.lean ====
module

public import proofs.«01_k».proof.Proof.Gen.PleIdeal.Launch
public import proofs.«01_k».proof.Proof.Gen.PleIdeal.Skeleton
public import proofs.«01_k».proof.Proof.Gen.PleIdeal.Points
public import Idealize.ShloMosaic.Lib.Pipeline.FrameBody
public import Idealize.ShloMosaic.Lib.Pipeline.ValueKit
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.PleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer of 1024 rows with the 64 rows from `64 * j` replaced. -/
def put (j : ℕ) (p : Vec F S64x4096 .bf16) (d : Vec F S1024x4096 .bf16) : Vec F S1024x4096 .bf16 :=
  fun y => if h : 64 * j ≤ (y 0).val ∧ (y 0).val < 64 * j + 64 then p (ix2 ⟨(y 0).val - 64 * j, by omega⟩ (y 1)) else d y

/-- Storing 64 whole rows at row `64 * j` leaves the buffer with those rows replaced. -/
theorem read_put (v : View sig .tc .vmem S1024x4096 .bf16) (f : v.ty.Contents (Elt F)) (off : Fin 2 → ℕ) (j : ℕ)
    (inb : ∀ a, off a + S64x4096.size a ≤ S1024x4096.size a) (hoff : off = ![64 * j, 0]) (p : Vec F S64x4096 .bf16) :
    v.read (Elt F) (v.writes (Elt F) f [⟨Rect.unit (s := S1024x4096) off S64x4096.size inb, p⟩]) = put j p (v.read (Elt F) f) := by
  funext y
  refine (View.read_writes_cons_rows v f (o := 64 * j) (W := 64) inb p [] y hoff rfl rfl).trans ?_
  unfold put
  split
  · refine congrArg p (funext fun a => ?_)
    fin_cases a
    · rfl
    · exact Fin.ext (Nat.sub_zero _)
  · rfl

/-- Loading the whole of a buffer reads its contents. -/
theorem whole_load {s : Shape} {e : EltTy} {a : Memref sig .tc .vmem s e} (h : a.IsWhole) (x : Vec F s e)
    {off : Fin s.rank → ℕ} (inb : ∀ a, off a + s.size a ≤ s.size a) :
    a.view.readAt (Elt F) (Rect.unit off s.size inb).toLoadRect (h.unread x) = x :=
  (View.readAt_full _ _ _).trans (h.read_unread x)

theorem k0_off1_row (i : grid0.Coords) (hj : (i 1).val < 16) : k0_off1 i = ![64 * (i 1).val, 0] := by
  rw [k0_off1_eq]
theorem k0_off2_row (i : grid0.Coords) (hj : (i 1).val < 16) : k0_off2 i = ![64 * (i 1).val, 0] := by
  rw [k0_off2_eq]
theorem k0_off3_row (i : grid0.Coords) (hj : (i 1).val < 16) : k0_off3 i = ![64 * (i 1).val, 0] := by
  rw [k0_off3_eq]

set_option maxHeartbeats 1000000 in
theorem runA (c : Dev nD) (i : grid0.Coords) (arg2 : Memref sig .tc .vmem S64x4096 .f32) (harg2 : arg2.IsWhole) (arg3 : Memref sig .tc .vmem S64x4096 .bf16) (harg3 : arg3.IsWhole) (arg4 : Memref sig .tc .vmem S1x4096 .f32) (harg4 : arg4.IsWhole) (arg5 : Memref sig .tc .vmem S1024x256 .f32) (harg5 : arg5.IsWhole) (arg6 : Memref sig .tc .vmem S256x256 .f32) (harg6 : arg6.IsWhole) (arg7 : Memref sig .tc .vmem S4096x256 .f32) (harg7 : arg7.IsWhole) (arg8 : Memref sig .tc .vmem S64x4096 .f32) (harg8 : arg8.IsWhole) (arg9 : Memref sig .tc .vmem S1024x256 .bf16) (harg9 : arg9.IsWhole) (arg10 : Memref sig .tc .vmem S1024x4096 .bf16) (harg10 : arg10.IsWhole) (arg11 : Memref sig .tc .vmem S1024x4096 .bf16) (harg11 : arg11.IsWhole)
    (hc1 : k0_cond1 i = 1#1) (hc2 : k0_cond2 i = 1#1) (hc3 : ¬k0_cond3 i = 1#1) (hc4 : ¬k0_cond4 i = 1#1) (hc5 : ¬k0_cond5 i = 1#1) (hc6 : ¬k0_cond6 i = 1#1) (hj : (i 1).val < 16)
    (x0 : Vec F S64x4096 .f32) (x1 : Vec F S64x4096 .bf16) (x2 : Vec F S1x4096 .f32) (x3 : Vec F S1024x256 .f32) (x4 : Vec F S256x256 .f32) (x5 : Vec F S4096x256 .f32) (d0 : Vec F S1024x4096 .bf16) (d1 : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare d0 ∗ owns (c : Thread nD τ) arg11 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay8 x0 x1 x2) ∗ owns (c : Thread nD τ) arg9 fullShare (k0_pay10) ∗ owns (c : Thread nD τ) arg10 fullShare (put (i 1).val (k0_pay9 x0 x1 x2) d0) ∗ owns (c : Thread nD τ) arg11 fullShare d1) -∗ K ⟨⟩))
      ⊢ wp frame (wpE (defs₀ (F := F)) Variants.none c none) E (cc0_ple i arg2 harg2 arg3 harg3 arg4 harg4 arg5 harg5 arg6 harg6 arg7 harg7 arg8 harg8 arg9 harg9 arg10 harg10 arg11 harg11) K := by
  simp only [cc0_ple_eq_skeleton]; unfold cc0_ple_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%e6, %f6, -, H6⟩, ⟨%e7, %f7, -, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8; obtain rfl := harg11.eq_unread hf9
  sl_exec (disch := first | sl_exact hc1 | sl_exact hc2 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    exact (View.read_writes_full _ _ _ _ _).trans (congr (congr (congrArg k0_pay8 (whole_load harg2 _ _)) (whole_load harg3 _ _)) (whole_load harg4 _ _))
  isplitl [H7]
  · iexists _; isplitr; swap; · iexact H7
    ipureintro
    exact (View.read_writes_full _ _ _ _ _).trans (rfl)
  isplitl [H8]
  · iexists _; isplitr; swap; · iexact H8
    ipureintro
    refine (read_put _ _ _ (i 1).val _ (k0_off1_row i hj) _).trans (congr (congrArg (put (i 1).val) ?_) (harg10.read_unread _))
    exact congr (congr (congrArg k0_pay9 (whole_load harg2 _ _)) (whole_load harg3 _ _)) (whole_load harg4 _ _)
  iexists _; isplitr; swap; · iexact H9
  ipureintro
  exact harg11.read_unread _

set_option maxHeartbeats 1000000 in
theorem runC (c : Dev nD) (i : grid0.Coords) (arg2 : Memref sig .tc .vmem S64x4096 .f32) (harg2 : arg2.IsWhole) (arg3 : Memref sig .tc .vmem S64x4096 .bf16) (harg3 : arg3.IsWhole) (arg4 : Memref sig .tc .vmem S1x4096 .f32) (harg4 : arg4.IsWhole) (arg5 : Memref sig .tc .vmem S1024x256 .f32) (harg5 : arg5.IsWhole) (arg6 : Memref sig .tc .vmem S256x256 .f32) (harg6 : arg6.IsWhole) (arg7 : Memref sig .tc .vmem S4096x256 .f32) (harg7 : arg7.IsWhole) (arg8 : Memref sig .tc .vmem S64x4096 .f32) (harg8 : arg8.IsWhole) (arg9 : Memref sig .tc .vmem S1024x256 .bf16) (harg9 : arg9.IsWhole) (arg10 : Memref sig .tc .vmem S1024x4096 .bf16) (harg10 : arg10.IsWhole) (arg11 : Memref sig .tc .vmem S1024x4096 .bf16) (harg11 : arg11.IsWhole)
    (hc3 : k0_cond3 i = 1#1) (hc1 : ¬k0_cond1 i = 1#1) (hc4 : ¬k0_cond4 i = 1#1) (hc5 : ¬k0_cond5 i = 1#1) (hc6 : ¬k0_cond6 i = 1#1) (hj : (i 1).val < 16)
    (x0 : Vec F S64x4096 .f32) (x1 : Vec F S64x4096 .bf16) (x2 : Vec F S1x4096 .f32) (x3 : Vec F S1024x256 .f32) (x4 : Vec F S256x256 .f32) (x5 : Vec F S4096x256 .f32) (d0 : Vec F S1024x4096 .bf16) (d1 : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare d0 ∗ owns (c : Thread nD τ) arg11 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay2 x0 x1 x2) ∗ owns (c : Thread nD τ) arg9 fullShare (k0_pay11 (k0_pay4 d1 x5) (Scalar.ofBits .f32 0x3F000000#32) x3 x4) ∗ owns (c : Thread nD τ) arg10 fullShare (put (i 1).val (k0_pay3 x0 x1 x2) d0) ∗ owns (c : Thread nD τ) arg11 fullShare d1) -∗ K ⟨⟩))
      ⊢ wp frame (wpE (defs₀ (F := F)) Variants.none c none) E (cc0_ple i arg2 harg2 arg3 harg3 arg4 harg4 arg5 harg5 arg6 harg6 arg7 harg7 arg8 harg8 arg9 harg9 arg10 harg10 arg11 harg11) K := by
  simp only [cc0_ple_eq_skeleton]; unfold cc0_ple_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%e6, %f6, -, H6⟩, ⟨%e7, %f7, -, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8; obtain rfl := harg11.eq_unread hf9
  sl_exec (disch := first | sl_exact hc1 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    exact (View.read_writes_full _ _ _ _ _).trans (congr (congr (congrArg k0_pay2 (whole_load harg2 _ _)) (whole_load harg3 _ _)) (whole_load harg4 _ _))
  isplitl [H7]
  · iexists _; isplitr; swap; · iexact H7
    ipureintro
    exact (View.read_writes_full _ _ _ _ _).trans (congr (congr (congr (congrArg k0_pay11 (congr (congrArg k0_pay4 (whole_load harg11 _ _)) (whole_load harg7 _ _))) rfl) (whole_load harg5 _ _)) (whole_load harg6 _ _))
  isplitl [H8]
  · iexists _; isplitr; swap; · iexact H8
    ipureintro
    refine (read_put _ _ _ (i 1).val _ (k0_off2_row i hj) _).trans (congr (congrArg (put (i 1).val) ?_) (harg10.read_unread _))
    exact congr (congr (congrArg k0_pay3 (whole_load harg2 _ _)) (whole_load harg3 _ _)) (whole_load harg4 _ _)
  iexists _; isplitr; swap; · iexact H9
  ipureintro
  exact harg11.read_unread _

set_option maxHeartbeats 1000000 in
theorem runD (c : Dev nD) (i : grid0.Coords) (arg2 : Memref sig .tc .vmem S64x4096 .f32) (harg2 : arg2.IsWhole) (arg3 : Memref sig .tc .vmem S64x4096 .bf16) (harg3 : arg3.IsWhole) (arg4 : Memref sig .tc .vmem S1x4096 .f32) (harg4 : arg4.IsWhole) (arg5 : Memref sig .tc .vmem S1024x256 .f32) (harg5 : arg5.IsWhole) (arg6 : Memref sig .tc .vmem S256x256 .f32) (harg6 : arg6.IsWhole) (arg7 : Memref sig .tc .vmem S4096x256 .f32) (harg7 : arg7.IsWhole) (arg8 : Memref sig .tc .vmem S64x4096 .f32) (harg8 : arg8.IsWhole) (arg9 : Memref sig .tc .vmem S1024x256 .bf16) (harg9 : arg9.IsWhole) (arg10 : Memref sig .tc .vmem S1024x4096 .bf16) (harg10 : arg10.IsWhole) (arg11 : Memref sig .tc .vmem S1024x4096 .bf16) (harg11 : arg11.IsWhole)
    (hc4 : k0_cond4 i = 1#1) (hc1 : ¬k0_cond1 i = 1#1) (hc3 : ¬k0_cond3 i = 1#1) (hc5 : ¬k0_cond5 i = 1#1) (hc6 : ¬k0_cond6 i = 1#1)
    (x0 : Vec F S64x4096 .f32) (x1 : Vec F S64x4096 .bf16) (x2 : Vec F S1x4096 .f32) (x3 : Vec F S1024x256 .f32) (x4 : Vec F S256x256 .f32) (x5 : Vec F S4096x256 .f32) (d0 : Vec F S1024x4096 .bf16) (d1 : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ owns (c : Thread nD τ) arg10 fullShare d0 ∗ owns (c : Thread nD τ) arg11 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare (k0_pay12 d1 x5 x3 x4) ∗ owns (c : Thread nD τ) arg10 fullShare d0 ∗ owns (c : Thread nD τ) arg11 fullShare d1) -∗ K ⟨⟩))
      ⊢ wp frame (wpE (defs₀ (F := F)) Variants.none c none) E (cc0_ple i arg2 harg2 arg3 harg3 arg4 harg4 arg5 harg5 arg6 harg6 arg7 harg7 arg8 harg8 arg9 harg9 arg10 harg10 arg11 harg11) K := by
  simp only [cc0_ple_eq_skeleton]; unfold cc0_ple_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%e7, %f7, -, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8; obtain rfl := harg11.eq_unread hf9
  sl_exec (disch := first | sl_exact hc1 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H7]
  · iexists _; isplitr; swap; · iexact H7
    ipureintro
    exact (View.read_writes_full _ _ _ _ _).trans (congr (congr (congr (congrArg k0_pay12 (whole_load harg11 _ _)) (whole_load harg7 _ _)) (whole_load harg5 _ _)) (whole_load harg6 _ _))
  isplitl [H8]
  · iexists _; isplitr; swap; · iexact H8
    ipureintro
    exact harg10.read_unread _
  iexists _; isplitr; swap; · iexact H9
  ipureintro
  exact harg11.read_unread _

set_option maxHeartbeats 1000000 in
theorem runE (c : Dev nD) (i : grid0.Coords) (arg2 : Memref sig .tc .vmem S64x4096 .f32) (harg2 : arg2.IsWhole) (arg3 : Memref sig .tc .vmem S64x4096 .bf16) (harg3 : arg3.IsWhole) (arg4 : Memref sig .tc .vmem S1x4096 .f32) (harg4 : arg4.IsWhole) (arg5 : Memref sig .tc .vmem S1024x256 .f32) (harg5 : arg5.IsWhole) (arg6 : Memref sig .tc .vmem S256x256 .f32) (harg6 : arg6.IsWhole) (arg7 : Memref sig .tc .vmem S4096x256 .f32) (harg7 : arg7.IsWhole) (arg8 : Memref sig .tc .vmem S64x4096 .f32) (harg8 : arg8.IsWhole) (arg9 : Memref sig .tc .vmem S1024x256 .bf16) (harg9 : arg9.IsWhole) (arg10 : Memref sig .tc .vmem S1024x4096 .bf16) (harg10 : arg10.IsWhole) (arg11 : Memref sig .tc .vmem S1024x4096 .bf16) (harg11 : arg11.IsWhole)
    (hc5 : k0_cond5 i = 1#1) (hc1 : ¬k0_cond1 i = 1#1) (hc3 : ¬k0_cond3 i = 1#1) (hc4 : ¬k0_cond4 i = 1#1) (hc6 : ¬k0_cond6 i = 1#1) (hj : (i 1).val < 16)
    (x0 : Vec F S64x4096 .f32) (x1 : Vec F S64x4096 .bf16) (x2 : Vec F S1x4096 .f32) (x3 : Vec F S1024x256 .f32) (x4 : Vec F S256x256 .f32) (x5 : Vec F S4096x256 .f32) (d0 : Vec F S1024x4096 .bf16) (d1 : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare d0 ∗ owns (c : Thread nD τ) arg11 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay5 x0 x1 x2) ∗ owns (c : Thread nD τ) arg9 fullShare (k0_pay13 (k0_pay7 d0 x5) (Scalar.ofBits .f32 0x3F000000#32) x3 x4) ∗ owns (c : Thread nD τ) arg10 fullShare d0 ∗ owns (c : Thread nD τ) arg11 fullShare (put (i 1).val (k0_pay6 x0 x1 x2) d1)) -∗ K ⟨⟩))
      ⊢ wp frame (wpE (defs₀ (F := F)) Variants.none c none) E (cc0_ple i arg2 harg2 arg3 harg3 arg4 harg4 arg5 harg5 arg6 harg6 arg7 harg7 arg8 harg8 arg9 harg9 arg10 harg10 arg11 harg11) K := by
  simp only [cc0_ple_eq_skeleton]; unfold cc0_ple_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%e6, %f6, -, H6⟩, ⟨%e7, %f7, -, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8; obtain rfl := harg11.eq_unread hf9
  sl_exec (disch := first | sl_exact hc1 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    exact (View.read_writes_full _ _ _ _ _).trans (congr (congr (congrArg k0_pay5 (whole_load harg2 _ _)) (whole_load harg3 _ _)) (whole_load harg4 _ _))
  isplitl [H7]
  · iexists _; isplitr; swap; · iexact H7
    ipureintro
    exact (View.read_writes_full _ _ _ _ _).trans (congr (congr (congr (congrArg k0_pay13 (congr (congrArg k0_pay7 (whole_load harg10 _ _)) (whole_load harg7 _ _))) rfl) (whole_load harg5 _ _)) (whole_load harg6 _ _))
  isplitl [H8]
  · iexists _; isplitr; swap; · iexact H8
    ipureintro
    exact harg10.read_unread _
  iexists _; isplitr; swap; · iexact H9
  ipureintro
  refine (read_put _ _ _ (i 1).val _ (k0_off3_row i hj) _).trans (congr (congrArg (put (i 1).val) ?_) (harg11.read_unread _))
  exact congr (congr (congrArg k0_pay6 (whole_load harg2 _ _)) (whole_load harg3 _ _)) (whole_load harg4 _ _)

end Cert.PleIdeal.Gen

end
-- ==== Proof.PleIdeal.Frame.lean ====
module

public import proofs.«01_k».proof.Proof.PleIdeal.Runs
public import Idealize.ShloMosaic.Lib.Claim
public import Idealize.ShloMosaic.Lib.Pipeline.TableIdle

@[expose] public section

set_option maxRecDepth 16384

noncomputable section

namespace Cert.PleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its call, and the blocks the call's windows show -/

/-- The buffers when the call is entered: the norm's weights reshaped to one row. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes the reshaped weights alone. -/
theorem V_of_ne (c : Dev nD) (b : Ref sig .tc) (h : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne h))

theorem V_main_arg0 (c : Dev nD) : V m c main_arg0 = m ((c : Thread nD τ).loc main_arg0) := V_of_ne m c _ (by decide)
theorem V_main_arg1 (c : Dev nD) : V m c main_arg1 = m ((c : Thread nD τ).loc main_arg1) := V_of_ne m c _ (by decide)
theorem V_main_arg2 (c : Dev nD) : V m c main_arg2 = m ((c : Thread nD τ).loc main_arg2) := V_of_ne m c _ (by decide)
theorem V_main_arg3 (c : Dev nD) : V m c main_arg3 = m ((c : Thread nD τ).loc main_arg3) := V_of_ne m c _ (by decide)
theorem V_main_arg4 (c : Dev nD) : V m c main_arg4 = m ((c : Thread nD τ).loc main_arg4) := V_of_ne m c _ (by decide)
theorem V_main_arg5 (c : Dev nD) : V m c main_arg5 = m ((c : Thread nD τ).loc main_arg5) := V_of_ne m c _ (by decide)

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's buffer shows its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The grid: 9 sweeps of 16 points -/

theorem lt_144 (t : Fin cfg0.N) : t.val < 144 := t.isLt.trans_eq N_0

theorem coord1 : ∀ t : Fin cfg0.N, (grid0.coords t 1).val = t.val % 16 :=
  (by decide +kernel : ∀ t : Fin grid0.N, (grid0.coords t 1).val = t.val % 16)
theorem cond1_iff : ∀ t : Fin cfg0.N, k0_cond1 (grid0.coords t) = 1#1 ↔ t.val / 16 = 0 :=
  (by decide +kernel : ∀ t : Fin grid0.N, k0_cond1 (grid0.coords t) = 1#1 ↔ t.val / 16 = 0)
theorem cond2_iff : ∀ t : Fin cfg0.N, k0_cond2 (grid0.coords t) = 1#1 ↔ t.val % 16 < 16 :=
  (by decide +kernel : ∀ t : Fin grid0.N, k0_cond2 (grid0.coords t) = 1#1 ↔ t.val % 16 < 16)
theorem cond3_iff : ∀ t : Fin cfg0.N, k0_cond3 (grid0.coords t) = 1#1 ↔ (t.val / 16 ≠ 0 ∧ t.val / 16 % 2 = 0) ∧ t.val / 16 < 8 :=
  (by decide +kernel : ∀ t : Fin grid0.N, k0_cond3 (grid0.coords t) = 1#1 ↔ (t.val / 16 ≠ 0 ∧ t.val / 16 % 2 = 0) ∧ t.val / 16 < 8)
theorem cond4_iff : ∀ t : Fin cfg0.N, k0_cond4 (grid0.coords t) = 1#1 ↔ (t.val / 16 ≠ 0 ∧ t.val / 16 % 2 = 0) ∧ ¬t.val / 16 < 8 :=
  (by decide +kernel : ∀ t : Fin grid0.N, k0_cond4 (grid0.coords t) = 1#1 ↔ (t.val / 16 ≠ 0 ∧ t.val / 16 % 2 = 0) ∧ ¬t.val / 16 < 8)
theorem cond5_iff : ∀ t : Fin cfg0.N, k0_cond5 (grid0.coords t) = 1#1 ↔ (t.val / 16 ≠ 0 ∧ t.val / 16 % 2 = 1) ∧ t.val / 16 < 8 :=
  (by decide +kernel : ∀ t : Fin grid0.N, k0_cond5 (grid0.coords t) = 1#1 ↔ (t.val / 16 ≠ 0 ∧ t.val / 16 % 2 = 1) ∧ t.val / 16 < 8)
theorem cond6_iff : ∀ t : Fin cfg0.N, k0_cond6 (grid0.coords t) = 1#1 ↔ (t.val / 16 ≠ 0 ∧ t.val / 16 % 2 = 1) ∧ ¬t.val / 16 < 8 :=
  (by decide +kernel : ∀ t : Fin grid0.N, k0_cond6 (grid0.coords t) = 1#1 ↔ (t.val / 16 ≠ 0 ∧ t.val / 16 % 2 = 1) ∧ ¬t.val / 16 < 8)
/-- The first result is stored at the points that norm rows, the second one at every point. -/
theorem idle_6 : ∀ t : Fin cfg0.N, cfg0.idle 6 (cfg0.grid.coords t) = !decide (t.val / 16 < 8) :=
  (by decide +kernel : ∀ t : Fin grid0.N, idle0 6 (grid0.coords t) = !decide (t.val / 16 < 8))
theorem idle_7 : ∀ t : Fin cfg0.N, cfg0.idle 7 (cfg0.grid.coords t) = false :=
  (by decide +kernel : ∀ t : Fin grid0.N, idle0 7 (grid0.coords t) = false)

/-- Before which points nothing is known of the first result's staging buffer: those that norm rows, and after the last. -/
def freshAt6 (n : ℕ) : Bool := decide (n = 144) || decide (n / 16 < 8)
theorem freshAt6_step : ∀ t : Fin cfg0.N, freshAt6 (t.val + 1) = ((cfg0.win 6).flush t || (cfg0.idle 6 (cfg0.grid.coords t) && freshAt6 t.val)) :=
  (by decide +kernel : ∀ t : Fin grid0.N, freshAt6 (t.val + 1) = (win0_6.flush t || (idle0 6 (grid0.coords t) && freshAt6 t.val)))
theorem fresh_6 (n : ℕ) (hn : n ≤ cfg0.N) : cfg0.fresh 6 n = freshAt6 n := Cfg.fresh_tab cfg0 6 freshAt6 rfl freshAt6_step n hn

/-! ## What the two scratch buffers hold

During sweep `s` the body norms the rows of tile `s`, 64 at a point, into one of the two buffers; the other one
holds tile `s - 1`, filled by the sweep before. -/

/-- The point at which row `r` of tile `s` is normed. -/
def pt (s r : ℕ) : Fin cfg0.N := ⟨min (s * 16 + r / 64) 143, by rw [show cfg0.N = 144 from N_0]; omega⟩

/-- Tile `s` of the rows of the stream. -/
def tile (c : Dev nD) (s : ℕ) : Vec F S1024x4096 .bf16 := fun y =>
  k0_pay9 (iblk m c 0 (pt s (y 0).val)) (iblk m c 1 (pt s (y 0).val)) (iblk m c 2 (pt s (y 0).val))
    (ix2 ⟨(y 0).val % 64, Nat.mod_lt _ (by decide)⟩ (y 1))

/-- Before point `n` of sweep `s`: the buffer of the sweep's parity holds the rows of tile `s` normed so far, the
    other one the whole of tile `s - 1`. -/
def Held (c : Dev nD) (n : ℕ) (d0 d1 : Vec F S1024x4096 .bf16) : Prop :=
  (n / 16 < 8 → ∀ y : S1024x4096.Idx, (y 0).val < 64 * min (n % 16) 16 →
      (if n / 16 % 2 = 0 then d0 else d1) y = tile m c (n / 16) y)
    ∧ (n / 16 ≠ 0 → n / 16 ≤ 8 → (if n / 16 % 2 = 0 then d1 else d0) = tile m c (n / 16 - 1))

theorem held_zero (c : Dev nD) (d0 d1 : Vec F S1024x4096 .bf16) : Held m c 0 d0 d1 :=
  ⟨fun _ y h => absurd h (by simp), fun h _ => absurd rfl h⟩

/-- A point that norms nothing keeps what is known of the buffers. -/
theorem held_keep (c : Dev nD) (n : ℕ) (hn : n < 144) (d0 d1 : Vec F S1024x4096 .bf16) (h : Held m c n d0 d1)
    (hb : ¬n / 16 < 8) : Held m c (n + 1) d0 d1 := by
  obtain ⟨h1, h2⟩ := h
  by_cases hl : n = 143
  · exact ⟨fun h8 => absurd h8 (by omega), fun _ h9 => absurd h9 (by omega)⟩
  · have e1 : (n + 1) / 16 = n / 16 := by omega
    unfold Held
    rw [e1]
    exact ⟨fun h8 => absurd h8 hb, h2⟩

theorem pt_of (t : Fin cfg0.N) (r : ℕ) (hr : r / 64 = t.val % 16) : pt (t.val / 16) r = t :=
  Fin.ext (by have := lt_144 t; show min _ _ = _; rw [hr]; omega)

/-- A point that norms 64 rows into one buffer; the last of a sweep leaves the whole tile in it. -/
theorem held_put (c : Dev nD) (t : Fin cfg0.N) (j : ℕ) (ej : j = t.val % 16) (d0 d1 d0' d1' : Vec F S1024x4096 .bf16)
    (h : Held m c t.val d0 d1) (hb : t.val / 16 < 8)
    (hput : (if t.val / 16 % 2 = 0 then d0' else d1')
      = put j (k0_pay9 (iblk m c 0 t) (iblk m c 1 t) (iblk m c 2 t)) (if t.val / 16 % 2 = 0 then d0 else d1))
    (hoth : (if t.val / 16 % 2 = 0 then d1' else d0') = (if t.val / 16 % 2 = 0 then d1 else d0)) :
    Held m c (t.val + 1) d0' d1' := by
  subst ej
  obtain ⟨h1, h2⟩ := h
  have key : ∀ y : S1024x4096.Idx, (y 0).val < 64 * (t.val % 16 + 1) →
      (if t.val / 16 % 2 = 0 then d0' else d1') y = tile m c (t.val / 16) y := fun y hy => by
    rw [hput]
    unfold put
    split
    · rename_i hy2
      unfold tile
      rw [pt_of t (y 0).val (by omega)]
      refine congrArg _ (congrArg (fun a => ix2 a (y 1)) (Fin.ext ?_))
      show (y 0).val - 64 * (t.val % 16) = (y 0).val % 64
      omega
    · exact h1 hb y (by omega)
  by_cases hj : t.val % 16 = 15
  · have e1 : (t.val + 1) / 16 = t.val / 16 + 1 := by omega
    have e2 : (t.val + 1) % 16 = 0 := by omega
    have hfull : (if t.val / 16 % 2 = 0 then d0' else d1') = tile m c (t.val / 16) := funext fun y => key y (by
      have := (y 0).isLt; rw [hj]; exact this)
    refine ⟨fun _ y hy => absurd hy (by rw [e2]; simp), fun _ _ => ?_⟩
    rw [e1]
    by_cases hp : t.val / 16 % 2 = 0
    · rw [if_pos hp] at hfull
      rw [if_neg (by omega), hfull]; rfl
    · rw [if_neg hp] at hfull
      rw [if_pos (by omega), hfull]; rfl
  · have e1 : (t.val + 1) / 16 = t.val / 16 := by omega
    have e2 : (t.val + 1) % 16 = t.val % 16 + 1 := by omega
    unfold Held
    rw [e1, hoth]
    exact ⟨fun h8 y hy => key y (by rw [e2] at hy; omega), h2⟩

/-! ## The pipeline's proof data -/

/-- The invariant: the scratch buffers at contents that `Held` describes, and the generator register. -/
def Inv (c : Dev nD) (n : ℕ) : sProp 𝕄 :=
  iprop(∃ d0, ∃ d1, ⌜Held m c n d0 d1⌝ ∗ owns (c : Thread nD τ) (Memref.whole cc0_scratch0 : Memref sig .tc .vmem S1024x4096 .bf16) fullShare d0
    ∗ owns (c : Thread nD τ) (Memref.whole cc0_scratch1 : Memref sig .tc .vmem S1024x4096 .bf16) fullShare d1 ∗ (∃ r, prngReg c r))

/-- The last point up to `n` that norms rows. -/
def builtAt (n : ℕ) : ℕ := if n / 16 < 8 then n else 127
theorem builtAt_lt (t : Fin cfg0.N) : builtAt t.val < cfg0.N := by
  have := lt_144 t
  refine lt_of_lt_of_eq (b := 144) ?_ (show 144 = cfg0.N from N_0.symm)
  unfold builtAt; split <;> omega
def bpt (t : Fin cfg0.N) : Fin cfg0.N := ⟨builtAt t.val, builtAt_lt t⟩
theorem bpt_of (t : Fin cfg0.N) (hb : t.val / 16 < 8) : bpt t = t :=
  Fin.ext (by show builtAt _ = _; unfold builtAt; rw [if_pos hb])
theorem bpt_pred (t : Fin cfg0.N) (hb : ¬t.val / 16 < 8) : bpt t = bpt ⟨t.val - 1, by omega⟩ :=
  Fin.ext (by have := lt_144 t; show builtAt _ = builtAt (t.val - 1); unfold builtAt; split <;> split <;> omega)

/-- The first result's block after point `t`: the stream with half the normed branch added, of the last point that normed
    rows. -/
def out6 (c : Dev nD) (t : Fin cfg0.N) : Vec F S64x4096 .f32 :=
  k0_pay8 (iblk m c 0 (bpt t)) (iblk m c 1 (bpt t)) (iblk m c 2 (bpt t))

/-- The second result's block after point `t`: zeros in the first sweep, then the gated embeddings of the tile before. -/
def out7 (c : Dev nD) (t : Fin cfg0.N) : Vec F S1024x256 .bf16 :=
  if t.val / 16 = 0 then k0_pay10 else k0_pay12 (tile m c (t.val / 16 - 1)) (iblk m c 5 t) (iblk m c 3 t) (iblk m c 4 t)

theorem gated_even (u : Vec F S1024x4096 .bf16) (w : Vec F S4096x256 .f32) (p : Vec F S1024x256 .f32) (q : Vec F S256x256 .f32) :
    k0_pay11 (k0_pay4 u w) (Scalar.ofBits .f32 0x3F000000#32) p q = k0_pay12 u w p q := rfl
theorem gated_odd (u : Vec F S1024x4096 .bf16) (w : Vec F S4096x256 .f32) (p : Vec F S1024x256 .f32) (q : Vec F S256x256 .f32) :
    k0_pay13 (k0_pay7 u w) (Scalar.ofBits .f32 0x3F000000#32) p q = k0_pay12 u w p q := rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
    | ⟨7, _⟩ => out7 m c t
  Φ t := Inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c t := by dsimp only [dats]
theorem after0_7 (c : Dev nD) (t : Fin cfg0.N) : (dats m 0 c).after 7 t = out7 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- At a point that norms nothing the first result's buffer is found as the last norming point left it. -/
theorem before0_6 (c : Dev nD) (t : Fin cfg0.N) (hb : ¬(t.val / 16 < 8)) (d) : (dats m 0 c).before 6 t d = out6 m c t := by
  have key : ∀ t : Fin cfg0.N, ¬(t.val / 16 < 8) → out6 m c t = out6 m c ⟨t.val - 1, by omega⟩ := fun t h => by
    unfold out6; rw [bpt_pred t h]
  refine ((dats m 0 c).before_out_traj 6 rfl (fun _ _ => rfl) (fun t _ hi _ => ?_) t.val t rfl d).trans ?_
  · rw [after0_6, after0_6]
    exact key t (fun h => by rw [idle_6 t, decide_eq_true h] at hi; exact absurd hi (by decide))
  · have h144 := lt_144 t
    have hf : cfg0.fresh 6 t.val = false := (fresh_6 t.val (Nat.le_of_lt t.isLt)).trans (by
      unfold freshAt6; rw [decide_eq_false (by omega), decide_eq_false hb]; rfl)
    rw [hf, if_neg Bool.false_ne_true, after0_6]
    exact (key t hb).symm

/-! ## The results' buffers after a point, as the pipeline's rules ask for them -/

theorem leaves_6 (c : Dev nD) (t : Fin cfg0.N) :
    owns (c : Thread nD τ) (st0_6 t) fullShare ((dats m 0 c).after 6 t) ⊢ ((dats m 0 c).leavesExact 6 t : sProp 𝕄) := by
  unfold Dat.leavesExact
  by_cases hb : t.val / 16 < 8
  · rw [idle_6 t, decide_eq_true hb]; exact .rfl
  · rw [idle_6 t, decide_eq_false hb]
    cases hf : (cfg0.win 6).flush t
    · show _ ⊢ iprop(∃ d, owns (c : Thread nD τ) (st0_6 t) fullShare ((dats m 0 c).before 6 t d))
      iintro H
      iexists out6 m c t
      rw [before0_6 m c t hb, after0_6]; iexact H
    · exact .rfl

theorem leaves_7 (c : Dev nD) (t : Fin cfg0.N) :
    owns (c : Thread nD τ) (st0_7 t) fullShare ((dats m 0 c).after 7 t) ⊢ ((dats m 0 c).leavesExact 7 t : sProp 𝕄) := by
  unfold Dat.leavesExact
  rw [idle_7 t]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7,
    show (dats m 0 c).Φ t.castSucc = Inv m c t.val from rfl, show (dats m 0 c).Φ t.succ = Inv m c (t.val + 1) from rfl]
  unfold Inv
  iintro ⟨⟨%s0, %s1, %hH, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hc1 := cond1_iff t; have hc2 := cond2_iff t; have hc3 := cond3_iff t; have hc4 := cond4_iff t; have hc5 := cond5_iff t; have hc6 := cond6_iff t
  have hn := lt_144 t
  have ej := coord1 t
  by_cases hs : t.val / 16 = 0
  · have e7 : out7 m c t = k0_pay10 := if_pos hs
    · iapply (runA c (grid0.coords t) _ _ _ _ _ _ _ _ _ _ _ _ _ _ _ _ _ _ _ _ (hc1.mpr (by omega)) (hc2.mpr (by omega)) (fun h => by have := hc3.mp h; omega) (fun h => by have := hc4.mp h; omega) (fun h => by have := hc5.mp h; omega) (fun h => by have := hc6.mp h; omega) (by omega) (iblk m c 0 t) (iblk m c 1 t) (iblk m c 2 t) (iblk m c 3 t) (iblk m c 4 t) (iblk m c 5 t) s0 s1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hg]
      · iexists _; iexists _; isplitr; swap
        · isplitl [HS0]; · iexact HS0
          isplitl [HS1]; · iexact HS1
          iexact Hg
        ipureintro; exact held_put m c t _ ej s0 s1 _ _ hH (by omega) (by rw [if_pos (by omega), if_pos (by omega)]; try rfl) (by rw [if_pos (by omega), if_pos (by omega)])
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold out6; rw [bpt_of t (by omega)]; iexact H6
      rw [e7]; iexact H7
  · have e7 : out7 m c t = k0_pay12 (tile m c (t.val / 16 - 1)) (iblk m c 5 t) (iblk m c 3 t) (iblk m c 4 t) := if_neg hs
    have hT := hH.2 hs (by omega)
    by_cases hp : t.val / 16 % 2 = 0
    · rw [if_pos hp] at hT
      by_cases hb : t.val / 16 < 8
      · iapply (runC c (grid0.coords t) _ _ _ _ _ _ _ _ _ _ _ _ _ _ _ _ _ _ _ _ (hc3.mpr (by omega)) (fun h => by have := hc1.mp h; omega) (fun h => by have := hc4.mp h; omega) (fun h => by have := hc5.mp h; omega) (fun h => by have := hc6.mp h; omega) (by omega) (iblk m c 0 t) (iblk m c 1 t) (iblk m c 2 t) (iblk m c 3 t) (iblk m c 4 t) (iblk m c 5 t) s0 s1 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        iintro ⟨H0, H1, H2, H3, H4, H5, H6, H7, HS0, HS1⟩
        isplitl [HS0 HS1 Hg]
        · iexists _; iexists _; isplitr; swap
          · isplitl [HS0]; · iexact HS0
            isplitl [HS1]; · iexact HS1
            iexact Hg
          ipureintro; exact held_put m c t _ ej s0 s1 _ _ hH (by omega) (by rw [if_pos (by omega), if_pos (by omega)]; try rfl) (by rw [if_pos (by omega), if_pos (by omega)])
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold out6; rw [bpt_of t (by omega)]; iexact H6
        rw [e7, ← hT, ← gated_even]; iexact H7
      · iapply (runD c (grid0.coords t) _ _ _ _ _ _ _ _ _ _ _ _ _ _ _ _ _ _ _ _ (hc4.mpr (by omega)) (fun h => by have := hc1.mp h; omega) (fun h => by have := hc3.mp h; omega) (fun h => by have := hc5.mp h; omega) (fun h => by have := hc6.mp h; omega) (iblk m c 0 t) (iblk m c 1 t) (iblk m c 2 t) (iblk m c 3 t) (iblk m c 4 t) (iblk m c 5 t) s0 s1 Set.univ _)
        isplitl [H0]; · iexact H0
        isplitl [H1]; · iexact H1
        isplitl [H2]; · iexact H2
        isplitl [H3]; · iexact H3
        isplitl [H4]; · iexact H4
        isplitl [H5]; · iexact H5
        isplitl [H7]; · iexists _; iexact H7
        isplitl [HS0]; · iexact HS0
        isplitl [HS1]; · iexact HS1
        iintro ⟨H0, H1, H2, H3, H4, H5, H7, HS0, HS1⟩
        isplitl [HS0 HS1 Hg]
        · iexists _; iexists _; isplitr; swap
          · isplitl [HS0]; · iexact HS0
            isplitl [HS1]; · iexact HS1
            iexact Hg
          ipureintro; exact held_keep m c t.val hn s0 s1 hH (by omega)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · rw [before0_6 m c t (by omega)]; iexact H6
        rw [e7, ← hT]; iexact H7
    · rw [if_neg hp] at hT
      · iapply (runE c (grid0.coords t) _ _ _ _ _ _ _ _ _ _ _ _ _ _ _ _ _ _ _ _ (hc5.mpr (by omega)) (fun h => by have := hc1.mp h; omega) (fun h => by have := hc3.mp h; omega) (fun h => by have := hc4.mp h; omega) (fun h => by have := hc6.mp h; omega) (by omega) (iblk m c 0 t) (iblk m c 1 t) (iblk m c 2 t) (iblk m c 3 t) (iblk m c 4 t) (iblk m c 5 t) s0 s1 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        iintro ⟨H0, H1, H2, H3, H4, H5, H6, H7, HS0, HS1⟩
        isplitl [HS0 HS1 Hg]
        · iexists _; iexists _; isplitr; swap
          · isplitl [HS0]; · iexact HS0
            isplitl [HS1]; · iexact HS1
            iexact Hg
          ipureintro; exact held_put m c t _ ej s0 s1 _ _ hH (by omega) (by rw [if_neg (by omega), if_neg (by omega)]; try rfl) (by rw [if_neg (by omega), if_neg (by omega)])
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold out6; rw [bpt_of t (by omega)]; iexact H6
        rw [e7, ← hT, ← gated_odd]; iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, Ho, H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (leaves_6 m c t); iexact H6
  iapply (leaves_7 m c t)
  rw [after0_7]; iexact H7

/-! ## The run and the frame -/

theorem PhiA0_eq (c : Dev nD) :
    (Pipeline.ΦA spec0 c : sProp 𝕄)
      = iprop(iprop((∃ d, owns (c : Thread nD τ) (Memref.whole cc0_scratch0 : Memref sig .tc .vmem S1024x4096 .bf16) fullShare d)
        ∗ (∃ d, owns (c : Thread nD τ) (Memref.whole cc0_scratch1 : Memref sig .tc .vmem S1024x4096 .bf16) fullShare d)) ∗ (∃ r, prngReg c r)) := by
  unfold Pipeline.ΦA; rw [scopedRest0_eq]; simp only [owns_whole]; try rfl

theorem inv_in (c : Dev nD) : (Pipeline.ΦA spec0 c : sProp 𝕄) ⊢ Inv m c 0 := by
  rw [PhiA0_eq]; unfold Inv
  iintro ⟨⟨⟨%d0, H0⟩, ⟨%d1, H1⟩⟩, Hg⟩
  iexists d0; iexists d1
  isplitr; · ipureintro; exact held_zero m c d0 d1
  isplitl [H0]; · iexact H0
  isplitl [H1]; · iexact H1
  iexact Hg

theorem inv_out (c : Dev nD) (n : ℕ) : Inv m c n ⊢ (Pipeline.ΦA spec0 c : sProp 𝕄) := by
  rw [PhiA0_eq]; unfold Inv
  iintro ⟨%d0, %d1, -, H0, H1, Hg⟩
  isplitr [Hg]
  · isplitl [H0]
    · iexists _; iexact H0
    iexists _; iexact H1
  iexact Hg

-- the run's implicit arguments are found by unifying its conclusion with this one, which takes unfolding plain
-- definitions in a metavariable's type
set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => inv_in m c) (hout := fun c => inv_out m c _)

theorem run_main : θ_run defs (onTc (τ := τ) (main (F := F))) (s₀ m ρ) (Pipeline.FramePost cfgs (dats m) 0 (V m)) :=
  (θ_run defs _ _).mono (fun _ h => h.1) (run_main_quiescent m ρ)

/-- Every argument array ends as it was. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩) (run_main m ρ)

/-- The frame: every argument array ends as it was, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.PleIdeal.Gen

end
-- ==== Proof.PleIdeal.Value.lean ====
/-
  THE PER-LAYER EMBEDDING AFTER A RESIDUAL: what the call's two result arrays hold.

  The kernel adds half of a normed branch to the stream, row by row, and writes the sum back as its first result. The sum's
  product with the gate's weights, through the logistic function, is the gate that the projected embeddings are multiplied
  by; 1024 rows of zeros follow. The kernel computes the logistic function of x as tanh (x / 2) / 2 + 1 / 2.
-/
module

public import proofs.«01_k».proof.Proof.PleIdeal.Frame
public import proofs.«01_k».proof.Proof.GateUpIdeal.Value
public import Idealize.ShloMosaic.Lib.Pipeline.ValueKit
public import Idealize.ShloMosaic.Lib.Pointwise
public import Idealize.ShloMosaic.Lib.KernelVsHost
public import Idealize.ShloMosaic.Lib.StableHlo.RunRead

@[expose] public section

set_option maxRecDepth 16384

noncomputable section

namespace Cert.PleIdeal.Value

open Cert.PleIdeal Cert.PleIdeal.Gen Idealize.ShloMosaic Idealize.ShloMosaic.TcCoe Idealize.SL.Sem
open Cert.GateUpIdeal.Value (normed)
open Idealize.ShloMosaic.Pipeline (Dat)

/-! ## What the body stores, at one entry -/

theorem pay8_at (h : Vec Ideal S64x4096 .f32) (f : Vec Ideal S64x4096 .bf16) (p : Vec Ideal S1x4096 .f32) (y : S64x4096.Idx) :
    k0_pay8 (F := Ideal) h f p y
      = h y + Ideal.ofBits .f32 0x3F000000#32 * normed (fun q => f (ix2 (y 0) q)) (fun q => p (ix2 (0 : Fin 1) q)) (y 1) := by
  unfold normed
  pointwise [k0_pay8]

theorem pay9_at (h : Vec Ideal S64x4096 .f32) (f : Vec Ideal S64x4096 .bf16) (p : Vec Ideal S1x4096 .f32) (y : S64x4096.Idx) :
    k0_pay9 (F := Ideal) h f p y = k0_pay8 (F := Ideal) h f p y := by
  unfold k0_pay9
  generalize k0_pay8 (F := Ideal) h f p = x
  pointwise

theorem half : Ideal.ofBits .f32 0x3F000000#32 = ((1 / 2 : ℝ) : EReal) := by
  simp [Ideal.ofBits, Ideal.ieee, -EReal.coe_mul]; norm_num

/-- The logistic function by the hyperbolic tangent, over the extended reals. -/
theorem half_tanh (x : EReal) : Ideal.ofBits .f32 0x3F000000#32 * Ideal.tanh (Ideal.ofBits .f32 0x3F000000#32 * x) + Ideal.ofBits .f32 0x3F000000#32
    = Ideal.logistic x := by
  rw [half]
  induction x with
  | bot =>
    rw [EReal.coe_mul_bot_of_pos (by norm_num), Ideal.tanh_bot, Ideal.logistic_bot,
      show (-1 : EReal) = ((-1 : ℝ) : EReal) from by simp, ← EReal.coe_mul, ← EReal.coe_add]
    norm_num
  | top =>
    rw [EReal.coe_mul_top_of_pos (by norm_num), Ideal.tanh_top, Ideal.logistic_top, ← EReal.coe_one, ← EReal.coe_mul, ← EReal.coe_add]
    norm_num
  | coe r =>
    rw [← EReal.coe_mul, Ideal.tanh_coe, Ideal.logistic_coe, ← EReal.coe_mul, ← EReal.coe_add]
    refine congrArg _ ?_
    have hp : 0 < Real.exp (1 / 2 * r) := Real.exp_pos _
    have h1 : Real.exp (-(1 / 2 * r)) = (Real.exp (1 / 2 * r))⁻¹ := Real.exp_neg _
    have h2 : Real.exp (-r) = (Real.exp (1 / 2 * r))⁻¹ * (Real.exp (1 / 2 * r))⁻¹ := by
      rw [← h1, ← Real.exp_add]; congr 1; ring
    rw [Real.tanh_eq_sinh_div_cosh, Real.sinh_eq, Real.cosh_eq, h1, h2]
    generalize Real.exp (1 / 2 * r) = e at hp
    have : e * e + 1 ≠ 0 := by positivity
    field_simp
    ring

theorem pay12_at (u : Vec Ideal S1024x4096 .bf16) (w : Vec Ideal S4096x256 .f32) (p : Vec Ideal S1024x256 .f32) (v : Vec Ideal S256x256 .f32)
    (y : S1024x256.Idx) :
    k0_pay12 (F := Ideal) u w p v y
      = (∑ k : Fin 256, p (ix2 (y 0) k) * v (ix2 k (y 1))) * Ideal.logistic (∑ q : Fin 4096, u (ix2 (y 0) q) * w (ix2 q (y 1))) := by
  rw [← half_tanh]
  pointwise [k0_pay12]

theorem pay10_at (y : S1024x256.Idx) : k0_pay10 (F := Ideal) y = 0 := by
  pointwise [k0_pay10]

/-- The first result: the stream plus half of the branch normed. -/
def stream (H : Vec Ideal S8192x4096 .f32) (f : Vec Ideal S8192x4096 .bf16) (p : Vec Ideal S4096 .f32) : Vec Ideal S8192x4096 .f32 := fun i =>
  H i + Ideal.ofBits .f32 0x3F000000#32 * normed (fun q => f (ix2 (i 0) q)) (fun q => p (ix1 q)) (i 1)

/-- The second result: the projected embeddings times their gate, and zeros below row 8192. -/
def gate (H : Vec Ideal S8192x4096 .f32) (E : Vec Ideal S8192x256 .f32) (P : Vec Ideal S256x4096 .f32) (G : Vec Ideal S4096x4096 .f32) :
    Vec Ideal S9216x4096 .bf16 := fun i =>
  if h : (i 0).val < 8192 then
    (∑ k : Fin 256, E (ix2 (⟨(i 0).val, h⟩ : Fin 8192) k) * P (ix2 k (i 1)))
      * Ideal.logistic (∑ k : Fin 4096, H (ix2 (⟨(i 0).val, h⟩ : Fin 8192) k) * G (ix2 k (i 1)))
  else 0

/-! ## The windows' blocks, at one entry -/

theorem index0 : ∀ t : Fin cfg0.N, t.val / 16 < 8 → win0_0.index t = ![t.val, 0] :=
  (by decide +kernel : ∀ t : Fin grid0.N, t.val / 16 < 8 → win0_0.index t = ![t.val, 0])
theorem index1 : ∀ t : Fin cfg0.N, t.val / 16 < 8 → win0_1.index t = ![t.val, 0] :=
  (by decide +kernel : ∀ t : Fin grid0.N, t.val / 16 < 8 → win0_1.index t = ![t.val, 0])
theorem index2 : ∀ t : Fin cfg0.N, win0_2.index t = ![0, 0] :=
  (by decide +kernel : ∀ t : Fin grid0.N, win0_2.index t = ![0, 0])
theorem index3 : ∀ t : Fin cfg0.N, win0_3.index t = ![t.val / 16 - 1, 0] :=
  (by decide +kernel : ∀ t : Fin grid0.N, win0_3.index t = ![t.val / 16 - 1, 0])
theorem index4 : ∀ t : Fin cfg0.N, t.val / 16 ≠ 0 → win0_4.index t = ![0, t.val % 16] :=
  (by decide +kernel : ∀ t : Fin grid0.N, t.val / 16 ≠ 0 → win0_4.index t = ![0, t.val % 16])
theorem index5 : ∀ t : Fin cfg0.N, t.val / 16 ≠ 0 → win0_5.index t = ![0, t.val % 16] :=
  (by decide +kernel : ∀ t : Fin grid0.N, t.val / 16 ≠ 0 → win0_5.index t = ![0, t.val % 16])
theorem index6 : ∀ t : Fin cfg0.N, win0_6.index t = ![(bpt t).val, 0] :=
  (by decide +kernel : ∀ t : Fin grid0.N, win0_6.index t = ![(bpt t).val, 0])
theorem index7 : ∀ t : Fin cfg0.N, win0_7.index t = ![if t.val / 16 = 0 then 8 else t.val / 16 - 1, t.val % 16] :=
  (by decide +kernel : ∀ t : Fin grid0.N, win0_7.index t = ![if t.val / 16 = 0 then 8 else t.val / 16 - 1, t.val % 16])

variable (m : (ℓ : Loc nD τ sig) → Buf (Elt Ideal) ℓ)

theorem iblk0_at (c : Dev nD) (t : Fin cfg0.N) (h8 : t.val / 16 < 8) (y : S64x4096.Idx) :
    iblk m c 0 t y = m ((c : Thread nD τ).loc main_arg0)
      (ix2 (⟨t.val * 64 + (y 0).val, by have := (y 0).isLt; change _ < 64 at this; omega⟩ : Fin 8192) (y 1)) := by
  have e := index0 t h8
  unfold iblk
  rw [show V m c (Pipeline.arrRef spec0 0) = m ((c : Thread nD τ).loc main_arg0) from V_main_arg0 m c]
  blk_point [e]

theorem iblk1_at (c : Dev nD) (t : Fin cfg0.N) (h8 : t.val / 16 < 8) (y : S64x4096.Idx) :
    iblk m c 1 t y = m ((c : Thread nD τ).loc main_arg1)
      (ix2 (⟨t.val * 64 + (y 0).val, by have := (y 0).isLt; change _ < 64 at this; omega⟩ : Fin 8192) (y 1)) := by
  have e := index1 t h8
  unfold iblk
  rw [show V m c (Pipeline.arrRef spec0 1) = m ((c : Thread nD τ).loc main_arg1) from V_main_arg1 m c]
  blk_point [e]

/-- The weights reshaped to one row. -/
theorem row_at (G : Vec Ideal S4096 .f32) (q : Fin 4096) : shapeCast S1x4096 G shapeCasts_S4096_S1x4096 (ix2 (0 : Fin 1) q) = G (ix1 q) := by
  pointwise

theorem iblk2_at (c : Dev nD) (t : Fin cfg0.N) (q : Fin 4096) :
    iblk m c 2 t (ix2 (0 : Fin 1) q) = m ((c : Thread nD τ).loc main_arg2) (ix1 q) := by
  have e := index2 t
  unfold iblk
  rw [show V m c (Pipeline.arrRef spec0 2) = shapeCast S1x4096 (m ((c : Thread nD τ).loc main_arg2)) shapeCasts_S4096_S1x4096 from by
    unfold V; after_reads_simp; try rfl]
  generalize hX : shapeCast S1x4096 (m ((c : Thread nD τ).loc main_arg2)) shapeCasts_S4096_S1x4096 = X
  trans X (ix2 (0 : Fin 1) q)
  · blk_point [e]
  · rw [← hX]
    exact row_at _ q

theorem iblk3_at (c : Dev nD) (t : Fin cfg0.N) (y : S1024x256.Idx) :
    iblk m c 3 t y = m ((c : Thread nD τ).loc main_arg3)
      (ix2 (⟨(t.val / 16 - 1) * 1024 + (y 0).val, by have := lt_144 t; have := (y 0).isLt; change _ < 1024 at this; omega⟩ : Fin 8192) (y 1)) := by
  have e := index3 t
  unfold iblk
  rw [show V m c (Pipeline.arrRef spec0 3) = m ((c : Thread nD τ).loc main_arg3) from V_main_arg3 m c]
  blk_point [e]

theorem iblk4_at (c : Dev nD) (t : Fin cfg0.N) (h : t.val / 16 ≠ 0) (y : S256x256.Idx) :
    iblk m c 4 t y = m ((c : Thread nD τ).loc main_arg4)
      (ix2 (y 0) (⟨t.val % 16 * 256 + (y 1).val, by have := (y 1).isLt; change _ < 256 at this; omega⟩ : Fin 4096)) := by
  have e := index4 t h
  unfold iblk
  rw [show V m c (Pipeline.arrRef spec0 4) = m ((c : Thread nD τ).loc main_arg4) from V_main_arg4 m c]
  blk_point [e]

theorem iblk5_at (c : Dev nD) (t : Fin cfg0.N) (h : t.val / 16 ≠ 0) (y : S4096x256.Idx) :
    iblk m c 5 t y = m ((c : Thread nD τ).loc main_arg5)
      (ix2 (y 0) (⟨t.val % 16 * 256 + (y 1).val, by have := (y 1).isLt; change _ < 256 at this; omega⟩ : Fin 4096)) := by
  have e := index5 t h
  unfold iblk
  rw [show V m c (Pipeline.arrRef spec0 5) = m ((c : Thread nD τ).loc main_arg5) from V_main_arg5 m c]
  blk_point [e]

/-! ## The result arrays -/

theorem pt_val (s : ℕ) (hs : s < 8) (r : ℕ) (hr : r < 1024) : (pt s r).val = s * 16 + r / 64 := by
  show min _ _ = _
  omega

/-- The last point that normed rows is one that norms rows. -/
theorem bpt_building (t : Fin cfg0.N) : (bpt t).val / 16 < 8 := by
  show builtAt _ / 16 < 8
  unfold builtAt; split <;> omega

/-- The 64 rows that a norming point adds. -/
theorem rows_at (c : Dev nD) (t : Fin cfg0.N) (h8 : t.val / 16 < 8) (y : S64x4096.Idx) (hr : t.val * 64 + (y 0).val < 8192) :
    k0_pay8 (F := Ideal) (iblk m c 0 t) (iblk m c 1 t) (iblk m c 2 t) y
      = stream (m ((c : Thread nD τ).loc main_arg0)) (m ((c : Thread nD τ).loc main_arg1)) (m ((c : Thread nD τ).loc main_arg2))
        (ix2 (⟨_, hr⟩ : Fin 8192) (y 1)) := by
  refine (pay8_at _ _ _ _).trans ?_
  unfold stream
  refine congr (congrArg _ (iblk0_at m c t h8 y)) (congrArg _ ?_)
  refine congr (congr (congrArg normed (funext fun q => ?_)) (funext fun q => iblk2_at m c t q)) rfl
  exact iblk1_at m c t h8 (ix2 (y 0) q)

/-- A tile holds its rows of the sum. -/
theorem tile_at (c : Dev nD) (s : ℕ) (hs : s < 8) (r : Fin 1024) (k : Fin 4096) :
    tile m c s (ix2 r k) = stream (m ((c : Thread nD τ).loc main_arg0)) (m ((c : Thread nD τ).loc main_arg1)) (m ((c : Thread nD τ).loc main_arg2))
      (ix2 (⟨s * 1024 + r.val, by omega⟩ : Fin 8192) k) := by
  have hp := pt_val s hs r.val r.isLt
  have hr := r.isLt
  unfold tile
  refine (pay9_at _ _ _ _).trans ?_
  refine (rows_at m c (pt s r.val) (by rw [hp]; omega) (ix2 ⟨r.val % 64, Nat.mod_lt _ (by decide)⟩ k)
    (by show (pt s r.val).val * 64 + r.val % 64 < 8192; rw [hp]; omega)).trans ?_
  refine congrArg (fun a : Fin 8192 => stream _ _ _ (ix2 a k)) (Fin.ext ?_)
  show (pt s r.val).val * 64 + r.val % 64 = s * 1024 + r.val
  rw [hp]
  omega

/-- The block that point `t` writes back is the second result's. -/
theorem out7_at (c : Dev nD) (t : Fin cfg0.N) (y : S1024x256.Idx) (h0 : (y 0).val < 1024) (h1 : (y 1).val < 256)
    (hr : (if t.val / 16 = 0 then 8 else t.val / 16 - 1) * 1024 + (y 0).val < 9216) (hc : t.val % 16 * 256 + (y 1).val < 4096) :
    out7 m c t y = gate (stream (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5)) (ix2 (⟨_, hr⟩ : Fin 9216) (⟨_, hc⟩ : Fin 4096)) := by
  have ht := lt_144 t
  unfold out7 gate
  by_cases h : t.val / 16 = 0
  · rw [if_pos h, dif_neg (by show ¬(if t.val / 16 = 0 then 8 else t.val / 16 - 1) * 1024 + (y 0).val < 8192; rw [if_pos h]; omega)]
    exact pay10_at y
  · have hS : (if t.val / 16 = 0 then 8 else t.val / 16 - 1) = t.val / 16 - 1 := if_neg h
    rw [if_neg h, dif_pos (by show (if t.val / 16 = 0 then 8 else t.val / 16 - 1) * 1024 + (y 0).val < 8192; rw [hS]; omega)]
    refine (pay12_at _ _ _ _ _).trans ?_
    refine congr (congrArg _ (Finset.sum_congr rfl fun k _ => ?_)) (congrArg Ideal.logistic (Finset.sum_congr rfl fun k _ => ?_))
    · refine congr (congrArg _ ((iblk3_at m c t (ix2 (y 0) k)).trans ?_)) (iblk4_at m c t h (ix2 k (y 1)))
      refine congrArg (fun a : Fin 8192 => m ((c : Thread nD τ).loc main_arg3) (ix2 a k)) (Fin.ext ?_)
      show (t.val / 16 - 1) * 1024 + (y 0).val = (if t.val / 16 = 0 then 8 else t.val / 16 - 1) * 1024 + (y 0).val
      rw [hS]
    · refine congr (congrArg _ ((tile_at m c (t.val / 16 - 1) (by omega) (y 0) k).trans ?_)) (iblk5_at m c t h (ix2 k (y 1)))
      refine congrArg (fun a : Fin 8192 => stream _ _ _ (ix2 a k)) (Fin.ext ?_)
      show (t.val / 16 - 1) * 1024 + (y 0).val = (if t.val / 16 = 0 then 8 else t.val / 16 - 1) * 1024 + (y 0).val
      rw [hS]

/-- **The first result array.** -/
theorem final6 (c : Dev nD) : (dats m 0 c).arrAt 6 cfg0.N
    = stream (m ((c : Thread nD τ).loc main_arg0)) (m ((c : Thread nD τ).loc main_arg1)) (m ((c : Thread nD τ).loc main_arg2)) := by
  refine (dats m 0 c).arrAt_eq_of_covers 6 _ (by decide +kernel) fun t hf y => ?_
  have e := index6 t
  have hb := bpt_building t
  blk_simp
  rw [after0_6]
  frame_out
  generalize hX : stream (m ((c : Thread nD τ).loc main_arg0)) (m ((c : Thread nD τ).loc main_arg1)) (m ((c : Thread nD τ).loc main_arg2)) = X
  change S64x4096.Idx at y
  have h0 : (y 0).val < 64 := (y 0).isLt
  trans X (ix2 (⟨(bpt t).val * 64 + (y 0).val, by omega⟩ : Fin 8192) (y 1))
  · rw [← hX]
    exact rows_at m c (bpt t) hb y _
  · blk_point [e]

/-- **The second result array.** -/
theorem final7 (c : Dev nD) : (dats m 0 c).arrAt 7 cfg0.N
    = gate (stream (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5)) := by
  refine (dats m 0 c).arrAt_eq_of_covers 7 _ (by decide +kernel) fun t hf y => ?_
  have e := index7 t
  have ht := lt_144 t
  blk_simp
  rw [after0_7]
  frame_out
  generalize hX : gate (stream (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5)) = X
  change S1024x256.Idx at y
  have h0 : (y 0).val < 1024 := (y 0).isLt
  have h1 : (y 1).val < 256 := (y 1).isLt
  trans X (ix2 (⟨(if t.val / 16 = 0 then 8 else t.val / 16 - 1) * 1024 + (y 0).val, by split <;> omega⟩ : Fin 9216) (⟨t.val % 16 * 256 + (y 1).val, by omega⟩ : Fin 4096))
  · rw [← hX]
    exact out7_at m c t y h0 h1 _ _
  · blk_point [e]

/-- The whole run: the two result arrays, and the arguments as they were. -/
theorem run_blocks (ρ : Dev nD → PrngReg) : θ_run defs (onTc (τ := τ) (main (F := Ideal))) ⟨m, fun _ => 0, ρ⟩ (fun r => ∀ c : Dev nD,
      r.2.mem ((c.tc : Thread nD τ).loc main_v1_0) = (dats m 0 c).arrAt 6 cfg0.N
      ∧ r.2.mem ((c.tc : Thread nD τ).loc main_v1_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 6, (h c).1 7,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.PleIdeal.Value

end
-- ==== Proof.PleIdeal.Reference.lean ====
/-
  THE REFERENCE OF THE PER-LAYER EMBEDDING AFTER A RESIDUAL, at one entry.
-/
module

public import proofs.«01_k».proof.Proof.PleIdeal.Value
public import proofs.«01_k».proof.Proof.Gen.PleReferenceIdeal.Read
public import Idealize.ShloMosaic.Lib.Pipeline.ValueKit
public import Idealize.ShloMosaic.Lib.Pointwise
public import Idealize.ShloMosaic.Lib.KernelVsHost

@[expose] public section

set_option maxRecDepth 16384

noncomputable section

namespace Cert.PleReferenceIdeal.Products

open Cert.GateUpIdeal.Value (normed)
open Cert.PleIdeal.Value (stream gate)
open Cert.PleReferenceIdeal Cert.PleReferenceIdeal.Read Idealize.ShloMosaic

variable (H : Vec Ideal S8192x4096 .f32) (f : Vec Ideal S8192x4096 .bf16) (p : Vec Ideal S4096 .f32) (E : Vec Ideal S8192x256 .f32)
  (P : Vec Ideal S256x4096 .f32) (G : Vec Ideal S4096x4096 .f32)

/-- The reference's first result. -/
theorem first : val_main_v16 (F := Ideal) H f p = stream H f p := by
  funext i
  unfold stream normed
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

theorem v25_at (i : S8192x4096.Idx) :
    val_main_v25 (F := Ideal) H f p E P G i = (∑ k : Fin 256, E (ix2 (i 0) k) * P (ix2 k (i 1)))
      * Ideal.logistic (∑ k : Fin 4096, stream H f p (ix2 (i 0) k) * G (ix2 k (i 1))) := by
  rw [← first]
  unfold Ideal.logistic
  unfold val_main_v25 val_main_v24 val_main_v23 val_main_v22 val_main_v21 val_main_v20 val_main_v19 val_main_v18 val_main_v17 val_main_cst_3 val_main_cst_4
  generalize val_main_v16 (F := Ideal) H f p = x
  pointwise

/-- The reference's second result. -/
theorem second : val_main_v27 (F := Ideal) H f p E P G = gate (stream H f p) E P G := by
  funext i
  rw [val_main_v27_apply]
  unfold gate
  split
  · rename_i h
    refine Eq.trans ?_ (v25_at H f p E P G (ix2 ⟨(i 0).val, h⟩ (i 1)))
    unfold val_main_v26
    generalize val_main_v25 (F := Ideal) H f p E P G = z
    refine (pad_apply_of_inside _ _ _ z _ _ _ i (ix2 ⟨(i 0).val, h⟩ (i 1)) fun a => ?_)
    fin_cases a <;> simp
  · rename_i h
    unfold val_main_v26
    generalize val_main_v25 (F := Ideal) H f p E P G = z
    refine (pad_apply_of_not_inside _ _ _ z _ _ _ i (0 : Fin 2) fun ha => h ?_).trans ?_
    · have := ha.2.2
      simp at this
      exact this
    · pointwise [val_main_call0_v0, val_main_c]
      exact (EReal.coe_eq_zero.mpr (by simp) : (((0#32 : BitVec 32).toInt : ℝ) : EReal) = 0)

end Cert.PleReferenceIdeal.Products

end
-- ==== Proof.Residual.lean ====
/-
  THE LAST RESIDUAL: the stream plus a normed branch, 256 rows at a point of a grid of 32.
-/
module

public import proofs.«01_k».proof.Proof.Gen.ResidualIdeal.Value
public import proofs.«01_k».proof.Proof.Gen.ResidualReferenceIdeal.Read
public import proofs.«01_k».proof.Proof.GateUpIdeal.Value
public import Idealize.ShloMosaic.Lib.Pipeline.ValueKit
public import Idealize.ShloMosaic.Lib.Pointwise

@[expose] public section

set_option maxRecDepth 16384

noncomputable section

namespace Cert.ResidualIdeal.Value

open Cert.ResidualIdeal Cert.ResidualIdeal.Gen Idealize.ShloMosaic Idealize.ShloMosaic.TcCoe Idealize.SL.Sem
open Cert.GateUpIdeal.Value (normed)
open Idealize.ShloMosaic.Pipeline (Dat)

theorem idx : ∀ t : Fin cfg0.N,
    win0_0.index t = ![t.val, 0] ∧ win0_1.index t = ![t.val, 0] ∧ win0_2.index t = ![0, 0] ∧ win0_3.index t = ![t.val, 0] ∧ t.val < 32 :=
  (by decide +kernel : ∀ t : Fin grid0.N, _)

/-- The stream plus the branch normed. -/
def stream (H : Vec Ideal S8192x4096 .f32) (f : Vec Ideal S9216x4096 .bf16) (p : Vec Ideal S4096 .f32) : Vec Ideal S8192x4096 .f32 := fun i =>
  H i + normed (fun q => f (ix2 (⟨(i 0).val, Nat.lt_of_lt_of_le (i 0).isLt (by decide)⟩ : Fin 9216) q)) (fun q => p (ix1 q)) (i 1)

theorem pay_at (h : Vec Ideal S256x4096 .f32) (f : Vec Ideal S256x4096 .bf16) (p : Vec Ideal S1x4096 .f32) (y : S256x4096.Idx) :
    k0_pay1 (F := Ideal) h f p y = h y + normed (fun q => f (ix2 (y 0) q)) (fun q => p (ix2 (0 : Fin 1) q)) (y 1) := by
  unfold normed
  pointwise [k0_pay1]

variable (m : (ℓ : Loc nD τ sig) → Buf (Elt Ideal) ℓ)

theorem iblk0_at (c : Dev nD) (t : Fin cfg0.N) (y : S256x4096.Idx) :
    iblk m c 0 t y = m ((c : Thread nD τ).loc main_arg0)
      (ix2 (⟨t.val * 256 + (y 0).val, by have := (idx t).2.2.2.2; have := (y 0).isLt; change _ < 256 at this; omega⟩ : Fin 8192) (y 1)) := by
  obtain ⟨e, -⟩ := idx t
  unfold iblk
  rw [show V m c (Pipeline.arrRef spec0 0) = m ((c : Thread nD τ).loc main_arg0) from V_main_arg0 m c]
  blk_point [e]

theorem iblk1_at (c : Dev nD) (t : Fin cfg0.N) (y : S256x4096.Idx) :
    iblk m c 1 t y = m ((c : Thread nD τ).loc main_arg1)
      (ix2 (⟨t.val * 256 + (y 0).val, by have := (idx t).2.2.2.2; have := (y 0).isLt; change _ < 256 at this; omega⟩ : Fin 9216) (y 1)) := by
  obtain ⟨-, e, -⟩ := idx t
  unfold iblk
  rw [show V m c (Pipeline.arrRef spec0 1) = m ((c : Thread nD τ).loc main_arg1) from V_main_arg1 m c]
  blk_point [e]

/-- The weights reshaped to one row. -/
theorem row_at (G : Vec Ideal S4096 .f32) (q : Fin 4096) : shapeCast S1x4096 G shapeCasts_S4096_S1x4096 (ix2 (0 : Fin 1) q) = G (ix1 q) := by
  pointwise

theorem iblk2_at (c : Dev nD) (t : Fin cfg0.N) (q : Fin 4096) :
    iblk m c 2 t (ix2 (0 : Fin 1) q) = m ((c : Thread nD τ).loc main_arg2) (ix1 q) := by
  obtain ⟨-, -, e, -⟩ := idx t
  unfold iblk
  rw [show V m c (Pipeline.arrRef spec0 2) = shapeCast S1x4096 (m ((c : Thread nD τ).loc main_arg2)) shapeCasts_S4096_S1x4096 from by
    unfold V; after_reads_simp; try rfl]
  generalize hX : shapeCast S1x4096 (m ((c : Thread nD τ).loc main_arg2)) shapeCasts_S4096_S1x4096 = X
  trans X (ix2 (0 : Fin 1) q)
  · blk_point [e]
  · rw [← hX]
    exact row_at _ q

/-- The 256 rows that a point writes. -/
theorem rows_at (c : Dev nD) (t : Fin cfg0.N) (y : S256x4096.Idx) (hr : t.val * 256 + (y 0).val < 8192) :
    k0_pay1 (F := Ideal) (iblk m c 0 t) (iblk m c 1 t) (iblk m c 2 t) y
      = stream (m ((c : Thread nD τ).loc main_arg0)) (m ((c : Thread nD τ).loc main_arg1)) (m ((c : Thread nD τ).loc main_arg2))
        (ix2 (⟨_, hr⟩ : Fin 8192) (y 1)) := by
  refine (pay_at _ _ _ _).trans ?_
  unfold stream
  refine congr (congrArg _ (iblk0_at m c t y)) ?_
  refine congr (congr (congrArg normed (funext fun q => ?_)) (funext fun q => iblk2_at m c t q)) rfl
  exact iblk1_at m c t (ix2 (y 0) q)

/-- **The result array.** -/
theorem final (c : Dev nD) : (dats m 0 c).arrAt 3 cfg0.N
    = stream (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨-, -, -, e, ht⟩ := idx t
  blk_simp
  rw [after0_3]
  frame_out
  generalize hX : stream (m ((c : Thread nD τ).loc main_arg0)) (m ((c : Thread nD τ).loc main_arg1)) (m ((c : Thread nD τ).loc main_arg2)) = X
  change S256x4096.Idx at y
  have h0 : (y 0).val < 256 := (y 0).isLt
  trans X (ix2 (⟨t.val * 256 + (y 0).val, by omega⟩ : Fin 8192) (y 1))
  · rw [← hX]
    exact rows_at m c t y _
  · blk_point [e]

open Cert.ResidualReferenceIdeal.Read in
/-- The reference's result. -/
theorem reference_eq (H : Vec Ideal S8192x4096 .f32) (f : Vec Ideal S9216x4096 .bf16) (p : Vec Ideal S4096 .f32) :
    val_main_v15 (F := Ideal) H f p = stream H f p := by
  funext i
  unfold stream normed
  pointwise [val_main_v15, val_main_v14, val_main_v13, val_main_v12, val_main_v11, val_main_v10, val_main_v9, val_main_v8, val_main_v7, val_main_cst_1, val_main_v6, val_main_v5, val_main_cst_0, val_main_v4, val_main_v3, val_main_cst, val_main_v2, val_main_v1, val_main_v0]

end Cert.ResidualIdeal.Value

end
-- ==== Proof.SameText.lean ====
/-
  THE PROGRAM AS PRINTED AND THE PROGRAM AT THE IDEAL VALUES, where no operation was replaced: one text, read at any float
  type. What the ideal program's frame says at every float type is then the printed program's frame.
-/
module

public import proofs.«01_k».proof.Proof.InProjIdeal.Frame
public import proofs.«01_k».proof.Proof.Gen.InProj
public import proofs.«01_k».proof.Proof.PleIdeal.Frame
public import proofs.«01_k».proof.Proof.Gen.Ple

@[expose] public section

set_option maxRecDepth 16384

noncomputable section

namespace Cert.InProj.Same

open Cert.InProj Idealize.ShloMosaic Idealize.ShloMosaic.TcCoe Idealize.SL.Sem

variable {F : FTy → Type} [FloatOps F]

/-- The two bodies are one text. -/
theorem bodies : Cert.InProj.defs₀ (F := F) = Cert.InProjIdeal.defs₀ (F := F) := by
  delta Cert.InProj.defs₀ Cert.InProjIdeal.defs₀
  refine congrArg _ (funext fun l => ?_)
  match l with
  | ⟨0, h⟩ => funext x; rfl
  | ⟨n + 1, h⟩ => exact absurd h (Nat.not_lt.2 (Nat.le_add_left _ _))

theorem calls : Cert.InProj.defs (F := F) = Cert.InProjIdeal.defs (F := F) := congrArg (Pipeline.defs Cert.InProj.pcfgs) bodies

variable (m : (ℓ : Loc nD τ sig) → Buf (Elt F) ℓ) (ρ : Dev nD → PrngReg)

/-- The frame: every argument array ends as it was, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [calls]
  exact Cert.InProjIdeal.Gen.frame m ρ

end Cert.InProj.Same

namespace Cert.Ple.Same

open Cert.Ple Idealize.ShloMosaic Idealize.ShloMosaic.TcCoe Idealize.SL.Sem

variable {F : FTy → Type} [FloatOps F]

/-- The two bodies are one text. -/
theorem bodies : Cert.Ple.defs₀ (F := F) = Cert.PleIdeal.defs₀ (F := F) := by
  delta Cert.Ple.defs₀ Cert.PleIdeal.defs₀
  refine congrArg _ (funext fun l => ?_)
  match l with
  | ⟨0, h⟩ => funext x; rfl
  | ⟨n + 1, h⟩ => exact absurd h (Nat.not_lt.2 (Nat.le_add_left _ _))

theorem calls : Cert.Ple.defs (F := F) = Cert.PleIdeal.defs (F := F) := congrArg (Pipeline.defs Cert.Ple.pcfgs) bodies

variable (m : (ℓ : Loc nD τ sig) → Buf (Elt F) ℓ) (ρ : Dev nD → PrngReg)

/-- The frame: every argument array ends as it was, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [calls]
  exact Cert.PleIdeal.Gen.frame m ρ

end Cert.Ple.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_qk_finite
public import proofs.«01_k».proof.Proof.Gen.GateUp
public import proofs.«01_k».proof.Proof.Gen.GateUp.Launch
public import proofs.«01_k».proof.Proof.Gen.GateUp.Points
public import proofs.«01_k».proof.Proof.Gen.GateUp.Skeleton
public import proofs.«01_k».proof.Proof.Gen.GateUpIdeal
public import proofs.«01_k».proof.Proof.Gen.GateUpIdeal.Launch
public import proofs.«01_k».proof.Proof.Gen.GateUpIdeal.Points
public import proofs.«01_k».proof.Proof.Gen.GateUpIdeal.Skeleton
public import proofs.«01_k».proof.Proof.Gen.GateUpReferenceIdeal
public import proofs.«01_k».proof.Proof.Gen.GateUpReferenceIdeal.Run
public import proofs.«01_k».proof.Proof.Gen.GateUpReferenceIdeal.Read
public import proofs.«01_k».proof.Proof.Gen.ResGateUp
public import proofs.«01_k».proof.Proof.Gen.ResGateUp.Launch
public import proofs.«01_k».proof.Proof.Gen.ResGateUp.Points
public import proofs.«01_k».proof.Proof.Gen.ResGateUp.Skeleton
public import proofs.«01_k».proof.Proof.Gen.ResGateUpIdeal
public import proofs.«01_k».proof.Proof.Gen.ResGateUpIdeal.Launch
public import proofs.«01_k».proof.Proof.Gen.ResGateUpIdeal.Points
public import proofs.«01_k».proof.Proof.Gen.ResGateUpIdeal.Skeleton
public import proofs.«01_k».proof.Proof.Gen.ResGateUpReferenceIdeal
public import proofs.«01_k».proof.Proof.Gen.ResGateUpReferenceIdeal.Run
public import proofs.«01_k».proof.Proof.Gen.ResGateUpReferenceIdeal.Read
public import proofs.«01_k».proof.Proof.Gen.InProj
public import proofs.«01_k».proof.Proof.Gen.InProjIdeal
public import proofs.«01_k».proof.Proof.Gen.InProjIdeal.Launch
public import proofs.«01_k».proof.Proof.Gen.InProjIdeal.Points
public import proofs.«01_k».proof.Proof.Gen.InProjIdeal.Skeleton
public import proofs.«01_k».proof.Proof.Gen.InProjReferenceIdeal
public import proofs.«01_k».proof.Proof.Gen.InProjReferenceIdeal.Run
public import proofs.«01_k».proof.Proof.Gen.InProjReferenceIdeal.Read
public import proofs.«01_k».proof.Proof.Gen.Ple
public import proofs.«01_k».proof.Proof.Gen.PleIdeal
public import proofs.«01_k».proof.Proof.Gen.PleIdeal.Launch
public import proofs.«01_k».proof.Proof.Gen.PleIdeal.Points
public import proofs.«01_k».proof.Proof.Gen.PleIdeal.Skeleton
public import proofs.«01_k».proof.Proof.Gen.PleReferenceIdeal
public import proofs.«01_k».proof.Proof.Gen.PleReferenceIdeal.Run
public import proofs.«01_k».proof.Proof.Gen.PleReferenceIdeal.Read
public import proofs.«01_k».proof.Proof.Gen.Residual.Frame
public import proofs.«01_k».proof.Proof.Gen.ResidualIdeal.Frame
public import proofs.«01_k».proof.Proof.Gen.ResidualIdeal.Value
public import proofs.«01_k».proof.Proof.Gen.ResidualReferenceIdeal.Run
public import proofs.«01_k».proof.Proof.Gen.ResidualReferenceIdeal.Read
public import proofs.«01_k».proof.Proof.Gen.Down.Frame
public import proofs.«01_k».proof.Proof.Gen.DownIdeal.Frame
public import proofs.«01_k».proof.Proof.Gen.DownIdeal.Value
public import proofs.«01_k».proof.Proof.Gen.DownReferenceIdeal.Run
public import proofs.«01_k».proof.Proof.Gen.DownReferenceIdeal.Read
public import proofs.«01_k».proof.Proof.Match
public import proofs.«01_k».proof.Proof.Down
public import proofs.«01_k».proof.Proof.GateUp.Frame
public import proofs.«01_k».proof.Proof.GateUpIdeal.Value
public import proofs.«01_k».proof.Proof.GateUpIdeal.Reference
public import proofs.«01_k».proof.Proof.ResGateUp.Frame
public import proofs.«01_k».proof.Proof.ResGateUpIdeal.Value
public import proofs.«01_k».proof.Proof.ResGateUpIdeal.Reference
public import proofs.«01_k».proof.Proof.InProjIdeal.Value
public import proofs.«01_k».proof.Proof.InProjIdeal.Reference
public import proofs.«01_k».proof.Proof.PleIdeal.Value
public import proofs.«01_k».proof.Proof.PleIdeal.Reference
public import proofs.«01_k».proof.Proof.Residual
public import proofs.«01_k».proof.Proof.SameText
public import Idealize.ShloMosaic.Adequacy
public import Idealize.ShloMosaic.Init

@[expose] public section

noncomputable section

namespace Cert.Proof

open Idealize.ShloMosaic Idealize.SL.Sem Cert.Kernel

/-- The attention kernel computes the reference's attention. -/
theorem algebraic : algebraic_KernelIdeal_ReferenceIdeal_pre_qk_finite := by
  intro m g m' g' hpre hm
  refine ⟨fun c => Cert.ReferenceIdeal.Value.res_main_v99 m' c, ?_, Cert.ReferenceIdeal.Value.run m' g'⟩
  refine (θ_run _ _ _).mono (fun r h c => ⟨(h c).1.trans ?_, (h c).2⟩) (Cert.KernelIdeal.Value.run_blocks m g)
  rw [Cert.KernelIdeal.Value.final]
  refine Eq.trans ?_ (Cert.ReferenceIdeal.Read.val_main_v99_eq m' c).symm
  rw [(hm c).1, (hm c).2]
  exact Cert.Attn.array_eq (Cert.Pre_qk_finite.Gen.reals _ _ (hpre c)) _ fun h x => Cert.KernelIdeal.Value.bias_row m c h x

/-- The reference leaves its arguments unchanged; it has no semaphore. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run _ _ _).mono (fun r h => ⟨fun c => (h c).2, Idealize.ShloMosaic.sem_eq_zero_of_no_sems (by decide) r.2⟩) (Cert.ReferenceIdeal.Value.run m ρ)

/-- The blocked gate and up products are the reference's. -/
theorem algebraic_gate_up : algebraic_GateUpIdeal_GateUpReferenceIdeal := by
  intro m g m' g' _ hm
  refine ⟨fun c => _, fun c => _, (θ_run _ _ _).mono (fun r h c => ⟨(h c).1.trans ?_, (h c).2.1.trans ?_, (h c).2.2⟩)
    (Cert.GateUpIdeal.Value.run_blocks m g), Cert.GateUpReferenceIdeal.Value.run m' g'⟩
  · refine ((Cert.GateUpIdeal.Value.final5 m c).trans ?_).trans (Cert.GateUpReferenceIdeal.Read.val_main_v18_eq _ _ _ _).symm
    rw [(hm c).1, (hm c).2.1, (hm c).2.2.1, (hm c).2.2.2.1]
    exact (Cert.GateUpReferenceIdeal.Products.first _ _ _ _).symm
  · refine ((Cert.GateUpIdeal.Value.final6 m c).trans ?_).trans (Cert.GateUpReferenceIdeal.Read.val_main_v19_eq _).symm
    rw [(hm c).2.2.2.2]
    exact (Cert.GateUpReferenceIdeal.Products.second _).symm

/-- The reference of the gate and up products leaves its arguments unchanged; it has no semaphore. -/
theorem gate_up_reference_frame (m : (ℓ : Loc Cert.GateUpReferenceIdeal.nD Cert.GateUpReferenceIdeal.τ Cert.GateUpReferenceIdeal.sig) → Buf (Elt Ideal) ℓ)
    (ρ : Dev Cert.GateUpReferenceIdeal.nD → PrngReg) :
    θ_run (Cert.GateUpReferenceIdeal.defs (F := Ideal)) (onTc (τ := Cert.GateUpReferenceIdeal.τ) (Cert.GateUpReferenceIdeal.main (F := Ideal))) ⟨m, fun _ => 0, ρ⟩
      (fun r => (∀ c : Dev Cert.GateUpReferenceIdeal.nD,
        r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
        ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
        ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
        ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3)
        ∧ r.2.mem ((c.tc : Thread Cert.GateUpReferenceIdeal.nD Cert.GateUpReferenceIdeal.τ).loc Cert.GateUpReferenceIdeal.main_arg4) = m ((c.tc : Thread Cert.GateUpReferenceIdeal.nD Cert.GateUpReferenceIdeal.τ).loc Cert.GateUpReferenceIdeal.main_arg4))
        ∧ r.2.sem = fun _ => 0) :=
  (θ_run _ _ _).mono (fun r h => ⟨fun c => (h c).2.2, Idealize.ShloMosaic.sem_eq_zero_of_no_sems (by decide) r.2⟩) (Cert.GateUpReferenceIdeal.Value.run m ρ)

/-- The blocked gate and up products after a residual, and the residual, are the reference's. -/
theorem algebraic_res_gate_up : algebraic_ResGateUpIdeal_ResGateUpReferenceIdeal := by
  intro m g m' g' _ hm
  refine ⟨fun c => _, fun c => _, fun c => _, (θ_run _ _ _).mono (fun r h c => ⟨(h c).1.trans ?_, (h c).2.1.trans ?_, (h c).2.2.1.trans ?_, (h c).2.2.2⟩)
    (Cert.ResGateUpIdeal.Value.run_blocks m g), Cert.ResGateUpReferenceIdeal.Value.run m' g'⟩
  · refine ((Cert.ResGateUpIdeal.Value.final7 m c).trans ?_).trans (Cert.ResGateUpReferenceIdeal.Read.val_main_v15_eq _ _ _).symm
    rw [(hm c).1, (hm c).2.1, (hm c).2.2.1]
    exact (Cert.ResGateUpReferenceIdeal.Products.first _ _ _).symm
  · refine ((Cert.ResGateUpIdeal.Value.final8 m c).trans ?_).trans (Cert.ResGateUpReferenceIdeal.Read.val_main_v34_eq m' c).symm
    rw [(hm c).1, (hm c).2.1, (hm c).2.2.1, (hm c).2.2.2.1, (hm c).2.2.2.2.1, (hm c).2.2.2.2.2.1]
    exact (Cert.ResGateUpReferenceIdeal.Products.second _ _ _ _ _ _).symm
  · refine ((Cert.ResGateUpIdeal.Value.final9 m c).trans ?_).trans (Cert.ResGateUpReferenceIdeal.Read.val_main_v35_eq _).symm
    rw [(hm c).2.2.2.2.2.2]
    exact (Cert.ResGateUpReferenceIdeal.Products.third _).symm

/-- The reference of the gate and up products after a residual leaves its arguments unchanged; it has no semaphore. -/
theorem res_gate_up_reference_frame (m : (ℓ : Loc Cert.ResGateUpReferenceIdeal.nD Cert.ResGateUpReferenceIdeal.τ Cert.ResGateUpReferenceIdeal.sig) → Buf (Elt Ideal) ℓ)
    (ρ : Dev Cert.ResGateUpReferenceIdeal.nD → PrngReg) :
    θ_run (Cert.ResGateUpReferenceIdeal.defs (F := Ideal)) (onTc (τ := Cert.ResGateUpReferenceIdeal.τ) (Cert.ResGateUpReferenceIdeal.main (F := Ideal))) ⟨m, fun _ => 0, ρ⟩
      (fun r => (∀ c : Dev Cert.ResGateUpReferenceIdeal.nD,
        r.2.mem ((c.tc : Thread Cert.ResGateUpReferenceIdeal.nD Cert.ResGateUpReferenceIdeal.τ).loc Cert.ResGateUpReferenceIdeal.main_arg0) = m ((c.tc : Thread Cert.ResGateUpReferenceIdeal.nD Cert.ResGateUpReferenceIdeal.τ).loc Cert.ResGateUpReferenceIdeal.main_arg0)
        ∧ r.2.mem ((c.tc : Thread Cert.ResGateUpReferenceIdeal.nD Cert.ResGateUpReferenceIdeal.τ).loc Cert.ResGateUpReferenceIdeal.main_arg1) = m ((c.tc : Thread Cert.ResGateUpReferenceIdeal.nD Cert.ResGateUpReferenceIdeal.τ).loc Cert.ResGateUpReferenceIdeal.main_arg1)
        ∧ r.2.mem ((c.tc : Thread Cert.ResGateUpReferenceIdeal.nD Cert.ResGateUpReferenceIdeal.τ).loc Cert.ResGateUpReferenceIdeal.main_arg2) = m ((c.tc : Thread Cert.ResGateUpReferenceIdeal.nD Cert.ResGateUpReferenceIdeal.τ).loc Cert.ResGateUpReferenceIdeal.main_arg2)
        ∧ r.2.mem ((c.tc : Thread Cert.ResGateUpReferenceIdeal.nD Cert.ResGateUpReferenceIdeal.τ).loc Cert.ResGateUpReferenceIdeal.main_arg3) = m ((c.tc : Thread Cert.ResGateUpReferenceIdeal.nD Cert.ResGateUpReferenceIdeal.τ).loc Cert.ResGateUpReferenceIdeal.main_arg3)
        ∧ r.2.mem ((c.tc : Thread Cert.ResGateUpReferenceIdeal.nD Cert.ResGateUpReferenceIdeal.τ).loc Cert.ResGateUpReferenceIdeal.main_arg4) = m ((c.tc : Thread Cert.ResGateUpReferenceIdeal.nD Cert.ResGateUpReferenceIdeal.τ).loc Cert.ResGateUpReferenceIdeal.main_arg4)
        ∧ r.2.mem ((c.tc : Thread Cert.ResGateUpReferenceIdeal.nD Cert.ResGateUpReferenceIdeal.τ).loc Cert.ResGateUpReferenceIdeal.main_arg5) = m ((c.tc : Thread Cert.ResGateUpReferenceIdeal.nD Cert.ResGateUpReferenceIdeal.τ).loc Cert.ResGateUpReferenceIdeal.main_arg5)
        ∧ r.2.mem ((c.tc : Thread Cert.ResGateUpReferenceIdeal.nD Cert.ResGateUpReferenceIdeal.τ).loc Cert.ResGateUpReferenceIdeal.main_arg6) = m ((c.tc : Thread Cert.ResGateUpReferenceIdeal.nD Cert.ResGateUpReferenceIdeal.τ).loc Cert.ResGateUpReferenceIdeal.main_arg6))
        ∧ r.2.sem = fun _ => 0) :=
  (θ_run _ _ _).mono (fun r h => ⟨fun c => (h c).2.2.2, Idealize.ShloMosaic.sem_eq_zero_of_no_sems (by decide) r.2⟩) (Cert.ResGateUpReferenceIdeal.Value.run m ρ)

/-- The blocked down projection computes the reference's product. -/
theorem algebraic_down : algebraic_DownIdeal_DownReferenceIdeal := by
  intro m g m' g' _ hm
  refine ⟨fun c => _, (θ_run _ _ _).mono (fun r h c => ⟨(h c).1.trans ?_, (h c).2⟩) (Cert.DownIdeal.Value.run_blocks m g),
    Cert.DownReferenceIdeal.Value.run m' g'⟩
  refine ((Cert.DownIdeal.Value.final m c).trans ?_).trans (Cert.DownReferenceIdeal.Read.val_main_v4_eq _ _).symm
  rw [(hm c).1, (hm c).2]
  exact (Cert.DownIdeal.Value.reference_eq _ _).symm

/-- The down projection's reference leaves its arguments unchanged; it has no semaphore. -/
theorem down_reference_frame (m : (ℓ : Loc Cert.DownReferenceIdeal.nD Cert.DownReferenceIdeal.τ Cert.DownReferenceIdeal.sig) → Buf (Elt Ideal) ℓ)
    (ρ : Dev Cert.DownReferenceIdeal.nD → PrngReg) :
    θ_run (Cert.DownReferenceIdeal.defs (F := Ideal)) (onTc (τ := Cert.DownReferenceIdeal.τ) (Cert.DownReferenceIdeal.main (F := Ideal))) ⟨m, fun _ => 0, ρ⟩
      (fun r => (∀ c : Dev Cert.DownReferenceIdeal.nD,
        r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
        ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
        ∧ r.2.sem = fun _ => 0) :=
  (θ_run _ _ _).mono (fun r h => ⟨fun c => (h c).2, Idealize.ShloMosaic.sem_eq_zero_of_no_sems (by decide) r.2⟩) (Cert.DownReferenceIdeal.Value.run m ρ)

/-- The in-projection: kernel and reference compute the same three arrays. -/
theorem algebraic_in_proj : algebraic_InProjIdeal_InProjReferenceIdeal := by
  intro m g m' g' _ hm
  refine ⟨fun c => _, fun c => _, fun c => _, (θ_run _ _ _).mono (fun r h c => ⟨(h c).1.trans ?_, (h c).2.1.trans ?_, (h c).2.2.1.trans ?_, (h c).2.2.2⟩)
    (Cert.InProjIdeal.Value.run_blocks m g), Cert.InProjReferenceIdeal.Value.run m' g'⟩
  · refine ((Cert.InProjIdeal.Value.final5 m c).trans ?_).trans (Cert.InProjReferenceIdeal.Read.val_main_v16_eq _ _ _).symm
    rw [(hm c).1, (hm c).2.1, (hm c).2.2.1]
    exact (Cert.InProjReferenceIdeal.Products.first _ _ _).symm
  · refine ((Cert.InProjIdeal.Value.final6 m c).trans ?_).trans (Cert.InProjReferenceIdeal.Read.val_main_v33_eq _ _ _ _ _).symm
    rw [(hm c).1, (hm c).2.1, (hm c).2.2.1, (hm c).2.2.2.1, (hm c).2.2.2.2]
    exact (Cert.InProjReferenceIdeal.Products.second _ _ _ _ _).symm
  · refine ((Cert.InProjIdeal.Value.final7 m c).trans ?_).trans (Cert.InProjReferenceIdeal.Read.val_main_v34_eq _ _ _ _ _).symm
    rw [(hm c).1, (hm c).2.1, (hm c).2.2.1, (hm c).2.2.2.1, (hm c).2.2.2.2]
    exact (Cert.InProjReferenceIdeal.Products.third _ _ _ _ _).symm

/-- The in-projection's reference ends with its arguments as they were. -/
theorem in_proj_reference_frame (m : (ℓ : Loc Cert.InProjReferenceIdeal.nD Cert.InProjReferenceIdeal.τ Cert.InProjReferenceIdeal.sig) → Buf (Elt Ideal) ℓ)
    (ρ : Dev Cert.InProjReferenceIdeal.nD → PrngReg) :
    θ_run (Cert.InProjReferenceIdeal.defs (F := Ideal)) (onTc (τ := Cert.InProjReferenceIdeal.τ) (Cert.InProjReferenceIdeal.main (F := Ideal))) ⟨m, fun _ => 0, ρ⟩
      (fun r => (∀ c : Dev Cert.InProjReferenceIdeal.nD,
        r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
        ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
        ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
        ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
        ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4))
        ∧ r.2.sem = fun _ => 0) :=
  (θ_run _ _ _).mono (fun r h => ⟨fun c => (h c).2.2.2, Idealize.ShloMosaic.sem_eq_zero_of_no_sems (by decide) r.2⟩) (Cert.InProjReferenceIdeal.Value.run m ρ)

/-- The per-layer embedding: kernel and reference compute the same two arrays. -/
theorem algebraic_ple : algebraic_PleIdeal_PleReferenceIdeal := by
  intro m g m' g' _ hm
  refine ⟨fun c => _, fun c => _, (θ_run _ _ _).mono (fun r h c => ⟨(h c).1.trans ?_, (h c).2.1.trans ?_, (h c).2.2⟩)
    (Cert.PleIdeal.Value.run_blocks m g), Cert.PleReferenceIdeal.Value.run m' g'⟩
  · refine ((Cert.PleIdeal.Value.final6 m c).trans ?_).trans (Cert.PleReferenceIdeal.Read.val_main_v16_eq _ _ _).symm
    rw [(hm c).1, (hm c).2.1, (hm c).2.2.1]
    exact (Cert.PleReferenceIdeal.Products.first _ _ _).symm
  · refine ((Cert.PleIdeal.Value.final7 m c).trans ?_).trans (Cert.PleReferenceIdeal.Read.val_main_v27_eq _ _ _ _ _ _).symm
    rw [(hm c).1, (hm c).2.1, (hm c).2.2.1, (hm c).2.2.2.1, (hm c).2.2.2.2.1, (hm c).2.2.2.2.2]
    exact (Cert.PleReferenceIdeal.Products.second _ _ _ _ _ _).symm

/-- The per-layer embedding's reference ends with its arguments as they were. -/
theorem ple_reference_frame (m : (ℓ : Loc Cert.PleReferenceIdeal.nD Cert.PleReferenceIdeal.τ Cert.PleReferenceIdeal.sig) → Buf (Elt Ideal) ℓ)
    (ρ : Dev Cert.PleReferenceIdeal.nD → PrngReg) :
    θ_run (Cert.PleReferenceIdeal.defs (F := Ideal)) (onTc (τ := Cert.PleReferenceIdeal.τ) (Cert.PleReferenceIdeal.main (F := Ideal))) ⟨m, fun _ => 0, ρ⟩
      (fun r => (∀ c : Dev Cert.PleReferenceIdeal.nD,
        r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
        ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
        ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
        ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
        ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
        ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5))
        ∧ r.2.sem = fun _ => 0) :=
  (θ_run _ _ _).mono (fun r h => ⟨fun c => (h c).2.2, Idealize.ShloMosaic.sem_eq_zero_of_no_sems (by decide) r.2⟩) (Cert.PleReferenceIdeal.Value.run m ρ)

/-- The last residual: kernel and reference compute the same array. -/
theorem algebraic_residual : algebraic_ResidualIdeal_ResidualReferenceIdeal := by
  intro m g m' g' _ hm
  refine ⟨fun c => _, (θ_run _ _ _).mono (fun r h c => ⟨(h c).1.trans ?_, (h c).2⟩) (Cert.ResidualIdeal.Value.run_blocks m g),
    Cert.ResidualReferenceIdeal.Value.run m' g'⟩
  refine ((Cert.ResidualIdeal.Value.final m c).trans ?_).trans (Cert.ResidualReferenceIdeal.Read.val_main_v15_eq _ _ _).symm
  rw [(hm c).1, (hm c).2.1, (hm c).2.2]
  exact (Cert.ResidualIdeal.Value.reference_eq _ _ _).symm

/-- The last residual's reference ends with its arguments as they were. -/
theorem residual_reference_frame (m : (ℓ : Loc Cert.ResidualReferenceIdeal.nD Cert.ResidualReferenceIdeal.τ Cert.ResidualReferenceIdeal.sig) → Buf (Elt Ideal) ℓ)
    (ρ : Dev Cert.ResidualReferenceIdeal.nD → PrngReg) :
    θ_run (Cert.ResidualReferenceIdeal.defs (F := Ideal)) (onTc (τ := Cert.ResidualReferenceIdeal.τ) (Cert.ResidualReferenceIdeal.main (F := Ideal))) ⟨m, fun _ => 0, ρ⟩
      (fun r => (∀ c : Dev Cert.ResidualReferenceIdeal.nD,
        r.2.mem ((c.tc : Thread Cert.ResidualReferenceIdeal.nD Cert.ResidualReferenceIdeal.τ).loc Cert.ResidualReferenceIdeal.main_arg0) = m ((c.tc : Thread Cert.ResidualReferenceIdeal.nD Cert.ResidualReferenceIdeal.τ).loc Cert.ResidualReferenceIdeal.main_arg0)
        ∧ r.2.mem ((c.tc : Thread Cert.ResidualReferenceIdeal.nD Cert.ResidualReferenceIdeal.τ).loc Cert.ResidualReferenceIdeal.main_arg1) = m ((c.tc : Thread Cert.ResidualReferenceIdeal.nD Cert.ResidualReferenceIdeal.τ).loc Cert.ResidualReferenceIdeal.main_arg1)
        ∧ r.2.mem ((c.tc : Thread Cert.ResidualReferenceIdeal.nD Cert.ResidualReferenceIdeal.τ).loc Cert.ResidualReferenceIdeal.main_arg2) = m ((c.tc : Thread Cert.ResidualReferenceIdeal.nD Cert.ResidualReferenceIdeal.τ).loc Cert.ResidualReferenceIdeal.main_arg2))
        ∧ r.2.sem = fun _ => 0) :=
  (θ_run _ _ _).mono (fun r h => ⟨fun c => (h c).2, Idealize.ShloMosaic.sem_eq_zero_of_no_sems (by decide) r.2⟩) (Cert.ResidualReferenceIdeal.Value.run m ρ)

theorem claim : Cert.Claim := ⟨Cert.Kernel.Gen.facts, Cert.KernelIdeal.Gen.facts, Cert.ReferenceIdeal.Gen.facts,
  Cert.GateUp.Gen.facts, Cert.GateUpIdeal.Gen.facts, Cert.GateUpReferenceIdeal.Gen.facts,
  Cert.ResGateUp.Gen.facts, Cert.ResGateUpIdeal.Gen.facts, Cert.ResGateUpReferenceIdeal.Gen.facts,
  Cert.InProj.Gen.facts, Cert.InProjIdeal.Gen.facts, Cert.InProjReferenceIdeal.Gen.facts,
  Cert.Ple.Gen.facts, Cert.PleIdeal.Gen.facts, Cert.PleReferenceIdeal.Gen.facts,
  Cert.Residual.Gen.facts, Cert.ResidualIdeal.Gen.facts, Cert.ResidualReferenceIdeal.Gen.facts,
  Cert.Down.Gen.facts, Cert.DownIdeal.Gen.facts, Cert.DownReferenceIdeal.Gen.facts, Cert.Pre_qk_finite.Gen.facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  fun m ρ _ => Cert.GateUp.Gen.frame m ρ,
  fun m ρ _ => Cert.GateUpIdeal.Gen.frame m ρ,
  fun m ρ _ => gate_up_reference_frame m ρ,
  fun m ρ _ => Cert.ResGateUp.Gen.frame m ρ,
  fun m ρ _ => Cert.ResGateUpIdeal.Gen.frame m ρ,
  fun m ρ _ => res_gate_up_reference_frame m ρ,
  fun m ρ _ => Cert.InProj.Same.frame m ρ,
  fun m ρ _ => Cert.InProjIdeal.Gen.frame m ρ,
  fun m ρ _ => in_proj_reference_frame m ρ,
  fun m ρ _ => Cert.Ple.Same.frame m ρ,
  fun m ρ _ => Cert.PleIdeal.Gen.frame m ρ,
  fun m ρ _ => ple_reference_frame m ρ,
  fun m ρ _ => Cert.Residual.Gen.frame m ρ,
  fun m ρ _ => Cert.ResidualIdeal.Gen.frame m ρ,
  fun m ρ _ => residual_reference_frame m ρ,
  fun m ρ _ => Cert.Down.Gen.frame m ρ,
  fun m ρ _ => Cert.DownIdeal.Gen.frame m ρ,
  fun m ρ _ => down_reference_frame m ρ,
  ⟨IdealRules.named_const.statement Cert.KernelIdeal.κ "log2e" .f32 0x3FB8AA3B#32 _ rfl,
    IdealRules.named_const.statement Cert.KernelIdeal.κ "mask" .f32 0xF149F2CA#32 _ rfl,
    IdealRules.named_const.statement Cert.KernelIdeal.κ "scale" .f32 0x3E0293EE#32 _ rfl⟩,
  algebraic, trivial, algebraic_gate_up, trivial, algebraic_res_gate_up, trivial, algebraic_in_proj, trivial, algebraic_ple, trivial, algebraic_residual, trivial, algebraic_down⟩

end Cert.Proof

end
